-- ==== Defs.lean ====
def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputRefIdeal (m : (ℓ : Loc Cert.OutputRefIdeal.nD Cert.OutputRefIdeal.τ Cert.OutputRefIdeal.sig) → Buf (Elt Ideal) ℓ) : Prop :=
  True

def Pre_CompressK (m : (ℓ : Loc Cert.CompressK.nD Cert.CompressK.τ Cert.CompressK.sig) → Buf (Elt Bits) ℓ) : Prop :=
  True

def Pre_CompressKIdeal (m : (ℓ : Loc Cert.CompressKIdeal.nD Cert.CompressKIdeal.τ Cert.CompressKIdeal.sig) → Buf (Elt Ideal) ℓ) : Prop :=
  True

def Pre_CompressKRefIdeal (m : (ℓ : Loc Cert.CompressKRefIdeal.nD Cert.CompressKRefIdeal.τ Cert.CompressKRefIdeal.sig) → Buf (Elt Ideal) ℓ) : Prop :=
  True

def Pre_CompressV (m : (ℓ : Loc Cert.CompressV.nD Cert.CompressV.τ Cert.CompressV.sig) → Buf (Elt Bits) ℓ) : Prop :=
  True

def Pre_CompressVIdeal (m : (ℓ : Loc Cert.CompressVIdeal.nD Cert.CompressVIdeal.τ Cert.CompressVIdeal.sig) → Buf (Elt Ideal) ℓ) : Prop :=
  True

def Pre_CompressVRefIdeal (m : (ℓ : Loc Cert.CompressVRefIdeal.nD Cert.CompressVRefIdeal.τ Cert.CompressVRefIdeal.sig) → Buf (Elt Ideal) ℓ) : Prop :=
  True

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2)
      ∧ r.2.mem ((c.tc : Thread Cert.ProjectRefIdeal.nD Cert.ProjectRefIdeal.τ).loc Cert.ProjectRefIdeal.main_arg3) = m ((c.tc : Thread Cert.ProjectRefIdeal.nD Cert.ProjectRefIdeal.τ).loc Cert.ProjectRefIdeal.main_arg3)
      ∧ r.2.mem ((c.tc : Thread Cert.ProjectRefIdeal.nD Cert.ProjectRefIdeal.τ).loc Cert.ProjectRefIdeal.main_arg4) = m ((c.tc : Thread Cert.ProjectRefIdeal.nD Cert.ProjectRefIdeal.τ).loc Cert.ProjectRefIdeal.main_arg4)
      ∧ r.2.mem ((c.tc : Thread Cert.ProjectRefIdeal.nD Cert.ProjectRefIdeal.τ).loc Cert.ProjectRefIdeal.main_arg5) = m ((c.tc : Thread Cert.ProjectRefIdeal.nD Cert.ProjectRefIdeal.τ).loc Cert.ProjectRefIdeal.main_arg5)
      ∧ r.2.mem ((c.tc : Thread Cert.ProjectRefIdeal.nD Cert.ProjectRefIdeal.τ).loc Cert.ProjectRefIdeal.main_arg6) = m ((c.tc : Thread Cert.ProjectRefIdeal.nD Cert.ProjectRefIdeal.τ).loc Cert.ProjectRefIdeal.main_arg6)
      ∧ r.2.mem ((c.tc : Thread Cert.ProjectRefIdeal.nD Cert.ProjectRefIdeal.τ).loc Cert.ProjectRefIdeal.main_arg7) = m ((c.tc : Thread Cert.ProjectRefIdeal.nD Cert.ProjectRefIdeal.τ).loc Cert.ProjectRefIdeal.main_arg7))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4))
      ∧ r.2.sem = fun _ => 0)

def quiescent_OutputRefIdeal [hOutputRefIdeal : Cert.OutputRefIdeal.Facts] : Prop :=
  ∀ (m : (ℓ : Loc Cert.OutputRefIdeal.nD Cert.OutputRefIdeal.τ Cert.OutputRefIdeal.sig) → Buf (Elt Ideal) ℓ) (g : Dev Cert.OutputRefIdeal.nD → PrngReg), Pre_OutputRefIdeal m →
    θ_run (Cert.OutputRefIdeal.defs (F := Ideal)) (onTc (τ := Cert.OutputRefIdeal.τ) (Cert.OutputRefIdeal.main (F := Ideal))) ⟨m, fun _ => 0, g⟩ (fun r => (∀ c : Dev Cert.OutputRefIdeal.nD,
      r.2.mem ((c.tc : Thread Cert.OutputRefIdeal.nD Cert.OutputRefIdeal.τ).loc Cert.OutputRefIdeal.main_arg0) = m ((c.tc : Thread Cert.OutputRefIdeal.nD Cert.OutputRefIdeal.τ).loc Cert.OutputRefIdeal.main_arg0)
      ∧ r.2.mem ((c.tc : Thread Cert.OutputRefIdeal.nD Cert.OutputRefIdeal.τ).loc Cert.OutputRefIdeal.main_arg1) = m ((c.tc : Thread Cert.OutputRefIdeal.nD Cert.OutputRefIdeal.τ).loc Cert.OutputRefIdeal.main_arg1)
      ∧ r.2.mem ((c.tc : Thread Cert.OutputRefIdeal.nD Cert.OutputRefIdeal.τ).loc Cert.OutputRefIdeal.main_arg2) = m ((c.tc : Thread Cert.OutputRefIdeal.nD Cert.OutputRefIdeal.τ).loc Cert.OutputRefIdeal.main_arg2)
      ∧ r.2.mem ((c.tc : Thread Cert.OutputRefIdeal.nD Cert.OutputRefIdeal.τ).loc Cert.OutputRefIdeal.main_arg3) = m ((c.tc : Thread Cert.OutputRefIdeal.nD Cert.OutputRefIdeal.τ).loc Cert.OutputRefIdeal.main_arg3)
      ∧ r.2.mem ((c.tc : Thread Cert.OutputRefIdeal.nD Cert.OutputRefIdeal.τ).loc Cert.OutputRefIdeal.main_arg4) = m ((c.tc : Thread Cert.OutputRefIdeal.nD Cert.OutputRefIdeal.τ).loc Cert.OutputRefIdeal.main_arg4))
      ∧ r.2.sem = fun _ => 0)

def quiescent_CompressK [hCompressK : Cert.CompressK.Facts] : Prop :=
  ∀ (m : (ℓ : Loc Cert.CompressK.nD Cert.CompressK.τ Cert.CompressK.sig) → Buf (Elt Bits) ℓ) (g : Dev Cert.CompressK.nD → PrngReg), Pre_CompressK m →
    θ_run (Cert.CompressK.defs (F := Bits)) (onTc (τ := Cert.CompressK.τ) (Cert.CompressK.main (F := Bits))) ⟨m, fun _ => 0, g⟩ (fun r => (∀ c : Dev Cert.CompressK.nD,
      r.2.mem ((c.tc : Thread Cert.CompressK.nD Cert.CompressK.τ).loc Cert.CompressK.main_arg0) = m ((c.tc : Thread Cert.CompressK.nD Cert.CompressK.τ).loc Cert.CompressK.main_arg0)
      ∧ r.2.mem ((c.tc : Thread Cert.CompressK.nD Cert.CompressK.τ).loc Cert.CompressK.main_arg1) = m ((c.tc : Thread Cert.CompressK.nD Cert.CompressK.τ).loc Cert.CompressK.main_arg1)
      ∧ r.2.mem ((c.tc : Thread Cert.CompressK.nD Cert.CompressK.τ).loc Cert.CompressK.main_arg2) = m ((c.tc : Thread Cert.CompressK.nD Cert.CompressK.τ).loc Cert.CompressK.main_arg2)
      ∧ r.2.mem ((c.tc : Thread Cert.CompressK.nD Cert.CompressK.τ).loc Cert.CompressK.main_arg3) = m ((c.tc : Thread Cert.CompressK.nD Cert.CompressK.τ).loc Cert.CompressK.main_arg3)
      ∧ r.2.mem ((c.tc : Thread Cert.CompressK.nD Cert.CompressK.τ).loc Cert.CompressK.main_arg4) = m ((c.tc : Thread Cert.CompressK.nD Cert.CompressK.τ).loc Cert.CompressK.main_arg4)
      ∧ r.2.mem ((c.tc : Thread Cert.CompressK.nD Cert.CompressK.τ).loc Cert.CompressK.main_arg5) = m ((c.tc : Thread Cert.CompressK.nD Cert.CompressK.τ).loc Cert.CompressK.main_arg5)
      ∧ r.2.mem ((c.tc : Thread Cert.CompressK.nD Cert.CompressK.τ).loc Cert.CompressK.main_arg6) = m ((c.tc : Thread Cert.CompressK.nD Cert.CompressK.τ).loc Cert.CompressK.main_arg6)
      ∧ r.2.mem ((c.tc : Thread Cert.CompressK.nD Cert.CompressK.τ).loc Cert.CompressK.main_arg7) = m ((c.tc : Thread Cert.CompressK.nD Cert.CompressK.τ).loc Cert.CompressK.main_arg7))
      ∧ r.2.sem = fun _ => 0)

def quiescent_CompressKIdeal [hCompressKIdeal : Cert.CompressKIdeal.Facts] : Prop :=
  ∀ (m : (ℓ : Loc Cert.CompressKIdeal.nD Cert.CompressKIdeal.τ Cert.CompressKIdeal.sig) → Buf (Elt Ideal) ℓ) (g : Dev Cert.CompressKIdeal.nD → PrngReg), Pre_CompressKIdeal m →
    θ_run (Cert.CompressKIdeal.defs (F := Ideal)) (onTc (τ := Cert.CompressKIdeal.τ) (Cert.CompressKIdeal.main (F := Ideal))) ⟨m, fun _ => 0, g⟩ (fun r => (∀ c : Dev Cert.CompressKIdeal.nD,
      r.2.mem ((c.tc : Thread Cert.CompressKIdeal.nD Cert.CompressKIdeal.τ).loc Cert.CompressKIdeal.main_arg0) = m ((c.tc : Thread Cert.CompressKIdeal.nD Cert.CompressKIdeal.τ).loc Cert.CompressKIdeal.main_arg0)
      ∧ r.2.mem ((c.tc : Thread Cert.CompressKIdeal.nD Cert.CompressKIdeal.τ).loc Cert.CompressKIdeal.main_arg1) = m ((c.tc : Thread Cert.CompressKIdeal.nD Cert.CompressKIdeal.τ).loc Cert.CompressKIdeal.main_arg1)
      ∧ r.2.mem ((c.tc : Thread Cert.CompressKIdeal.nD Cert.CompressKIdeal.τ).loc Cert.CompressKIdeal.main_arg2) = m ((c.tc : Thread Cert.CompressKIdeal.nD Cert.CompressKIdeal.τ).loc Cert.CompressKIdeal.main_arg2)
      ∧ r.2.mem ((c.tc : Thread Cert.CompressKIdeal.nD Cert.CompressKIdeal.τ).loc Cert.CompressKIdeal.main_arg3) = m ((c.tc : Thread Cert.CompressKIdeal.nD Cert.CompressKIdeal.τ).loc Cert.CompressKIdeal.main_arg3)
      ∧ r.2.mem ((c.tc : Thread Cert.CompressKIdeal.nD Cert.CompressKIdeal.τ).loc Cert.CompressKIdeal.main_arg4) = m ((c.tc : Thread Cert.CompressKIdeal.nD Cert.CompressKIdeal.τ).loc Cert.CompressKIdeal.main_arg4)
      ∧ r.2.mem ((c.tc : Thread Cert.CompressKIdeal.nD Cert.CompressKIdeal.τ).loc Cert.CompressKIdeal.main_arg5) = m ((c.tc : Thread Cert.CompressKIdeal.nD Cert.CompressKIdeal.τ).loc Cert.CompressKIdeal.main_arg5)
      ∧ r.2.mem ((c.tc : Thread Cert.CompressKIdeal.nD Cert.CompressKIdeal.τ).loc Cert.CompressKIdeal.main_arg6) = m ((c.tc : Thread Cert.CompressKIdeal.nD Cert.CompressKIdeal.τ).loc Cert.CompressKIdeal.main_arg6)
      ∧ r.2.mem ((c.tc : Thread Cert.CompressKIdeal.nD Cert.CompressKIdeal.τ).loc Cert.CompressKIdeal.main_arg7) = m ((c.tc : Thread Cert.CompressKIdeal.nD Cert.CompressKIdeal.τ).loc Cert.CompressKIdeal.main_arg7))
      ∧ r.2.sem = fun _ => 0)

def quiescent_CompressKRefIdeal [hCompressKRefIdeal : Cert.CompressKRefIdeal.Facts] : Prop :=
  ∀ (m : (ℓ : Loc Cert.CompressKRefIdeal.nD Cert.CompressKRefIdeal.τ Cert.CompressKRefIdeal.sig) → Buf (Elt Ideal) ℓ) (g : Dev Cert.CompressKRefIdeal.nD → PrngReg), Pre_CompressKRefIdeal m →
    θ_run (Cert.CompressKRefIdeal.defs (F := Ideal)) (onTc (τ := Cert.CompressKRefIdeal.τ) (Cert.CompressKRefIdeal.main (F := Ideal))) ⟨m, fun _ => 0, g⟩ (fun r => (∀ c : Dev Cert.CompressKRefIdeal.nD,
      r.2.mem ((c.tc : Thread Cert.CompressKRefIdeal.nD Cert.CompressKRefIdeal.τ).loc Cert.CompressKRefIdeal.main_arg0) = m ((c.tc : Thread Cert.CompressKRefIdeal.nD Cert.CompressKRefIdeal.τ).loc Cert.CompressKRefIdeal.main_arg0)
      ∧ r.2.mem ((c.tc : Thread Cert.CompressKRefIdeal.nD Cert.CompressKRefIdeal.τ).loc Cert.CompressKRefIdeal.main_arg1) = m ((c.tc : Thread Cert.CompressKRefIdeal.nD Cert.CompressKRefIdeal.τ).loc Cert.CompressKRefIdeal.main_arg1)
      ∧ r.2.mem ((c.tc : Thread Cert.CompressKRefIdeal.nD Cert.CompressKRefIdeal.τ).loc Cert.CompressKRefIdeal.main_arg2) = m ((c.tc : Thread Cert.CompressKRefIdeal.nD Cert.CompressKRefIdeal.τ).loc Cert.CompressKRefIdeal.main_arg2)
      ∧ r.2.mem ((c.tc : Thread Cert.CompressKRefIdeal.nD Cert.CompressKRefIdeal.τ).loc Cert.CompressKRefIdeal.main_arg3) = m ((c.tc : Thread Cert.CompressKRefIdeal.nD Cert.CompressKRefIdeal.τ).loc Cert.CompressKRefIdeal.main_arg3)
      ∧ r.2.mem ((c.tc : Thread Cert.CompressKRefIdeal.nD Cert.CompressKRefIdeal.τ).loc Cert.CompressKRefIdeal.main_arg4) = m ((c.tc : Thread Cert.CompressKRefIdeal.nD Cert.CompressKRefIdeal.τ).loc Cert.CompressKRefIdeal.main_arg4)
      ∧ r.2.mem ((c.tc : Thread Cert.CompressKRefIdeal.nD Cert.CompressKRefIdeal.τ).loc Cert.CompressKRefIdeal.main_arg5) = m ((c.tc : Thread Cert.CompressKRefIdeal.nD Cert.CompressKRefIdeal.τ).loc Cert.CompressKRefIdeal.main_arg5)
      ∧ r.2.mem ((c.tc : Thread Cert.CompressKRefIdeal.nD Cert.CompressKRefIdeal.τ).loc Cert.CompressKRefIdeal.main_arg6) = m ((c.tc : Thread Cert.CompressKRefIdeal.nD Cert.CompressKRefIdeal.τ).loc Cert.CompressKRefIdeal.main_arg6)
      ∧ r.2.mem ((c.tc : Thread Cert.CompressKRefIdeal.nD Cert.CompressKRefIdeal.τ).loc Cert.CompressKRefIdeal.main_arg7) = m ((c.tc : Thread Cert.CompressKRefIdeal.nD Cert.CompressKRefIdeal.τ).loc Cert.CompressKRefIdeal.main_arg7))
      ∧ r.2.sem = fun _ => 0)

def quiescent_CompressV [hCompressV : Cert.CompressV.Facts] : Prop :=
  ∀ (m : (ℓ : Loc Cert.CompressV.nD Cert.CompressV.τ Cert.CompressV.sig) → Buf (Elt Bits) ℓ) (g : Dev Cert.CompressV.nD → PrngReg), Pre_CompressV m →
    θ_run (Cert.CompressV.defs (F := Bits)) (onTc (τ := Cert.CompressV.τ) (Cert.CompressV.main (F := Bits))) ⟨m, fun _ => 0, g⟩ (fun r => (∀ c : Dev Cert.CompressV.nD,
      r.2.mem ((c.tc : Thread Cert.CompressV.nD Cert.CompressV.τ).loc Cert.CompressV.main_arg0) = m ((c.tc : Thread Cert.CompressV.nD Cert.CompressV.τ).loc Cert.CompressV.main_arg0)
      ∧ r.2.mem ((c.tc : Thread Cert.CompressV.nD Cert.CompressV.τ).loc Cert.CompressV.main_arg1) = m ((c.tc : Thread Cert.CompressV.nD Cert.CompressV.τ).loc Cert.CompressV.main_arg1)
      ∧ r.2.mem ((c.tc : Thread Cert.CompressV.nD Cert.CompressV.τ).loc Cert.CompressV.main_arg2) = m ((c.tc : Thread Cert.CompressV.nD Cert.CompressV.τ).loc Cert.CompressV.main_arg2)
      ∧ r.2.mem ((c.tc : Thread Cert.CompressV.nD Cert.CompressV.τ).loc Cert.CompressV.main_arg3) = m ((c.tc : Thread Cert.CompressV.nD Cert.CompressV.τ).loc Cert.CompressV.main_arg3)
      ∧ r.2.mem ((c.tc : Thread Cert.CompressV.nD Cert.CompressV.τ).loc Cert.CompressV.main_arg4) = m ((c.tc : Thread Cert.CompressV.nD Cert.CompressV.τ).loc Cert.CompressV.main_arg4)
      ∧ r.2.mem ((c.tc : Thread Cert.CompressV.nD Cert.CompressV.τ).loc Cert.CompressV.main_arg5) = m ((c.tc : Thread Cert.CompressV.nD Cert.CompressV.τ).loc Cert.CompressV.main_arg5)
      ∧ r.2.mem ((c.tc : Thread Cert.CompressV.nD Cert.CompressV.τ).loc Cert.CompressV.main_arg6) = m ((c.tc : Thread Cert.CompressV.nD Cert.CompressV.τ).loc Cert.CompressV.main_arg6)
      ∧ r.2.mem ((c.tc : Thread Cert.CompressV.nD Cert.CompressV.τ).loc Cert.CompressV.main_arg7) = m ((c.tc : Thread Cert.CompressV.nD Cert.CompressV.τ).loc Cert.CompressV.main_arg7))
      ∧ r.2.sem = fun _ => 0)

def quiescent_CompressVIdeal [hCompressVIdeal : Cert.CompressVIdeal.Facts] : Prop :=
  ∀ (m : (ℓ : Loc Cert.CompressVIdeal.nD Cert.CompressVIdeal.τ Cert.CompressVIdeal.sig) → Buf (Elt Ideal) ℓ) (g : Dev Cert.CompressVIdeal.nD → PrngReg), Pre_CompressVIdeal m →
    θ_run (Cert.CompressVIdeal.defs (F := Ideal)) (onTc (τ := Cert.CompressVIdeal.τ) (Cert.CompressVIdeal.main (F := Ideal))) ⟨m, fun _ => 0, g⟩ (fun r => (∀ c : Dev Cert.CompressVIdeal.nD,
      r.2.mem ((c.tc : Thread Cert.CompressVIdeal.nD Cert.CompressVIdeal.τ).loc Cert.CompressVIdeal.main_arg0) = m ((c.tc : Thread Cert.CompressVIdeal.nD Cert.CompressVIdeal.τ).loc Cert.CompressVIdeal.main_arg0)
      ∧ r.2.mem ((c.tc : Thread Cert.CompressVIdeal.nD Cert.CompressVIdeal.τ).loc Cert.CompressVIdeal.main_arg1) = m ((c.tc : Thread Cert.CompressVIdeal.nD Cert.CompressVIdeal.τ).loc Cert.CompressVIdeal.main_arg1)
      ∧ r.2.mem ((c.tc : Thread Cert.CompressVIdeal.nD Cert.CompressVIdeal.τ).loc Cert.CompressVIdeal.main_arg2) = m ((c.tc : Thread Cert.CompressVIdeal.nD Cert.CompressVIdeal.τ).loc Cert.CompressVIdeal.main_arg2)
      ∧ r.2.mem ((c.tc : Thread Cert.CompressVIdeal.nD Cert.CompressVIdeal.τ).loc Cert.CompressVIdeal.main_arg3) = m ((c.tc : Thread Cert.CompressVIdeal.nD Cert.CompressVIdeal.τ).loc Cert.CompressVIdeal.main_arg3)
      ∧ r.2.mem ((c.tc : Thread Cert.CompressVIdeal.nD Cert.CompressVIdeal.τ).loc Cert.CompressVIdeal.main_arg4) = m ((c.tc : Thread Cert.CompressVIdeal.nD Cert.CompressVIdeal.τ).loc Cert.CompressVIdeal.main_arg4)
      ∧ r.2.mem ((c.tc : Thread Cert.CompressVIdeal.nD Cert.CompressVIdeal.τ).loc Cert.CompressVIdeal.main_arg5) = m ((c.tc : Thread Cert.CompressVIdeal.nD Cert.CompressVIdeal.τ).loc Cert.CompressVIdeal.main_arg5)
      ∧ r.2.mem ((c.tc : Thread Cert.CompressVIdeal.nD Cert.CompressVIdeal.τ).loc Cert.CompressVIdeal.main_arg6) = m ((c.tc : Thread Cert.CompressVIdeal.nD Cert.CompressVIdeal.τ).loc Cert.CompressVIdeal.main_arg6)
      ∧ r.2.mem ((c.tc : Thread Cert.CompressVIdeal.nD Cert.CompressVIdeal.τ).loc Cert.CompressVIdeal.main_arg7) = m ((c.tc : Thread Cert.CompressVIdeal.nD Cert.CompressVIdeal.τ).loc Cert.CompressVIdeal.main_arg7))
      ∧ r.2.sem = fun _ => 0)

def quiescent_CompressVRefIdeal [hCompressVRefIdeal : Cert.CompressVRefIdeal.Facts] : Prop :=
  ∀ (m : (ℓ : Loc Cert.CompressVRefIdeal.nD Cert.CompressVRefIdeal.τ Cert.CompressVRefIdeal.sig) → Buf (Elt Ideal) ℓ) (g : Dev Cert.CompressVRefIdeal.nD → PrngReg), Pre_CompressVRefIdeal m →
    θ_run (Cert.CompressVRefIdeal.defs (F := Ideal)) (onTc (τ := Cert.CompressVRefIdeal.τ) (Cert.CompressVRefIdeal.main (F := Ideal))) ⟨m, fun _ => 0, g⟩ (fun r => (∀ c : Dev Cert.CompressVRefIdeal.nD,
      r.2.mem ((c.tc : Thread Cert.CompressVRefIdeal.nD Cert.CompressVRefIdeal.τ).loc Cert.CompressVRefIdeal.main_arg0) = m ((c.tc : Thread Cert.CompressVRefIdeal.nD Cert.CompressVRefIdeal.τ).loc Cert.CompressVRefIdeal.main_arg0)
      ∧ r.2.mem ((c.tc : Thread Cert.CompressVRefIdeal.nD Cert.CompressVRefIdeal.τ).loc Cert.CompressVRefIdeal.main_arg1) = m ((c.tc : Thread Cert.CompressVRefIdeal.nD Cert.CompressVRefIdeal.τ).loc Cert.CompressVRefIdeal.main_arg1)
      ∧ r.2.mem ((c.tc : Thread Cert.CompressVRefIdeal.nD Cert.CompressVRefIdeal.τ).loc Cert.CompressVRefIdeal.main_arg2) = m ((c.tc : Thread Cert.CompressVRefIdeal.nD Cert.CompressVRefIdeal.τ).loc Cert.CompressVRefIdeal.main_arg2)
      ∧ r.2.mem ((c.tc : Thread Cert.CompressVRefIdeal.nD Cert.CompressVRefIdeal.τ).loc Cert.CompressVRefIdeal.main_arg3) = m ((c.tc : Thread Cert.CompressVRefIdeal.nD Cert.CompressVRefIdeal.τ).loc Cert.CompressVRefIdeal.main_arg3)
      ∧ r.2.mem ((c.tc : Thread Cert.CompressVRefIdeal.nD Cert.CompressVRefIdeal.τ).loc Cert.CompressVRefIdeal.main_arg4) = m ((c.tc : Thread Cert.CompressVRefIdeal.nD Cert.CompressVRefIdeal.τ).loc Cert.CompressVRefIdeal.main_arg4)
      ∧ r.2.mem ((c.tc : Thread Cert.CompressVRefIdeal.nD Cert.CompressVRefIdeal.τ).loc Cert.CompressVRefIdeal.main_arg5) = m ((c.tc : Thread Cert.CompressVRefIdeal.nD Cert.CompressVRefIdeal.τ).loc Cert.CompressVRefIdeal.main_arg5)
      ∧ r.2.mem ((c.tc : Thread Cert.CompressVRefIdeal.nD Cert.CompressVRefIdeal.τ).loc Cert.CompressVRefIdeal.main_arg6) = m ((c.tc : Thread Cert.CompressVRefIdeal.nD Cert.CompressVRefIdeal.τ).loc Cert.CompressVRefIdeal.main_arg6)
      ∧ r.2.mem ((c.tc : Thread Cert.CompressVRefIdeal.nD Cert.CompressVRefIdeal.τ).loc Cert.CompressVRefIdeal.main_arg7) = m ((c.tc : Thread Cert.CompressVRefIdeal.nD Cert.CompressVRefIdeal.τ).loc Cert.CompressVRefIdeal.main_arg7))
      ∧ r.2.sem = fun _ => 0)

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)
      ∧ m' ((c.tc : Thread Cert.ProjectRefIdeal.nD Cert.ProjectRefIdeal.τ).loc Cert.ProjectRefIdeal.main_arg3) = m ((c.tc : Thread Cert.ProjectIdeal.nD Cert.ProjectIdeal.τ).loc Cert.ProjectIdeal.main_arg3)
      ∧ m' ((c.tc : Thread Cert.ProjectRefIdeal.nD Cert.ProjectRefIdeal.τ).loc Cert.ProjectRefIdeal.main_arg4) = m ((c.tc : Thread Cert.ProjectIdeal.nD Cert.ProjectIdeal.τ).loc Cert.ProjectIdeal.main_arg4)
      ∧ m' ((c.tc : Thread Cert.ProjectRefIdeal.nD Cert.ProjectRefIdeal.τ).loc Cert.ProjectRefIdeal.main_arg5) = m ((c.tc : Thread Cert.ProjectIdeal.nD Cert.ProjectIdeal.τ).loc Cert.ProjectIdeal.main_arg5)
      ∧ m' ((c.tc : Thread Cert.ProjectRefIdeal.nD Cert.ProjectRefIdeal.τ).loc Cert.ProjectRefIdeal.main_arg6) = m ((c.tc : Thread Cert.ProjectIdeal.nD Cert.ProjectIdeal.τ).loc Cert.ProjectIdeal.main_arg6)
      ∧ m' ((c.tc : Thread Cert.ProjectRefIdeal.nD Cert.ProjectRefIdeal.τ).loc Cert.ProjectRefIdeal.main_arg7) = m ((c.tc : Thread Cert.ProjectIdeal.nD Cert.ProjectIdeal.τ).loc Cert.ProjectIdeal.main_arg7)) →
    ∃ (v0 : (c : Dev Cert.ProjectIdeal.nD) → Buf (Elt Ideal) ((c.tc : Thread Cert.ProjectIdeal.nD Cert.ProjectIdeal.τ).loc Cert.ProjectIdeal.main_v26_0)) (v1 : (c : Dev Cert.ProjectIdeal.nD) → Buf (Elt Ideal) ((c.tc : Thread Cert.ProjectIdeal.nD Cert.ProjectIdeal.τ).loc Cert.ProjectIdeal.main_v26_1)) (v2 : (c : Dev Cert.ProjectIdeal.nD) → Buf (Elt Ideal) ((c.tc : Thread Cert.ProjectIdeal.nD Cert.ProjectIdeal.τ).loc Cert.ProjectIdeal.main_v26_2)) (v3 : (c : Dev Cert.ProjectIdeal.nD) → Buf (Elt Ideal) ((c.tc : Thread Cert.ProjectIdeal.nD Cert.ProjectIdeal.τ).loc Cert.ProjectIdeal.main_v26_3)) (v4 : (c : Dev Cert.ProjectIdeal.nD) → Buf (Elt Ideal) ((c.tc : Thread Cert.ProjectIdeal.nD Cert.ProjectIdeal.τ).loc Cert.ProjectIdeal.main_v26_4)) (v5 : (c : Dev Cert.ProjectIdeal.nD) → Buf (Elt Ideal) ((c.tc : Thread Cert.ProjectIdeal.nD Cert.ProjectIdeal.τ).loc Cert.ProjectIdeal.main_v26_5)) (v6 : (c : Dev Cert.ProjectIdeal.nD) → Buf (Elt Ideal) ((c.tc : Thread Cert.ProjectIdeal.nD Cert.ProjectIdeal.τ).loc Cert.ProjectIdeal.main_v26_6)) (v7 : (c : Dev Cert.ProjectIdeal.nD) → Buf (Elt Ideal) ((c.tc : Thread Cert.ProjectIdeal.nD Cert.ProjectIdeal.τ).loc Cert.ProjectIdeal.main_v26_7)) (v8 : (c : Dev Cert.ProjectIdeal.nD) → Buf (Elt Ideal) ((c.tc : Thread Cert.ProjectIdeal.nD Cert.ProjectIdeal.τ).loc Cert.ProjectIdeal.main_v26_8)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v26_0) = v0 c
          ∧ r.2.mem ((c.tc : Thread Cert.ProjectIdeal.nD Cert.ProjectIdeal.τ).loc Cert.ProjectIdeal.main_v26_1) = v1 c
          ∧ r.2.mem ((c.tc : Thread Cert.ProjectIdeal.nD Cert.ProjectIdeal.τ).loc Cert.ProjectIdeal.main_v26_2) = v2 c
          ∧ r.2.mem ((c.tc : Thread Cert.ProjectIdeal.nD Cert.ProjectIdeal.τ).loc Cert.ProjectIdeal.main_v26_3) = v3 c
          ∧ r.2.mem ((c.tc : Thread Cert.ProjectIdeal.nD Cert.ProjectIdeal.τ).loc Cert.ProjectIdeal.main_v26_4) = v4 c
          ∧ r.2.mem ((c.tc : Thread Cert.ProjectIdeal.nD Cert.ProjectIdeal.τ).loc Cert.ProjectIdeal.main_v26_5) = v5 c
          ∧ r.2.mem ((c.tc : Thread Cert.ProjectIdeal.nD Cert.ProjectIdeal.τ).loc Cert.ProjectIdeal.main_v26_6) = v6 c
          ∧ r.2.mem ((c.tc : Thread Cert.ProjectIdeal.nD Cert.ProjectIdeal.τ).loc Cert.ProjectIdeal.main_v26_7) = v7 c
          ∧ r.2.mem ((c.tc : Thread Cert.ProjectIdeal.nD Cert.ProjectIdeal.τ).loc Cert.ProjectIdeal.main_v26_8) = v8 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
          ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v6_0) = v0 c
          ∧ r.2.mem ((c.tc : Thread Cert.ProjectRefIdeal.nD Cert.ProjectRefIdeal.τ).loc Cert.ProjectRefIdeal.main_v6_1) = v1 c
          ∧ r.2.mem ((c.tc : Thread Cert.ProjectRefIdeal.nD Cert.ProjectRefIdeal.τ).loc Cert.ProjectRefIdeal.main_v6_2) = v2 c
          ∧ r.2.mem ((c.tc : Thread Cert.ProjectRefIdeal.nD Cert.ProjectRefIdeal.τ).loc Cert.ProjectRefIdeal.main_v6_3) = v3 c
          ∧ r.2.mem ((c.tc : Thread Cert.ProjectRefIdeal.nD Cert.ProjectRefIdeal.τ).loc Cert.ProjectRefIdeal.main_v6_4) = v4 c
          ∧ r.2.mem ((c.tc : Thread Cert.ProjectRefIdeal.nD Cert.ProjectRefIdeal.τ).loc Cert.ProjectRefIdeal.main_v6_5) = v5 c
          ∧ r.2.mem ((c.tc : Thread Cert.ProjectRefIdeal.nD Cert.ProjectRefIdeal.τ).loc Cert.ProjectRefIdeal.main_v6_6) = v6 c
          ∧ r.2.mem ((c.tc : Thread Cert.ProjectRefIdeal.nD Cert.ProjectRefIdeal.τ).loc Cert.ProjectRefIdeal.main_v6_7) = v7 c
          ∧ r.2.mem ((c.tc : Thread Cert.ProjectRefIdeal.nD Cert.ProjectRefIdeal.τ).loc Cert.ProjectRefIdeal.main_v6_8) = v8 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2)
          ∧ r.2.mem ((c.tc : Thread Cert.ProjectRefIdeal.nD Cert.ProjectRefIdeal.τ).loc Cert.ProjectRefIdeal.main_arg3) = m' ((c.tc : Thread Cert.ProjectRefIdeal.nD Cert.ProjectRefIdeal.τ).loc Cert.ProjectRefIdeal.main_arg3)
          ∧ r.2.mem ((c.tc : Thread Cert.ProjectRefIdeal.nD Cert.ProjectRefIdeal.τ).loc Cert.ProjectRefIdeal.main_arg4) = m' ((c.tc : Thread Cert.ProjectRefIdeal.nD Cert.ProjectRefIdeal.τ).loc Cert.ProjectRefIdeal.main_arg4)
          ∧ r.2.mem ((c.tc : Thread Cert.ProjectRefIdeal.nD Cert.ProjectRefIdeal.τ).loc Cert.ProjectRefIdeal.main_arg5) = m' ((c.tc : Thread Cert.ProjectRefIdeal.nD Cert.ProjectRefIdeal.τ).loc Cert.ProjectRefIdeal.main_arg5)
          ∧ r.2.mem ((c.tc : Thread Cert.ProjectRefIdeal.nD Cert.ProjectRefIdeal.τ).loc Cert.ProjectRefIdeal.main_arg6) = m' ((c.tc : Thread Cert.ProjectRefIdeal.nD Cert.ProjectRefIdeal.τ).loc Cert.ProjectRefIdeal.main_arg6)
          ∧ r.2.mem ((c.tc : Thread Cert.ProjectRefIdeal.nD Cert.ProjectRefIdeal.τ).loc Cert.ProjectRefIdeal.main_arg7) = m' ((c.tc : Thread Cert.ProjectRefIdeal.nD Cert.ProjectRefIdeal.τ).loc Cert.ProjectRefIdeal.main_arg7))

def preserves_Output_OutputIdeal : Prop :=
  True

def algebraic_OutputIdeal_OutputRefIdeal [hOutputIdeal : Cert.OutputIdeal.Facts] [hOutputRefIdeal : Cert.OutputRefIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputRefIdeal.nD Cert.OutputRefIdeal.τ Cert.OutputRefIdeal.sig) → Buf (Elt Ideal) ℓ) (g' : Dev Cert.OutputRefIdeal.nD → PrngReg), Pre_OutputIdeal m →
    (∀ c : Dev Cert.OutputIdeal.nD,
      m' ((c.tc : Thread Cert.OutputRefIdeal.nD Cert.OutputRefIdeal.τ).loc Cert.OutputRefIdeal.main_arg0) = m ((c.tc : Thread Cert.OutputIdeal.nD Cert.OutputIdeal.τ).loc Cert.OutputIdeal.main_arg0)
      ∧ m' ((c.tc : Thread Cert.OutputRefIdeal.nD Cert.OutputRefIdeal.τ).loc Cert.OutputRefIdeal.main_arg1) = m ((c.tc : Thread Cert.OutputIdeal.nD Cert.OutputIdeal.τ).loc Cert.OutputIdeal.main_arg1)
      ∧ m' ((c.tc : Thread Cert.OutputRefIdeal.nD Cert.OutputRefIdeal.τ).loc Cert.OutputRefIdeal.main_arg2) = m ((c.tc : Thread Cert.OutputIdeal.nD Cert.OutputIdeal.τ).loc Cert.OutputIdeal.main_arg2)
      ∧ m' ((c.tc : Thread Cert.OutputRefIdeal.nD Cert.OutputRefIdeal.τ).loc Cert.OutputRefIdeal.main_arg3) = m ((c.tc : Thread Cert.OutputIdeal.nD Cert.OutputIdeal.τ).loc Cert.OutputIdeal.main_arg3)
      ∧ m' ((c.tc : Thread Cert.OutputRefIdeal.nD Cert.OutputRefIdeal.τ).loc Cert.OutputRefIdeal.main_arg4) = m ((c.tc : Thread Cert.OutputIdeal.nD Cert.OutputIdeal.τ).loc Cert.OutputIdeal.main_arg4)) →
    ∃ (v0 : (c : Dev Cert.OutputIdeal.nD) → Buf (Elt Ideal) ((c.tc : Thread Cert.OutputIdeal.nD Cert.OutputIdeal.τ).loc Cert.OutputIdeal.main_v1)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v1) = v0 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4))
      ∧ θ_run (Cert.OutputRefIdeal.defs (F := Ideal)) (onTc (τ := Cert.OutputRefIdeal.τ) (Cert.OutputRefIdeal.main (F := Ideal))) ⟨m', fun _ => 0, g'⟩ (fun r => ∀ c : Dev Cert.OutputRefIdeal.nD,
          r.2.mem ((c.tc : Thread Cert.OutputRefIdeal.nD Cert.OutputRefIdeal.τ).loc Cert.OutputRefIdeal.main_v1) = v0 c
          ∧ r.2.mem ((c.tc : Thread Cert.OutputRefIdeal.nD Cert.OutputRefIdeal.τ).loc Cert.OutputRefIdeal.main_arg0) = m' ((c.tc : Thread Cert.OutputRefIdeal.nD Cert.OutputRefIdeal.τ).loc Cert.OutputRefIdeal.main_arg0)
          ∧ r.2.mem ((c.tc : Thread Cert.OutputRefIdeal.nD Cert.OutputRefIdeal.τ).loc Cert.OutputRefIdeal.main_arg1) = m' ((c.tc : Thread Cert.OutputRefIdeal.nD Cert.OutputRefIdeal.τ).loc Cert.OutputRefIdeal.main_arg1)
          ∧ r.2.mem ((c.tc : Thread Cert.OutputRefIdeal.nD Cert.OutputRefIdeal.τ).loc Cert.OutputRefIdeal.main_arg2) = m' ((c.tc : Thread Cert.OutputRefIdeal.nD Cert.OutputRefIdeal.τ).loc Cert.OutputRefIdeal.main_arg2)
          ∧ r.2.mem ((c.tc : Thread Cert.OutputRefIdeal.nD Cert.OutputRefIdeal.τ).loc Cert.OutputRefIdeal.main_arg3) = m' ((c.tc : Thread Cert.OutputRefIdeal.nD Cert.OutputRefIdeal.τ).loc Cert.OutputRefIdeal.main_arg3)
          ∧ r.2.mem ((c.tc : Thread Cert.OutputRefIdeal.nD Cert.OutputRefIdeal.τ).loc Cert.OutputRefIdeal.main_arg4) = m' ((c.tc : Thread Cert.OutputRefIdeal.nD Cert.OutputRefIdeal.τ).loc Cert.OutputRefIdeal.main_arg4))

def preserves_CompressK_CompressKIdeal : Prop :=
  True

def algebraic_CompressKIdeal_CompressKRefIdeal_on_blocks [hCompressKIdeal : Cert.CompressKIdeal.Facts] [hCompressKRefIdeal : Cert.CompressKRefIdeal.Facts] [hOn_blocks : Cert.On_blocks.Facts] : Prop :=
  ∀ (m : (ℓ : Loc Cert.CompressKIdeal.nD Cert.CompressKIdeal.τ Cert.CompressKIdeal.sig) → Buf (Elt Ideal) ℓ) (g : Dev Cert.CompressKIdeal.nD → PrngReg)
    (m' : (ℓ : Loc Cert.CompressKRefIdeal.nD Cert.CompressKRefIdeal.τ Cert.CompressKRefIdeal.sig) → Buf (Elt Ideal) ℓ) (g' : Dev Cert.CompressKRefIdeal.nD → PrngReg), Pre_CompressKIdeal m →
    (∀ c : Dev Cert.CompressKIdeal.nD,
      m' ((c.tc : Thread Cert.CompressKRefIdeal.nD Cert.CompressKRefIdeal.τ).loc Cert.CompressKRefIdeal.main_arg0) = m ((c.tc : Thread Cert.CompressKIdeal.nD Cert.CompressKIdeal.τ).loc Cert.CompressKIdeal.main_arg0)
      ∧ m' ((c.tc : Thread Cert.CompressKRefIdeal.nD Cert.CompressKRefIdeal.τ).loc Cert.CompressKRefIdeal.main_arg1) = m ((c.tc : Thread Cert.CompressKIdeal.nD Cert.CompressKIdeal.τ).loc Cert.CompressKIdeal.main_arg1)
      ∧ m' ((c.tc : Thread Cert.CompressKRefIdeal.nD Cert.CompressKRefIdeal.τ).loc Cert.CompressKRefIdeal.main_arg2) = m ((c.tc : Thread Cert.CompressKIdeal.nD Cert.CompressKIdeal.τ).loc Cert.CompressKIdeal.main_arg2)
      ∧ m' ((c.tc : Thread Cert.CompressKRefIdeal.nD Cert.CompressKRefIdeal.τ).loc Cert.CompressKRefIdeal.main_arg3) = m ((c.tc : Thread Cert.CompressKIdeal.nD Cert.CompressKIdeal.τ).loc Cert.CompressKIdeal.main_arg3)
      ∧ m' ((c.tc : Thread Cert.CompressKRefIdeal.nD Cert.CompressKRefIdeal.τ).loc Cert.CompressKRefIdeal.main_arg4) = m ((c.tc : Thread Cert.CompressKIdeal.nD Cert.CompressKIdeal.τ).loc Cert.CompressKIdeal.main_arg4)
      ∧ m' ((c.tc : Thread Cert.CompressKRefIdeal.nD Cert.CompressKRefIdeal.τ).loc Cert.CompressKRefIdeal.main_arg5) = m ((c.tc : Thread Cert.CompressKIdeal.nD Cert.CompressKIdeal.τ).loc Cert.CompressKIdeal.main_arg5)
      ∧ m' ((c.tc : Thread Cert.CompressKRefIdeal.nD Cert.CompressKRefIdeal.τ).loc Cert.CompressKRefIdeal.main_arg6) = m ((c.tc : Thread Cert.CompressKIdeal.nD Cert.CompressKIdeal.τ).loc Cert.CompressKIdeal.main_arg6)
      ∧ m' ((c.tc : Thread Cert.CompressKRefIdeal.nD Cert.CompressKRefIdeal.τ).loc Cert.CompressKRefIdeal.main_arg7) = m ((c.tc : Thread Cert.CompressKIdeal.nD Cert.CompressKIdeal.τ).loc Cert.CompressKIdeal.main_arg7)) →
    ∃ (v0 : (c : Dev Cert.CompressKIdeal.nD) → Buf (Elt Ideal) ((c.tc : Thread Cert.CompressKIdeal.nD Cert.CompressKIdeal.τ).loc Cert.CompressKIdeal.main_v6_0)) (v1 : (c : Dev Cert.CompressKIdeal.nD) → Buf (Elt Ideal) ((c.tc : Thread Cert.CompressKIdeal.nD Cert.CompressKIdeal.τ).loc Cert.CompressKIdeal.main_v6_1)) (v2 : (c : Dev Cert.CompressKIdeal.nD) → Buf (Elt Ideal) ((c.tc : Thread Cert.CompressKIdeal.nD Cert.CompressKIdeal.τ).loc Cert.CompressKIdeal.main_v6_2)) (v3 : (c : Dev Cert.CompressKIdeal.nD) → Buf (Elt Ideal) ((c.tc : Thread Cert.CompressKIdeal.nD Cert.CompressKIdeal.τ).loc Cert.CompressKIdeal.main_v6_3)),
      θ_run (Cert.CompressKIdeal.defs (F := Ideal)) (onTc (τ := Cert.CompressKIdeal.τ) (Cert.CompressKIdeal.main (F := Ideal))) ⟨m, fun _ => 0, g⟩ (fun r => ∀ c : Dev Cert.CompressKIdeal.nD,
          (∀ i : (⟨3, ![8, 192, 192]⟩ : Shape).Idx, (Cert.On_blocks.fn (F := Ideal) (m ((c.tc : Thread Cert.CompressKIdeal.nD Cert.CompressKIdeal.τ).loc Cert.CompressKIdeal.main_arg0)) (m ((c.tc : Thread Cert.CompressKIdeal.nD Cert.CompressKIdeal.τ).loc Cert.CompressKIdeal.main_arg1)) (m ((c.tc : Thread Cert.CompressKIdeal.nD Cert.CompressKIdeal.τ).loc Cert.CompressKIdeal.main_arg2)) (m ((c.tc : Thread Cert.CompressKIdeal.nD Cert.CompressKIdeal.τ).loc Cert.CompressKIdeal.main_arg3)) (m ((c.tc : Thread Cert.CompressKIdeal.nD Cert.CompressKIdeal.τ).loc Cert.CompressKIdeal.main_arg4)) (m ((c.tc : Thread Cert.CompressKIdeal.nD Cert.CompressKIdeal.τ).loc Cert.CompressKIdeal.main_arg5)) (m ((c.tc : Thread Cert.CompressKIdeal.nD Cert.CompressKIdeal.τ).loc Cert.CompressKIdeal.main_arg6)) (m ((c.tc : Thread Cert.CompressKIdeal.nD Cert.CompressKIdeal.τ).loc Cert.CompressKIdeal.main_arg7))).1 i = 1#1 → r.2.mem ((c.tc : Thread Cert.CompressKIdeal.nD Cert.CompressKIdeal.τ).loc Cert.CompressKIdeal.main_v6_0) i = v0 c i)
          ∧ (∀ i : (⟨3, ![8, 192, 6144]⟩ : Shape).Idx, (Cert.On_blocks.fn (F := Ideal) (m ((c.tc : Thread Cert.CompressKIdeal.nD Cert.CompressKIdeal.τ).loc Cert.CompressKIdeal.main_arg0)) (m ((c.tc : Thread Cert.CompressKIdeal.nD Cert.CompressKIdeal.τ).loc Cert.CompressKIdeal.main_arg1)) (m ((c.tc : Thread Cert.CompressKIdeal.nD Cert.CompressKIdeal.τ).loc Cert.CompressKIdeal.main_arg2)) (m ((c.tc : Thread Cert.CompressKIdeal.nD Cert.CompressKIdeal.τ).loc Cert.CompressKIdeal.main_arg3)) (m ((c.tc : Thread Cert.CompressKIdeal.nD Cert.CompressKIdeal.τ).loc Cert.CompressKIdeal.main_arg4)) (m ((c.tc : Thread Cert.CompressKIdeal.nD Cert.CompressKIdeal.τ).loc Cert.CompressKIdeal.main_arg5)) (m ((c.tc : Thread Cert.CompressKIdeal.nD Cert.CompressKIdeal.τ).loc Cert.CompressKIdeal.main_arg6)) (m ((c.tc : Thread Cert.CompressKIdeal.nD Cert.CompressKIdeal.τ).loc Cert.CompressKIdeal.main_arg7))).2.1 i = 1#1 → r.2.mem ((c.tc : Thread Cert.CompressKIdeal.nD Cert.CompressKIdeal.τ).loc Cert.CompressKIdeal.main_v6_1) i = v1 c i)
          ∧ (∀ i : (⟨3, ![8, 192, 1536]⟩ : Shape).Idx, (Cert.On_blocks.fn (F := Ideal) (m ((c.tc : Thread Cert.CompressKIdeal.nD Cert.CompressKIdeal.τ).loc Cert.CompressKIdeal.main_arg0)) (m ((c.tc : Thread Cert.CompressKIdeal.nD Cert.CompressKIdeal.τ).loc Cert.CompressKIdeal.main_arg1)) (m ((c.tc : Thread Cert.CompressKIdeal.nD Cert.CompressKIdeal.τ).loc Cert.CompressKIdeal.main_arg2)) (m ((c.tc : Thread Cert.CompressKIdeal.nD Cert.CompressKIdeal.τ).loc Cert.CompressKIdeal.main_arg3)) (m ((c.tc : Thread Cert.CompressKIdeal.nD Cert.CompressKIdeal.τ).loc Cert.CompressKIdeal.main_arg4)) (m ((c.tc : Thread Cert.CompressKIdeal.nD Cert.CompressKIdeal.τ).loc Cert.CompressKIdeal.main_arg5)) (m ((c.tc : Thread Cert.CompressKIdeal.nD Cert.CompressKIdeal.τ).loc Cert.CompressKIdeal.main_arg6)) (m ((c.tc : Thread Cert.CompressKIdeal.nD Cert.CompressKIdeal.τ).loc Cert.CompressKIdeal.main_arg7))).2.2.1 i = 1#1 → r.2.mem ((c.tc : Thread Cert.CompressKIdeal.nD Cert.CompressKIdeal.τ).loc Cert.CompressKIdeal.main_v6_2) i = v2 c i)
          ∧ (∀ i : (⟨3, ![8, 192, 128]⟩ : Shape).Idx, (Cert.On_blocks.fn (F := Ideal) (m ((c.tc : Thread Cert.CompressKIdeal.nD Cert.CompressKIdeal.τ).loc Cert.CompressKIdeal.main_arg0)) (m ((c.tc : Thread Cert.CompressKIdeal.nD Cert.CompressKIdeal.τ).loc Cert.CompressKIdeal.main_arg1)) (m ((c.tc : Thread Cert.CompressKIdeal.nD Cert.CompressKIdeal.τ).loc Cert.CompressKIdeal.main_arg2)) (m ((c.tc : Thread Cert.CompressKIdeal.nD Cert.CompressKIdeal.τ).loc Cert.CompressKIdeal.main_arg3)) (m ((c.tc : Thread Cert.CompressKIdeal.nD Cert.CompressKIdeal.τ).loc Cert.CompressKIdeal.main_arg4)) (m ((c.tc : Thread Cert.CompressKIdeal.nD Cert.CompressKIdeal.τ).loc Cert.CompressKIdeal.main_arg5)) (m ((c.tc : Thread Cert.CompressKIdeal.nD Cert.CompressKIdeal.τ).loc Cert.CompressKIdeal.main_arg6)) (m ((c.tc : Thread Cert.CompressKIdeal.nD Cert.CompressKIdeal.τ).loc Cert.CompressKIdeal.main_arg7))).2.2.2 i = 1#1 → r.2.mem ((c.tc : Thread Cert.CompressKIdeal.nD Cert.CompressKIdeal.τ).loc Cert.CompressKIdeal.main_v6_3) i = v3 c i)
          ∧ r.2.mem ((c.tc : Thread Cert.CompressKIdeal.nD Cert.CompressKIdeal.τ).loc Cert.CompressKIdeal.main_arg0) = m ((c.tc : Thread Cert.CompressKIdeal.nD Cert.CompressKIdeal.τ).loc Cert.CompressKIdeal.main_arg0)
          ∧ r.2.mem ((c.tc : Thread Cert.CompressKIdeal.nD Cert.CompressKIdeal.τ).loc Cert.CompressKIdeal.main_arg1) = m ((c.tc : Thread Cert.CompressKIdeal.nD Cert.CompressKIdeal.τ).loc Cert.CompressKIdeal.main_arg1)
          ∧ r.2.mem ((c.tc : Thread Cert.CompressKIdeal.nD Cert.CompressKIdeal.τ).loc Cert.CompressKIdeal.main_arg2) = m ((c.tc : Thread Cert.CompressKIdeal.nD Cert.CompressKIdeal.τ).loc Cert.CompressKIdeal.main_arg2)
          ∧ r.2.mem ((c.tc : Thread Cert.CompressKIdeal.nD Cert.CompressKIdeal.τ).loc Cert.CompressKIdeal.main_arg3) = m ((c.tc : Thread Cert.CompressKIdeal.nD Cert.CompressKIdeal.τ).loc Cert.CompressKIdeal.main_arg3)
          ∧ r.2.mem ((c.tc : Thread Cert.CompressKIdeal.nD Cert.CompressKIdeal.τ).loc Cert.CompressKIdeal.main_arg4) = m ((c.tc : Thread Cert.CompressKIdeal.nD Cert.CompressKIdeal.τ).loc Cert.CompressKIdeal.main_arg4)
          ∧ r.2.mem ((c.tc : Thread Cert.CompressKIdeal.nD Cert.CompressKIdeal.τ).loc Cert.CompressKIdeal.main_arg5) = m ((c.tc : Thread Cert.CompressKIdeal.nD Cert.CompressKIdeal.τ).loc Cert.CompressKIdeal.main_arg5)
          ∧ r.2.mem ((c.tc : Thread Cert.CompressKIdeal.nD Cert.CompressKIdeal.τ).loc Cert.CompressKIdeal.main_arg6) = m ((c.tc : Thread Cert.CompressKIdeal.nD Cert.CompressKIdeal.τ).loc Cert.CompressKIdeal.main_arg6)
          ∧ r.2.mem ((c.tc : Thread Cert.CompressKIdeal.nD Cert.CompressKIdeal.τ).loc Cert.CompressKIdeal.main_arg7) = m ((c.tc : Thread Cert.CompressKIdeal.nD Cert.CompressKIdeal.τ).loc Cert.CompressKIdeal.main_arg7))
      ∧ θ_run (Cert.CompressKRefIdeal.defs (F := Ideal)) (onTc (τ := Cert.CompressKRefIdeal.τ) (Cert.CompressKRefIdeal.main (F := Ideal))) ⟨m', fun _ => 0, g'⟩ (fun r => ∀ c : Dev Cert.CompressKRefIdeal.nD,
          (∀ i : (⟨3, ![8, 192, 192]⟩ : Shape).Idx, (Cert.On_blocks.fn (F := Ideal) (m ((c.tc : Thread Cert.CompressKIdeal.nD Cert.CompressKIdeal.τ).loc Cert.CompressKIdeal.main_arg0)) (m ((c.tc : Thread Cert.CompressKIdeal.nD Cert.CompressKIdeal.τ).loc Cert.CompressKIdeal.main_arg1)) (m ((c.tc : Thread Cert.CompressKIdeal.nD Cert.CompressKIdeal.τ).loc Cert.CompressKIdeal.main_arg2)) (m ((c.tc : Thread Cert.CompressKIdeal.nD Cert.CompressKIdeal.τ).loc Cert.CompressKIdeal.main_arg3)) (m ((c.tc : Thread Cert.CompressKIdeal.nD Cert.CompressKIdeal.τ).loc Cert.CompressKIdeal.main_arg4)) (m ((c.tc : Thread Cert.CompressKIdeal.nD Cert.CompressKIdeal.τ).loc Cert.CompressKIdeal.main_arg5)) (m ((c.tc : Thread Cert.CompressKIdeal.nD Cert.CompressKIdeal.τ).loc Cert.CompressKIdeal.main_arg6)) (m ((c.tc : Thread Cert.CompressKIdeal.nD Cert.CompressKIdeal.τ).loc Cert.CompressKIdeal.main_arg7))).1 i = 1#1 → r.2.mem ((c.tc : Thread Cert.CompressKRefIdeal.nD Cert.CompressKRefIdeal.τ).loc Cert.CompressKRefIdeal.main_v20_0) i = v0 c i)
          ∧ (∀ i : (⟨3, ![8, 192, 6144]⟩ : Shape).Idx, (Cert.On_blocks.fn (F := Ideal) (m ((c.tc : Thread Cert.CompressKIdeal.nD Cert.CompressKIdeal.τ).loc Cert.CompressKIdeal.main_arg0)) (m ((c.tc : Thread Cert.CompressKIdeal.nD Cert.CompressKIdeal.τ).loc Cert.CompressKIdeal.main_arg1)) (m ((c.tc : Thread Cert.CompressKIdeal.nD Cert.CompressKIdeal.τ).loc Cert.CompressKIdeal.main_arg2)) (m ((c.tc : Thread Cert.CompressKIdeal.nD Cert.CompressKIdeal.τ).loc Cert.CompressKIdeal.main_arg3)) (m ((c.tc : Thread Cert.CompressKIdeal.nD Cert.CompressKIdeal.τ).loc Cert.CompressKIdeal.main_arg4)) (m ((c.tc : Thread Cert.CompressKIdeal.nD Cert.CompressKIdeal.τ).loc Cert.CompressKIdeal.main_arg5)) (m ((c.tc : Thread Cert.CompressKIdeal.nD Cert.CompressKIdeal.τ).loc Cert.CompressKIdeal.main_arg6)) (m ((c.tc : Thread Cert.CompressKIdeal.nD Cert.CompressKIdeal.τ).loc Cert.CompressKIdeal.main_arg7))).2.1 i = 1#1 → r.2.mem ((c.tc : Thread Cert.CompressKRefIdeal.nD Cert.CompressKRefIdeal.τ).loc Cert.CompressKRefIdeal.main_v20_1) i = v1 c i)
          ∧ (∀ i : (⟨3, ![8, 192, 1536]⟩ : Shape).Idx, (Cert.On_blocks.fn (F := Ideal) (m ((c.tc : Thread Cert.CompressKIdeal.nD Cert.CompressKIdeal.τ).loc Cert.CompressKIdeal.main_arg0)) (m ((c.tc : Thread Cert.CompressKIdeal.nD Cert.CompressKIdeal.τ).loc Cert.CompressKIdeal.main_arg1)) (m ((c.tc : Thread Cert.CompressKIdeal.nD Cert.CompressKIdeal.τ).loc Cert.CompressKIdeal.main_arg2)) (m ((c.tc : Thread Cert.CompressKIdeal.nD Cert.CompressKIdeal.τ).loc Cert.CompressKIdeal.main_arg3)) (m ((c.tc : Thread Cert.CompressKIdeal.nD Cert.CompressKIdeal.τ).loc Cert.CompressKIdeal.main_arg4)) (m ((c.tc : Thread Cert.CompressKIdeal.nD Cert.CompressKIdeal.τ).loc Cert.CompressKIdeal.main_arg5)) (m ((c.tc : Thread Cert.CompressKIdeal.nD Cert.CompressKIdeal.τ).loc Cert.CompressKIdeal.main_arg6)) (m ((c.tc : Thread Cert.CompressKIdeal.nD Cert.CompressKIdeal.τ).loc Cert.CompressKIdeal.main_arg7))).2.2.1 i = 1#1 → r.2.mem ((c.tc : Thread Cert.CompressKRefIdeal.nD Cert.CompressKRefIdeal.τ).loc Cert.CompressKRefIdeal.main_v20_2) i = v2 c i)
          ∧ (∀ i : (⟨3, ![8, 192, 128]⟩ : Shape).Idx, (Cert.On_blocks.fn (F := Ideal) (m ((c.tc : Thread Cert.CompressKIdeal.nD Cert.CompressKIdeal.τ).loc Cert.CompressKIdeal.main_arg0)) (m ((c.tc : Thread Cert.CompressKIdeal.nD Cert.CompressKIdeal.τ).loc Cert.CompressKIdeal.main_arg1)) (m ((c.tc : Thread Cert.CompressKIdeal.nD Cert.CompressKIdeal.τ).loc Cert.CompressKIdeal.main_arg2)) (m ((c.tc : Thread Cert.CompressKIdeal.nD Cert.CompressKIdeal.τ).loc Cert.CompressKIdeal.main_arg3)) (m ((c.tc : Thread Cert.CompressKIdeal.nD Cert.CompressKIdeal.τ).loc Cert.CompressKIdeal.main_arg4)) (m ((c.tc : Thread Cert.CompressKIdeal.nD Cert.CompressKIdeal.τ).loc Cert.CompressKIdeal.main_arg5)) (m ((c.tc : Thread Cert.CompressKIdeal.nD Cert.CompressKIdeal.τ).loc Cert.CompressKIdeal.main_arg6)) (m ((c.tc : Thread Cert.CompressKIdeal.nD Cert.CompressKIdeal.τ).loc Cert.CompressKIdeal.main_arg7))).2.2.2 i = 1#1 → r.2.mem ((c.tc : Thread Cert.CompressKRefIdeal.nD Cert.CompressKRefIdeal.τ).loc Cert.CompressKRefIdeal.main_v20_3) i = v3 c i)
          ∧ r.2.mem ((c.tc : Thread Cert.CompressKRefIdeal.nD Cert.CompressKRefIdeal.τ).loc Cert.CompressKRefIdeal.main_arg0) = m' ((c.tc : Thread Cert.CompressKRefIdeal.nD Cert.CompressKRefIdeal.τ).loc Cert.CompressKRefIdeal.main_arg0)
          ∧ r.2.mem ((c.tc : Thread Cert.CompressKRefIdeal.nD Cert.CompressKRefIdeal.τ).loc Cert.CompressKRefIdeal.main_arg1) = m' ((c.tc : Thread Cert.CompressKRefIdeal.nD Cert.CompressKRefIdeal.τ).loc Cert.CompressKRefIdeal.main_arg1)
          ∧ r.2.mem ((c.tc : Thread Cert.CompressKRefIdeal.nD Cert.CompressKRefIdeal.τ).loc Cert.CompressKRefIdeal.main_arg2) = m' ((c.tc : Thread Cert.CompressKRefIdeal.nD Cert.CompressKRefIdeal.τ).loc Cert.CompressKRefIdeal.main_arg2)
          ∧ r.2.mem ((c.tc : Thread Cert.CompressKRefIdeal.nD Cert.CompressKRefIdeal.τ).loc Cert.CompressKRefIdeal.main_arg3) = m' ((c.tc : Thread Cert.CompressKRefIdeal.nD Cert.CompressKRefIdeal.τ).loc Cert.CompressKRefIdeal.main_arg3)
          ∧ r.2.mem ((c.tc : Thread Cert.CompressKRefIdeal.nD Cert.CompressKRefIdeal.τ).loc Cert.CompressKRefIdeal.main_arg4) = m' ((c.tc : Thread Cert.CompressKRefIdeal.nD Cert.CompressKRefIdeal.τ).loc Cert.CompressKRefIdeal.main_arg4)
          ∧ r.2.mem ((c.tc : Thread Cert.CompressKRefIdeal.nD Cert.CompressKRefIdeal.τ).loc Cert.CompressKRefIdeal.main_arg5) = m' ((c.tc : Thread Cert.CompressKRefIdeal.nD Cert.CompressKRefIdeal.τ).loc Cert.CompressKRefIdeal.main_arg5)
          ∧ r.2.mem ((c.tc : Thread Cert.CompressKRefIdeal.nD Cert.CompressKRefIdeal.τ).loc Cert.CompressKRefIdeal.main_arg6) = m' ((c.tc : Thread Cert.CompressKRefIdeal.nD Cert.CompressKRefIdeal.τ).loc Cert.CompressKRefIdeal.main_arg6)
          ∧ r.2.mem ((c.tc : Thread Cert.CompressKRefIdeal.nD Cert.CompressKRefIdeal.τ).loc Cert.CompressKRefIdeal.main_arg7) = m' ((c.tc : Thread Cert.CompressKRefIdeal.nD Cert.CompressKRefIdeal.τ).loc Cert.CompressKRefIdeal.main_arg7))

def preserves_CompressV_CompressVIdeal : Prop :=
  True

def algebraic_CompressVIdeal_CompressVRefIdeal_on_blocks_v [hCompressVIdeal : Cert.CompressVIdeal.Facts] [hCompressVRefIdeal : Cert.CompressVRefIdeal.Facts] [hOn_blocks_v : Cert.On_blocks_v.Facts] : Prop :=
  ∀ (m : (ℓ : Loc Cert.CompressVIdeal.nD Cert.CompressVIdeal.τ Cert.CompressVIdeal.sig) → Buf (Elt Ideal) ℓ) (g : Dev Cert.CompressVIdeal.nD → PrngReg)
    (m' : (ℓ : Loc Cert.CompressVRefIdeal.nD Cert.CompressVRefIdeal.τ Cert.CompressVRefIdeal.sig) → Buf (Elt Ideal) ℓ) (g' : Dev Cert.CompressVRefIdeal.nD → PrngReg), Pre_CompressVIdeal m →
    (∀ c : Dev Cert.CompressVIdeal.nD,
      m' ((c.tc : Thread Cert.CompressVRefIdeal.nD Cert.CompressVRefIdeal.τ).loc Cert.CompressVRefIdeal.main_arg0) = m ((c.tc : Thread Cert.CompressVIdeal.nD Cert.CompressVIdeal.τ).loc Cert.CompressVIdeal.main_arg0)
      ∧ m' ((c.tc : Thread Cert.CompressVRefIdeal.nD Cert.CompressVRefIdeal.τ).loc Cert.CompressVRefIdeal.main_arg1) = m ((c.tc : Thread Cert.CompressVIdeal.nD Cert.CompressVIdeal.τ).loc Cert.CompressVIdeal.main_arg1)
      ∧ m' ((c.tc : Thread Cert.CompressVRefIdeal.nD Cert.CompressVRefIdeal.τ).loc Cert.CompressVRefIdeal.main_arg2) = m ((c.tc : Thread Cert.CompressVIdeal.nD Cert.CompressVIdeal.τ).loc Cert.CompressVIdeal.main_arg2)
      ∧ m' ((c.tc : Thread Cert.CompressVRefIdeal.nD Cert.CompressVRefIdeal.τ).loc Cert.CompressVRefIdeal.main_arg3) = m ((c.tc : Thread Cert.CompressVIdeal.nD Cert.CompressVIdeal.τ).loc Cert.CompressVIdeal.main_arg3)
      ∧ m' ((c.tc : Thread Cert.CompressVRefIdeal.nD Cert.CompressVRefIdeal.τ).loc Cert.CompressVRefIdeal.main_arg4) = m ((c.tc : Thread Cert.CompressVIdeal.nD Cert.CompressVIdeal.τ).loc Cert.CompressVIdeal.main_arg4)
      ∧ m' ((c.tc : Thread Cert.CompressVRefIdeal.nD Cert.CompressVRefIdeal.τ).loc Cert.CompressVRefIdeal.main_arg5) = m ((c.tc : Thread Cert.CompressVIdeal.nD Cert.CompressVIdeal.τ).loc Cert.CompressVIdeal.main_arg5)
      ∧ m' ((c.tc : Thread Cert.CompressVRefIdeal.nD Cert.CompressVRefIdeal.τ).loc Cert.CompressVRefIdeal.main_arg6) = m ((c.tc : Thread Cert.CompressVIdeal.nD Cert.CompressVIdeal.τ).loc Cert.CompressVIdeal.main_arg6)
      ∧ m' ((c.tc : Thread Cert.CompressVRefIdeal.nD Cert.CompressVRefIdeal.τ).loc Cert.CompressVRefIdeal.main_arg7) = m ((c.tc : Thread Cert.CompressVIdeal.nD Cert.CompressVIdeal.τ).loc Cert.CompressVIdeal.main_arg7)) →
    ∃ (v0 : (c : Dev Cert.CompressVIdeal.nD) → Buf (Elt Ideal) ((c.tc : Thread Cert.CompressVIdeal.nD Cert.CompressVIdeal.τ).loc Cert.CompressVIdeal.main_v6_0)) (v1 : (c : Dev Cert.CompressVIdeal.nD) → Buf (Elt Ideal) ((c.tc : Thread Cert.CompressVIdeal.nD Cert.CompressVIdeal.τ).loc Cert.CompressVIdeal.main_v6_1)) (v2 : (c : Dev Cert.CompressVIdeal.nD) → Buf (Elt Ideal) ((c.tc : Thread Cert.CompressVIdeal.nD Cert.CompressVIdeal.τ).loc Cert.CompressVIdeal.main_v6_2)) (v3 : (c : Dev Cert.CompressVIdeal.nD) → Buf (Elt Ideal) ((c.tc : Thread Cert.CompressVIdeal.nD Cert.CompressVIdeal.τ).loc Cert.CompressVIdeal.main_v6_3)),
      θ_run (Cert.CompressVIdeal.defs (F := Ideal)) (onTc (τ := Cert.CompressVIdeal.τ) (Cert.CompressVIdeal.main (F := Ideal))) ⟨m, fun _ => 0, g⟩ (fun r => ∀ c : Dev Cert.CompressVIdeal.nD,
          (∀ i : (⟨3, ![8, 192, 128]⟩ : Shape).Idx, (Cert.On_blocks_v.fn (F := Ideal) (m ((c.tc : Thread Cert.CompressVIdeal.nD Cert.CompressVIdeal.τ).loc Cert.CompressVIdeal.main_arg0)) (m ((c.tc : Thread Cert.CompressVIdeal.nD Cert.CompressVIdeal.τ).loc Cert.CompressVIdeal.main_arg1)) (m ((c.tc : Thread Cert.CompressVIdeal.nD Cert.CompressVIdeal.τ).loc Cert.CompressVIdeal.main_arg2)) (m ((c.tc : Thread Cert.CompressVIdeal.nD Cert.CompressVIdeal.τ).loc Cert.CompressVIdeal.main_arg3)) (m ((c.tc : Thread Cert.CompressVIdeal.nD Cert.CompressVIdeal.τ).loc Cert.CompressVIdeal.main_arg4)) (m ((c.tc : Thread Cert.CompressVIdeal.nD Cert.CompressVIdeal.τ).loc Cert.CompressVIdeal.main_arg5)) (m ((c.tc : Thread Cert.CompressVIdeal.nD Cert.CompressVIdeal.τ).loc Cert.CompressVIdeal.main_arg6)) (m ((c.tc : Thread Cert.CompressVIdeal.nD Cert.CompressVIdeal.τ).loc Cert.CompressVIdeal.main_arg7))).1 i = 1#1 → r.2.mem ((c.tc : Thread Cert.CompressVIdeal.nD Cert.CompressVIdeal.τ).loc Cert.CompressVIdeal.main_v6_0) i = v0 c i)
          ∧ (∀ i : (⟨3, ![8, 192, 4096]⟩ : Shape).Idx, (Cert.On_blocks_v.fn (F := Ideal) (m ((c.tc : Thread Cert.CompressVIdeal.nD Cert.CompressVIdeal.τ).loc Cert.CompressVIdeal.main_arg0)) (m ((c.tc : Thread Cert.CompressVIdeal.nD Cert.CompressVIdeal.τ).loc Cert.CompressVIdeal.main_arg1)) (m ((c.tc : Thread Cert.CompressVIdeal.nD Cert.CompressVIdeal.τ).loc Cert.CompressVIdeal.main_arg2)) (m ((c.tc : Thread Cert.CompressVIdeal.nD Cert.CompressVIdeal.τ).loc Cert.CompressVIdeal.main_arg3)) (m ((c.tc : Thread Cert.CompressVIdeal.nD Cert.CompressVIdeal.τ).loc Cert.CompressVIdeal.main_arg4)) (m ((c.tc : Thread Cert.CompressVIdeal.nD Cert.CompressVIdeal.τ).loc Cert.CompressVIdeal.main_arg5)) (m ((c.tc : Thread Cert.CompressVIdeal.nD Cert.CompressVIdeal.τ).loc Cert.CompressVIdeal.main_arg6)) (m ((c.tc : Thread Cert.CompressVIdeal.nD Cert.CompressVIdeal.τ).loc Cert.CompressVIdeal.main_arg7))).2.1 i = 1#1 → r.2.mem ((c.tc : Thread Cert.CompressVIdeal.nD Cert.CompressVIdeal.τ).loc Cert.CompressVIdeal.main_v6_1) i = v1 c i)
          ∧ (∀ i : (⟨3, ![8, 192, 1536]⟩ : Shape).Idx, (Cert.On_blocks_v.fn (F := Ideal) (m ((c.tc : Thread Cert.CompressVIdeal.nD Cert.CompressVIdeal.τ).loc Cert.CompressVIdeal.main_arg0)) (m ((c.tc : Thread Cert.CompressVIdeal.nD Cert.CompressVIdeal.τ).loc Cert.CompressVIdeal.main_arg1)) (m ((c.tc : Thread Cert.CompressVIdeal.nD Cert.CompressVIdeal.τ).loc Cert.CompressVIdeal.main_arg2)) (m ((c.tc : Thread Cert.CompressVIdeal.nD Cert.CompressVIdeal.τ).loc Cert.CompressVIdeal.main_arg3)) (m ((c.tc : Thread Cert.CompressVIdeal.nD Cert.CompressVIdeal.τ).loc Cert.CompressVIdeal.main_arg4)) (m ((c.tc : Thread Cert.CompressVIdeal.nD Cert.CompressVIdeal.τ).loc Cert.CompressVIdeal.main_arg5)) (m ((c.tc : Thread Cert.CompressVIdeal.nD Cert.CompressVIdeal.τ).loc Cert.CompressVIdeal.main_arg6)) (m ((c.tc : Thread Cert.CompressVIdeal.nD Cert.CompressVIdeal.τ).loc Cert.CompressVIdeal.main_arg7))).2.2.1 i = 1#1 → r.2.mem ((c.tc : Thread Cert.CompressVIdeal.nD Cert.CompressVIdeal.τ).loc Cert.CompressVIdeal.main_v6_2) i = v2 c i)
          ∧ (∀ i : (⟨3, ![8, 192, 128]⟩ : Shape).Idx, (Cert.On_blocks_v.fn (F := Ideal) (m ((c.tc : Thread Cert.CompressVIdeal.nD Cert.CompressVIdeal.τ).loc Cert.CompressVIdeal.main_arg0)) (m ((c.tc : Thread Cert.CompressVIdeal.nD Cert.CompressVIdeal.τ).loc Cert.CompressVIdeal.main_arg1)) (m ((c.tc : Thread Cert.CompressVIdeal.nD Cert.CompressVIdeal.τ).loc Cert.CompressVIdeal.main_arg2)) (m ((c.tc : Thread Cert.CompressVIdeal.nD Cert.CompressVIdeal.τ).loc Cert.CompressVIdeal.main_arg3)) (m ((c.tc : Thread Cert.CompressVIdeal.nD Cert.CompressVIdeal.τ).loc Cert.CompressVIdeal.main_arg4)) (m ((c.tc : Thread Cert.CompressVIdeal.nD Cert.CompressVIdeal.τ).loc Cert.CompressVIdeal.main_arg5)) (m ((c.tc : Thread Cert.CompressVIdeal.nD Cert.CompressVIdeal.τ).loc Cert.CompressVIdeal.main_arg6)) (m ((c.tc : Thread Cert.CompressVIdeal.nD Cert.CompressVIdeal.τ).loc Cert.CompressVIdeal.main_arg7))).2.2.2 i = 1#1 → r.2.mem ((c.tc : Thread Cert.CompressVIdeal.nD Cert.CompressVIdeal.τ).loc Cert.CompressVIdeal.main_v6_3) i = v3 c i)
          ∧ r.2.mem ((c.tc : Thread Cert.CompressVIdeal.nD Cert.CompressVIdeal.τ).loc Cert.CompressVIdeal.main_arg0) = m ((c.tc : Thread Cert.CompressVIdeal.nD Cert.CompressVIdeal.τ).loc Cert.CompressVIdeal.main_arg0)
          ∧ r.2.mem ((c.tc : Thread Cert.CompressVIdeal.nD Cert.CompressVIdeal.τ).loc Cert.CompressVIdeal.main_arg1) = m ((c.tc : Thread Cert.CompressVIdeal.nD Cert.CompressVIdeal.τ).loc Cert.CompressVIdeal.main_arg1)
          ∧ r.2.mem ((c.tc : Thread Cert.CompressVIdeal.nD Cert.CompressVIdeal.τ).loc Cert.CompressVIdeal.main_arg2) = m ((c.tc : Thread Cert.CompressVIdeal.nD Cert.CompressVIdeal.τ).loc Cert.CompressVIdeal.main_arg2)
          ∧ r.2.mem ((c.tc : Thread Cert.CompressVIdeal.nD Cert.CompressVIdeal.τ).loc Cert.CompressVIdeal.main_arg3) = m ((c.tc : Thread Cert.CompressVIdeal.nD Cert.CompressVIdeal.τ).loc Cert.CompressVIdeal.main_arg3)
          ∧ r.2.mem ((c.tc : Thread Cert.CompressVIdeal.nD Cert.CompressVIdeal.τ).loc Cert.CompressVIdeal.main_arg4) = m ((c.tc : Thread Cert.CompressVIdeal.nD Cert.CompressVIdeal.τ).loc Cert.CompressVIdeal.main_arg4)
          ∧ r.2.mem ((c.tc : Thread Cert.CompressVIdeal.nD Cert.CompressVIdeal.τ).loc Cert.CompressVIdeal.main_arg5) = m ((c.tc : Thread Cert.CompressVIdeal.nD Cert.CompressVIdeal.τ).loc Cert.CompressVIdeal.main_arg5)
          ∧ r.2.mem ((c.tc : Thread Cert.CompressVIdeal.nD Cert.CompressVIdeal.τ).loc Cert.CompressVIdeal.main_arg6) = m ((c.tc : Thread Cert.CompressVIdeal.nD Cert.CompressVIdeal.τ).loc Cert.CompressVIdeal.main_arg6)
          ∧ r.2.mem ((c.tc : Thread Cert.CompressVIdeal.nD Cert.CompressVIdeal.τ).loc Cert.CompressVIdeal.main_arg7) = m ((c.tc : Thread Cert.CompressVIdeal.nD Cert.CompressVIdeal.τ).loc Cert.CompressVIdeal.main_arg7))
      ∧ θ_run (Cert.CompressVRefIdeal.defs (F := Ideal)) (onTc (τ := Cert.CompressVRefIdeal.τ) (Cert.CompressVRefIdeal.main (F := Ideal))) ⟨m', fun _ => 0, g'⟩ (fun r => ∀ c : Dev Cert.CompressVRefIdeal.nD,
          (∀ i : (⟨3, ![8, 192, 128]⟩ : Shape).Idx, (Cert.On_blocks_v.fn (F := Ideal) (m ((c.tc : Thread Cert.CompressVIdeal.nD Cert.CompressVIdeal.τ).loc Cert.CompressVIdeal.main_arg0)) (m ((c.tc : Thread Cert.CompressVIdeal.nD Cert.CompressVIdeal.τ).loc Cert.CompressVIdeal.main_arg1)) (m ((c.tc : Thread Cert.CompressVIdeal.nD Cert.CompressVIdeal.τ).loc Cert.CompressVIdeal.main_arg2)) (m ((c.tc : Thread Cert.CompressVIdeal.nD Cert.CompressVIdeal.τ).loc Cert.CompressVIdeal.main_arg3)) (m ((c.tc : Thread Cert.CompressVIdeal.nD Cert.CompressVIdeal.τ).loc Cert.CompressVIdeal.main_arg4)) (m ((c.tc : Thread Cert.CompressVIdeal.nD Cert.CompressVIdeal.τ).loc Cert.CompressVIdeal.main_arg5)) (m ((c.tc : Thread Cert.CompressVIdeal.nD Cert.CompressVIdeal.τ).loc Cert.CompressVIdeal.main_arg6)) (m ((c.tc : Thread Cert.CompressVIdeal.nD Cert.CompressVIdeal.τ).loc Cert.CompressVIdeal.main_arg7))).1 i = 1#1 → r.2.mem ((c.tc : Thread Cert.CompressVRefIdeal.nD Cert.CompressVRefIdeal.τ).loc Cert.CompressVRefIdeal.main_v20_0) i = v0 c i)
          ∧ (∀ i : (⟨3, ![8, 192, 4096]⟩ : Shape).Idx, (Cert.On_blocks_v.fn (F := Ideal) (m ((c.tc : Thread Cert.CompressVIdeal.nD Cert.CompressVIdeal.τ).loc Cert.CompressVIdeal.main_arg0)) (m ((c.tc : Thread Cert.CompressVIdeal.nD Cert.CompressVIdeal.τ).loc Cert.CompressVIdeal.main_arg1)) (m ((c.tc : Thread Cert.CompressVIdeal.nD Cert.CompressVIdeal.τ).loc Cert.CompressVIdeal.main_arg2)) (m ((c.tc : Thread Cert.CompressVIdeal.nD Cert.CompressVIdeal.τ).loc Cert.CompressVIdeal.main_arg3)) (m ((c.tc : Thread Cert.CompressVIdeal.nD Cert.CompressVIdeal.τ).loc Cert.CompressVIdeal.main_arg4)) (m ((c.tc : Thread Cert.CompressVIdeal.nD Cert.CompressVIdeal.τ).loc Cert.CompressVIdeal.main_arg5)) (m ((c.tc : Thread Cert.CompressVIdeal.nD Cert.CompressVIdeal.τ).loc Cert.CompressVIdeal.main_arg6)) (m ((c.tc : Thread Cert.CompressVIdeal.nD Cert.CompressVIdeal.τ).loc Cert.CompressVIdeal.main_arg7))).2.1 i = 1#1 → r.2.mem ((c.tc : Thread Cert.CompressVRefIdeal.nD Cert.CompressVRefIdeal.τ).loc Cert.CompressVRefIdeal.main_v20_1) i = v1 c i)
          ∧ (∀ i : (⟨3, ![8, 192, 1536]⟩ : Shape).Idx, (Cert.On_blocks_v.fn (F := Ideal) (m ((c.tc : Thread Cert.CompressVIdeal.nD Cert.CompressVIdeal.τ).loc Cert.CompressVIdeal.main_arg0)) (m ((c.tc : Thread Cert.CompressVIdeal.nD Cert.CompressVIdeal.τ).loc Cert.CompressVIdeal.main_arg1)) (m ((c.tc : Thread Cert.CompressVIdeal.nD Cert.CompressVIdeal.τ).loc Cert.CompressVIdeal.main_arg2)) (m ((c.tc : Thread Cert.CompressVIdeal.nD Cert.CompressVIdeal.τ).loc Cert.CompressVIdeal.main_arg3)) (m ((c.tc : Thread Cert.CompressVIdeal.nD Cert.CompressVIdeal.τ).loc Cert.CompressVIdeal.main_arg4)) (m ((c.tc : Thread Cert.CompressVIdeal.nD Cert.CompressVIdeal.τ).loc Cert.CompressVIdeal.main_arg5)) (m ((c.tc : Thread Cert.CompressVIdeal.nD Cert.CompressVIdeal.τ).loc Cert.CompressVIdeal.main_arg6)) (m ((c.tc : Thread Cert.CompressVIdeal.nD Cert.CompressVIdeal.τ).loc Cert.CompressVIdeal.main_arg7))).2.2.1 i = 1#1 → r.2.mem ((c.tc : Thread Cert.CompressVRefIdeal.nD Cert.CompressVRefIdeal.τ).loc Cert.CompressVRefIdeal.main_v20_2) i = v2 c i)
          ∧ (∀ i : (⟨3, ![8, 192, 128]⟩ : Shape).Idx, (Cert.On_blocks_v.fn (F := Ideal) (m ((c.tc : Thread Cert.CompressVIdeal.nD Cert.CompressVIdeal.τ).loc Cert.CompressVIdeal.main_arg0)) (m ((c.tc : Thread Cert.CompressVIdeal.nD Cert.CompressVIdeal.τ).loc Cert.CompressVIdeal.main_arg1)) (m ((c.tc : Thread Cert.CompressVIdeal.nD Cert.CompressVIdeal.τ).loc Cert.CompressVIdeal.main_arg2)) (m ((c.tc : Thread Cert.CompressVIdeal.nD Cert.CompressVIdeal.τ).loc Cert.CompressVIdeal.main_arg3)) (m ((c.tc : Thread Cert.CompressVIdeal.nD Cert.CompressVIdeal.τ).loc Cert.CompressVIdeal.main_arg4)) (m ((c.tc : Thread Cert.CompressVIdeal.nD Cert.CompressVIdeal.τ).loc Cert.CompressVIdeal.main_arg5)) (m ((c.tc : Thread Cert.CompressVIdeal.nD Cert.CompressVIdeal.τ).loc Cert.CompressVIdeal.main_arg6)) (m ((c.tc : Thread Cert.CompressVIdeal.nD Cert.CompressVIdeal.τ).loc Cert.CompressVIdeal.main_arg7))).2.2.2 i = 1#1 → r.2.mem ((c.tc : Thread Cert.CompressVRefIdeal.nD Cert.CompressVRefIdeal.τ).loc Cert.CompressVRefIdeal.main_v20_3) i = v3 c i)
          ∧ r.2.mem ((c.tc : Thread Cert.CompressVRefIdeal.nD Cert.CompressVRefIdeal.τ).loc Cert.CompressVRefIdeal.main_arg0) = m' ((c.tc : Thread Cert.CompressVRefIdeal.nD Cert.CompressVRefIdeal.τ).loc Cert.CompressVRefIdeal.main_arg0)
          ∧ r.2.mem ((c.tc : Thread Cert.CompressVRefIdeal.nD Cert.CompressVRefIdeal.τ).loc Cert.CompressVRefIdeal.main_arg1) = m' ((c.tc : Thread Cert.CompressVRefIdeal.nD Cert.CompressVRefIdeal.τ).loc Cert.CompressVRefIdeal.main_arg1)
          ∧ r.2.mem ((c.tc : Thread Cert.CompressVRefIdeal.nD Cert.CompressVRefIdeal.τ).loc Cert.CompressVRefIdeal.main_arg2) = m' ((c.tc : Thread Cert.CompressVRefIdeal.nD Cert.CompressVRefIdeal.τ).loc Cert.CompressVRefIdeal.main_arg2)
          ∧ r.2.mem ((c.tc : Thread Cert.CompressVRefIdeal.nD Cert.CompressVRefIdeal.τ).loc Cert.CompressVRefIdeal.main_arg3) = m' ((c.tc : Thread Cert.CompressVRefIdeal.nD Cert.CompressVRefIdeal.τ).loc Cert.CompressVRefIdeal.main_arg3)
          ∧ r.2.mem ((c.tc : Thread Cert.CompressVRefIdeal.nD Cert.CompressVRefIdeal.τ).loc Cert.CompressVRefIdeal.main_arg4) = m' ((c.tc : Thread Cert.CompressVRefIdeal.nD Cert.CompressVRefIdeal.τ).loc Cert.CompressVRefIdeal.main_arg4)
          ∧ r.2.mem ((c.tc : Thread Cert.CompressVRefIdeal.nD Cert.CompressVRefIdeal.τ).loc Cert.CompressVRefIdeal.main_arg5) = m' ((c.tc : Thread Cert.CompressVRefIdeal.nD Cert.CompressVRefIdeal.τ).loc Cert.CompressVRefIdeal.main_arg5)
          ∧ r.2.mem ((c.tc : Thread Cert.CompressVRefIdeal.nD Cert.CompressVRefIdeal.τ).loc Cert.CompressVRefIdeal.main_arg6) = m' ((c.tc : Thread Cert.CompressVRefIdeal.nD Cert.CompressVRefIdeal.τ).loc Cert.CompressVRefIdeal.main_arg6)
          ∧ r.2.mem ((c.tc : Thread Cert.CompressVRefIdeal.nD Cert.CompressVRefIdeal.τ).loc Cert.CompressVRefIdeal.main_arg7) = m' ((c.tc : Thread Cert.CompressVRefIdeal.nD Cert.CompressVRefIdeal.τ).loc Cert.CompressVRefIdeal.main_arg7))

def Claim : Prop :=
  ∃ (hProject : Cert.Project.Facts) (hProjectIdeal : Cert.ProjectIdeal.Facts) (hProjectRefIdeal : Cert.ProjectRefIdeal.Facts) (hOutput : Cert.Output.Facts) (hOutputIdeal : Cert.OutputIdeal.Facts) (hOutputRefIdeal : Cert.OutputRefIdeal.Facts) (hCompressK : Cert.CompressK.Facts) (hCompressKIdeal : Cert.CompressKIdeal.Facts) (hCompressKRefIdeal : Cert.CompressKRefIdeal.Facts) (hCompressV : Cert.CompressV.Facts) (hCompressVIdeal : Cert.CompressVIdeal.Facts) (hCompressVRefIdeal : Cert.CompressVRefIdeal.Facts) (hOn_blocks : Cert.On_blocks.Facts) (hOn_blocks_v : Cert.On_blocks_v.Facts),
    quiescent_Project (hProject := hProject)
    ∧ quiescent_ProjectIdeal (hProjectIdeal := hProjectIdeal)
    ∧ quiescent_ProjectRefIdeal (hProjectRefIdeal := hProjectRefIdeal)
    ∧ quiescent_Output (hOutput := hOutput)
    ∧ quiescent_OutputIdeal (hOutputIdeal := hOutputIdeal)
    ∧ quiescent_OutputRefIdeal (hOutputRefIdeal := hOutputRefIdeal)
    ∧ quiescent_CompressK (hCompressK := hCompressK)
    ∧ quiescent_CompressKIdeal (hCompressKIdeal := hCompressKIdeal)
    ∧ quiescent_CompressKRefIdeal (hCompressKRefIdeal := hCompressKRefIdeal)
    ∧ quiescent_CompressV (hCompressV := hCompressV)
    ∧ quiescent_CompressVIdeal (hCompressVIdeal := hCompressVIdeal)
    ∧ quiescent_CompressVRefIdeal (hCompressVRefIdeal := hCompressVRefIdeal)
    ∧ preserves_Project_ProjectIdeal
    ∧ algebraic_ProjectIdeal_ProjectRefIdeal (hProjectIdeal := hProjectIdeal) (hProjectRefIdeal := hProjectRefIdeal)
    ∧ preserves_Output_OutputIdeal
    ∧ algebraic_OutputIdeal_OutputRefIdeal (hOutputIdeal := hOutputIdeal) (hOutputRefIdeal := hOutputRefIdeal)
    ∧ preserves_CompressK_CompressKIdeal
    ∧ algebraic_CompressKIdeal_CompressKRefIdeal_on_blocks (hCompressKIdeal := hCompressKIdeal) (hCompressKRefIdeal := hCompressKRefIdeal) (hOn_blocks := hOn_blocks)
    ∧ preserves_CompressV_CompressVIdeal
    ∧ algebraic_CompressVIdeal_CompressVRefIdeal_on_blocks_v (hCompressVIdeal := hCompressVIdeal) (hCompressVRefIdeal := hCompressVRefIdeal) (hOn_blocks_v := hOn_blocks_v)
-- ==== On_blocks.lean ====
abbrev S8x3072x192 : Shape := ⟨3, ![8, 3072, 192]⟩
abbrev S32x192 : Shape := ⟨2, ![32, 192]⟩
abbrev S6144x1536 : Shape := ⟨2, ![6144, 1536]⟩
abbrev S1536 : Shape := ⟨1, ![1536]⟩
abbrev S1536x192 : Shape := ⟨2, ![1536, 192]⟩
abbrev S192 : Shape := ⟨1, ![192]⟩
abbrev S8x192x192 : Shape := ⟨3, ![8, 192, 192]⟩
abbrev S_ : Shape := ⟨0, ![]⟩
abbrev S8x192x6144 : Shape := ⟨3, ![8, 192, 6144]⟩
abbrev S8x192x1536 : Shape := ⟨3, ![8, 192, 1536]⟩
abbrev S8x192x128 : Shape := ⟨3, ![8, 192, 128]⟩

class Facts : Prop where
  bcast_S_S8x192x192 : S_.BroadcastsInDim S8x192x192 (![] : Fin 0 → Fin S8x192x192.rank)
  bcast_S_S8x192x6144 : S_.BroadcastsInDim S8x192x6144 (![] : Fin 0 → Fin S8x192x6144.rank)
  bcast_S_S8x192x1536 : S_.BroadcastsInDim S8x192x1536 (![] : Fin 0 → Fin S8x192x1536.rank)
  bcast_S_S8x192x128 : S_.BroadcastsInDim S8x192x128 (![] : Fin 0 → Fin S8x192x128.rank)

variable [Facts]

def fn {F : FTy → Type} [FloatOps F] (main_arg0 : FVec F S8x3072x192 .f32) (main_arg1 : FVec F S32x192 .f32) (main_arg2 : FVec F S6144x1536 .fp8e4m3) (main_arg3 : FVec F S1536 .f32) (main_arg4 : FVec F S1536 .f32) (main_arg5 : FVec F S1536x192 .fp8e4m3) (main_arg6 : FVec F S192 .f32) (main_arg7 : FVec F S192 .f32) : IVec S8x192x192 1 × IVec S8x192x6144 1 × IVec S8x192x1536 1 × IVec S8x192x128 1 :=
  let main_v0 : IVec S8x192x192 32 := iotaInDim S8x192x192 32 1
  let main_c : IVec S_ 32 := constantI S_ 32 191#32
  let main_v1 : IVec S8x192x192 32 := broadcastInDim S8x192x192 ![] bcast_S_S8x192x192 main_c
  let main_v2 : IVec S8x192x192 1 := cmpi .slt main_v0 main_v1
  let main_v3 : IVec S8x192x6144 32 := iotaInDim S8x192x6144 32 1
  let main_c_0 : IVec S_ 32 := constantI S_ 32 191#32
  let main_v4 : IVec S8x192x6144 32 := broadcastInDim S8x192x6144 ![] bcast_S_S8x192x6144 main_c_0
  let main_v5 : IVec S8x192x6144 1 := cmpi .slt main_v3 main_v4
  let main_v6 : IVec S8x192x1536 32 := iotaInDim S8x192x1536 32 1
  let main_c_1 : IVec S_ 32 := constantI S_ 32 191#32
  let main_v7 : IVec S8x192x1536 32 := broadcastInDim S8x192x1536 ![] bcast_S_S8x192x1536 main_c_1
  let main_v8 : IVec S8x192x1536 1 := cmpi .slt main_v6 main_v7
  let main_v9 : IVec S8x192x128 32 := iotaInDim S8x192x128 32 1
  let main_c_2 : IVec S_ 32 := constantI S_ 32 191#32
  let main_v10 : IVec S8x192x128 32 := broadcastInDim S8x192x128 ![] bcast_S_S8x192x128 main_c_2
  let main_v11 : IVec S8x192x128 1 := cmpi .slt main_v9 main_v10
  (main_v2, main_v5, main_v8, main_v11)
-- ==== On_blocks_v.lean ====
abbrev S8x3072x128 : Shape := ⟨3, ![8, 3072, 128]⟩
abbrev S32x128 : Shape := ⟨2, ![32, 128]⟩
abbrev S4096x1536 : Shape := ⟨2, ![4096, 1536]⟩
abbrev S1536 : Shape := ⟨1, ![1536]⟩
abbrev S1536x128 : Shape := ⟨2, ![1536, 128]⟩
abbrev S128 : Shape := ⟨1, ![128]⟩
abbrev S8x192x128 : Shape := ⟨3, ![8, 192, 128]⟩
abbrev S_ : Shape := ⟨0, ![]⟩
abbrev S8x192x4096 : Shape := ⟨3, ![8, 192, 4096]⟩
abbrev S8x192x1536 : Shape := ⟨3, ![8, 192, 1536]⟩

class Facts : Prop where
  bcast_S_S8x192x128 : S_.BroadcastsInDim S8x192x128 (![] : Fin 0 → Fin S8x192x128.rank)
  bcast_S_S8x192x4096 : S_.BroadcastsInDim S8x192x4096 (![] : Fin 0 → Fin S8x192x4096.rank)
  bcast_S_S8x192x1536 : S_.BroadcastsInDim S8x192x1536 (![] : Fin 0 → Fin S8x192x1536.rank)

variable [Facts]

def fn {F : FTy → Type} [FloatOps F] (main_arg0 : FVec F S8x3072x128 .f32) (main_arg1 : FVec F S32x128 .f32) (main_arg2 : FVec F S4096x1536 .fp8e4m3) (main_arg3 : FVec F S1536 .f32) (main_arg4 : FVec F S1536 .f32) (main_arg5 : FVec F S1536x128 .fp8e4m3) (main_arg6 : FVec F S128 .f32) (main_arg7 : FVec F S128 .f32) : IVec S8x192x128 1 × IVec S8x192x4096 1 × IVec S8x192x1536 1 × IVec S8x192x128 1 :=
  let main_v0 : IVec S8x192x128 32 := iotaInDim S8x192x128 32 1
  let main_c : IVec S_ 32 := constantI S_ 32 191#32
  let main_v1 : IVec S8x192x128 32 := broadcastInDim S8x192x128 ![] bcast_S_S8x192x128 main_c
  let main_v2 : IVec S8x192x128 1 := cmpi .slt main_v0 main_v1
  let main_v3 : IVec S8x192x4096 32 := iotaInDim S8x192x4096 32 1
  let main_c_0 : IVec S_ 32 := constantI S_ 32 191#32
  let main_v4 : IVec S8x192x4096 32 := broadcastInDim S8x192x4096 ![] bcast_S_S8x192x4096 main_c_0
  let main_v5 : IVec S8x192x4096 1 := cmpi .slt main_v3 main_v4
  let main_v6 : IVec S8x192x1536 32 := iotaInDim S8x192x1536 32 1
  let main_c_1 : IVec S_ 32 := constantI S_ 32 191#32
  let main_v7 : IVec S8x192x1536 32 := broadcastInDim S8x192x1536 ![] bcast_S_S8x192x1536 main_c_1
  let main_v8 : IVec S8x192x1536 1 := cmpi .slt main_v6 main_v7
  let main_v9 : IVec S8x192x128 32 := iotaInDim S8x192x128 32 1
  let main_c_2 : IVec S_ 32 := constantI S_ 32 191#32
  let main_v10 : IVec S8x192x128 32 := broadcastInDim S8x192x128 ![] bcast_S_S8x192x128 main_c_2
  let main_v11 : IVec S8x192x128 1 := cmpi .slt main_v9 main_v10
  (main_v2, main_v5, main_v8, main_v11)
-- ==== Project.lean ====
abbrev S12288x3584 : Shape := ⟨2, ![12288, 3584]⟩
abbrev S3584 : Shape := ⟨1, ![3584]⟩
abbrev S3584x7424 : Shape := ⟨2, ![3584, 7424]⟩
abbrev S7424 : Shape := ⟨1, ![7424]⟩
abbrev S12288x96 : Shape := ⟨2, ![12288, 96]⟩
abbrev S3584x32x3 : Shape := ⟨3, ![3584, 32, 3]⟩
abbrev S32x3 : Shape := ⟨2, ![32, 3]⟩
abbrev S3584x3x32 : Shape := ⟨3, ![3584, 3, 32]⟩
abbrev S3584x96 : Shape := ⟨2, ![3584, 96]⟩
abbrev S1x3584 : Shape := ⟨2, ![1, 3584]⟩
abbrev S3584x6144 : Shape := ⟨2, ![3584, 6144]⟩
abbrev S3584x384 : Shape := ⟨2, ![3584, 384]⟩
abbrev S3584x256 : Shape := ⟨2, ![3584, 256]⟩
abbrev S3584x6912 : Shape := ⟨2, ![3584, 6912]⟩
abbrev S3584x9x4x2x96 : Shape := ⟨5, ![3584, 9, 4, 2, 96]⟩
abbrev S3584x9x2x4x96 : Shape := ⟨5, ![3584, 9, 2, 4, 96]⟩
abbrev S1x7424 : Shape := ⟨2, ![1, 7424]⟩
abbrev S1x6144 : Shape := ⟨2, ![1, 6144]⟩
abbrev S1x384 : Shape := ⟨2, ![1, 384]⟩
abbrev S1x256 : Shape := ⟨2, ![1, 256]⟩
abbrev S1x6912 : Shape := ⟨2, ![1, 6912]⟩
abbrev S1x9x4x2x96 : Shape := ⟨5, ![1, 9, 4, 2, 96]⟩
abbrev S1x9x2x4x96 : Shape := ⟨5, ![1, 9, 2, 4, 96]⟩
abbrev S3x32 : Shape := ⟨2, ![3, 32]⟩
abbrev S1x96 : Shape := ⟨2, ![1, 96]⟩
abbrev S32x12288x256 : Shape := ⟨3, ![32, 12288, 256]⟩
abbrev S2x12288x192 : Shape := ⟨3, ![2, 12288, 192]⟩
abbrev S2x12288x128 : Shape := ⟨3, ![2, 12288, 128]⟩
abbrev S2x12288x256 : Shape := ⟨3, ![2, 12288, 256]⟩
abbrev S4x2x8x128 : Shape := ⟨4, ![4, 2, 8, 128]⟩
abbrev S12288x128 : Shape := ⟨2, ![12288, 128]⟩
abbrev S256x3584 : Shape := ⟨2, ![256, 3584]⟩
abbrev S256x96 : Shape := ⟨2, ![256, 96]⟩
abbrev S32x256x256 : Shape := ⟨3, ![32, 256, 256]⟩
abbrev S2x256x192 : Shape := ⟨3, ![2, 256, 192]⟩
abbrev S2x256x128 : Shape := ⟨3, ![2, 256, 128]⟩
abbrev S2x256x256 : Shape := ⟨3, ![2, 256, 256]⟩
abbrev S1x2x8x128 : Shape := ⟨4, ![1, 2, 8, 128]⟩
abbrev S256x128 : Shape := ⟨2, ![256, 128]⟩
abbrev S256 : Shape := ⟨1, ![256]⟩
abbrev S256x1 : Shape := ⟨2, ![256, 1]⟩
abbrev S256x32 : Shape := ⟨2, ![256, 32]⟩
abbrev S3584x768 : Shape := ⟨2, ![3584, 768]⟩
abbrev S256x768 : Shape := ⟨2, ![256, 768]⟩
abbrev S1x768 : Shape := ⟨2, ![1, 768]⟩
abbrev S1x256x128 : Shape := ⟨3, ![1, 256, 128]⟩
abbrev S256x64 : Shape := ⟨2, ![256, 64]⟩
abbrev S1x256x64 : Shape := ⟨3, ![1, 256, 64]⟩
abbrev S3584x512 : Shape := ⟨2, ![3584, 512]⟩
abbrev S256x512 : Shape := ⟨2, ![256, 512]⟩
abbrev S1x512 : Shape := ⟨2, ![1, 512]⟩
abbrev S32x8x128 : Shape := ⟨3, ![32, 8, 128]⟩
abbrev S8x128 : Shape := ⟨2, ![8, 128]⟩
abbrev S1x1x8x128 : Shape := ⟨4, ![1, 1, 8, 128]⟩

abbrev nBuf : Space → Nat
  | .hbm => 43
  | .vmem => 29
  | .smem => 0
  | _ => 0

abbrev bufTy : (tb : Table) → Fin (tcTables nBuf tb) → BufTy
  | .hbm, ⟨0, _⟩ => ⟨S12288x3584, .bf16⟩
  | .hbm, ⟨1, _⟩ => ⟨S3584, .f32⟩
  | .hbm, ⟨2, _⟩ => ⟨S3584x7424, .fp8e4m3⟩
  | .hbm, ⟨3, _⟩ => ⟨S7424, .f32⟩
  | .hbm, ⟨4, _⟩ => ⟨S12288x96, .f32⟩
  | .hbm, ⟨5, _⟩ => ⟨S12288x96, .f32⟩
  | .hbm, ⟨6, _⟩ => ⟨S3584x32x3, .f32⟩
  | .hbm, ⟨7, _⟩ => ⟨S32x3, .f32⟩
  | .hbm, ⟨8, _⟩ => ⟨S3584x3x32, .f32⟩
  | .hbm, ⟨9, _⟩ => ⟨S3584x96, .f32⟩
  | .hbm, ⟨10, _⟩ => ⟨S1x3584, .f32⟩
  | .hbm, ⟨11, _⟩ => ⟨S3584x6144, .fp8e4m3⟩
  | .hbm, ⟨12, _⟩ => ⟨S3584x384, .fp8e4m3⟩
  | .hbm, ⟨13, _⟩ => ⟨S3584x256, .fp8e4m3⟩
  | .hbm, ⟨14, _⟩ => ⟨S3584x384, .fp8e4m3⟩
  | .hbm, ⟨15, _⟩ => ⟨S3584x256, .fp8e4m3⟩
  | .hbm, ⟨16, _⟩ => ⟨S3584x6912, .fp8e4m3⟩
  | .hbm, ⟨17, _⟩ => ⟨S3584x9x4x2x96, .fp8e4m3⟩
  | .hbm, ⟨18, _⟩ => ⟨S3584x9x2x4x96, .fp8e4m3⟩
  | .hbm, ⟨19, _⟩ => ⟨S3584x6912, .fp8e4m3⟩
  | .hbm, ⟨20, _⟩ => ⟨S3584x7424, .fp8e4m3⟩
  | .hbm, ⟨21, _⟩ => ⟨S1x7424, .f32⟩
  | .hbm, ⟨22, _⟩ => ⟨S1x6144, .f32⟩
  | .hbm, ⟨23, _⟩ => ⟨S1x384, .f32⟩
  | .hbm, ⟨24, _⟩ => ⟨S1x256, .f32⟩
  | .hbm, ⟨25, _⟩ => ⟨S1x384, .f32⟩
  | .hbm, ⟨26, _⟩ => ⟨S1x256, .f32⟩
  | .hbm, ⟨27, _⟩ => ⟨S1x6912, .f32⟩
  | .hbm, ⟨28, _⟩ => ⟨S1x9x4x2x96, .f32⟩
  | .hbm, ⟨29, _⟩ => ⟨S1x9x2x4x96, .f32⟩
  | .hbm, ⟨30, _⟩ => ⟨S1x6912, .f32⟩
  | .hbm, ⟨31, _⟩ => ⟨S1x7424, .f32⟩
  | .hbm, ⟨32, _⟩ => ⟨S3x32, .f32⟩
  | .hbm, ⟨33, _⟩ => ⟨S1x96, .f32⟩
  | .hbm, ⟨34, _⟩ => ⟨S12288x3584, .fp8e4m3⟩
  | .hbm, ⟨35, _⟩ => ⟨S32x12288x256, .fp8e4m3⟩
  | .hbm, ⟨36, _⟩ => ⟨S2x12288x192, .f32⟩
  | .hbm, ⟨37, _⟩ => ⟨S2x12288x128, .f32⟩
  | .hbm, ⟨38, _⟩ => ⟨S2x12288x256, .fp8e4m3⟩
  | .hbm, ⟨39, _⟩ => ⟨S2x12288x128, .f32⟩
  | .hbm, ⟨40, _⟩ => ⟨S4x2x8x128, .f32⟩
  | .hbm, ⟨41, _⟩ => ⟨S12288x128, .f32⟩
  | .hbm, ⟨42, _⟩ => ⟨S12288x96, .f32⟩
  | .local _ .vmem, ⟨0, _⟩ => ⟨S256x3584, .bf16⟩
  | .local _ .vmem, ⟨1, _⟩ => ⟨S256x3584, .bf16⟩
  | .local _ .vmem, ⟨2, _⟩ => ⟨S1x3584, .f32⟩
  | .local _ .vmem, ⟨3, _⟩ => ⟨S3584x7424, .fp8e4m3⟩
  | .local _ .vmem, ⟨4, _⟩ => ⟨S1x7424, .f32⟩
  | .local _ .vmem, ⟨5, _⟩ => ⟨S256x96, .f32⟩
  | .local _ .vmem, ⟨6, _⟩ => ⟨S256x96, .f32⟩
  | .local _ .vmem, ⟨7, _⟩ => ⟨S256x96, .f32⟩
  | .local _ .vmem, ⟨8, _⟩ => ⟨S256x96, .f32⟩
  | .local _ .vmem, ⟨9, _⟩ => ⟨S3584x96, .f32⟩
  | .local _ .vmem, ⟨10, _⟩ => ⟨S1x96, .f32⟩
  | .local _ .vmem, ⟨11, _⟩ => ⟨S256x3584, .fp8e4m3⟩
  | .local _ .vmem, ⟨12, _⟩ => ⟨S256x3584, .fp8e4m3⟩
  | .local _ .vmem, ⟨13, _⟩ => ⟨S32x256x256, .fp8e4m3⟩
  | .local _ .vmem, ⟨14, _⟩ => ⟨S32x256x256, .fp8e4m3⟩
  | .local _ .vmem, ⟨15, _⟩ => ⟨S2x256x192, .f32⟩
  | .local _ .vmem, ⟨16, _⟩ => ⟨S2x256x192, .f32⟩
  | .local _ .vmem, ⟨17, _⟩ => ⟨S2x256x128, .f32⟩
  | .local _ .vmem, ⟨18, _⟩ => ⟨S2x256x128, .f32⟩
  | .local _ .vmem, ⟨19, _⟩ => ⟨S2x256x256, .fp8e4m3⟩
  | .local _ .vmem, ⟨20, _⟩ => ⟨S2x256x256, .fp8e4m3⟩
  | .local _ .vmem, ⟨21, _⟩ => ⟨S2x256x128, .f32⟩
  | .local _ .vmem, ⟨22, _⟩ => ⟨S2x256x128, .f32⟩
  | .local _ .vmem, ⟨23, _⟩ => ⟨S1x2x8x128, .f32⟩
  | .local _ .vmem, ⟨24, _⟩ => ⟨S1x2x8x128, .f32⟩
  | .local _ .vmem, ⟨25, _⟩ => ⟨S256x128, .f32⟩
  | .local _ .vmem, ⟨26, _⟩ => ⟨S256x128, .f32⟩
  | .local _ .vmem, ⟨27, _⟩ => ⟨S256x96, .f32⟩
  | .local _ .vmem, ⟨28, _⟩ => ⟨S256x96, .f32⟩
  | _, _ => ⟨S12288x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26_0 : Ref sig .tc := ⟨.hbm, 34, rfl⟩
abbrev main_v26_1 : Ref sig .tc := ⟨.hbm, 35, rfl⟩
abbrev main_v26_2 : Ref sig .tc := ⟨.hbm, 36, rfl⟩
abbrev main_v26_3 : Ref sig .tc := ⟨.hbm, 37, rfl⟩
abbrev main_v26_4 : Ref sig .tc := ⟨.hbm, 38, rfl⟩
abbrev main_v26_5 : Ref sig .tc := ⟨.hbm, 39, rfl⟩
abbrev main_v26_6 : Ref sig .tc := ⟨.hbm, 40, rfl⟩
abbrev main_v26_7 : Ref sig .tc := ⟨.hbm, 41, rfl⟩
abbrev main_v26_8 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 4 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3584x7424 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x7424 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3584x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x3584 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x256x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x256x192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x256x256 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2x8x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x96 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ProjectRefIdeal.lean ====
abbrev S12288x3584 : Shape := ⟨2, ![12288, 3584]⟩
abbrev S3584 : Shape := ⟨1, ![3584]⟩
abbrev S3584x7424 : Shape := ⟨2, ![3584, 7424]⟩
abbrev S7424 : Shape := ⟨1, ![7424]⟩
abbrev S12288x96 : Shape := ⟨2, ![12288, 96]⟩
abbrev S3584x32x3 : Shape := ⟨3, ![3584, 32, 3]⟩
abbrev S32x3 : Shape := ⟨2, ![32, 3]⟩
abbrev S3584x3x32 : Shape := ⟨3, ![3584, 3, 32]⟩
abbrev S3584x96 : Shape := ⟨2, ![3584, 96]⟩
abbrev S1x3584 : Shape := ⟨2, ![1, 3584]⟩
abbrev S1x7424 : Shape := ⟨2, ![1, 7424]⟩
abbrev S3x32 : Shape := ⟨2, ![3, 32]⟩
abbrev S1x96 : Shape := ⟨2, ![1, 96]⟩
abbrev S32x12288x256 : Shape := ⟨3, ![32, 12288, 256]⟩
abbrev S2x12288x192 : Shape := ⟨3, ![2, 12288, 192]⟩
abbrev S2x12288x128 : Shape := ⟨3, ![2, 12288, 128]⟩
abbrev S2x12288x256 : Shape := ⟨3, ![2, 12288, 256]⟩
abbrev S4x2x8x128 : Shape := ⟨4, ![4, 2, 8, 128]⟩
abbrev S12288x128 : Shape := ⟨2, ![12288, 128]⟩
abbrev S12288 : Shape := ⟨1, ![12288]⟩
abbrev S12288x1 : Shape := ⟨2, ![12288, 1]⟩
abbrev S12288x7424 : Shape := ⟨2, ![12288, 7424]⟩
abbrev S12288x6144 : Shape := ⟨2, ![12288, 6144]⟩
abbrev S12288x384 : Shape := ⟨2, ![12288, 384]⟩
abbrev S12288x256 : Shape := ⟨2, ![12288, 256]⟩
abbrev S12288x1x96 : Shape := ⟨3, ![12288, 1, 96]⟩
abbrev S12288x32x192 : Shape := ⟨3, ![12288, 32, 192]⟩
abbrev S12288x32x96 : Shape := ⟨3, ![12288, 32, 96]⟩
abbrev S12288x32 : Shape := ⟨2, ![12288, 32]⟩
abbrev S12288x32x1 : Shape := ⟨3, ![12288, 32, 1]⟩
abbrev S12288x2x192 : Shape := ⟨3, ![12288, 2, 192]⟩
abbrev S12288x2x96 : Shape := ⟨3, ![12288, 2, 96]⟩
abbrev S12288x2 : Shape := ⟨2, ![12288, 2]⟩
abbrev S12288x2x1 : Shape := ⟨3, ![12288, 2, 1]⟩
abbrev S12288x2x128 : Shape := ⟨3, ![12288, 2, 128]⟩
abbrev S12288x32x64 : Shape := ⟨3, ![12288, 32, 64]⟩
abbrev S12288x32x256 : Shape := ⟨3, ![12288, 32, 256]⟩
abbrev S12288x2x64 : Shape := ⟨3, ![12288, 2, 64]⟩
abbrev S12288x2x256 : Shape := ⟨3, ![12288, 2, 256]⟩
abbrev S4x384x8x2x128 : Shape := ⟨5, ![4, 384, 8, 2, 128]⟩
abbrev S4x8x2x128 : Shape := ⟨4, ![4, 8, 2, 128]⟩
abbrev S12288x93 : Shape := ⟨2, ![12288, 93]⟩

abbrev nBuf : Space → Nat
  | .hbm => 23
  | .vmem => 17
  | .smem => 0
  | _ => 0

abbrev bufTy : (tb : Table) → Fin (tcTables nBuf tb) → BufTy
  | .hbm, ⟨0, _⟩ => ⟨S12288x3584, .bf16⟩
  | .hbm, ⟨1, _⟩ => ⟨S3584, .f32⟩
  | .hbm, ⟨2, _⟩ => ⟨S3584x7424, .fp8e4m3⟩
  | .hbm, ⟨3, _⟩ => ⟨S7424, .f32⟩
  | .hbm, ⟨4, _⟩ => ⟨S12288x96, .f32⟩
  | .hbm, ⟨5, _⟩ => ⟨S12288x96, .f32⟩
  | .hbm, ⟨6, _⟩ => ⟨S3584x32x3, .f32⟩
  | .hbm, ⟨7, _⟩ => ⟨S32x3, .f32⟩
  | .hbm, ⟨8, _⟩ => ⟨S3584x3x32, .f32⟩
  | .hbm, ⟨9, _⟩ => ⟨S3584x96, .f32⟩
  | .hbm, ⟨10, _⟩ => ⟨S1x3584, .f32⟩
  | .hbm, ⟨11, _⟩ => ⟨S1x7424, .f32⟩
  | .hbm, ⟨12, _⟩ => ⟨S3x32, .f32⟩
  | .hbm, ⟨13, _⟩ => ⟨S1x96, .f32⟩
  | .hbm, ⟨14, _⟩ => ⟨S12288x3584, .fp8e4m3⟩
  | .hbm, ⟨15, _⟩ => ⟨S32x12288x256, .fp8e4m3⟩
  | .hbm, ⟨16, _⟩ => ⟨S2x12288x192, .f32⟩
  | .hbm, ⟨17, _⟩ => ⟨S2x12288x128, .f32⟩
  | .hbm, ⟨18, _⟩ => ⟨S2x12288x256, .fp8e4m3⟩
  | .hbm, ⟨19, _⟩ => ⟨S2x12288x128, .f32⟩
  | .hbm, ⟨20, _⟩ => ⟨S4x2x8x128, .f32⟩
  | .hbm, ⟨21, _⟩ => ⟨S12288x128, .f32⟩
  | .hbm, ⟨22, _⟩ => ⟨S12288x96, .f32⟩
  | .local _ .vmem, ⟨0, _⟩ => ⟨S12288x3584, .bf16⟩
  | .local _ .vmem, ⟨1, _⟩ => ⟨S1x3584, .f32⟩
  | .local _ .vmem, ⟨2, _⟩ => ⟨S3584x7424, .fp8e4m3⟩
  | .local _ .vmem, ⟨3, _⟩ => ⟨S1x7424, .f32⟩
  | .local _ .vmem, ⟨4, _⟩ => ⟨S12288x96, .f32⟩
  | .local _ .vmem, ⟨5, _⟩ => ⟨S12288x96, .f32⟩
  | .local _ .vmem, ⟨6, _⟩ => ⟨S3584x96, .f32⟩
  | .local _ .vmem, ⟨7, _⟩ => ⟨S1x96, .f32⟩
  | .local _ .vmem, ⟨8, _⟩ => ⟨S12288x3584, .fp8e4m3⟩
  | .local _ .vmem, ⟨9, _⟩ => ⟨S32x12288x256, .fp8e4m3⟩
  | .local _ .vmem, ⟨10, _⟩ => ⟨S2x12288x192, .f32⟩
  | .local _ .vmem, ⟨11, _⟩ => ⟨S2x12288x128, .f32⟩
  | .local _ .vmem, ⟨12, _⟩ => ⟨S2x12288x256, .fp8e4m3⟩
  | .local _ .vmem, ⟨13, _⟩ => ⟨S2x12288x128, .f32⟩
  | .local _ .vmem, ⟨14, _⟩ => ⟨S4x2x8x128, .f32⟩
  | .local _ .vmem, ⟨15, _⟩ => ⟨S12288x128, .f32⟩
  | .local _ .vmem, ⟨16, _⟩ => ⟨S12288x96, .f32⟩
  | _, _ => ⟨S12288x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev main_v6_7 : Ref sig .tc := ⟨.hbm, 21, rfl⟩
abbrev main_v6_8 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S12288x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x7424 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7424 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3584x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12288x3584 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x12288x256 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x12288x192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x12288x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x12288x256 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x12288x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x2x8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S12288x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S12288x96 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Output.lean ====
abbrev S12288x3584 : Shape := ⟨2, ![12288, 3584]⟩
abbrev S12288x4096 : Shape := ⟨2, ![12288, 4096]⟩
abbrev S12288x1 : Shape := ⟨2, ![12288, 1]⟩
abbrev S4096x3584 : Shape := ⟨2, ![4096, 3584]⟩
abbrev S3584 : Shape := ⟨1, ![3584]⟩
abbrev S1x3584 : Shape := ⟨2, ![1, 3584]⟩
abbrev S256x3584 : Shape := ⟨2, ![256, 3584]⟩
abbrev S256x4096 : Shape := ⟨2, ![256, 4096]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S12288x3584, .bf16⟩
  | .hbm, ⟨1, _⟩ => ⟨S12288x4096, .fp8e4m3⟩
  | .hbm, ⟨2, _⟩ => ⟨S12288x1, .f32⟩
  | .hbm, ⟨3, _⟩ => ⟨S4096x3584, .fp8e4m3⟩
  | .hbm, ⟨4, _⟩ => ⟨S3584, .f32⟩
  | .hbm, ⟨5, _⟩ => ⟨S1x3584, .f32⟩
  | .hbm, ⟨6, _⟩ => ⟨S12288x3584, .bf16⟩
  | .local _ .vmem, ⟨0, _⟩ => ⟨S256x3584, .bf16⟩
  | .local _ .vmem, ⟨1, _⟩ => ⟨S256x3584, .bf16⟩
  | .local _ .vmem, ⟨2, _⟩ => ⟨S256x4096, .fp8e4m3⟩
  | .local _ .vmem, ⟨3, _⟩ => ⟨S256x4096, .fp8e4m3⟩
  | .local _ .vmem, ⟨4, _⟩ => ⟨S256x1, .f32⟩
  | .local _ .vmem, ⟨5, _⟩ => ⟨S256x1, .f32⟩
  | .local _ .vmem, ⟨6, _⟩ => ⟨S4096x3584, .fp8e4m3⟩
  | .local _ .vmem, ⟨7, _⟩ => ⟨S1x3584, .f32⟩
  | .local _ .vmem, ⟨8, _⟩ => ⟨S256x3584, .bf16⟩
  | .local _ .vmem, ⟨9, _⟩ => ⟨S256x3584, .bf16⟩
  | _, _ => ⟨S12288x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3584 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutputRefIdeal.lean ====
abbrev S12288x3584 : Shape := ⟨2, ![12288, 3584]⟩
abbrev S12288x4096 : Shape := ⟨2, ![12288, 4096]⟩
abbrev S12288x1 : Shape := ⟨2, ![12288, 1]⟩
abbrev S4096x3584 : Shape := ⟨2, ![4096, 3584]⟩
abbrev S3584 : Shape := ⟨1, ![3584]⟩
abbrev S1x3584 : Shape := ⟨2, ![1, 3584]⟩

abbrev nBuf : Space → Nat
  | .hbm => 7
  | .vmem => 6
  | .smem => 0
  | _ => 0

abbrev bufTy : (tb : Table) → Fin (tcTables nBuf tb) → BufTy
  | .hbm, ⟨0, _⟩ => ⟨S12288x3584, .bf16⟩
  | .hbm, ⟨1, _⟩ => ⟨S12288x4096, .fp8e4m3⟩
  | .hbm, ⟨2, _⟩ => ⟨S12288x1, .f32⟩
  | .hbm, ⟨3, _⟩ => ⟨S4096x3584, .fp8e4m3⟩
  | .hbm, ⟨4, _⟩ => ⟨S3584, .f32⟩
  | .hbm, ⟨5, _⟩ => ⟨S1x3584, .f32⟩
  | .hbm, ⟨6, _⟩ => ⟨S12288x3584, .bf16⟩
  | .local _ .vmem, ⟨0, _⟩ => ⟨S12288x3584, .bf16⟩
  | .local _ .vmem, ⟨1, _⟩ => ⟨S12288x4096, .fp8e4m3⟩
  | .local _ .vmem, ⟨2, _⟩ => ⟨S12288x1, .f32⟩
  | .local _ .vmem, ⟨3, _⟩ => ⟨S4096x3584, .fp8e4m3⟩
  | .local _ .vmem, ⟨4, _⟩ => ⟨S1x3584, .f32⟩
  | .local _ .vmem, ⟨5, _⟩ => ⟨S12288x3584, .bf16⟩
  | _, _ => ⟨S12288x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12288x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== CompressK.lean ====
abbrev S8x3072x192 : Shape := ⟨3, ![8, 3072, 192]⟩
abbrev S32x192 : Shape := ⟨2, ![32, 192]⟩
abbrev S6144x1536 : Shape := ⟨2, ![6144, 1536]⟩
abbrev S1536 : Shape := ⟨1, ![1536]⟩
abbrev S1536x192 : Shape := ⟨2, ![1536, 192]⟩
abbrev S192 : Shape := ⟨1, ![192]⟩
abbrev S8x192x3072 : Shape := ⟨3, ![8, 192, 3072]⟩
abbrev S1x6144 : Shape := ⟨2, ![1, 6144]⟩
abbrev S1x1536 : Shape := ⟨2, ![1, 1536]⟩
abbrev S1x192 : Shape := ⟨2, ![1, 192]⟩
abbrev S8x192x192 : Shape := ⟨3, ![8, 192, 192]⟩
abbrev S8x192x6144 : Shape := ⟨3, ![8, 192, 6144]⟩
abbrev S8x192x1536 : Shape := ⟨3, ![8, 192, 1536]⟩
abbrev S8x192x128 : Shape := ⟨3, ![8, 192, 128]⟩
abbrev S1x192x3072 : Shape := ⟨3, ![1, 192, 3072]⟩
abbrev S1x192x192 : Shape := ⟨3, ![1, 192, 192]⟩
abbrev S1x192x6144 : Shape := ⟨3, ![1, 192, 6144]⟩
abbrev S1x192x1536 : Shape := ⟨3, ![1, 192, 1536]⟩
abbrev S1x192x128 : Shape := ⟨3, ![1, 192, 128]⟩
abbrev S192x3072 : Shape := ⟨2, ![192, 3072]⟩
abbrev S1x3072 : Shape := ⟨2, ![1, 3072]⟩
abbrev S192x1 : Shape := ⟨2, ![192, 1]⟩
abbrev S192x6144 : Shape := ⟨2, ![192, 6144]⟩
abbrev S192x1536 : Shape := ⟨2, ![192, 1536]⟩
abbrev S192x192 : Shape := ⟨2, ![192, 192]⟩
abbrev S192x128 : Shape := ⟨2, ![192, 128]⟩

abbrev nBuf : Space → Nat
  | .hbm => 18
  | .vmem => 17
  | .smem => 0
  | _ => 0

abbrev bufTy : (tb : Table) → Fin (tcTables nBuf tb) → BufTy
  | .hbm, ⟨0, _⟩ => ⟨S8x3072x192, .f32⟩
  | .hbm, ⟨1, _⟩ => ⟨S32x192, .f32⟩
  | .hbm, ⟨2, _⟩ => ⟨S6144x1536, .fp8e4m3⟩
  | .hbm, ⟨3, _⟩ => ⟨S1536, .f32⟩
  | .hbm, ⟨4, _⟩ => ⟨S1536, .f32⟩
  | .hbm, ⟨5, _⟩ => ⟨S1536x192, .fp8e4m3⟩
  | .hbm, ⟨6, _⟩ => ⟨S192, .f32⟩
  | .hbm, ⟨7, _⟩ => ⟨S192, .f32⟩
  | .hbm, ⟨8, _⟩ => ⟨S8x192x3072, .f32⟩
  | .hbm, ⟨9, _⟩ => ⟨S1x6144, .f32⟩
  | .hbm, ⟨10, _⟩ => ⟨S1x1536, .f32⟩
  | .hbm, ⟨11, _⟩ => ⟨S1x1536, .f32⟩
  | .hbm, ⟨12, _⟩ => ⟨S1x192, .f32⟩
  | .hbm, ⟨13, _⟩ => ⟨S1x192, .f32⟩
  | .hbm, ⟨14, _⟩ => ⟨S8x192x192, .bf16⟩
  | .hbm, ⟨15, _⟩ => ⟨S8x192x6144, .fp8e4m3⟩
  | .hbm, ⟨16, _⟩ => ⟨S8x192x1536, .fp8e4m3⟩
  | .hbm, ⟨17, _⟩ => ⟨S8x192x128, .f32⟩
  | .local _ .vmem, ⟨0, _⟩ => ⟨S1x192x3072, .f32⟩
  | .local _ .vmem, ⟨1, _⟩ => ⟨S1x192x3072, .f32⟩
  | .local _ .vmem, ⟨2, _⟩ => ⟨S1x6144, .f32⟩
  | .local _ .vmem, ⟨3, _⟩ => ⟨S6144x1536, .fp8e4m3⟩
  | .local _ .vmem, ⟨4, _⟩ => ⟨S1x1536, .f32⟩
  | .local _ .vmem, ⟨5, _⟩ => ⟨S1x1536, .f32⟩
  | .local _ .vmem, ⟨6, _⟩ => ⟨S1536x192, .fp8e4m3⟩
  | .local _ .vmem, ⟨7, _⟩ => ⟨S1x192, .f32⟩
  | .local _ .vmem, ⟨8, _⟩ => ⟨S1x192, .f32⟩
  | .local _ .vmem, ⟨9, _⟩ => ⟨S1x192x192, .bf16⟩
  | .local _ .vmem, ⟨10, _⟩ => ⟨S1x192x192, .bf16⟩
  | .local _ .vmem, ⟨11, _⟩ => ⟨S1x192x6144, .fp8e4m3⟩
  | .local _ .vmem, ⟨12, _⟩ => ⟨S1x192x6144, .fp8e4m3⟩
  | .local _ .vmem, ⟨13, _⟩ => ⟨S1x192x1536, .fp8e4m3⟩
  | .local _ .vmem, ⟨14, _⟩ => ⟨S1x192x1536, .fp8e4m3⟩
  | .local _ .vmem, ⟨15, _⟩ => ⟨S1x192x128, .f32⟩
  | .local _ .vmem, ⟨16, _⟩ => ⟨S1x192x128, .f32⟩
  | _, _ => ⟨S8x3072x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x192x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6144x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x192x192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x192x6144 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x192x1536 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x192x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== CompressKRefIdeal.lean ====
abbrev S8x3072x192 : Shape := ⟨3, ![8, 3072, 192]⟩
abbrev S32x192 : Shape := ⟨2, ![32, 192]⟩
abbrev S6144x1536 : Shape := ⟨2, ![6144, 1536]⟩
abbrev S1536 : Shape := ⟨1, ![1536]⟩
abbrev S1536x192 : Shape := ⟨2, ![1536, 192]⟩
abbrev S192 : Shape := ⟨1, ![192]⟩
abbrev S8x192x16x192 : Shape := ⟨4, ![8, 192, 16, 192]⟩
abbrev S8x191x16x192 : Shape := ⟨4, ![8, 191, 16, 192]⟩
abbrev S16x192 : Shape := ⟨2, ![16, 192]⟩
abbrev S1x1x16x192 : Shape := ⟨4, ![1, 1, 16, 192]⟩
abbrev S8x191x3072 : Shape := ⟨3, ![8, 191, 3072]⟩
abbrev S8x191x6144 : Shape := ⟨3, ![8, 191, 6144]⟩
abbrev S_ : Shape := ⟨0, ![]⟩
abbrev S8x192x6144 : Shape := ⟨3, ![8, 192, 6144]⟩
abbrev S1536x6144 : Shape := ⟨2, ![1536, 6144]⟩
abbrev S1x1536 : Shape := ⟨2, ![1, 1536]⟩
abbrev S1x192 : Shape := ⟨2, ![1, 192]⟩
abbrev S8x192x192 : Shape := ⟨3, ![8, 192, 192]⟩
abbrev S8x192x1536 : Shape := ⟨3, ![8, 192, 1536]⟩
abbrev S8x192x128 : Shape := ⟨3, ![8, 192, 128]⟩
abbrev S1536x1 : Shape := ⟨2, ![1536, 1]⟩
abbrev S1536x1536 : Shape := ⟨2, ![1536, 1536]⟩
abbrev S1536x128 : Shape := ⟨2, ![1536, 128]⟩

abbrev nBuf : Space → Nat
  | .hbm => 34
  | .vmem => 11
  | .smem => 0
  | _ => 0

abbrev bufTy : (tb : Table) → Fin (tcTables nBuf tb) → BufTy
  | .hbm, ⟨0, _⟩ => ⟨S8x3072x192, .f32⟩
  | .hbm, ⟨1, _⟩ => ⟨S32x192, .f32⟩
  | .hbm, ⟨2, _⟩ => ⟨S6144x1536, .fp8e4m3⟩
  | .hbm, ⟨3, _⟩ => ⟨S1536, .f32⟩
  | .hbm, ⟨4, _⟩ => ⟨S1536, .f32⟩
  | .hbm, ⟨5, _⟩ => ⟨S1536x192, .fp8e4m3⟩
  | .hbm, ⟨6, _⟩ => ⟨S192, .f32⟩
  | .hbm, ⟨7, _⟩ => ⟨S192, .f32⟩
  | .hbm, ⟨8, _⟩ => ⟨S8x192x16x192, .f32⟩
  | .hbm, ⟨9, _⟩ => ⟨S8x191x16x192, .f32⟩
  | .hbm, ⟨10, _⟩ => ⟨S16x192, .f32⟩
  | .hbm, ⟨11, _⟩ => ⟨S1x1x16x192, .f32⟩
  | .hbm, ⟨12, _⟩ => ⟨S8x191x16x192, .f32⟩
  | .hbm, ⟨13, _⟩ => ⟨S8x191x16x192, .f32⟩
  | .hbm, ⟨14, _⟩ => ⟨S8x191x3072, .f32⟩
  | .hbm, ⟨15, _⟩ => ⟨S8x191x16x192, .f32⟩
  | .hbm, ⟨16, _⟩ => ⟨S16x192, .f32⟩
  | .hbm, ⟨17, _⟩ => ⟨S1x1x16x192, .f32⟩
  | .hbm, ⟨18, _⟩ => ⟨S8x191x16x192, .f32⟩
  | .hbm, ⟨19, _⟩ => ⟨S8x191x16x192, .f32⟩
  | .hbm, ⟨20, _⟩ => ⟨S8x191x3072, .f32⟩
  | .hbm, ⟨21, _⟩ => ⟨S8x191x6144, .f32⟩
  | .hbm, ⟨22, _⟩ => ⟨S_, .i32⟩
  | .hbm, ⟨23, _⟩ => ⟨S_, .f32⟩
  | .hbm, ⟨24, _⟩ => ⟨S8x192x6144, .f32⟩
  | .hbm, ⟨25, _⟩ => ⟨S1536x6144, .f32⟩
  | .hbm, ⟨26, _⟩ => ⟨S1x1536, .f32⟩
  | .hbm, ⟨27, _⟩ => ⟨S1x1536, .f32⟩
  | .hbm, ⟨28, _⟩ => ⟨S1x192, .f32⟩
  | .hbm, ⟨29, _⟩ => ⟨S1x192, .f32⟩
  | .hbm, ⟨30, _⟩ => ⟨S8x192x192, .bf16⟩
  | .hbm, ⟨31, _⟩ => ⟨S8x192x6144, .fp8e4m3⟩
  | .hbm, ⟨32, _⟩ => ⟨S8x192x1536, .fp8e4m3⟩
  | .hbm, ⟨33, _⟩ => ⟨S8x192x128, .f32⟩
  | .local _ .vmem, ⟨0, _⟩ => ⟨S1536x6144, .f32⟩
  | .local _ .vmem, ⟨1, _⟩ => ⟨S6144x1536, .fp8e4m3⟩
  | .local _ .vmem, ⟨2, _⟩ => ⟨S1x1536, .f32⟩
  | .local _ .vmem, ⟨3, _⟩ => ⟨S1x1536, .f32⟩
  | .local _ .vmem, ⟨4, _⟩ => ⟨S1536x192, .fp8e4m3⟩
  | .local _ .vmem, ⟨5, _⟩ => ⟨S1x192, .f32⟩
  | .local _ .vmem, ⟨6, _⟩ => ⟨S1x192, .f32⟩
  | .local _ .vmem, ⟨7, _⟩ => ⟨S8x192x192, .bf16⟩
  | .local _ .vmem, ⟨8, _⟩ => ⟨S8x192x6144, .fp8e4m3⟩
  | .local _ .vmem, ⟨9, _⟩ => ⟨S8x192x1536, .fp8e4m3⟩
  | .local _ .vmem, ⟨10, _⟩ => ⟨S8x192x128, .f32⟩
  | _, _ => ⟨S8x3072x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1536x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x192x192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x192x6144 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x192x1536 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x192x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== CompressV.lean ====
abbrev S8x3072x128 : Shape := ⟨3, ![8, 3072, 128]⟩
abbrev S32x128 : Shape := ⟨2, ![32, 128]⟩
abbrev S4096x1536 : Shape := ⟨2, ![4096, 1536]⟩
abbrev S1536 : Shape := ⟨1, ![1536]⟩
abbrev S1536x128 : Shape := ⟨2, ![1536, 128]⟩
abbrev S128 : Shape := ⟨1, ![128]⟩
abbrev S8x192x2048 : Shape := ⟨3, ![8, 192, 2048]⟩
abbrev S1x4096 : Shape := ⟨2, ![1, 4096]⟩
abbrev S1x1536 : Shape := ⟨2, ![1, 1536]⟩
abbrev S1x128 : Shape := ⟨2, ![1, 128]⟩
abbrev S8x192x128 : Shape := ⟨3, ![8, 192, 128]⟩
abbrev S8x192x4096 : Shape := ⟨3, ![8, 192, 4096]⟩
abbrev S8x192x1536 : Shape := ⟨3, ![8, 192, 1536]⟩
abbrev S1x192x2048 : Shape := ⟨3, ![1, 192, 2048]⟩
abbrev S1x192x128 : Shape := ⟨3, ![1, 192, 128]⟩
abbrev S1x192x4096 : Shape := ⟨3, ![1, 192, 4096]⟩
abbrev S1x192x1536 : Shape := ⟨3, ![1, 192, 1536]⟩
abbrev S192x2048 : Shape := ⟨2, ![192, 2048]⟩
abbrev S1x2048 : Shape := ⟨2, ![1, 2048]⟩
abbrev S192 : Shape := ⟨1, ![192]⟩
abbrev S192x1 : Shape := ⟨2, ![192, 1]⟩
abbrev S192x4096 : Shape := ⟨2, ![192, 4096]⟩
abbrev S192x1536 : Shape := ⟨2, ![192, 1536]⟩
abbrev S192x128 : Shape := ⟨2, ![192, 128]⟩

abbrev nBuf : Space → Nat
  | .hbm => 18
  | .vmem => 17
  | .smem => 0
  | _ => 0

abbrev bufTy : (tb : Table) → Fin (tcTables nBuf tb) → BufTy
  | .hbm, ⟨0, _⟩ => ⟨S8x3072x128, .f32⟩
  | .hbm, ⟨1, _⟩ => ⟨S32x128, .f32⟩
  | .hbm, ⟨2, _⟩ => ⟨S4096x1536, .fp8e4m3⟩
  | .hbm, ⟨3, _⟩ => ⟨S1536, .f32⟩
  | .hbm, ⟨4, _⟩ => ⟨S1536, .f32⟩
  | .hbm, ⟨5, _⟩ => ⟨S1536x128, .fp8e4m3⟩
  | .hbm, ⟨6, _⟩ => ⟨S128, .f32⟩
  | .hbm, ⟨7, _⟩ => ⟨S128, .f32⟩
  | .hbm, ⟨8, _⟩ => ⟨S8x192x2048, .f32⟩
  | .hbm, ⟨9, _⟩ => ⟨S1x4096, .f32⟩
  | .hbm, ⟨10, _⟩ => ⟨S1x1536, .f32⟩
  | .hbm, ⟨11, _⟩ => ⟨S1x1536, .f32⟩
  | .hbm, ⟨12, _⟩ => ⟨S1x128, .f32⟩
  | .hbm, ⟨13, _⟩ => ⟨S1x128, .f32⟩
  | .hbm, ⟨14, _⟩ => ⟨S8x192x128, .bf16⟩
  | .hbm, ⟨15, _⟩ => ⟨S8x192x4096, .fp8e4m3⟩
  | .hbm, ⟨16, _⟩ => ⟨S8x192x1536, .fp8e4m3⟩
  | .hbm, ⟨17, _⟩ => ⟨S8x192x128, .f32⟩
  | .local _ .vmem, ⟨0, _⟩ => ⟨S1x192x2048, .f32⟩
  | .local _ .vmem, ⟨1, _⟩ => ⟨S1x192x2048, .f32⟩
  | .local _ .vmem, ⟨2, _⟩ => ⟨S1x4096, .f32⟩
  | .local _ .vmem, ⟨3, _⟩ => ⟨S4096x1536, .fp8e4m3⟩
  | .local _ .vmem, ⟨4, _⟩ => ⟨S1x1536, .f32⟩
  | .local _ .vmem, ⟨5, _⟩ => ⟨S1x1536, .f32⟩
  | .local _ .vmem, ⟨6, _⟩ => ⟨S1536x128, .fp8e4m3⟩
  | .local _ .vmem, ⟨7, _⟩ => ⟨S1x128, .f32⟩
  | .local _ .vmem, ⟨8, _⟩ => ⟨S1x128, .f32⟩
  | .local _ .vmem, ⟨9, _⟩ => ⟨S1x192x128, .bf16⟩
  | .local _ .vmem, ⟨10, _⟩ => ⟨S1x192x128, .bf16⟩
  | .local _ .vmem, ⟨11, _⟩ => ⟨S1x192x4096, .fp8e4m3⟩
  | .local _ .vmem, ⟨12, _⟩ => ⟨S1x192x4096, .fp8e4m3⟩
  | .local _ .vmem, ⟨13, _⟩ => ⟨S1x192x1536, .fp8e4m3⟩
  | .local _ .vmem, ⟨14, _⟩ => ⟨S1x192x1536, .fp8e4m3⟩
  | .local _ .vmem, ⟨15, _⟩ => ⟨S1x192x128, .f32⟩
  | .local _ .vmem, ⟨16, _⟩ => ⟨S1x192x128, .f32⟩
  | _, _ => ⟨S8x3072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x192x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x192x4096 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x192x1536 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x192x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== CompressVRefIdeal.lean ====
abbrev S8x3072x128 : Shape := ⟨3, ![8, 3072, 128]⟩
abbrev S32x128 : Shape := ⟨2, ![32, 128]⟩
abbrev S4096x1536 : Shape := ⟨2, ![4096, 1536]⟩
abbrev S1536 : Shape := ⟨1, ![1536]⟩
abbrev S1536x128 : Shape := ⟨2, ![1536, 128]⟩
abbrev S128 : Shape := ⟨1, ![128]⟩
abbrev S8x192x16x128 : Shape := ⟨4, ![8, 192, 16, 128]⟩
abbrev S8x191x16x128 : Shape := ⟨4, ![8, 191, 16, 128]⟩
abbrev S16x128 : Shape := ⟨2, ![16, 128]⟩
abbrev S1x1x16x128 : Shape := ⟨4, ![1, 1, 16, 128]⟩
abbrev S8x191x2048 : Shape := ⟨3, ![8, 191, 2048]⟩
abbrev S8x191x4096 : Shape := ⟨3, ![8, 191, 4096]⟩
abbrev S_ : Shape := ⟨0, ![]⟩
abbrev S8x192x4096 : Shape := ⟨3, ![8, 192, 4096]⟩
abbrev S1536x4096 : Shape := ⟨2, ![1536, 4096]⟩
abbrev S1x1536 : Shape := ⟨2, ![1, 1536]⟩
abbrev S1x128 : Shape := ⟨2, ![1, 128]⟩
abbrev S8x192x128 : Shape := ⟨3, ![8, 192, 128]⟩
abbrev S8x192x1536 : Shape := ⟨3, ![8, 192, 1536]⟩
abbrev S1536x1 : Shape := ⟨2, ![1536, 1]⟩
abbrev S1536x1536 : Shape := ⟨2, ![1536, 1536]⟩

abbrev nBuf : Space → Nat
  | .hbm => 34
  | .vmem => 11
  | .smem => 0
  | _ => 0

abbrev bufTy : (tb : Table) → Fin (tcTables nBuf tb) → BufTy
  | .hbm, ⟨0, _⟩ => ⟨S8x3072x128, .f32⟩
  | .hbm, ⟨1, _⟩ => ⟨S32x128, .f32⟩
  | .hbm, ⟨2, _⟩ => ⟨S4096x1536, .fp8e4m3⟩
  | .hbm, ⟨3, _⟩ => ⟨S1536, .f32⟩
  | .hbm, ⟨4, _⟩ => ⟨S1536, .f32⟩
  | .hbm, ⟨5, _⟩ => ⟨S1536x128, .fp8e4m3⟩
  | .hbm, ⟨6, _⟩ => ⟨S128, .f32⟩
  | .hbm, ⟨7, _⟩ => ⟨S128, .f32⟩
  | .hbm, ⟨8, _⟩ => ⟨S8x192x16x128, .f32⟩
  | .hbm, ⟨9, _⟩ => ⟨S8x191x16x128, .f32⟩
  | .hbm, ⟨10, _⟩ => ⟨S16x128, .f32⟩
  | .hbm, ⟨11, _⟩ => ⟨S1x1x16x128, .f32⟩
  | .hbm, ⟨12, _⟩ => ⟨S8x191x16x128, .f32⟩
  | .hbm, ⟨13, _⟩ => ⟨S8x191x16x128, .f32⟩
  | .hbm, ⟨14, _⟩ => ⟨S8x191x2048, .f32⟩
  | .hbm, ⟨15, _⟩ => ⟨S8x191x16x128, .f32⟩
  | .hbm, ⟨16, _⟩ => ⟨S16x128, .f32⟩
  | .hbm, ⟨17, _⟩ => ⟨S1x1x16x128, .f32⟩
  | .hbm, ⟨18, _⟩ => ⟨S8x191x16x128, .f32⟩
  | .hbm, ⟨19, _⟩ => ⟨S8x191x16x128, .f32⟩
  | .hbm, ⟨20, _⟩ => ⟨S8x191x2048, .f32⟩
  | .hbm, ⟨21, _⟩ => ⟨S8x191x4096, .f32⟩
  | .hbm, ⟨22, _⟩ => ⟨S_, .i32⟩
  | .hbm, ⟨23, _⟩ => ⟨S_, .f32⟩
  | .hbm, ⟨24, _⟩ => ⟨S8x192x4096, .f32⟩
  | .hbm, ⟨25, _⟩ => ⟨S1536x4096, .f32⟩
  | .hbm, ⟨26, _⟩ => ⟨S1x1536, .f32⟩
  | .hbm, ⟨27, _⟩ => ⟨S1x1536, .f32⟩
  | .hbm, ⟨28, _⟩ => ⟨S1x128, .f32⟩
  | .hbm, ⟨29, _⟩ => ⟨S1x128, .f32⟩
  | .hbm, ⟨30, _⟩ => ⟨S8x192x128, .bf16⟩
  | .hbm, ⟨31, _⟩ => ⟨S8x192x4096, .fp8e4m3⟩
  | .hbm, ⟨32, _⟩ => ⟨S8x192x1536, .fp8e4m3⟩
  | .hbm, ⟨33, _⟩ => ⟨S8x192x128, .f32⟩
  | .local _ .vmem, ⟨0, _⟩ => ⟨S1536x4096, .f32⟩
  | .local _ .vmem, ⟨1, _⟩ => ⟨S4096x1536, .fp8e4m3⟩
  | .local _ .vmem, ⟨2, _⟩ => ⟨S1x1536, .f32⟩
  | .local _ .vmem, ⟨3, _⟩ => ⟨S1x1536, .f32⟩
  | .local _ .vmem, ⟨4, _⟩ => ⟨S1536x128, .fp8e4m3⟩
  | .local _ .vmem, ⟨5, _⟩ => ⟨S1x128, .f32⟩
  | .local _ .vmem, ⟨6, _⟩ => ⟨S1x128, .f32⟩
  | .local _ .vmem, ⟨7, _⟩ => ⟨S8x192x128, .bf16⟩
  | .local _ .vmem, ⟨8, _⟩ => ⟨S8x192x4096, .fp8e4m3⟩
  | .local _ .vmem, ⟨9, _⟩ => ⟨S8x192x1536, .fp8e4m3⟩
  | .local _ .vmem, ⟨10, _⟩ => ⟨S8x192x128, .f32⟩
  | _, _ => ⟨S8x3072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1536x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x192x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x192x4096 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x192x1536 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x192x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.ProjectRun.lean ====
/-
  THE PROJECTION BODY, RUN. One grid point of the projection kernel, from whole staging buffers: what its stores leave in each
  of the nine outputs, found by running the body's skeleton.
-/
module

public import proofs.«01_k».proof.Proof.Gen.ProjectIdeal.Frame
public import proofs.«01_k».proof.Proof.Gen.ProjectIdeal.Skeleton

@[expose] public section

set_option maxRecDepth 16384

noncomputable section

namespace Cert.ProjectIdeal.Hand

open Cert.ProjectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1916000 in
/-- What the body's stores leave in each output's staging memref, as pieces (last first), at ANY grid point: the running maximum's
    buffer (output 14) holds `xo` before, the other outputs' anything. Whether the point is a batch's first is not decided here:
    the stored maximum selects on it. -/
noncomputable def projectRun (c : Dev nD) (i : grid0.Coords) (arg1 : Memref sig .tc .vmem S256x3584 .bf16) (harg1 : arg1.IsWhole) (arg2 : Memref sig .tc .vmem S1x3584 .f32) (harg2 : arg2.IsWhole) (arg3 : Memref sig .tc .vmem S3584x7424 .fp8e4m3) (harg3 : arg3.IsWhole) (arg4 : Memref sig .tc .vmem S1x7424 .f32) (harg4 : arg4.IsWhole) (arg5 : Memref sig .tc .vmem S256x96 .f32) (harg5 : arg5.IsWhole) (arg6 : Memref sig .tc .vmem S256x96 .f32) (harg6 : arg6.IsWhole) (arg7 : Memref sig .tc .vmem S3584x96 .f32) (harg7 : arg7.IsWhole) (arg8 : Memref sig .tc .vmem S1x96 .f32) (harg8 : arg8.IsWhole) (arg9 : Memref sig .tc .vmem S256x3584 .fp8e4m3) (harg9 : arg9.IsWhole) (arg10 : Memref sig .tc .vmem S32x256x256 .fp8e4m3) (harg10 : arg10.IsWhole) (arg11 : Memref sig .tc .vmem S2x256x192 .f32) (harg11 : arg11.IsWhole) (arg12 : Memref sig .tc .vmem S2x256x128 .f32) (harg12 : arg12.IsWhole) (arg13 : Memref sig .tc .vmem S2x256x256 .fp8e4m3) (harg13 : arg13.IsWhole) (arg14 : Memref sig .tc .vmem S2x256x128 .f32) (harg14 : arg14.IsWhole) (arg15 : Memref sig .tc .vmem S1x2x8x128 .f32) (harg15 : arg15.IsWhole) (arg16 : Memref sig .tc .vmem S256x128 .f32) (harg16 : arg16.IsWhole) (arg17 : Memref sig .tc .vmem S256x96 .f32) (harg17 : arg17.IsWhole)
    (x0 : Vec F S256x3584 .bf16) (x1 : Vec F S1x3584 .f32) (x2 : Vec F S3584x7424 .fp8e4m3) (x3 : Vec F S1x7424 .f32) (x4 : Vec F S256x96 .f32) (x5 : Vec F S256x96 .f32) (x6 : Vec F S3584x96 .f32) (x7 : Vec F S1x96 .f32) (xo14 : Vec F S1x2x8x128 .f32) :
    Σ' (L8 : List (View.Piece (Elt F) S256x3584 .fp8e4m3)), Σ' (L9 : List (View.Piece (Elt F) S32x256x256 .fp8e4m3)), Σ' (L10 : List (View.Piece (Elt F) S2x256x192 .f32)), Σ' (L11 : List (View.Piece (Elt F) S2x256x128 .f32)), Σ' (L12 : List (View.Piece (Elt F) S2x256x256 .fp8e4m3)), Σ' (L13 : List (View.Piece (Elt F) S2x256x128 .f32)), Σ' (L14 : List (View.Piece (Elt F) S1x2x8x128 .f32)), Σ' (L15 : List (View.Piece (Elt F) S256x128 .f32)), { L16 : List (View.Piece (Elt F) S256x96 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xo14 ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc0_project i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, fun E K => ?run⟩
  case run =>
    simp only [cc0_project_eq_skeleton]; unfold cc0_project_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg15.eq_unread hf14
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

end Cert.ProjectIdeal.Hand

end
-- ==== Proof.ProjectFrame.lean ====
/-
  THE PROJECTION'S RUN. The proof data of the pipeline: what every grid point leaves in each output block, as the pieces
  `projectRun` finds. The running maximum (output 14) is kept in place from point to point of a batch, so what a point
  leaves there is defined over what the point before left; a batch's first point overwrites it whatever it held.
  From these: the body obligation at a generic point, the run of @main, and the frame.
-/
module

public import proofs.«01_k».proof.Proof.ProjectRun
public import Idealize.ShloMosaic.Lib.Claim

@[expose] public section

set_option maxRecDepth 16384

noncomputable section

namespace Cert.ProjectIdeal.Hand

open Cert.ProjectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Pieces that cover a view, written over anything, read back as the piecewise contents. -/
theorem read_writes_canon {sp : Space} {s : Shape} {e : EltTy} (v : View sig .tc sp s e) (f : v.ty.Contents (Elt F))
    (L : List (View.Piece (Elt F) s e)) (h : ∀ y, ∃ p ∈ L, y ∈ p.1.set) :
    v.read (Elt F) (v.writes (Elt F) f L) = View.canon L :=
  (View.read_writes_of_cover v f v v.junk L h).trans (View.read_writes_junk_eq_canon v L)

/-- Each window's current staging memref at point `t`, spelled as the pipeline passes it (`bodyAt0`), and its wholeness. -/
abbrev ms0_0 (t : Fin cfg0.N) : Memref sig .tc .vmem S256x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3584 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x7424 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x7424 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x96 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x96 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3584x96 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x96 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x3584 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x256x256 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x256x192 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x256x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x256x256 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S2x256x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x2x8x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x96 .f32 := win0_16.stage (cfg0.slots t 16)
abbrev hs0_16 (t : Fin cfg0.N) : (ms0_16 t).IsWhole := hstage0_16 ((cfg0.slots t 16).cast nbuf0_16)

/-- The body's run at point `t`, from the point's blocks, the running maximum's buffer holding `xo`. -/
def runAt (c : Dev nD) (t : Fin cfg0.N) (xo : Vec F S1x2x8x128 .f32) :=
  projectRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) xo

/-- What point `t` leaves in the running maximum's block, over what that held before. -/
def maxOut (c : Dev nD) (t : Fin cfg0.N) (xo : Vec F S1x2x8x128 .f32) : Vec F S1x2x8x128 .f32 :=
  View.canon (runAt m c t xo).2.2.2.2.2.2.1

/-- What the running maximum's block holds before point `n`, if no write-back has come between. -/
def maxBefore (c : Dev nD) : (n : ℕ) → n < cfg0.N → Vec F S1x2x8x128 .f32
  | 0, _ => fun _ => FloatOps.ofBits .f32 0#32
  | n + 1, h => maxOut m c ⟨n, Nat.lt_of_succ_lt h⟩ (maxBefore c n (Nat.lt_of_succ_lt h))

/-- The run at point `t` as the launch meets it. -/
def runT (c : Dev nD) (t : Fin cfg0.N) := runAt m c t (maxBefore m c t.val t.isLt)

/-- What point `t` leaves in output 8. -/
def out0_8 (c : Dev nD) (t : Fin cfg0.N) : Vec F S256x3584 .fp8e4m3 := View.canon (runT m c t).1
/-- What point `t` leaves in output 9. -/
def out0_9 (c : Dev nD) (t : Fin cfg0.N) : Vec F S32x256x256 .fp8e4m3 := View.canon (runT m c t).2.1
/-- What point `t` leaves in output 10. -/
def out0_10 (c : Dev nD) (t : Fin cfg0.N) : Vec F S2x256x192 .f32 := View.canon (runT m c t).2.2.1
/-- What point `t` leaves in output 11. -/
def out0_11 (c : Dev nD) (t : Fin cfg0.N) : Vec F S2x256x128 .f32 := View.canon (runT m c t).2.2.2.1
/-- What point `t` leaves in output 12. -/
def out0_12 (c : Dev nD) (t : Fin cfg0.N) : Vec F S2x256x256 .fp8e4m3 := View.canon (runT m c t).2.2.2.2.1
/-- What point `t` leaves in output 13. -/
def out0_13 (c : Dev nD) (t : Fin cfg0.N) : Vec F S2x256x128 .f32 := View.canon (runT m c t).2.2.2.2.2.1
/-- What point `t` leaves in output 14. -/
def out0_14 (c : Dev nD) (t : Fin cfg0.N) : Vec F S1x2x8x128 .f32 := View.canon (runT m c t).2.2.2.2.2.2.1
/-- What point `t` leaves in output 15. -/
def out0_15 (c : Dev nD) (t : Fin cfg0.N) : Vec F S256x128 .f32 := View.canon (runT m c t).2.2.2.2.2.2.2.1
/-- What point `t` leaves in output 16. -/
def out0_16 (c : Dev nD) (t : Fin cfg0.N) : Vec F S256x96 .f32 := View.canon (runT m c t).2.2.2.2.2.2.2.2.1

/-! Each output's pieces tile its block. -/
theorem cover0_8 (c : Dev nD) (t : Fin cfg0.N) (xo) (y : S256x3584.Idx) : ∃ p ∈ (runAt m c t xo).1, y ∈ p.1.set :=
  View.cover_of_tiledL _ S256x3584.size (by sl_kernel_rfl) y
theorem cover0_9 (c : Dev nD) (t : Fin cfg0.N) (xo) (y : S32x256x256.Idx) : ∃ p ∈ (runAt m c t xo).2.1, y ∈ p.1.set :=
  View.cover_of_tiledL _ ![1, 256, 128] (by sl_kernel_rfl) y
theorem cover0_10 (c : Dev nD) (t : Fin cfg0.N) (xo) (y : S2x256x192.Idx) : ∃ p ∈ (runAt m c t xo).2.2.1, y ∈ p.1.set :=
  View.cover_of_tiledBy _ ![1, 256, 64] (by sl_kernel_rfl) y
theorem cover0_11 (c : Dev nD) (t : Fin cfg0.N) (xo) (y : S2x256x128.Idx) : ∃ p ∈ (runAt m c t xo).2.2.2.1, y ∈ p.1.set :=
  View.cover_of_tiledL _ ![1, 256, 128] (by sl_kernel_rfl) y
theorem cover0_12 (c : Dev nD) (t : Fin cfg0.N) (xo) (y : S2x256x256.Idx) : ∃ p ∈ (runAt m c t xo).2.2.2.2.1, y ∈ p.1.set :=
  View.cover_of_tiledL _ ![1, 256, 128] (by sl_kernel_rfl) y
theorem cover0_13 (c : Dev nD) (t : Fin cfg0.N) (xo) (y : S2x256x128.Idx) : ∃ p ∈ (runAt m c t xo).2.2.2.2.2.1, y ∈ p.1.set :=
  View.cover_of_tiledL _ ![1, 256, 128] (by sl_kernel_rfl) y
theorem cover0_14 (c : Dev nD) (t : Fin cfg0.N) (xo) (y : S1x2x8x128.Idx) : ∃ p ∈ (runAt m c t xo).2.2.2.2.2.2.1, y ∈ p.1.set :=
  View.cover_of_tiledL _ ![1, 1, 8, 128] (by sl_kernel_rfl) y
theorem cover0_15 (c : Dev nD) (t : Fin cfg0.N) (xo) (y : S256x128.Idx) : ∃ p ∈ (runAt m c t xo).2.2.2.2.2.2.2.1, y ∈ p.1.set :=
  View.cover_of_tiledL _ S256x128.size (by sl_kernel_rfl) y
theorem cover0_16 (c : Dev nD) (t : Fin cfg0.N) (xo) (y : S256x96.Idx) : ∃ p ∈ (runAt m c t xo).2.2.2.2.2.2.2.2.1, y ∈ p.1.set :=
  View.cover_of_tiledL _ S256x96.size (by sl_kernel_rfl) y

/-! Only the running maximum's pieces depend on what its buffer held. -/
theorem pieces0_8 (c : Dev nD) (t : Fin cfg0.N) (xo xo') : (runAt m c t xo).1 = (runAt m c t xo').1 := rfl
theorem pieces0_9 (c : Dev nD) (t : Fin cfg0.N) (xo xo') : (runAt m c t xo).2.1 = (runAt m c t xo').2.1 := rfl
theorem pieces0_10 (c : Dev nD) (t : Fin cfg0.N) (xo xo') : (runAt m c t xo).2.2.1 = (runAt m c t xo').2.2.1 := rfl
theorem pieces0_11 (c : Dev nD) (t : Fin cfg0.N) (xo xo') : (runAt m c t xo).2.2.2.1 = (runAt m c t xo').2.2.2.1 := rfl
theorem pieces0_12 (c : Dev nD) (t : Fin cfg0.N) (xo xo') : (runAt m c t xo).2.2.2.2.1 = (runAt m c t xo').2.2.2.2.1 := rfl
theorem pieces0_13 (c : Dev nD) (t : Fin cfg0.N) (xo xo') : (runAt m c t xo).2.2.2.2.2.1 = (runAt m c t xo').2.2.2.2.2.1 := rfl
theorem pieces0_15 (c : Dev nD) (t : Fin cfg0.N) (xo xo') : (runAt m c t xo).2.2.2.2.2.2.2.1 = (runAt m c t xo').2.2.2.2.2.2.2.1 := by
  unfold runAt projectRun; dsimp only
theorem pieces0_16 (c : Dev nD) (t : Fin cfg0.N) (xo xo') : (runAt m c t xo).2.2.2.2.2.2.2.2.1 = (runAt m c t xo').2.2.2.2.2.2.2.2.1 := by
  unfold runAt projectRun; dsimp only

/-- At a batch's first point the stored maxima do not depend on what the buffer held: the select takes the zeros. -/
theorem pieces0_14 (c : Dev nD) (t : Fin cfg0.N) (h : t.val % 12 = 0) (xo xo') : (runAt m c t xo).2.2.2.2.2.2.1 = (runAt m c t xo').2.2.2.2.2.2.1 := by
  have hb : projectRun.sl.v2455 (grid0.coords t) = 1#1 :=
    (by decide +kernel : ∀ t : Fin grid0.N, t.val % 12 = 0 → projectRun.sl.v2455 (grid0.coords t) = 1#1) t h
  unfold runAt projectRun
  dsimp only
  rw [hb]
  unfold k0_pay1 k0_pay5
  unfold Scalar.select
  rfl

/-- The proof data of the one pipeline on core `c`: the arrays as the region finds them (`V`); after the body at
    point `t` each input's buffer at its block and the outputs' at what the run left; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 m c t
    | ⟨9, _⟩ => out0_9 m c t
    | ⟨10, _⟩ => out0_10 m c t
    | ⟨11, _⟩ => out0_11 m c t
    | ⟨12, _⟩ => out0_12 m c t
    | ⟨13, _⟩ => out0_13 m c t
    | ⟨14, _⟩ => out0_14 m c t
    | ⟨15, _⟩ => out0_15 m c t
    | ⟨16, _⟩ => out0_16 m c t
    | ⟨_ + 17, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 m c t := by dsimp only [dats]
theorem after0_9 (c : Dev nD) (t : Fin cfg0.N) : (dats m 0 c).after 9 t = out0_9 m c t := by dsimp only [dats]
theorem after0_10 (c : Dev nD) (t : Fin cfg0.N) : (dats m 0 c).after 10 t = out0_10 m c t := by dsimp only [dats]
theorem after0_11 (c : Dev nD) (t : Fin cfg0.N) : (dats m 0 c).after 11 t = out0_11 m c t := by dsimp only [dats]
theorem after0_12 (c : Dev nD) (t : Fin cfg0.N) : (dats m 0 c).after 12 t = out0_12 m c t := by dsimp only [dats]
theorem after0_13 (c : Dev nD) (t : Fin cfg0.N) : (dats m 0 c).after 13 t = out0_13 m c t := by dsimp only [dats]
theorem after0_14 (c : Dev nD) (t : Fin cfg0.N) : (dats m 0 c).after 14 t = out0_14 m c t := by dsimp only [dats]
theorem after0_15 (c : Dev nD) (t : Fin cfg0.N) : (dats m 0 c).after 15 t = out0_15 m c t := by dsimp only [dats]
theorem after0_16 (c : Dev nD) (t : Fin cfg0.N) : (dats m 0 c).after 16 t = out0_16 m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- Away from a batch's first point the running maximum's buffer holds what the point before left: the buffer was not
    written back between. -/
theorem before0_14_kept (c : Dev nD) (t : Fin cfg0.N) (h0 : ¬t.val % 12 = 0) (d) :
    (dats m 0 c).before 14 t d = maxBefore m c t.val t.isLt := by
  have hN : t.val < 48 := lt_of_lt_of_eq t.isLt (show cfg0.N = 48 from N_0)
  rw [Dat.before_out_kept _ 14 rfl t (by omega) (Bool.eq_false_iff.mpr fun h => by have := (flush0_14 _).mp h; dsimp only at this; omega)
    (fun _ => rfl) (fun _ _ => rfl)]
  dsimp only [dats]
  obtain ⟨n, hn⟩ := t
  cases n with
  | zero => exact absurd (Nat.zero_mod _) h0
  | succ n => rfl

/-- So, whatever the buffer holds when the body starts, the stored maxima are the run's. -/
theorem pieces0_14_before (c : Dev nD) (t : Fin cfg0.N) (d) :
    (runAt m c t ((dats m 0 c).before 14 t d)).2.2.2.2.2.2.1 = (runT m c t).2.2.2.2.2.2.1 := by
  by_cases h0 : t.val % 12 = 0
  · unfold runT; exact pieces0_14 m c t h0 ((dats m 0 c).before 14 t d) (maxBefore m c t.val t.isLt)
  · unfold runT; exact congrArg (fun e => (runAt m c t e).2.2.2.2.2.2.1) (before0_14_kept m c t h0 d)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

set_option maxHeartbeats 3200000 in
/-- The body at any point: the inputs' memrefs hold their blocks, the run applies over whatever the running maximum's buffer
    holds, and what it leaves in each output reads back as that point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runAt m c t ((dats m 0 c).before 14 t d14)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexact H14
  isplitl [H15]; · iexists _; iexact H15
  isplitl [H16]; · iexists _; iexact H16
  iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact (read_writes_canon _ _ _ (cover0_8 m c t _)).trans (congrArg View.canon (pieces0_8 m c t _ _))
  isplitl [H9]
  · unfold owns; iexists _; isplitr
    swap; · iexact H9
    ipureintro; exact (read_writes_canon _ _ _ (cover0_9 m c t _)).trans (congrArg View.canon (pieces0_9 m c t _ _))
  isplitl [H10]
  · unfold owns; iexists _; isplitr
    swap; · iexact H10
    ipureintro; exact (read_writes_canon _ _ _ (cover0_10 m c t _)).trans (congrArg View.canon (pieces0_10 m c t _ _))
  isplitl [H11]
  · unfold owns; iexists _; isplitr
    swap; · iexact H11
    ipureintro; exact (read_writes_canon _ _ _ (cover0_11 m c t _)).trans (congrArg View.canon (pieces0_11 m c t _ _))
  isplitl [H12]
  · unfold owns; iexists _; isplitr
    swap; · iexact H12
    ipureintro; exact (read_writes_canon _ _ _ (cover0_12 m c t _)).trans (congrArg View.canon (pieces0_12 m c t _ _))
  isplitl [H13]
  · unfold owns; iexists _; isplitr
    swap; · iexact H13
    ipureintro; exact (read_writes_canon _ _ _ (cover0_13 m c t _)).trans (congrArg View.canon (pieces0_13 m c t _ _))
  isplitl [H14]
  · unfold owns; iexists _; isplitr
    swap; · iexact H14
    ipureintro; exact (read_writes_canon _ _ _ (cover0_14 m c t _)).trans (congrArg View.canon (pieces0_14_before m c t d14))
  isplitl [H15]
  · unfold owns; iexists _; isplitr
    swap; · iexact H15
    ipureintro; exact (read_writes_canon _ _ _ (cover0_15 m c t _)).trans (congrArg View.canon (pieces0_15 m c t _ _))
  unfold owns; iexists _; isplitr
  swap; · iexact H16
  ipureintro; exact (read_writes_canon _ _ _ (cover0_16 m c t _)).trans (congrArg View.canon (pieces0_16 m c t _ _))
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME, at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.ProjectIdeal.Hand

end
-- ==== Proof.ProjectQuad.lean ====
/-
  ONE QUAD OF HEADS OF THE PROJECTION'S TILE, as the kernel computes it, at any values. A quad is 768 columns of a row tile:
  the first halves of four heads (384 columns, three 128-lane vectors `a`), then their second halves (`c`). From these: the rotary
  rotation, the heads' scales, the scaled words, and each head's 256 lanes put back in natural order.
-/
module

public import proofs.«01_k».proof.Proof.Gen.ProjectIdeal.Skeleton

@[expose] public section

noncomputable section

namespace Cert.ProjectIdeal.Hand

open Cert.ProjectIdeal.Gen
open Idealize.ShloMosaic Idealize.ShloMosaic.TcCoe

variable {F : FTy → Type} [FloatOps F]

/-- A row tile of 128 lanes. -/
abbrev Tile (F : FTy → Type) [FloatOps F] : Type := FVec F S256x128 .f32
/-- One number a row. -/
abbrev Col (F : FTy → Type) [FloatOps F] : Type := FVec F S256x1 .f32

/-- The lane numbers of a row tile. -/
def lane : IVec S256x128 32 := iota .tc S256x128 32 [1] iota_S256x128_d1_w32

def lt (n : BitVec 32) : IVec S256x128 1 := cmpi .slt lane (broadcast S256x128 n)
def ge (n : BitVec 32) : IVec S256x128 1 := cmpi .sge lane (broadcast S256x128 n)

/-- The lanes rolled by `n`. -/
def roll (n : BitVec 32) (v : Tile F) : Tile F := dynamicRotate 1 n none v rotates_S256x128_d1

def zeroT : Tile F := broadcast S256x128 (Scalar.ofBits .f32 0x00000000#32)

/-! The 96 cosines (or sines) of a row repeated over the three vectors of a half. -/
def padHalf (v : FVec F S256x96 .f32) : Tile F :=
  concatenate S256x128 1 [⟨S256x96, v⟩, ⟨S256x32, broadcast S256x32 (Scalar.ofBits .f32 0x00000000#32)⟩] concatenates_S256x96_S256x32_S256x128_d1
def half0 (v : FVec F S256x96 .f32) : Tile F := select (lt 96#32) (padHalf v) (roll 96#32 (padHalf v))
def half1 (v : FVec F S256x96 .f32) : Tile F := select (lt 64#32) (roll 96#32 (padHalf v)) (roll 64#32 (padHalf v))
def half2 (v : FVec F S256x96 .f32) : Tile F := select (lt 32#32) (roll 64#32 (padHalf v)) (roll 32#32 (padHalf v))

/-- The quad's columns: the product of the row codes with the columns' codes, scaled by row and by column. -/
def quadCols (xs : Col F) (xc : FVec F S256x3584 .fp8e4m3) (w : FVec F S3584x768 .fp8e4m3) (s : FVec F S1x768 .f32) : FVec F S256x768 .f32 :=
  mulf (mulf (matmul dot_S256x3584_S3584x768_S256x768_1_0_0_1_n_n none (shapeCast S256x3584 xc shapeCasts_S256x3584_S256x3584)
      (shapeCast S3584x768 w shapeCasts_S3584x768_S3584x768) (constant S256x768 .f32 0x00000000#32))
    (broadcastTo S256x768 xs broadcasts_S256x1_S256x768)) (broadcastTo S256x768 (shapeCast S1x768 s shapeCasts_S1x768_S1x768) broadcasts_S1x768_S256x768)

def s0 (y : FVec F S256x768 .f32) : Tile F := extractStridedSlice S256x128 ![0, 0] y slices_S256x768_o0_0_S256x128
def s1 (y : FVec F S256x768 .f32) : Tile F := extractStridedSlice S256x128 ![0, 128] y slices_S256x768_o0_128_S256x128
def s2 (y : FVec F S256x768 .f32) : Tile F := extractStridedSlice S256x128 ![0, 256] y slices_S256x768_o0_256_S256x128
def s3 (y : FVec F S256x768 .f32) : Tile F := extractStridedSlice S256x128 ![0, 384] y slices_S256x768_o0_384_S256x128
def s4 (y : FVec F S256x768 .f32) : Tile F := extractStridedSlice S256x128 ![0, 512] y slices_S256x768_o0_512_S256x128
def s5 (y : FVec F S256x768 .f32) : Tile F := extractStridedSlice S256x128 ![0, 640] y slices_S256x768_o0_640_S256x128

/-- Six row tiles: the first halves `a` and the second halves `c` of a quad. -/
structure Six (F : FTy → Type) [FloatOps F] where
  a0 : FVec F S256x128 .f32
  a1 : FVec F S256x128 .f32
  a2 : FVec F S256x128 .f32
  c0 : FVec F S256x128 .f32
  c1 : FVec F S256x128 .f32
  c2 : FVec F S256x128 .f32

/-- The rotary rotation of a quad's columns. -/
def rotated (co si : FVec F S256x96 .f32) (y : FVec F S256x768 .f32) : Six F where
  a0 := subf (mulf (s0 y) (half0 co)) (mulf (s3 y) (half0 si))
  a1 := subf (mulf (s1 y) (half1 co)) (mulf (s4 y) (half1 si))
  a2 := subf (mulf (s2 y) (half2 co)) (mulf (s5 y) (half2 si))
  c0 := addf (mulf (s3 y) (half0 co)) (mulf (s0 y) (half0 si))
  c1 := addf (mulf (s4 y) (half1 co)) (mulf (s1 y) (half1 si))
  c2 := addf (mulf (s5 y) (half2 co)) (mulf (s2 y) (half2 si))

/-! The magnitudes each head's scale is the maximum of. -/
def mag (a c : Tile F) : Tile F := maximumf (absf a) (absf c)
def part0 (m0 m1 m2 : Tile F) : Tile F := select (lt 96#32) m0 zeroT
def part1 (m0 m1 m2 : Tile F) : Tile F := maximumf (select (ge 96#32) m0 zeroT) (select (lt 64#32) m1 zeroT)
def part2 (m0 m1 m2 : Tile F) : Tile F := maximumf (select (ge 64#32) m1 zeroT) (select (lt 32#32) m2 zeroT)
def part3 (m0 m1 m2 : Tile F) : Tile F := select (ge 32#32) m2 zeroT

/-- A row's largest entry. -/
def rowMax (v : Tile F) : Col F := shapeCast S256x1 (multiReduction .maximumf [1] S256 v 0xFF800000#32 reduces_S256x128_S256 (.inl rfl) rfl) shapeCasts_S256_S256x1
/-- The scale of a largest magnitude: a 448th of it, one where it is zero. -/
def scaleCol (a : Col F) : Col F :=
  select (cmpf .oeq a (broadcast S256x1 (Scalar.ofBits .f32 0x00000000#32))) (broadcast S256x1 (Scalar.ofBits .f32 0x3F800000#32))
    (divf a (broadcast S256x1 (Scalar.ofBits .f32 0x43E00000#32)))

def headPart (z : Six F) : ℕ → Tile F
  | 0 => part0 (mag z.a0 z.c0) (mag z.a1 z.c1) (mag z.a2 z.c2)
  | 1 => part1 (mag z.a0 z.c0) (mag z.a1 z.c1) (mag z.a2 z.c2)
  | 2 => part2 (mag z.a0 z.c0) (mag z.a1 z.c1) (mag z.a2 z.c2)
  | _ => part3 (mag z.a0 z.c0) (mag z.a1 z.c1) (mag z.a2 z.c2)

/-- The scale of each of a quad's heads. -/
def headScale (z : Six F) (k : ℕ) : Col F := scaleCol (rowMax (headPart z k))

def recip (s : Col F) : Col F := divf (broadcast S256x1 (Scalar.ofBits .f32 0x3F800000#32)) s
def spread (v : Col F) : Tile F := broadcastTo S256x128 (shapeCast S256x1 v shapeCasts_S256x1_S256x1) broadcasts_S256x1_S256x128

/-! The reciprocal scale of each lane's head. -/
def lanes0 (z : Six F) : Tile F := select (lt 96#32) (spread (recip (headScale z 0))) (spread (recip (headScale z 1)))
def lanes1 (z : Six F) : Tile F := select (lt 64#32) (spread (recip (headScale z 1))) (spread (recip (headScale z 2)))
def lanes2 (z : Six F) : Tile F := select (lt 32#32) (spread (recip (headScale z 2))) (spread (recip (headScale z 3)))

/-- A scaled word, clipped to the codes' range and rounded to them. -/
def word (v k : Tile F) : Tile F :=
  extf .f32 (truncf .fp8e4m3 (minimumf (broadcast S256x128 (Scalar.ofBits .f32 0x43E00000#32))
    (maximumf (broadcast S256x128 (Scalar.ofBits .f32 0xC3E00000#32)) (mulf v k))) bitsLt_fp8e4m3_f32) bitsLt_fp8e4m3_f32

/-- A quad's words. -/
def words (z : Six F) : Six F where
  a0 := word z.a0 (lanes0 z)
  a1 := word z.a1 (lanes1 z)
  a2 := word z.a2 (lanes2 z)
  c0 := word z.c0 (lanes0 z)
  c1 := word z.c1 (lanes1 z)
  c2 := word z.c2 (lanes2 z)

def padHi (v : Tile F) : Tile F := select (lt 64#32) v zeroT

/-- A head's first 128 lanes in natural order. -/
def natLo (z : Six F) : ℕ → Tile F
  | 0 => select (lt 96#32) z.a0 (roll 96#32 z.c0)
  | 1 => select (lt 32#32) (roll 32#32 z.a0) (select (lt 96#32) (roll 32#32 z.a1) z.c0)
  | 2 => select (lt 64#32) (roll 64#32 z.a1) (select (lt 96#32) (roll 64#32 z.a2) (roll 32#32 z.c1))
  | _ => select (lt 96#32) (roll 96#32 z.a2) (roll 64#32 z.c2)

/-- A head's last 64 lanes in natural order, then zeros. -/
def natHi (z : Six F) : ℕ → Tile F
  | 0 => padHi (roll 96#32 z.c0)
  | 1 => padHi z.c1
  | 2 => padHi (select (lt 32#32) (roll 32#32 z.c1) (roll 32#32 z.c2))
  | _ => padHi (roll 64#32 z.c2)

def natural (z : Six F) (k : ℕ) : ℕ → Tile F
  | 0 => natLo z k
  | _ => natHi z k

/-- A head's codes, as stored. -/
def codesOf (z : Six F) (k half : ℕ) : FVec F S1x256x128 .fp8e4m3 :=
  shapeCast S1x256x128 (truncf .fp8e4m3 (natural (words z) k half) bitsLt_fp8e4m3_f32) shapeCasts_S256x128_S1x256x128

end Cert.ProjectIdeal.Hand

end
-- ==== Proof.ProjectPieces.lean ====
/-
  WHAT A POINT OF THE PROJECTION STORES, in the quads' terms: each output's pieces at a grid point are the stores of the codes,
  of the rotated keys, of the scales, ... of that point's row tile.
-/
module

public import proofs.«01_k».proof.Proof.ProjectFrame
public import proofs.«01_k».proof.Proof.ProjectQuad

@[expose] public section

set_option maxRecDepth 16384

noncomputable section

namespace Cert.ProjectIdeal.Hand

open Cert.ProjectIdeal.Gen
open Idealize.ShloMosaic Idealize.ShloMosaic.TcCoe Idealize.ShloMosaic.Tactic

variable {F : FTy → Type} [FloatOps F]

variable (m : (ℓ : Loc nD τ sig) → Buf (Elt F) ℓ) (c : Dev nD) (t : Fin cfg0.N) (xo : Vec F S1x2x8x128 .f32)

/-! ## What the body loads at a point -/

def ldX : FVec F S256x3584 .bf16 :=
  View.readAt (Elt F) (ms0_0 t).view (Rect.unit (s := S256x3584) ![0, 0] S256x3584.size (by decide)).toLoadRect ((hs0_0 t).unread (iblk m c 0 t))
def ldN : FVec F S1x3584 .f32 :=
  View.readAt (Elt F) (ms0_1 t).view (Rect.unit (s := S1x3584) ![0, 0] S1x3584.size (by decide)).toLoadRect ((hs0_1 t).unread (iblk m c 1 t))
/-! Quad `g`'s columns of the weights' codes, and of their scales. -/
theorem inbW (g : Fin 9) : ∀ a, (![0, 768 * g.val] : Fin 2 → ℕ) a + S3584x768.size a ≤ S3584x7424.size a := by
  revert g; decide
theorem inbS (g : Fin 9) : ∀ a, (![0, 768 * g.val] : Fin 2 → ℕ) a + S1x768.size a ≤ S1x7424.size a := by
  revert g; decide
def ldW (g : Fin 9) : FVec F S3584x768 .fp8e4m3 :=
  View.readAt (Elt F) (ms0_2 t).view (Rect.unit (s := S3584x7424) ![0, 768 * g.val] S3584x768.size (inbW g)).toLoadRect ((hs0_2 t).unread (iblk m c 2 t))
def ldS (g : Fin 9) : FVec F S1x768 .f32 :=
  View.readAt (Elt F) (ms0_3 t).view (Rect.unit (s := S1x7424) ![0, 768 * g.val] S1x768.size (inbS g)).toLoadRect ((hs0_3 t).unread (iblk m c 3 t))
/-! The values' columns. -/
def ldWv : FVec F S3584x512 .fp8e4m3 :=
  View.readAt (Elt F) (ms0_2 t).view (Rect.unit (s := S3584x7424) ![0, 6912] S3584x512.size (by decide)).toLoadRect ((hs0_2 t).unread (iblk m c 2 t))
def ldSv : FVec F S1x512 .f32 :=
  View.readAt (Elt F) (ms0_3 t).view (Rect.unit (s := S1x7424) ![0, 6912] S1x512.size (by decide)).toLoadRect ((hs0_3 t).unread (iblk m c 3 t))
def ldCos : FVec F S256x96 .f32 :=
  View.readAt (Elt F) (ms0_4 t).view (Rect.unit (s := S256x96) ![0, 0] S256x96.size (by decide)).toLoadRect ((hs0_4 t).unread (iblk m c 4 t))
def ldSin : FVec F S256x96 .f32 :=
  View.readAt (Elt F) (ms0_5 t).view (Rect.unit (s := S256x96) ![0, 0] S256x96.size (by decide)).toLoadRect ((hs0_5 t).unread (iblk m c 5 t))
def ldGw : FVec F S3584x96 .f32 :=
  View.readAt (Elt F) (ms0_6 t).view (Rect.unit (s := S3584x96) ![0, 0] S3584x96.size (by decide)).toLoadRect ((hs0_6 t).unread (iblk m c 6 t))
def ldGb : FVec F S1x96 .f32 :=
  View.readAt (Elt F) (ms0_7 t).view (Rect.unit (s := S1x96) ![0, 0] S1x96.size (by decide)).toLoadRect ((hs0_7 t).unread (iblk m c 7 t))
/-- The row codes, loaded back from where they were stored. -/
def ldCodes : FVec F S256x3584 .fp8e4m3 :=
  View.readCov (Val := Elt F) (ms0_8 t).view [⟨Rect.unit (s := S256x3584) ![0, 0] S256x3584.size (by decide), k0_pay8 (ldX m c t) (ldN m c t)⟩]
    (Rect.unit (s := S256x3584) ![0, 0] S256x3584.size (by decide)).toLoadRect

/-- The tile's row scales. -/
def tileScale : FVec F S256x1 .f32 := k0_pay7 (ldX m c t) (ldN m c t)

/-- Quad `g` of the tile, rotated. -/
def quad (g : Fin 9) : Six F :=
  rotated (ldCos m c t) (ldSin m c t) (quadCols (tileScale m c t) (ldCodes m c t) (ldW m c t g) (ldS m c t g))

/-! ## The pieces -/

theorem inb9 (k : Fin 64) : ∀ a, (![31 - k.val / 2, 0, 128 * (1 - k.val % 2)] : Fin 3 → ℕ) a + (![1, 256, 128] : Fin 3 → ℕ) a ≤ S32x256x256.size a := by
  revert k; decide

/-- The head of the `k`-th of the query stores, last first. -/
def headAt (k : Fin 64) : Fin 9 := ⟨(31 - k.val / 2) / 4, by omega⟩

theorem pieces9 : (runAt m c t xo).2.1 = List.ofFn fun k : Fin 64 =>
    ⟨Rect.unit ![31 - k.val / 2, 0, 128 * (1 - k.val % 2)] ![1, 256, 128] (inb9 k),
      codesOf (quad m c t (headAt k)) ((31 - k.val / 2) % 4) (1 - k.val % 2)⟩ := by
  sl_kernel_rfl

theorem pieces8 : (runAt m c t xo).1 = [⟨Rect.unit (s := S256x3584) ![0, 0] S256x3584.size (by decide), k0_pay8 (ldX m c t) (ldN m c t)⟩] := by
  sl_kernel_rfl

theorem pieces16 : (runAt m c t xo).2.2.2.2.2.2.2.2.1
    = [⟨Rect.unit (s := S256x96) ![0, 0] S256x96.size (by decide), k0_pay10 (k0_pay9 (ldX m c t) (ldN m c t) (ldGw m c t)) (ldGb m c t)⟩] := by
  sl_kernel_rfl

/-- The values' columns of the tile. -/
def vcols : FVec F S256x512 .f32 := k0_pay599 (tileScale m c t) (ldCodes m c t) (ldWv m c t) (ldSv m c t)

theorem pieces11 : (runAt m c t xo).2.2.2.1
    = [⟨Rect.unit (s := S2x256x128) ![1, 0, 0] S1x256x128.size (by decide), k0_pay2 (vcols m c t)⟩,
      ⟨Rect.unit (s := S2x256x128) ![0, 0, 0] S1x256x128.size (by decide), k0_pay600 (tileScale m c t) (ldCodes m c t) (ldWv m c t) (ldSv m c t)⟩] := by
  sl_kernel_rfl

theorem pieces13 : (runAt m c t xo).2.2.2.2.2.1
    = [⟨Rect.unit (s := S2x256x128) ![1, 0, 0] S1x256x128.size (by decide), k0_pay4 (vcols m c t)⟩,
      ⟨Rect.unit (s := S2x256x128) ![0, 0, 0] S1x256x128.size (by decide), k0_pay602 (tileScale m c t) (ldCodes m c t) (ldWv m c t) (ldSv m c t)⟩] := by
  sl_kernel_rfl

theorem inb12 (k : Fin 4) : ∀ a, (![1 - k.val / 2, 0, 128 * (1 - k.val % 2)] : Fin 3 → ℕ) a + S1x256x128.size a ≤ S2x256x256.size a := by
  revert k; decide

theorem pieces12 : (runAt m c t xo).2.2.2.2.1 = List.ofFn fun k : Fin 4 =>
    ⟨Rect.unit (s := S2x256x256) ![1 - k.val / 2, 0, 128 * (1 - k.val % 2)] S1x256x128.size (inb12 k),
      codesOf (quad m c t 8) (2 + (1 - k.val / 2)) (1 - k.val % 2)⟩ := by
  sl_kernel_rfl

/-- A head's last 64 entries in natural order. -/
def tail64 (v : Tile F) : FVec F S256x64 .f32 := extractStridedSlice S256x64 ![0, 0] v slices_S256x128_o0_0_S256x64

theorem pieces10 : (runAt m c t xo).2.2.1
    = [⟨Rect.unit (s := S2x256x192) ![1, 0, 128] S1x256x64.size (by decide), shapeCast S1x256x64 (tail64 (natHi (quad m c t 8) 1)) shapeCasts_S256x64_S1x256x64⟩,
      ⟨Rect.unit (s := S2x256x192) ![1, 0, 0] S1x256x128.size (by decide), shapeCast S1x256x128 (natLo (quad m c t 8) 1) shapeCasts_S256x128_S1x256x128⟩,
      ⟨Rect.unit (s := S2x256x192) ![0, 0, 128] S1x256x64.size (by decide), shapeCast S1x256x64 (tail64 (natHi (quad m c t 8) 0)) shapeCasts_S256x64_S1x256x64⟩,
      ⟨Rect.unit (s := S2x256x192) ![0, 0, 0] S1x256x128.size (by decide), shapeCast S1x256x128 (natLo (quad m c t 8) 0) shapeCasts_S256x128_S1x256x128⟩] := by
  sl_kernel_rfl

/-- The scales' lanes over `v`: head `h`'s scale in lane `h`. -/
def laneIs (n : BitVec 32) (s : Col F) (v : Tile F) : Tile F :=
  select (cmpi .eq lane (broadcast S256x128 n)) (broadcastTo S256x128 (shapeCast S256x1 s shapeCasts_S256x1_S256x1) broadcasts_S256x1_S256x128) v

/-- The scales after the first `n` query heads. -/
def statsOf : ℕ → Tile F
  | 0 => laneIs 32#32 (tileScale m c t) (broadcast S256x128 (Scalar.ofBits .f32 0x00000000#32))
  | n + 1 => laneIs (BitVec.ofNat 32 n) (headScale (quad m c t ⟨n / 4 % 9, Nat.mod_lt _ (by decide)⟩) (n % 4)) (statsOf n)

theorem pieces15 : (runAt m c t xo).2.2.2.2.2.2.2.1 = [⟨Rect.unit (s := S256x128) ![0, 0] S256x128.size (by decide),
    laneIs 34#32 (headScale (quad m c t 8) 3) (laneIs 33#32 (headScale (quad m c t 8) 2) (statsOf m c t 32))⟩] := by
  sl_kernel_rfl

/-- Whether the point is its batch's first. -/
def firstIs : BitVec 1 := projectRun.sl.v2455 (grid0.coords t)

def ldMax (k : Fin 2) : FVec F S1x1x8x128 .f32 :=
  View.readAt (Elt F) (ms0_14 t).view (Rect.unit (s := S1x2x8x128) ![0, k.val, 0, 0] S1x1x8x128.size (by revert k; decide)).toLoadRect ((hs0_14 t).unread xo)

theorem pieces14 : (runAt m c t xo).2.2.2.2.2.2.1
    = [⟨Rect.unit (s := S1x2x8x128) ![0, 1, 0, 0] S1x1x8x128.size (by decide), k0_pay5 (vcols m c t) (firstIs t) (ldMax t xo 1)⟩,
      ⟨Rect.unit (s := S1x2x8x128) ![0, 0, 0, 0] S1x1x8x128.size (by decide),
        k0_pay1 (firstIs t) (k0_pay604 (k0_pay603 (tileScale m c t) (ldCodes m c t) (ldWv m c t) (ldSv m c t))) (ldMax t xo 0)⟩] := by
  sl_kernel_rfl

end Cert.ProjectIdeal.Hand

end
-- ==== Proof.Quant.lean ====
/-
  QUANTISING A ROW, over the extended reals: its largest magnitude, the scale (a 448th of that, one where it is zero), and the
  codes (entry over scale, clipped to ±448; the rounding to eight bits is the identity here). A product with the reciprocal of
  a scale is the quotient, since no scale is zero.
-/
module

public import Idealize.ShloMosaic.Lib.IdealHost
public import Idealize.ShloMosaic.PureOps.Ideal.Laws
public import Mathlib.Data.EReal.Basic

@[expose] public section

noncomputable section

namespace Cert.Quant

open Idealize.ShloMosaic

abbrev c448 : EReal := Ideal.ofBits .f32 0x43E00000#32
abbrev cm448 : EReal := Ideal.ofBits .f32 0xC3E00000#32
abbrev cninf : EReal := Ideal.ofBits .f32 0xFF800000#32

/-- A magnitude. -/
def mg (a : EReal) : EReal := max a (-a)

theorem mg_nonneg (a : EReal) : 0 ≤ mg a := by
  unfold mg
  rcases le_total 0 a with h | h
  · exact le_max_of_le_left h
  · exact le_max_of_le_right (by simpa using EReal.neg_le_neg_iff.mpr h)

theorem cninf_eq : cninf = ⊥ := by simp [cninf, Ideal.ofBits, Ideal.ieee]

/-- The largest magnitude of a row. -/
def amax {n : ℕ} (v : Fin n → EReal) : EReal := Finset.univ.sup fun k => mg (v k)

theorem fold_max_eq_sup {n : ℕ} (v : Fin n → EReal) : Finset.fold max cninf v Finset.univ = Finset.univ.sup v := by
  rw [cninf_eq]; rfl

theorem fold_absf {n : ℕ} (v : Fin n → EReal) :
    Finset.fold max cninf (fun k => FloatOps.absf (F := Ideal) (φ := .f32) (v k)) Finset.univ = amax v :=
  fold_max_eq_sup _

theorem le_amax {n : ℕ} (v : Fin n → EReal) (k : Fin n) : mg (v k) ≤ amax v := Finset.le_sup (f := fun k => mg (v k)) (Finset.mem_univ k)

theorem amax_le {n : ℕ} {v : Fin n → EReal} {b : EReal} (h : ∀ k, mg (v k) ≤ b) : amax v ≤ b := Finset.sup_le fun k _ => h k

/-- The scale of a largest magnitude. -/
def scaleOf (a : EReal) : EReal :=
  Scalar.select (Ideal.cmp .oeq a (Ideal.ofBits .f32 0x00000000#32)) (Ideal.ofBits .f32 0x3F800000#32) (Ideal.div a c448)

theorem c448_eq : c448 = ((448 : ℝ) : EReal) := by
  simp [c448, Ideal.ofBits, Ideal.ieee]; rw [← EReal.coe_mul]; norm_num

theorem scaleOf_ne_zero (a : EReal) : scaleOf a ≠ 0 := by
  unfold scaleOf
  rw [Ideal.ofBits_zero_f32, Ideal.ofBits_one_f32]
  by_cases h : a = 0
  · subst h
    have : Ideal.cmp .oeq (0 : EReal) 0 = 1#1 := by simp [Ideal.cmp]
    rw [this]; show (1 : EReal) ≠ 0; exact one_ne_zero
  · have : Ideal.cmp .oeq a (0 : EReal) = 0#1 := by simp [Ideal.cmp, h]
    rw [this]; show Ideal.div a c448 ≠ 0
    unfold Ideal.div
    rw [c448_eq, if_neg (by norm_num)]
    intro h0
    rw [mul_eq_zero] at h0
    rcases h0 with h0 | h0
    · exact h h0
    · rw [← EReal.coe_inv] at h0
      have : ((448 : ℝ)⁻¹) = 0 := by exact_mod_cast h0
      norm_num at this

/-- Clipping to the codes' range. -/
def clip (v : EReal) : EReal := min c448 (max cm448 v)

/-- A code: entry over scale, clipped. -/
def code (v s : EReal) : EReal := clip (Ideal.div v s)

/-- An entry times the reciprocal of a scale, clipped, is the code. -/
theorem clip_mul_recip (v a : EReal) : clip (v * Ideal.div (Ideal.ofBits .f32 0x3F800000#32) (scaleOf a)) = code v (scaleOf a) := by
  rw [Ideal.ofBits_one_f32, Ideal.mul_one_div (scaleOf_ne_zero a)]; rfl

/-! The vector operations that make scales and codes, at an index, at any shape. -/

theorem scale_apply {S : Shape} (v : FVec Ideal S .f32) (i : S.Idx) :
    select (cmpf .oeq v (broadcast S (Scalar.ofBits .f32 0x00000000#32))) (broadcast S (Scalar.ofBits .f32 0x3F800000#32))
      (divf v (broadcast S (Scalar.ofBits .f32 0x43E00000#32))) i = scaleOf (v i) := rfl

theorem codes_apply {S : Shape} (v k : FVec Ideal S .f32) (h) (i : S.Idx) :
    truncf .fp8e4m3 (minimumf (broadcast S (Scalar.ofBits .f32 0x43E00000#32)) (maximumf (broadcast S (Scalar.ofBits .f32 0xC3E00000#32)) (divf v k))) h i
      = code (v i) (k i) := rfl

theorem mul_codes_apply {S : Shape} (v k : FVec Ideal S .f32) (h) (i : S.Idx) :
    truncf .fp8e4m3 (minimumf (broadcast S (Scalar.ofBits .f32 0x43E00000#32)) (maximumf (broadcast S (Scalar.ofBits .f32 0xC3E00000#32)) (mulf v k))) h i
      = clip (v i * k i) := rfl

theorem one_div_apply {S : Shape} (v : FVec Ideal S .f32) (i : S.Idx) :
    divf (broadcast S (Scalar.ofBits .f32 0x3F800000#32)) v i = Ideal.div (Ideal.ofBits .f32 0x3F800000#32) (v i) := rfl

end Cert.Quant

end
-- ==== Proof.ProjectSpec.lean ====
/-
  THE PROJECTION'S MATHEMATICS, entry by entry, over the extended reals. Of a token's row: its normalised entries, their scale and
  codes; the row's product with the weights' columns, scaled; a head's 192 columns rotated; its scale and codes. From these the
  nine arrays both calls end with.
-/
module

public import proofs.«01_k».proof.Proof.Quant
public import Idealize.ShloMosaic.Lib.Pointwise

@[expose] public section

noncomputable section

namespace Cert.ProjectSpec

open Idealize.ShloMosaic Cert.Quant

/-- The rotary rotation of a head's 192 entries: the first half against the second. -/
def rot (v : Fin 192 → EReal) (co si : Fin 96 → EReal) (p : Fin 192) : EReal :=
  if h : p.val < 96 then v p * co ⟨p.val, h⟩ - v ⟨96 + p.val, by omega⟩ * si ⟨p.val, h⟩
  else v p * co ⟨p.val - 96, by omega⟩ + v ⟨p.val - 96, by omega⟩ * si ⟨p.val - 96, by omega⟩

/-- Where head `h`'s columns begin: the 32 query heads, the two heads of compressed keys, the two of windowed keys. -/
def headBase (h : ℕ) : ℕ := if h < 34 then 192 * h else 192 * h + 256

theorem headBase_lt (h : Fin 36) (p : Fin 192) : headBase h.val + p.val < 7424 := by
  have := h.isLt; have := p.isLt
  unfold headBase
  split_ifs <;> omega

/-- What the projection is of: the tokens, the norm's weights, the weights' codes and scales (columns in natural order), the
    cosines and sines, the gates' weights and biases (96 columns). -/
structure Args where
  x : FVec Ideal ⟨2, ![12288, 3584]⟩ .bf16
  nw : FVec Ideal ⟨2, ![1, 3584]⟩ .f32
  w : FVec Ideal ⟨2, ![3584, 7424]⟩ .fp8e4m3
  s : FVec Ideal ⟨2, ![1, 7424]⟩ .f32
  co : FVec Ideal ⟨2, ![12288, 96]⟩ .f32
  si : FVec Ideal ⟨2, ![12288, 96]⟩ .f32
  gw : FVec Ideal ⟨2, ![3584, 96]⟩ .f32
  gb : FVec Ideal ⟨2, ![1, 96]⟩ .f32

/-- A row's normalised entries, of the row and the norm's weights. -/
def norm (x nw : Fin 3584 → EReal) (l : Fin 3584) : EReal :=
  Ideal.div (x l) (Ideal.sqrt (Ideal.div (∑ k, x k * x k) (Ideal.ofBits .f32 0x45600000#32) + Ideal.ofBits .f32 0x358637BD#32)) * nw l

variable (A : Args) (n : Fin 12288)

/-- Token `n`'s normalised entries. -/
def normed (l : Fin 3584) : EReal := norm (fun k => A.x (ix2 n k)) (fun k => A.nw (ix2 0 k)) l

/-- Their scale. -/
def rowScale : EReal := scaleOf (amax (normed A n))

/-- Their codes. -/
def rowCode (l : Fin 3584) : EReal := code (normed A n l) (rowScale A n)

/-- The token's projected column `j`. -/
def column (j : Fin 7424) : EReal := (∑ l, rowCode A n l * A.w (ix2 l j)) * rowScale A n * A.s (ix2 0 j)

/-- The token's head `h`, rotated. -/
def head (h : Fin 36) : Fin 192 → EReal :=
  rot (fun p => column A n ⟨headBase h.val + p.val, headBase_lt h p⟩) (fun i => A.co (ix2 n i)) (fun i => A.si (ix2 n i))

/-- Its scale. -/
def headScale (h : Fin 36) : EReal := scaleOf (amax (head A n h))

/-- Its codes, 64 zeros after them. -/
def headCode (h : Fin 36) (p : ℕ) : EReal := if hp : p < 192 then code (head A n h ⟨p, hp⟩) (headScale A n h) else 0

/-- The token's gate `l`. -/
def gate (l : Fin 96) : EReal := Ideal.logistic (∑ k, normed A n k * A.gw (ix2 k l) + A.gb (ix2 0 l))

/-- The token's scales in 128 lanes: the query heads', the row's, the two windowed keys'. -/
def scaleLane (l : Fin 128) : EReal :=
  if h : l.val < 32 then headScale A n ⟨l.val, by omega⟩ else if l.val = 32 then rowScale A n
  else if h : l.val < 35 then headScale A n ⟨l.val + 1, by omega⟩ else 0

/-! The nine arrays. -/

def xCodes : FVec Ideal ⟨2, ![12288, 3584]⟩ .fp8e4m3 := fun i => rowCode A (i 0) (i 1)
def qCodes : FVec Ideal ⟨3, ![32, 12288, 256]⟩ .fp8e4m3 := fun i => headCode A (i 1) ⟨(i 0).val, by have : (i 0).val < 32 := (i 0).isLt; omega⟩ (i 2).val
def kCmp : FVec Ideal ⟨3, ![2, 12288, 192]⟩ .f32 := fun i => head A (i 1) ⟨32 + (i 0).val, by have : (i 0).val < 2 := (i 0).isLt; omega⟩ (i 2)
def vCmp : FVec Ideal ⟨3, ![2, 12288, 128]⟩ .f32 := fun i => column A (i 1) ⟨6528 + 128 * (i 0).val + (i 2).val, by
  have : (i 0).val < 2 := (i 0).isLt; have : (i 2).val < 128 := (i 2).isLt; omega⟩
def kCodes : FVec Ideal ⟨3, ![2, 12288, 256]⟩ .fp8e4m3 := fun i => headCode A (i 1) ⟨34 + (i 0).val, by have : (i 0).val < 2 := (i 0).isLt; omega⟩ (i 2).val
def vSw : FVec Ideal ⟨3, ![2, 12288, 128]⟩ .f32 := fun i => column A (i 1) ⟨7168 + 128 * (i 0).val + (i 2).val, by
  have : (i 0).val < 2 := (i 0).isLt; have : (i 2).val < 128 := (i 2).isLt; omega⟩
/-- The largest windowed value over a batch's tokens of one residue by 8. -/
def vMax : FVec Ideal ⟨4, ![4, 2, 8, 128]⟩ .f32 := fun i => amax fun k : Fin 384 =>
  vSw A (ix3 (i 1) ⟨(i 0).val * 3072 + k.val * 8 + (i 2).val, by
    have : (i 0).val < 4 := (i 0).isLt; have : (i 2).val < 8 := (i 2).isLt; have := k.isLt; omega⟩ (i 3))
def scales : FVec Ideal ⟨2, ![12288, 128]⟩ .f32 := fun i => scaleLane A (i 0) (i 1)
def gates : FVec Ideal ⟨2, ![12288, 96]⟩ .f32 := fun i => gate A (i 0) (i 1)

end Cert.ProjectSpec

end
-- ==== Proof.ProjectQuadValue.lean ====
/-
  A QUAD'S VALUE over the extended reals. A head's 192 entries are its 96 first-half entries and its 96 second-half entries
  (`headRow`). Put in natural order they are that row (`natLo_apply`, `natHi_apply`); its scale is the row's (`headScale_apply`);
  its words are the row's codes (`headRow_words`); and of a quad's rotated columns they are the rotary rotation of the head's
  columns (`headRow_rotated`).
-/
module

public import proofs.«01_k».proof.Proof.ProjectQuad
public import proofs.«01_k».proof.Proof.ProjectSpec
public import Idealize.ShloMosaic.Lib.Pointwise

@[expose] public section

set_option maxRecDepth 8192

noncomputable section

namespace Cert.ProjectIdeal.Hand

open Cert.ProjectIdeal.Gen Cert.Quant Cert.ProjectSpec
open Idealize.ShloMosaic Idealize.ShloMosaic.TcCoe

/-! Selecting on a lane number's comparison. -/

theorem sel_bool {α : Type} (p : Bool) (a b : α) : Scalar.select (BitVec.ofBool p) a b = if p then a else b := by cases p <;> rfl

theorem sel_lt32 {α : Type} (l : Fin 128) (a b : α) : Scalar.select (IntOp.cmpi .slt (BitVec.ofNat 32 l.val) 32#32) a b = if l.val < 32 then a else b := by
  rw [(by decide +kernel : ∀ l : Fin 128, IntOp.cmpi .slt (BitVec.ofNat 32 l.val) 32#32 = BitVec.ofBool (decide (l.val < 32))) l, sel_bool]; simp
theorem sel_lt64 {α : Type} (l : Fin 128) (a b : α) : Scalar.select (IntOp.cmpi .slt (BitVec.ofNat 32 l.val) 64#32) a b = if l.val < 64 then a else b := by
  rw [(by decide +kernel : ∀ l : Fin 128, IntOp.cmpi .slt (BitVec.ofNat 32 l.val) 64#32 = BitVec.ofBool (decide (l.val < 64))) l, sel_bool]; simp
theorem sel_lt96 {α : Type} (l : Fin 128) (a b : α) : Scalar.select (IntOp.cmpi .slt (BitVec.ofNat 32 l.val) 96#32) a b = if l.val < 96 then a else b := by
  rw [(by decide +kernel : ∀ l : Fin 128, IntOp.cmpi .slt (BitVec.ofNat 32 l.val) 96#32 = BitVec.ofBool (decide (l.val < 96))) l, sel_bool]; simp
theorem sel_ge32 {α : Type} (l : Fin 128) (a b : α) : Scalar.select (IntOp.cmpi .sge (BitVec.ofNat 32 l.val) 32#32) a b = if 32 ≤ l.val then a else b := by
  rw [(by decide +kernel : ∀ l : Fin 128, IntOp.cmpi .sge (BitVec.ofNat 32 l.val) 32#32 = BitVec.ofBool (decide (32 ≤ l.val))) l, sel_bool]; simp
theorem sel_ge64 {α : Type} (l : Fin 128) (a b : α) : Scalar.select (IntOp.cmpi .sge (BitVec.ofNat 32 l.val) 64#32) a b = if 64 ≤ l.val then a else b := by
  rw [(by decide +kernel : ∀ l : Fin 128, IntOp.cmpi .sge (BitVec.ofNat 32 l.val) 64#32 = BitVec.ofBool (decide (64 ≤ l.val))) l, sel_bool]; simp
theorem sel_ge96 {α : Type} (l : Fin 128) (a b : α) : Scalar.select (IntOp.cmpi .sge (BitVec.ofNat 32 l.val) 96#32) a b = if 96 ≤ l.val then a else b := by
  rw [(by decide +kernel : ∀ l : Fin 128, IntOp.cmpi .sge (BitVec.ofNat 32 l.val) 96#32 = BitVec.ofBool (decide (96 ≤ l.val))) l, sel_bool]; simp

variable (z : Six Ideal) (r : Fin 256)

/-! ## The halves as rows of 384 -/

/-- Three row tiles as 384 lanes. -/
def flat3 (v0 v1 v2 : Tile Ideal) (r : Fin 256) (f : ℕ) : EReal :=
  if f < 128 then v0 (ix2 r ⟨f % 128, Nat.mod_lt _ (by decide)⟩)
  else if f < 256 then v1 (ix2 r ⟨f % 128, Nat.mod_lt _ (by decide)⟩)
  else v2 (ix2 r ⟨f % 128, Nat.mod_lt _ (by decide)⟩)

theorem flat3_0 (v0 v1 v2 : Tile Ideal) (l : Fin 128) (f : ℕ) (h : f = l.val) : v0 (ix2 r l) = flat3 v0 v1 v2 r f := by
  subst h
  have := l.isLt
  rw [flat3, if_pos this]; exact congrArg v0 (congrArg (ix2 r) (Fin.ext (Nat.mod_eq_of_lt this).symm))
theorem flat3_1 (v0 v1 v2 : Tile Ideal) (l : Fin 128) (f : ℕ) (h : f = 128 + l.val) : v1 (ix2 r l) = flat3 v0 v1 v2 r f := by
  subst h
  have := l.isLt
  rw [flat3, if_neg (by omega), if_pos (by omega)]; exact congrArg v1 (congrArg (ix2 r) (Fin.ext (by show l.val = (128 + l.val) % 128; omega)))
theorem flat3_2 (v0 v1 v2 : Tile Ideal) (l : Fin 128) (f : ℕ) (h : f = 256 + l.val) : v2 (ix2 r l) = flat3 v0 v1 v2 r f := by
  subst h
  have := l.isLt
  rw [flat3, if_neg (by omega), if_neg (by omega)]; exact congrArg v2 (congrArg (ix2 r) (Fin.ext (by show l.val = (256 + l.val) % 128; omega)))

/-- What holds lane by lane of three row tiles holds of their 384 lanes. -/
theorem flat3_of {v0 v1 v2 : Tile Ideal} {r : Fin 256} (Φ : ℕ → EReal) (h0 : ∀ l : Fin 128, v0 (ix2 r l) = Φ l.val)
    (h1 : ∀ l : Fin 128, v1 (ix2 r l) = Φ (128 + l.val)) (h2 : ∀ l : Fin 128, v2 (ix2 r l) = Φ (256 + l.val)) (f : ℕ) (hf : f < 384) :
    flat3 v0 v1 v2 r f = Φ f := by
  by_cases a : f < 128
  · rw [← flat3_0 r v0 v1 v2 ⟨f, a⟩ f rfl, h0]
  by_cases b : f < 256
  · rw [← flat3_1 r v0 v1 v2 ⟨f - 128, by omega⟩ f (by show f = 128 + (f - 128); omega), h1]
    exact congrArg Φ (by show 128 + (f - 128) = f; omega)
  · rw [← flat3_2 r v0 v1 v2 ⟨f - 256, by omega⟩ f (by show f = 256 + (f - 256); omega), h2]
    exact congrArg Φ (by show 256 + (f - 256) = f; omega)

def fa (f : ℕ) : EReal := flat3 z.a0 z.a1 z.a2 r f
def fc (f : ℕ) : EReal := flat3 z.c0 z.c1 z.c2 r f

/-- Head `k`'s entries in row `r`, in natural order. -/
def headRow (k : ℕ) (p : Fin 192) : EReal := if p.val < 96 then fa z r (96 * k + p.val) else fc z r (96 * k + (p.val - 96))

/-! ## Natural order -/

theorem natLo_apply (k : ℕ) (hk : k < 4) (l : Fin 128) : natLo z k (ix2 r l) = headRow z r k ⟨l.val, by omega⟩ := by
  have hl := l.isLt
  unfold headRow fa fc
  match k, hk with
  | 0, _ =>
    rw [show natLo z 0 (ix2 r l) = _ by pointwise [natLo, roll, lt, lane]; rfl, sel_lt96]
    dsimp only
    split_ifs with h
    · exact flat3_0 r _ _ _ _ _ (by omega)
    · exact flat3_0 r _ _ _ _ _ (by first | omega | (dsimp only; omega))
  | 1, _ =>
    rw [show natLo z 1 (ix2 r l) = _ by pointwise [natLo, roll, lt, lane]; rfl, sel_lt96, sel_lt32]
    dsimp only
    split_ifs with h1 h2 h2
    · exact flat3_0 r _ _ _ _ _ (by first | omega | (dsimp only; omega))
    · omega
    · exact flat3_1 r _ _ _ _ _ (by first | omega | (dsimp only; omega))
    · exact flat3_0 r _ _ _ _ _ (by first | omega | (dsimp only; omega))
  | 2, _ =>
    rw [show natLo z 2 (ix2 r l) = _ by pointwise [natLo, roll, lt, lane]; rfl, sel_lt96, sel_lt64]
    dsimp only
    split_ifs with h1 h2 h2
    · exact flat3_1 r _ _ _ _ _ (by first | omega | (dsimp only; omega))
    · omega
    · exact flat3_2 r _ _ _ _ _ (by first | omega | (dsimp only; omega))
    · exact flat3_1 r _ _ _ _ _ (by first | omega | (dsimp only; omega))
  | 3, _ =>
    rw [show natLo z 3 (ix2 r l) = _ by pointwise [natLo, roll, lt, lane]; rfl, sel_lt96]
    dsimp only
    split_ifs with h
    · exact flat3_2 r _ _ _ _ _ (by first | omega | (dsimp only; omega))
    · exact flat3_2 r _ _ _ _ _ (by first | omega | (dsimp only; omega))

theorem natHi_apply (k : ℕ) (hk : k < 4) (l : Fin 128) :
    natHi z k (ix2 r l) = if h : l.val < 64 then headRow z r k ⟨128 + l.val, by omega⟩ else 0 := by
  have hl := l.isLt
  unfold headRow fa fc
  match k, hk with
  | 0, _ =>
    rw [show natHi z 0 (ix2 r l) = _ by pointwise [natHi, padHi, zeroT, roll, lt, lane]; rfl, sel_lt64]
    dsimp only
    split_ifs with h h'
    · omega
    · exact flat3_0 r _ _ _ _ _ (by first | omega | (dsimp only; omega))
    · rfl
  | 1, _ =>
    rw [show natHi z 1 (ix2 r l) = _ by pointwise [natHi, padHi, zeroT, roll, lt, lane]; rfl, sel_lt64]
    dsimp only
    split_ifs with h h'
    · omega
    · exact flat3_1 r _ _ _ _ _ (by first | omega | (dsimp only; omega))
    · rfl
  | 2, _ =>
    rw [show natHi z 2 (ix2 r l) = _ by pointwise [natHi, padHi, zeroT, roll, lt, lane]; rfl, sel_lt64, sel_lt32]
    dsimp only
    split_ifs with h h' h''
    · omega
    · exact flat3_1 r _ _ _ _ _ (by first | omega | (dsimp only; omega))
    · omega
    · exact flat3_2 r _ _ _ _ _ (by first | omega | (dsimp only; omega))
    · rfl
  | 3, _ =>
    rw [show natHi z 3 (ix2 r l) = _ by pointwise [natHi, padHi, zeroT, roll, lt, lane]; rfl, sel_lt64]
    dsimp only
    split_ifs with h h'
    · omega
    · exact flat3_2 r _ _ _ _ _ (by first | omega | (dsimp only; omega))
    · rfl

/-! ## The scales -/

theorem rowMax_apply (v : Tile Ideal) : rowMax v (ix2 r 0) = Finset.univ.sup fun l => v (ix2 r l) := by
  rw [show rowMax v (ix2 r 0) = _ by pointwise [rowMax]; rfl]
  exact fold_max_eq_sup _

theorem scaleCol_apply (a : Col Ideal) : scaleCol a (ix2 r 0) = scaleOf (a (ix2 r 0)) := rfl

/-- The larger magnitude of a pair of rotated entries. -/
def pairMag (f : ℕ) : EReal := max (mg (fa z r f)) (mg (fc z r f))

theorem mag_apply (a c : Tile Ideal) (l : Fin 128) : mag a c (ix2 r l) = max (mg (a (ix2 r l))) (mg (c (ix2 r l))) := rfl

theorem mag0 (l : Fin 128) (f : ℕ) (h : f = l.val) : mag z.a0 z.c0 (ix2 r l) = pairMag z r f := by
  rw [mag_apply, pairMag, fa, fc, flat3_0 r z.a0 z.a1 z.a2 l f h, flat3_0 r z.c0 z.c1 z.c2 l f h]
theorem mag1 (l : Fin 128) (f : ℕ) (h : f = 128 + l.val) : mag z.a1 z.c1 (ix2 r l) = pairMag z r f := by
  rw [mag_apply, pairMag, fa, fc, flat3_1 r z.a0 z.a1 z.a2 l f h, flat3_1 r z.c0 z.c1 z.c2 l f h]
theorem mag2 (l : Fin 128) (f : ℕ) (h : f = 256 + l.val) : mag z.a2 z.c2 (ix2 r l) = pairMag z r f := by
  rw [mag_apply, pairMag, fa, fc, flat3_2 r z.a0 z.a1 z.a2 l f h, flat3_2 r z.c0 z.c1 z.c2 l f h]

theorem headPart0 (l : Fin 128) : headPart z 0 (ix2 r l) = if l.val < 96 then pairMag z r l.val else 0 := by
  show part0 (mag z.a0 z.c0) (mag z.a1 z.c1) (mag z.a2 z.c2) (ix2 r l) = _
  rw [show part0 (mag z.a0 z.c0) (mag z.a1 z.c1) (mag z.a2 z.c2) (ix2 r l) = _ by pointwise [part0, zeroT, lt, lane]; rfl, sel_lt96, mag0 z r l _ rfl]
theorem headPart1 (l : Fin 128) : headPart z 1 (ix2 r l)
    = max (if 96 ≤ l.val then pairMag z r l.val else 0) (if l.val < 64 then pairMag z r (128 + l.val) else 0) := by
  show part1 (mag z.a0 z.c0) (mag z.a1 z.c1) (mag z.a2 z.c2) (ix2 r l) = _
  rw [show part1 (mag z.a0 z.c0) (mag z.a1 z.c1) (mag z.a2 z.c2) (ix2 r l) = _ by pointwise [part1, zeroT, ge, lt, lane]; rfl, sel_lt64, sel_ge96,
    mag0 z r l _ rfl, mag1 z r l _ rfl]
theorem headPart2 (l : Fin 128) : headPart z 2 (ix2 r l)
    = max (if 64 ≤ l.val then pairMag z r (128 + l.val) else 0) (if l.val < 32 then pairMag z r (256 + l.val) else 0) := by
  show part2 (mag z.a0 z.c0) (mag z.a1 z.c1) (mag z.a2 z.c2) (ix2 r l) = _
  rw [show part2 (mag z.a0 z.c0) (mag z.a1 z.c1) (mag z.a2 z.c2) (ix2 r l) = _ by pointwise [part2, zeroT, ge, lt, lane]; rfl, sel_lt32, sel_ge64,
    mag1 z r l _ rfl, mag2 z r l _ rfl]
theorem headPart3 (l : Fin 128) : headPart z 3 (ix2 r l) = if 32 ≤ l.val then pairMag z r (256 + l.val) else 0 := by
  show part3 (mag z.a0 z.c0) (mag z.a1 z.c1) (mag z.a2 z.c2) (ix2 r l) = _
  rw [show part3 (mag z.a0 z.c0) (mag z.a1 z.c1) (mag z.a2 z.c2) (ix2 r l) = _ by pointwise [part3, zeroT, ge, lane]; rfl, sel_ge32, mag2 z r l _ rfl]

theorem pairMag_nonneg (f : ℕ) : 0 ≤ pairMag z r f := le_max_of_le_left (mg_nonneg _)

/-- The pairs of head `k` are within its row's largest magnitude; -/
theorem pairMag_le (k f : ℕ) (h0 : 96 * k ≤ f) (h1 : f < 96 * k + 96) : pairMag z r f ≤ amax (headRow z r k) := by
  refine max_le ?_ ?_
  · have := le_amax (headRow z r k) ⟨f - 96 * k, by omega⟩
    rwa [headRow, if_pos (by dsimp only; omega), show 96 * k + (f - 96 * k) = f by omega] at this
  · have := le_amax (headRow z r k) ⟨f - 96 * k + 96, by omega⟩
    rwa [headRow, if_neg (by dsimp only; omega), show 96 * k + (f - 96 * k + 96 - 96) = f by omega] at this

/-- and each entry of the row is within one of them. -/
theorem mg_headRow_le (k : ℕ) {b : EReal} (h : ∀ f, 96 * k ≤ f → f < 96 * k + 96 → pairMag z r f ≤ b) : amax (headRow z r k) ≤ b := by
  refine amax_le fun p => ?_
  have hp := p.isLt
  unfold headRow
  split_ifs with h96
  · exact (le_max_left _ _).trans (h (96 * k + p.val) (by omega) (by omega))
  · exact (le_max_right _ _).trans (h (96 * k + (p.val - 96)) (by omega) (by omega))

/-- The lanes that a head's scale is the maximum of have the maximum of the head's row. -/
theorem sup_headPart (k : ℕ) (hk : k < 4) : (Finset.univ.sup fun l => headPart z k (ix2 r l)) = amax (headRow z r k) := by
  have z0 : (0 : EReal) ≤ amax (headRow z r k) := (pairMag_nonneg z r (96 * k)).trans (pairMag_le z r k _ le_rfl (by omega))
  have up : ∀ (f : ℕ) (l : Fin 128), l.val = f % 128 → pairMag z r f ≤ headPart z k (ix2 r l) →
      pairMag z r f ≤ Finset.univ.sup fun l => headPart z k (ix2 r l) := fun f l _ h =>
    h.trans (Finset.le_sup (f := fun l => headPart z k (ix2 r l)) (Finset.mem_univ l))
  refine le_antisymm (Finset.sup_le fun l _ => ?_) (mg_headRow_le z r k fun f h0 h1 => up f ⟨f % 128, Nat.mod_lt _ (by decide)⟩ rfl ?_)
  · have hl := l.isLt
    match k, hk with
    | 0, _ =>
      rw [headPart0]; split_ifs
      · exact pairMag_le z r 0 _ (by omega) (by omega)
      · exact z0
    | 1, _ =>
      rw [headPart1]; refine max_le ?_ ?_ <;> split_ifs
      · exact pairMag_le z r 1 _ (by omega) (by omega)
      · exact z0
      · exact pairMag_le z r 1 _ (by omega) (by omega)
      · exact z0
    | 2, _ =>
      rw [headPart2]; refine max_le ?_ ?_ <;> split_ifs
      · exact pairMag_le z r 2 _ (by omega) (by omega)
      · exact z0
      · exact pairMag_le z r 2 _ (by omega) (by omega)
      · exact z0
    | 3, _ =>
      rw [headPart3]; split_ifs
      · exact pairMag_le z r 3 _ (by omega) (by omega)
      · exact z0
  · match k, hk with
    | 0, _ =>
      rw [headPart0, if_pos (by dsimp only; omega)]
      exact (congrArg (pairMag z r) (by dsimp only; omega)).le
    | 1, _ =>
      rw [headPart1]
      by_cases h : f < 128
      · rw [if_pos (by dsimp only; omega)]
        exact (congrArg (pairMag z r) (by dsimp only; omega)).le.trans (le_max_left _ _)
      · rw [if_pos (c := _ < 64) (by dsimp only; omega)]
        exact (congrArg (pairMag z r) (by dsimp only; omega)).le.trans (le_max_right _ _)
    | 2, _ =>
      rw [headPart2]
      by_cases h : f < 256
      · rw [if_pos (by dsimp only; omega)]
        exact (congrArg (pairMag z r) (by dsimp only; omega)).le.trans (le_max_left _ _)
      · rw [if_pos (c := _ < 32) (by dsimp only; omega)]
        exact (congrArg (pairMag z r) (by dsimp only; omega)).le.trans (le_max_right _ _)
    | 3, _ =>
      rw [headPart3, if_pos (by dsimp only; omega)]
      exact (congrArg (pairMag z r) (by dsimp only; omega)).le

/-- A head's scale is its row's. -/
theorem headScale_apply (k : ℕ) (hk : k < 4) : headScale z k (ix2 r 0) = scaleOf (amax (headRow z r k)) := by
  unfold headScale
  rw [scaleCol_apply, rowMax_apply, sup_headPart z r k hk]

/-! ## The codes -/

/-- The reciprocal of head `k`'s scale. -/
def rcp (k : ℕ) : EReal := Ideal.div (Ideal.ofBits .f32 0x3F800000#32) (scaleOf (amax (headRow z r k)))

theorem recip_apply (s : Col Ideal) : recip s (ix2 r 0) = Ideal.div (Ideal.ofBits .f32 0x3F800000#32) (s (ix2 r 0)) := rfl

theorem spread_recip (k : ℕ) (hk : k < 4) (l : Fin 128) : spread (recip (headScale z k)) (ix2 r l) = rcp z r k := by
  rw [show spread (recip (headScale z k)) (ix2 r l) = recip (headScale z k) (ix2 r 0) by pointwise [spread], rcp, recip_apply, headScale_apply z r k hk]

theorem lanes0_apply (l : Fin 128) : lanes0 z (ix2 r l) = rcp z r (l.val / 96) := by
  have hl := l.isLt
  rw [show lanes0 z (ix2 r l) = _ by pointwise [lanes0, lt, lane]; rfl, sel_lt96, spread_recip z r 0 (by decide), spread_recip z r 1 (by decide)]
  split_ifs <;> congr 1 <;> omega
theorem lanes1_apply (l : Fin 128) : lanes1 z (ix2 r l) = rcp z r ((128 + l.val) / 96) := by
  have hl := l.isLt
  rw [show lanes1 z (ix2 r l) = _ by pointwise [lanes1, lt, lane]; rfl, sel_lt64, spread_recip z r 1 (by decide), spread_recip z r 2 (by decide)]
  split_ifs <;> congr 1 <;> omega
theorem lanes2_apply (l : Fin 128) : lanes2 z (ix2 r l) = rcp z r ((256 + l.val) / 96) := by
  have hl := l.isLt
  rw [show lanes2 z (ix2 r l) = _ by pointwise [lanes2, lt, lane]; rfl, sel_lt32, spread_recip z r 2 (by decide), spread_recip z r 3 (by decide)]
  split_ifs <;> congr 1 <;> omega

theorem word_apply (v k : Tile Ideal) (l : Fin 128) : word v k (ix2 r l) = clip (v (ix2 r l) * k (ix2 r l)) := rfl

theorem fa_words (f : ℕ) (hf : f < 384) : fa (words z) r f = clip (fa z r f * rcp z r (f / 96)) :=
  flat3_of (fun f => clip (fa z r f * rcp z r (f / 96)))
    (fun l => by show word _ _ (ix2 r l) = _; rw [word_apply, lanes0_apply, flat3_0 r z.a0 z.a1 z.a2 l _ rfl]; rfl)
    (fun l => by show word _ _ (ix2 r l) = _; rw [word_apply, lanes1_apply, flat3_1 r z.a0 z.a1 z.a2 l _ rfl]; rfl)
    (fun l => by show word _ _ (ix2 r l) = _; rw [word_apply, lanes2_apply, flat3_2 r z.a0 z.a1 z.a2 l _ rfl]; rfl) f hf
theorem fc_words (f : ℕ) (hf : f < 384) : fc (words z) r f = clip (fc z r f * rcp z r (f / 96)) :=
  flat3_of (fun f => clip (fc z r f * rcp z r (f / 96)))
    (fun l => by show word _ _ (ix2 r l) = _; rw [word_apply, lanes0_apply, flat3_0 r z.c0 z.c1 z.c2 l _ rfl]; rfl)
    (fun l => by show word _ _ (ix2 r l) = _; rw [word_apply, lanes1_apply, flat3_1 r z.c0 z.c1 z.c2 l _ rfl]; rfl)
    (fun l => by show word _ _ (ix2 r l) = _; rw [word_apply, lanes2_apply, flat3_2 r z.c0 z.c1 z.c2 l _ rfl]; rfl) f hf

/-- A head's words are the codes of its row. -/
theorem headRow_words (k : ℕ) (hk : k < 4) (p : Fin 192) : headRow (words z) r k p = code (headRow z r k p) (scaleOf (amax (headRow z r k))) := by
  have hp := p.isLt
  rw [← clip_mul_recip]
  unfold headRow
  split_ifs with h
  · rw [fa_words z r _ (by omega), show (96 * k + p.val) / 96 = k by omega]; rfl
  · rw [fc_words z r _ (by omega), show (96 * k + (p.val - 96)) / 96 = k by omega]; rfl

/-- A head's stored codes: its row's codes, then zeros. -/
theorem codesOf_apply (k : ℕ) (hk : k < 4) (half : ℕ) (hh : half < 2) (l : Fin 128) :
    codesOf z k half (ix3 0 r l) = if h : 128 * half + l.val < 192 then
      code (headRow z r k ⟨128 * half + l.val, h⟩) (scaleOf (amax (headRow z r k))) else 0 := by
  have hl := l.isLt
  rw [show codesOf z k half (ix3 0 r l) = natural (words z) k half (ix2 r l) by pointwise [codesOf]]
  match half, hh with
  | 0, _ =>
    rw [dif_pos (by omega)]
    show natLo (words z) k (ix2 r l) = _
    rw [natLo_apply _ r k hk l, headRow_words z r k hk]
    exact congrArg (fun p => code (headRow z r k p) _) (Fin.ext (by dsimp only; omega))
  | 1, _ =>
    show natHi (words z) k (ix2 r l) = _
    rw [natHi_apply _ r k hk l]
    split_ifs with h h' h'
    · rw [headRow_words z r k hk]
    · omega
    · omega
    · rfl

/-! ## The rotation -/

variable (co si : FVec Ideal S256x96 .f32) (y : FVec Ideal S256x768 .f32)

/-- A row of cosines (or sines), of a lane of a half. -/
def halfRow (v : FVec Ideal S256x96 .f32) (f : ℕ) : EReal := v (ix2 r ⟨f % 96, Nat.mod_lt _ (by decide)⟩)

theorem half0_apply (v : FVec Ideal S256x96 .f32) (l : Fin 128) : half0 v (ix2 r l) = halfRow r v l.val := by
  have hl := l.isLt
  rw [show half0 v (ix2 r l) = _ by pointwise [half0, padHalf, roll, lt, lane]; rfl, sel_lt96]
  split_ifs <;> first | omega | exact congrArg v (congrArg (ix2 r) (Fin.ext (by dsimp only; omega)))
theorem half1_apply (v : FVec Ideal S256x96 .f32) (l : Fin 128) : half1 v (ix2 r l) = halfRow r v (128 + l.val) := by
  have hl := l.isLt
  rw [show half1 v (ix2 r l) = _ by pointwise [half1, padHalf, roll, lt, lane]; rfl, sel_lt64]
  split_ifs <;> first | omega | exact congrArg v (congrArg (ix2 r) (Fin.ext (by dsimp only; omega)))
theorem half2_apply (v : FVec Ideal S256x96 .f32) (l : Fin 128) : half2 v (ix2 r l) = halfRow r v (256 + l.val) := by
  have hl := l.isLt
  rw [show half2 v (ix2 r l) = _ by pointwise [half2, padHalf, roll, lt, lane]; rfl, sel_lt32]
  split_ifs <;> first | omega | exact congrArg v (congrArg (ix2 r) (Fin.ext (by dsimp only; omega)))

/-- The columns of a row tile as a row. -/
def colRow (f : ℕ) : EReal := y (ix2 r ⟨f % 768, Nat.mod_lt _ (by decide)⟩)

theorem colRow_of (f : ℕ) (h : f < 768) : y (ix2 r ⟨f, h⟩) = colRow r y f :=
  congrArg y (congrArg (ix2 r) (Fin.ext (Nat.mod_eq_of_lt h).symm))

theorem s0_apply (l : Fin 128) : s0 y (ix2 r l) = colRow r y l.val := by
  have := l.isLt
  rw [show s0 y (ix2 r l) = _ by pointwise [s0]; rfl]; exact colRow_of r y _ (by omega)
theorem s1_apply (l : Fin 128) : s1 y (ix2 r l) = colRow r y (128 + l.val) := by
  rw [show s1 y (ix2 r l) = _ by pointwise [s1]; rfl]; exact colRow_of r y _ (by omega)
theorem s2_apply (l : Fin 128) : s2 y (ix2 r l) = colRow r y (256 + l.val) := by
  rw [show s2 y (ix2 r l) = _ by pointwise [s2]; rfl]; exact colRow_of r y _ (by omega)
theorem s3_apply (l : Fin 128) : s3 y (ix2 r l) = colRow r y (384 + l.val) := by
  rw [show s3 y (ix2 r l) = _ by pointwise [s3]; rfl]; exact colRow_of r y _ (by omega)
theorem s4_apply (l : Fin 128) : s4 y (ix2 r l) = colRow r y (384 + (128 + l.val)) := by
  rw [show s4 y (ix2 r l) = _ by pointwise [s4]; rfl, colRow_of r y _ (by omega)]; exact congrArg _ (by omega)
theorem s5_apply (l : Fin 128) : s5 y (ix2 r l) = colRow r y (384 + (256 + l.val)) := by
  rw [show s5 y (ix2 r l) = _ by pointwise [s5]; rfl, colRow_of r y _ (by omega)]; exact congrArg _ (by omega)

theorem fa_rotated (f : ℕ) (hf : f < 384) : fa (rotated co si y) r f
    = colRow r y f * halfRow r co f - colRow r y (384 + f) * halfRow r si f :=
  flat3_of (fun f => colRow r y f * halfRow r co f - colRow r y (384 + f) * halfRow r si f)
    (fun l => by
      show s0 y (ix2 r l) * half0 co (ix2 r l) - s3 y (ix2 r l) * half0 si (ix2 r l) = _
      rw [s0_apply, s3_apply, half0_apply, half0_apply])
    (fun l => by
      show s1 y (ix2 r l) * half1 co (ix2 r l) - s4 y (ix2 r l) * half1 si (ix2 r l) = _
      rw [s1_apply, s4_apply, half1_apply, half1_apply])
    (fun l => by
      show s2 y (ix2 r l) * half2 co (ix2 r l) - s5 y (ix2 r l) * half2 si (ix2 r l) = _
      rw [s2_apply, s5_apply, half2_apply, half2_apply]) f hf
theorem fc_rotated (f : ℕ) (hf : f < 384) : fc (rotated co si y) r f
    = colRow r y (384 + f) * halfRow r co f + colRow r y f * halfRow r si f :=
  flat3_of (fun f => colRow r y (384 + f) * halfRow r co f + colRow r y f * halfRow r si f)
    (fun l => by
      show s3 y (ix2 r l) * half0 co (ix2 r l) + s0 y (ix2 r l) * half0 si (ix2 r l) = _
      rw [s0_apply, s3_apply, half0_apply, half0_apply])
    (fun l => by
      show s4 y (ix2 r l) * half1 co (ix2 r l) + s1 y (ix2 r l) * half1 si (ix2 r l) = _
      rw [s1_apply, s4_apply, half1_apply, half1_apply])
    (fun l => by
      show s5 y (ix2 r l) * half2 co (ix2 r l) + s2 y (ix2 r l) * half2 si (ix2 r l) = _
      rw [s2_apply, s5_apply, half2_apply, half2_apply]) f hf

/-- Head `k`'s columns of a quad, in natural order. -/
def headCols (k : ℕ) (p : Fin 192) : EReal :=
  if p.val < 96 then colRow r y (96 * k + p.val) else colRow r y (384 + (96 * k + (p.val - 96)))

/-- A head's rotated row is the rotation of its columns. -/
theorem headRow_rotated (k : ℕ) (hk : k < 4) :
    headRow (rotated co si y) r k = rot (headCols r y k) (fun d => co (ix2 r d)) (fun d => si (ix2 r d)) := by
  funext p
  have hp := p.isLt
  have half : ∀ (v : FVec Ideal S256x96 .f32) (d : ℕ) (h : d < 96), halfRow r v (96 * k + d) = v (ix2 r ⟨d, h⟩) := fun v d h =>
    congrArg v (congrArg (ix2 r) (Fin.ext (by dsimp only; omega)))
  unfold headRow rot headCols
  by_cases h : p.val < 96
  · rw [if_pos h, dif_pos h, if_pos h, if_neg (by dsimp only; omega), fa_rotated r co si y _ (by omega), half co _ h, half si _ h]
    congr 3; dsimp only; omega
  · rw [if_neg h, dif_neg h, if_neg h, if_pos (by dsimp only; omega), fc_rotated r co si y _ (by omega), half co _ (by omega), half si _ (by omega)]

end Cert.ProjectIdeal.Hand

end
-- ==== Proof.ProjectHost.lean ====
/-
  WHAT THE HOST HANDS THE PROJECTION'S CALL: the norm's weights and the gates' arrays reshaped, and the weights' columns in the kernel's
  order (in a quad of four heads, the four first halves, then the four second halves).
-/
module

public import proofs.«01_k».proof.Proof.Gen.ProjectIdeal.Frame
public import proofs.«01_k».proof.Proof.ProjectSpec
public import Idealize.ShloMosaic.Lib.Pointwise

@[expose] public section

set_option maxRecDepth 16384

noncomputable section

namespace Cert.ProjectIdeal.Hand

open Cert.ProjectIdeal Cert.ProjectIdeal.Gen Idealize.ShloMosaic Idealize.ShloMosaic.TcCoe
open Cert.ProjectSpec

variable {F : FTy → Type} [FloatOps F]
/-- The columns of the weights' codes in the kernel's order, as the host puts them. -/
def permW (v : FVec F S3584x7424 .fp8e4m3) : FVec F S3584x7424 .fp8e4m3 :=
  concatenate S3584x7424 1 [⟨S3584x6912,
      shapeCast S3584x6912 (transpose S3584x9x2x4x96 [0, 1, 3, 2, 4] (shapeCast S3584x9x4x2x96
        (concatenate S3584x6912 1 [⟨S3584x6144, extractStridedSlice S3584x6144 ![0, 0] v slices_S3584x7424_S3584x6144_0_0⟩,
          ⟨S3584x384, extractStridedSlice S3584x384 ![0, 6144] v slices_S3584x7424_S3584x384_0_6144⟩,
          ⟨S3584x384, extractStridedSlice S3584x384 ![0, 6784] v slices_S3584x7424_S3584x384_0_6784⟩] concatenates_S3584x6144_S3584x384_S3584x384_S3584x6912_d1)
        shapeCasts_S3584x6912_S3584x9x4x2x96) transposes_S3584x9x4x2x96_S3584x9x2x4x96_0_1_3_2_4) shapeCasts_S3584x9x2x4x96_S3584x6912⟩,
    ⟨S3584x256, extractStridedSlice S3584x256 ![0, 6528] v slices_S3584x7424_S3584x256_0_6528⟩,
    ⟨S3584x256, extractStridedSlice S3584x256 ![0, 7168] v slices_S3584x7424_S3584x256_0_7168⟩] concatenates_S3584x6912_S3584x256_S3584x256_S3584x7424_d1

/-- The columns of the columns' scales in the kernel's order, as the host puts them. -/
def permS (v : FVec F S1x7424 .f32) : FVec F S1x7424 .f32 :=
  concatenate S1x7424 1 [⟨S1x6912,
      shapeCast S1x6912 (transpose S1x9x2x4x96 [0, 1, 3, 2, 4] (shapeCast S1x9x4x2x96
        (concatenate S1x6912 1 [⟨S1x6144, extractStridedSlice S1x6144 ![0, 0] v slices_S1x7424_S1x6144_0_0⟩,
          ⟨S1x384, extractStridedSlice S1x384 ![0, 6144] v slices_S1x7424_S1x384_0_6144⟩,
          ⟨S1x384, extractStridedSlice S1x384 ![0, 6784] v slices_S1x7424_S1x384_0_6784⟩] concatenates_S1x6144_S1x384_S1x384_S1x6912_d1)
        shapeCasts_S1x6912_S1x9x4x2x96) transposes_S1x9x4x2x96_S1x9x2x4x96_0_1_3_2_4) shapeCasts_S1x9x2x4x96_S1x6912⟩,
    ⟨S1x256, extractStridedSlice S1x256 ![0, 6528] v slices_S1x7424_S1x256_0_6528⟩,
    ⟨S1x256, extractStridedSlice S1x256 ![0, 7168] v slices_S1x7424_S1x256_0_7168⟩] concatenates_S1x6912_S1x256_S1x256_S1x7424_d1

/-- The natural column the kernel's column `j` is. -/
def natCol (j : ℕ) : ℕ :=
  if j < 6912 then
    if j / 768 * 768 + j / 96 % 4 * 192 + j / 384 % 2 * 96 + j % 96 < 6528 then j / 768 * 768 + j / 96 % 4 * 192 + j / 384 % 2 * 96 + j % 96
    else j / 768 * 768 + j / 96 % 4 * 192 + j / 384 % 2 * 96 + j % 96 + 256
  else if j < 7168 then j - 384 else j

/-- Entry `p` of the `k`-th head of quad `g`. -/
theorem natCol_head (g k p : ℕ) (hg : g < 9) (hk : k < 4) (hp : p < 192) :
    natCol (768 * g + (if p < 96 then 96 * k + p else 384 + (96 * k + (p - 96)))) = headBase (4 * g + k) + p := by
  unfold natCol headBase
  split_ifs <;> omega

theorem natCol_lt (j : Fin 7424) : natCol j.val < 7424 := by
  have := j.isLt
  unfold natCol
  split_ifs <;> omega

section
variable (m : (ℓ : Loc nD τ sig) → Buf (Elt F) ℓ)

theorem V_w (c : Dev nD) : V m c main_v12 = permW (m ((c : Thread nD τ).loc main_arg2)) := by
  unfold V hostOps0
  after_results
  rfl

theorem V_s (c : Dev nD) : V m c main_v23 = permS (shapeCast S1x7424 (m ((c : Thread nD τ).loc main_arg3)) shapeCasts_S7424_S1x7424) := by
  unfold V hostOps0
  after_results
  rfl
theorem V_nw (c : Dev nD) : V m c main_v2 = shapeCast S1x3584 (m ((c : Thread nD τ).loc main_arg1)) shapeCasts_S3584_S1x3584 := by
  unfold V hostOps0
  after_results
  rfl
theorem V_gw (c : Dev nD) : V m c main_v1 = shapeCast S3584x96 (transpose S3584x3x32 [0, 2, 1] (m ((c : Thread nD τ).loc main_arg6)) transposes_S3584x32x3_S3584x3x32_0_2_1) shapeCasts_S3584x3x32_S3584x96 := by
  unfold V hostOps0
  after_results
  rfl
theorem V_gb (c : Dev nD) : V m c main_v25 = shapeCast S1x96 (transpose S3x32 [1, 0] (m ((c : Thread nD τ).loc main_arg7)) transposes_S32x3_S3x32_1_0) shapeCasts_S3x32_S1x96 := by
  unfold V hostOps0
  after_results
  rfl
end

theorem permW_apply (v : FVec Ideal S3584x7424 .fp8e4m3) (l : Fin 3584) (j : Fin 7424) :
    permW v (ix2 l j) = v (ix2 l ⟨natCol j.val, natCol_lt j⟩) := by
  rw [show permW v (ix2 l j) = _ by pointwise [permW]; rfl]
  split_ifs <;> exact congrArg v (congrArg (ix2 l) (Fin.ext (by dsimp only; unfold natCol; split_ifs <;> omega)))

theorem permS_apply (v : FVec Ideal S1x7424 .f32) (j : Fin 7424) :
    permS v (ix2 0 j) = v (ix2 0 ⟨natCol j.val, natCol_lt j⟩) := by
  rw [show permS v (ix2 0 j) = _ by pointwise [permS]; rfl]
  split_ifs <;> exact congrArg v (congrArg (ix2 0) (Fin.ext (by dsimp only; unfold natCol; split_ifs <;> omega)))

end Cert.ProjectIdeal.Hand
end
-- ==== Proof.ProjectTile.lean ====
/-
  ONE ROW TILE OF THE PROJECTION over the extended reals. Of blocks that are rows `256 t ..` of the arguments' arrays (`Loaded`),
  what the body computes is, row by row, what ProjectSpec.lean says of that token: its scale, its codes, its gates, its columns in
  the kernel's order, and so the quads' heads.
-/
module

public import proofs.«01_k».proof.Proof.ProjectQuadValue
public import proofs.«01_k».proof.Proof.ProjectHost

@[expose] public section

set_option maxRecDepth 8192

noncomputable section

namespace Cert.ProjectIdeal.Hand

open Cert.ProjectIdeal Cert.ProjectIdeal.Gen Cert.Quant Cert.ProjectSpec
open Idealize.ShloMosaic Idealize.ShloMosaic.TcCoe

/-- Row `r` of tile `t`. -/
def row (t : Fin 48) (r : Fin 256) : Fin 12288 := ⟨256 * t.val + r.val, by omega⟩

/-- Blocks that are tile `t`'s rows of the arguments' arrays. -/
structure Loaded (A : Args) (t : Fin 48) (x : FVec Ideal S256x3584 .bf16) (co si : FVec Ideal S256x96 .f32) : Prop where
  x_row : ∀ r l, x (ix2 r l) = A.x (ix2 (row t r) l)
  co_row : ∀ r l, co (ix2 r l) = A.co (ix2 (row t r) l)
  si_row : ∀ r l, si (ix2 r l) = A.si (ix2 (row t r) l)

variable {A : Args} {t : Fin 48} {x : FVec Ideal S256x3584 .bf16} {co si : FVec Ideal S256x96 .f32} (L : Loaded A t x co si) (r : Fin 256)

/-! ## The row -/

include L in
theorem tile_normed (l : Fin 3584) : k0_pay6 (F := Ideal) x A.nw (ix2 r l) = normed A (row t r) l := by
  rw [show k0_pay6 (F := Ideal) x A.nw (ix2 r l) = _ by pointwise [k0_pay6]; rfl]
  simp only [L.x_row]
  rfl

theorem tileMax_apply (v : FVec Ideal S256x3584 .f32) :
    shapeCast S256x1 (multiReduction .maximumf [1] S256 (absf v) 0xFF800000#32 reduces_S256x3584_S256 (.inl rfl) rfl)
      shapeCasts_S256_S256x1 (ix2 r 0) = amax fun l => v (ix2 r l) := by
  rw [show shapeCast S256x1 (multiReduction .maximumf [1] S256 (absf v) 0xFF800000#32 reduces_S256x3584_S256 (.inl rfl) rfl)
      shapeCasts_S256_S256x1 (ix2 r 0) = _ by pointwise; rfl]
  exact fold_absf _

include L in
theorem tile_scale : k0_pay7 (F := Ideal) x A.nw (ix2 r 0) = rowScale A (row t r) := by
  unfold k0_pay7
  rw [scale_apply, tileMax_apply]
  simp only [tile_normed L]
  rfl

theorem tile_along (v : FVec Ideal S256x1 .f32) (l : Fin 3584) : broadcastTo S256x3584 v broadcasts_S256x1_S256x3584 (ix2 r l) = v (ix2 r 0) := by
  pointwise

include L in
theorem tile_code (l : Fin 3584) : k0_pay8 (F := Ideal) x A.nw (ix2 r l) = rowCode A (row t r) l := by
  unfold k0_pay8
  rw [mul_codes_apply, tile_along, one_div_apply, tile_normed L, tile_scale L]
  exact clip_mul_recip _ _

theorem pay10_of (v : FVec Ideal S256x96 .f32) (b : FVec Ideal S1x96 .f32) (l : Fin 96) :
    k0_pay10 (F := Ideal) v b (ix2 r l) = Ideal.logistic (v (ix2 r l) + b (ix2 0 l)) := by
  rw [show k0_pay10 (F := Ideal) v b (ix2 r l) = _ by pointwise [k0_pay10]; rfl]

theorem gateDot_apply (v : FVec Ideal S256x3584 .f32) (w : FVec Ideal S3584x96 .f32) (l : Fin 96) :
    matmul dot_S256x3584_S3584x96_S256x96_1_0_0_1_n_n (some .fp32) v (shapeCast S3584x96 w shapeCasts_S3584x96_S3584x96) (constant S256x96 .f32 0x00000000#32) (ix2 r l)
      = ∑ k : Fin 3584, v (ix2 r k) * w (ix2 k l) := by
  pointwise

include L in
theorem tile_gate (l : Fin 96) : k0_pay10 (F := Ideal) (k0_pay9 x A.nw A.gw) A.gb (ix2 r l) = gate A (row t r) l := by
  rw [pay10_of]
  unfold k0_pay9
  rw [gateDot_apply]
  simp only [tile_normed L]
  rfl

/-! ## The columns -/

theorem quadCols_apply (xs : Col Ideal) (xc : FVec Ideal S256x3584 .fp8e4m3) (w : FVec Ideal S3584x768 .fp8e4m3) (s : FVec Ideal S1x768 .f32) (l : Fin 768) :
    quadCols xs xc w s (ix2 r l) = ((∑ k : Fin 3584, xc (ix2 r k) * w (ix2 k l)) * xs (ix2 r 0) * s (ix2 0 l) : EReal) := by
  pointwise [quadCols]

/-- The quads' columns `768 g ..` of the weights' codes and scales in the kernel's order. -/
structure Slab (A : Args) (g : Fin 9) (w : FVec Ideal S3584x768 .fp8e4m3) (s : FVec Ideal S1x768 .f32) : Prop where
  w_col : ∀ (k : Fin 3584) (l : Fin 768), w (ix2 k l) = permW A.w (ix2 k ⟨768 * g.val + l.val, by omega⟩)
  s_col : ∀ l : Fin 768, s (ix2 0 l) = permS A.s (ix2 0 ⟨768 * g.val + l.val, by omega⟩)

variable {g : Fin 9} {w : FVec Ideal S3584x768 .fp8e4m3} {s : FVec Ideal S1x768 .f32} (P : Slab A g w s)

include L P in
theorem quad_column (l : Fin 768) :
    quadCols (k0_pay7 x A.nw) (k0_pay8 x A.nw) w s (ix2 r l) = column A (row t r) ⟨natCol (768 * g.val + l.val), natCol_lt ⟨_, by omega⟩⟩ := by
  rw [quadCols_apply, tile_scale L, P.s_col, permS_apply]
  simp only [tile_code L, P.w_col, permW_apply]
  rfl

/-- The tile's quad. -/
abbrev tileQuad (A : Args) (x : FVec Ideal S256x3584 .bf16) (co si : FVec Ideal S256x96 .f32) (w : FVec Ideal S3584x768 .fp8e4m3) (s : FVec Ideal S1x768 .f32) : Six Ideal :=
  rotated co si (quadCols (k0_pay7 x A.nw) (k0_pay8 x A.nw) w s)

include L P in
/-- A quad's head is the token's. -/
theorem quad_head (k : Fin 4) : headRow (tileQuad A x co si w s) r k.val = head A (row t r) ⟨4 * g.val + k.val, by omega⟩ := by
  unfold tileQuad
  rw [headRow_rotated r co si _ k.val k.isLt]
  unfold head
  simp only [L.co_row, L.si_row]
  congr 1
  funext p
  have hp := p.isLt
  have h := natCol_head g.val k.val p.val g.isLt k.isLt hp
  unfold headCols
  split_ifs with c
  · rw [if_pos c] at h
    rw [← colRow_of r _ _ (by omega), quad_column L r P]
    exact congrArg (column A (row t r)) (Fin.ext h)
  · rw [if_neg c] at h
    rw [← colRow_of r _ _ (by omega), quad_column L r P]
    exact congrArg (column A (row t r)) (Fin.ext h)

include L P in
theorem quad_scale (k : Fin 4) : headScale (tileQuad A x co si w s) k.val (ix2 r 0) = ProjectSpec.headScale A (row t r) ⟨4 * g.val + k.val, by omega⟩ := by
  rw [headScale_apply _ r k.val k.isLt, quad_head L r P]
  rfl

include L P in
theorem quad_codes (k : Fin 4) (half : Fin 2) (l : Fin 128) : codesOf (tileQuad A x co si w s) k.val half.val (ix3 0 r l)
    = headCode A (row t r) ⟨4 * g.val + k.val, by omega⟩ (128 * half.val + l.val) := by
  rw [codesOf_apply _ r k.val k.isLt half.val half.isLt, quad_head L r P]
  rfl

/-! ## The values -/

theorem pay599_apply (xs : Col Ideal) (xc : FVec Ideal S256x3584 .fp8e4m3) (w : FVec Ideal S3584x512 .fp8e4m3) (s : FVec Ideal S1x512 .f32) (l : Fin 512) :
    k0_pay599 (F := Ideal) xs xc w s (ix2 r l) = ((∑ k : Fin 3584, xc (ix2 r k) * w (ix2 k l)) * xs (ix2 r 0) * s (ix2 0 l) : EReal) := by
  pointwise [k0_pay599]

/-- The values' columns of the weights' codes and scales in the kernel's order. -/
structure VSlab (A : Args) (w : FVec Ideal S3584x512 .fp8e4m3) (s : FVec Ideal S1x512 .f32) : Prop where
  w_col : ∀ (k : Fin 3584) (l : Fin 512), w (ix2 k l) = permW A.w (ix2 k ⟨6912 + l.val, by omega⟩)
  s_col : ∀ l : Fin 512, s (ix2 0 l) = permS A.s (ix2 0 ⟨6912 + l.val, by omega⟩)

variable {wv : FVec Ideal S3584x512 .fp8e4m3} {sv : FVec Ideal S1x512 .f32} (Q : VSlab A wv sv)

theorem natCol_v (l : Fin 512) : natCol (6912 + l.val) = if l.val < 256 then 6528 + l.val else 6912 + l.val := by
  unfold natCol
  split_ifs <;> omega

include L Q in
theorem value_column (l : Fin 512) : k0_pay599 (F := Ideal) (k0_pay7 x A.nw) (k0_pay8 (F := Ideal) x A.nw) wv sv (ix2 r l)
    = column A (row t r) ⟨if l.val < 256 then 6528 + l.val else 6912 + l.val, by split_ifs <;> omega⟩ := by
  rw [pay599_apply, tile_scale L, Q.s_col, permS_apply]
  simp only [tile_code L, Q.w_col, permW_apply]
  exact congrArg (column A (row t r)) (Fin.ext (natCol_v l))

end Cert.ProjectIdeal.Hand

end
-- ==== Proof.ProjectLoads.lean ====
/-
  WHAT A POINT OF THE PROJECTION LOADS: its tile's rows of the tokens, the cosines and the sines; the whole of the others. So its
  quads are the tile's quads.
-/
module

public import proofs.«01_k».proof.Proof.ProjectPieces
public import proofs.«01_k».proof.Proof.ProjectTile

@[expose] public section

noncomputable section

namespace Cert.ProjectIdeal.Hand

open Cert.ProjectIdeal.Gen Cert.ProjectSpec Cert.Quant
open Idealize.ShloMosaic Idealize.ShloMosaic.TcCoe Idealize.ShloMosaic.Tactic

variable (m : (ℓ : Loc nD τ sig) → Buf (Elt Ideal) ℓ) (c : Dev nD) (t : Fin cfg0.N)

/-- What the projection is of, of the arguments as launched. -/
def args : Args where
  x := m ((c : Thread nD τ).loc main_arg0)
  nw := shapeCast S1x3584 (m ((c : Thread nD τ).loc main_arg1)) shapeCasts_S3584_S1x3584
  w := m ((c : Thread nD τ).loc main_arg2)
  s := shapeCast S1x7424 (m ((c : Thread nD τ).loc main_arg3)) shapeCasts_S7424_S1x7424
  co := m ((c : Thread nD τ).loc main_arg4)
  si := m ((c : Thread nD τ).loc main_arg5)
  gw := shapeCast S3584x96 (transpose S3584x3x32 [0, 2, 1] (m ((c : Thread nD τ).loc main_arg6)) transposes_S3584x32x3_S3584x3x32_0_2_1) shapeCasts_S3584x3x32_S3584x96
  gb := shapeCast S1x96 (transpose S3x32 [1, 0] (m ((c : Thread nD τ).loc main_arg7)) transposes_S32x3_S3x32_1_0) shapeCasts_S3x32_S1x96

/-- The point as a tile's number. -/
def pt : Fin 48 := ⟨t.val, t.isLt⟩

/-! ## Where the windows stand at each grid point -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)

/-! ## The blocks -/

theorem blk0 (r : Fin 256) (l : Fin 3584) :
    (iblk m c 0 t : Vec Ideal S256x3584 .bf16) (ix2 r l) = (args m c).x (ix2 (row (pt t) r) l) := by
  unfold iblk
  rw [View.read_apply]
  show V m c main_arg0 _ = _
  rw [V_main_arg0]
  show _ = m ((c : Thread nD τ).loc main_arg0) (ix2 (row (pt t) r) l)
  congr 1
  funext a
  apply Fin.ext
  match a with
  | ⟨0, _⟩ => show win0_0.index t 0 * 256 + 1 * r.val = 256 * t.val + r.val; rw [(idx0 t).1]; omega
  | ⟨1, _⟩ => show win0_0.index t 1 * 3584 + 1 * l.val = l.val; rw [(idx0 t).2]; omega

theorem blk4 (r : Fin 256) (l : Fin 96) :
    (iblk m c 4 t : Vec Ideal S256x96 .f32) (ix2 r l) = (args m c).co (ix2 (row (pt t) r) l) := by
  unfold iblk
  rw [View.read_apply]
  show V m c main_arg4 _ = _
  rw [V_main_arg4]
  show _ = m ((c : Thread nD τ).loc main_arg4) (ix2 (row (pt t) r) l)
  congr 1
  funext a
  apply Fin.ext
  match a with
  | ⟨0, _⟩ => show win0_4.index t 0 * 256 + 1 * r.val = 256 * t.val + r.val; rw [(idx4 t).1]; omega
  | ⟨1, _⟩ => show win0_4.index t 1 * 96 + 1 * l.val = l.val; rw [(idx4 t).2]; omega

theorem blk5 (r : Fin 256) (l : Fin 96) :
    (iblk m c 5 t : Vec Ideal S256x96 .f32) (ix2 r l) = (args m c).si (ix2 (row (pt t) r) l) := by
  unfold iblk
  rw [View.read_apply]
  show V m c main_arg5 _ = _
  rw [V_main_arg5]
  show _ = m ((c : Thread nD τ).loc main_arg5) (ix2 (row (pt t) r) l)
  congr 1
  funext a
  apply Fin.ext
  match a with
  | ⟨0, _⟩ => show win0_5.index t 0 * 256 + 1 * r.val = 256 * t.val + r.val; rw [(idx5 t).1]; omega
  | ⟨1, _⟩ => show win0_5.index t 1 * 96 + 1 * l.val = l.val; rw [(idx5 t).2]; omega

theorem off1 : (fun a => win0_1.index t a * win0_1.size a) = fun _ => 0 := by
  funext a; match a with
  | ⟨0, _⟩ => show win0_1.index t 0 * _ = 0; rw [(idx1 t).1]; simp
  | ⟨1, _⟩ => show win0_1.index t 1 * _ = 0; rw [(idx1 t).2]; simp
theorem off2 : (fun a => win0_2.index t a * win0_2.size a) = fun _ => 0 := by
  funext a; match a with
  | ⟨0, _⟩ => show win0_2.index t 0 * _ = 0; rw [(idx2 t).1]; simp
  | ⟨1, _⟩ => show win0_2.index t 1 * _ = 0; rw [(idx2 t).2]; simp
theorem off3 : (fun a => win0_3.index t a * win0_3.size a) = fun _ => 0 := by
  funext a; match a with
  | ⟨0, _⟩ => show win0_3.index t 0 * _ = 0; rw [(idx3 t).1]; simp
  | ⟨1, _⟩ => show win0_3.index t 1 * _ = 0; rw [(idx3 t).2]; simp
theorem off6 : (fun a => win0_6.index t a * win0_6.size a) = fun _ => 0 := by
  funext a; match a with
  | ⟨0, _⟩ => show win0_6.index t 0 * _ = 0; rw [(idx6 t).1]; simp
  | ⟨1, _⟩ => show win0_6.index t 1 * _ = 0; rw [(idx6 t).2]; simp
theorem off7 : (fun a => win0_7.index t a * win0_7.size a) = fun _ => 0 := by
  funext a; match a with
  | ⟨0, _⟩ => show win0_7.index t 0 * _ = 0; rw [(idx7 t).1]; simp
  | ⟨1, _⟩ => show win0_7.index t 1 * _ = 0; rw [(idx7 t).2]; simp

theorem blk1 : iblk m c 1 t = V m c main_v2 :=
  Memref.read_access_unit_zero (Elt Ideal) main_v2 (off1 t) (fun a => by rw [congrFun (off1 t) a]; simp) (V m c main_v2)
theorem blk2 : iblk m c 2 t = V m c main_v12 :=
  Memref.read_access_unit_zero (Elt Ideal) main_v12 (off2 t) (fun a => by rw [congrFun (off2 t) a]; simp) (V m c main_v12)
theorem blk3 : iblk m c 3 t = V m c main_v23 :=
  Memref.read_access_unit_zero (Elt Ideal) main_v23 (off3 t) (fun a => by rw [congrFun (off3 t) a]; simp) (V m c main_v23)
theorem blk6 : iblk m c 6 t = V m c main_v1 :=
  Memref.read_access_unit_zero (Elt Ideal) main_v1 (off6 t) (fun a => by rw [congrFun (off6 t) a]; simp) (V m c main_v1)
theorem blk7 : iblk m c 7 t = V m c main_v25 :=
  Memref.read_access_unit_zero (Elt Ideal) main_v25 (off7 t) (fun a => by rw [congrFun (off7 t) a]; simp) (V m c main_v25)

/-! ## The loads -/

theorem zero2 : (![0, 0] : Fin 2 → ℕ) = fun _ => 0 := by decide

theorem ldX_eq : ldX m c t = iblk m c 0 t := by
  unfold ldX
  rw [View.readAt_eq_ld, Memref.IsWhole.read_unread]
  exact View.ld_unit_zero (S := S256x3584) zero2 _ _
theorem ldN_eq : ldN m c t = (args m c).nw := by
  unfold ldN
  rw [View.readAt_eq_ld, Memref.IsWhole.read_unread]
  exact (View.ld_unit_zero (S := S1x3584) zero2 _ _).trans ((blk1 m c t).trans (V_nw m c))
theorem ldCos_eq : ldCos m c t = iblk m c 4 t := by
  unfold ldCos
  rw [View.readAt_eq_ld, Memref.IsWhole.read_unread]
  exact View.ld_unit_zero (S := S256x96) zero2 _ _
theorem ldSin_eq : ldSin m c t = iblk m c 5 t := by
  unfold ldSin
  rw [View.readAt_eq_ld, Memref.IsWhole.read_unread]
  exact View.ld_unit_zero (S := S256x96) zero2 _ _
theorem ldGw_eq : ldGw m c t = (args m c).gw := by
  unfold ldGw
  rw [View.readAt_eq_ld, Memref.IsWhole.read_unread]
  exact (View.ld_unit_zero (S := S3584x96) zero2 _ _).trans ((blk6 m c t).trans (V_gw m c))
theorem ldGb_eq : ldGb m c t = (args m c).gb := by
  unfold ldGb
  rw [View.readAt_eq_ld, Memref.IsWhole.read_unread]
  exact (View.ld_unit_zero (S := S1x96) zero2 _ _).trans ((blk7 m c t).trans (V_gb m c))

/-- The codes are loaded back as stored. -/
theorem ldCodes_eq : ldCodes m c t = k0_pay8 (ldX m c t) (ldN m c t) := by
  unfold ldCodes
  rw [View.readCov_eq_canon', View.canon_unit_zero (S := S256x3584) zero2]
  generalize k0_pay8 (ldX m c t) (ldN m c t) = X
  funext j
  exact congrFun (View.ld_unit_zero (Val := Elt Ideal) (S := S256x3584) (e := .fp8e4m3) zero2 (by decide) X) j

theorem ld_apply2 {a b a' b' : ℕ} {e : EltTy} (o₀ o₁ : ℕ)
    (inb : ∀ i, (![o₀, o₁] : Fin 2 → ℕ) i + (⟨2, ![a', b']⟩ : Shape).size i ≤ (⟨2, ![a, b]⟩ : Shape).size i)
    (X : Vec Ideal ⟨2, ![a, b]⟩ e) (k : Fin a') (l : Fin b') (h₀ : o₀ + k.val < a) (h₁ : o₁ + l.val < b) :
    View.ld (Val := Elt Ideal) X (Rect.unit (s := ⟨2, ![a, b]⟩) ![o₀, o₁] (⟨2, ![a', b']⟩ : Shape).size inb) (ix2 k l) = X (ix2 ⟨o₀ + k.val, h₀⟩ ⟨o₁ + l.val, h₁⟩) := by
  show X _ = X _
  congr 1
  funext i
  apply Fin.ext
  match i with
  | ⟨0, _⟩ => show o₀ + 1 * k.val = o₀ + k.val; omega
  | ⟨1, _⟩ => show o₁ + 1 * l.val = o₁ + l.val; omega

theorem slab (g : Fin 9) : Slab (args m c) g (ldW m c t g) (ldS m c t g) where
  w_col k l := by
    unfold ldW
    rw [View.readAt_eq_ld, Memref.IsWhole.read_unread, blk2, V_w]
    refine (ld_apply2 0 (768 * g.val) _ _ k l (by omega) (by omega)).trans ?_
    congr 2; exact Fin.ext (Nat.zero_add _)
  s_col l := by
    unfold ldS
    rw [View.readAt_eq_ld, Memref.IsWhole.read_unread, blk3, V_s]
    exact ld_apply2 0 (768 * g.val) _ _ 0 l (by decide) (by omega)

theorem vslab : VSlab (args m c) (ldWv m c t) (ldSv m c t) where
  w_col k l := by
    unfold ldWv
    rw [View.readAt_eq_ld, Memref.IsWhole.read_unread, blk2, V_w]
    refine (ld_apply2 0 6912 _ _ k l (by omega) (by omega)).trans ?_
    congr 2; exact Fin.ext (Nat.zero_add _)
  s_col l := by
    unfold ldSv
    rw [View.readAt_eq_ld, Memref.IsWhole.read_unread, blk3, V_s]
    exact ld_apply2 0 6912 _ _ 0 l (by decide) (by omega)

theorem loaded : Loaded (args m c) (pt t) (ldX m c t) (ldCos m c t) (ldSin m c t) where
  x_row r l := by rw [ldX_eq]; exact blk0 m c t r l
  co_row r l := by rw [ldCos_eq]; exact blk4 m c t r l
  si_row r l := by rw [ldSin_eq]; exact blk5 m c t r l

theorem quad_eq (g : Fin 9) : quad m c t g = tileQuad (args m c) (ldX m c t) (ldCos m c t) (ldSin m c t) (ldW m c t g) (ldS m c t g) := by
  unfold quad tileScale tileQuad
  rw [ldCodes_eq, ldN_eq]

theorem vcols_apply (r : Fin 256) (l : Fin 512) : vcols m c t (ix2 r l)
    = column (args m c) (row (pt t) r) ⟨if l.val < 256 then 6528 + l.val else 6912 + l.val, by split_ifs <;> omega⟩ := by
  unfold vcols tileScale
  rw [ldCodes_eq, ldN_eq]
  exact value_column (loaded m c t) r (vslab m c t) l

end Cert.ProjectIdeal.Hand

end
-- ==== Proof.ProjectStores.lean ====
/-
  WHAT A POINT OF THE PROJECTION LEAVES in each output but the running maximum, entry by entry: the arrays' entries at the
  tile's rows.
-/
module

public import proofs.«01_k».proof.Proof.ProjectLoads

@[expose] public section

set_option maxRecDepth 4096

noncomputable section

namespace Cert.ProjectIdeal.Hand

open Cert.ProjectIdeal.Gen Cert.ProjectSpec Cert.Quant
open Idealize.ShloMosaic Idealize.ShloMosaic.TcCoe Idealize.ShloMosaic.Tactic

variable (m : (ℓ : Loc nD τ sig) → Buf (Elt Ideal) ℓ) (c : Dev nD) (t : Fin cfg0.N)

/-! ## The arrays' entries, of the coordinates' values -/

theorem qCodes_at (A : Args) (i : S32x12288x256.Idx) (n : Fin 12288) (h : Fin 36) (p : ℕ)
    (h0 : (i 0).val = h.val) (h1 : (i 1).val = n.val) (h2 : (i 2).val = p) : headCode A n h p = qCodes A i := by
  obtain rfl : i 1 = n := Fin.ext h1
  subst h2
  exact congrArg (fun h => headCode A (i 1) h (i 2).val) (Fin.ext h0.symm)

theorem kCodes_at (A : Args) (i : S2x12288x256.Idx) (n : Fin 12288) (h : Fin 36) (p : ℕ)
    (h0 : 34 + (i 0).val = h.val) (h1 : (i 1).val = n.val) (h2 : (i 2).val = p) : headCode A n h p = kCodes A i := by
  obtain rfl : i 1 = n := Fin.ext h1
  subst h2
  exact congrArg (fun h => headCode A (i 1) h (i 2).val) (Fin.ext h0.symm)

theorem kCmp_at (A : Args) (i : S2x12288x192.Idx) (n : Fin 12288) (h : Fin 36) (p : Fin 192)
    (h0 : 32 + (i 0).val = h.val) (h1 : (i 1).val = n.val) (h2 : (i 2).val = p.val) : head A n h p = kCmp A i := by
  obtain rfl : i 1 = n := Fin.ext h1
  obtain rfl : i 2 = p := Fin.ext h2
  exact congrArg (fun h => head A (i 1) h (i 2)) (Fin.ext h0.symm)

theorem vCmp_at (A : Args) (i : S2x12288x128.Idx) (n : Fin 12288) (j : Fin 7424)
    (h0 : 6528 + 128 * (i 0).val + (i 2).val = j.val) (h1 : (i 1).val = n.val) : column A n j = vCmp A i := by
  obtain rfl : i 1 = n := Fin.ext h1
  exact congrArg (column A (i 1)) (Fin.ext h0.symm)

theorem vSw_at (A : Args) (i : S2x12288x128.Idx) (n : Fin 12288) (j : Fin 7424)
    (h0 : 7168 + 128 * (i 0).val + (i 2).val = j.val) (h1 : (i 1).val = n.val) : column A n j = vSw A i := by
  obtain rfl : i 1 = n := Fin.ext h1
  exact congrArg (column A (i 1)) (Fin.ext h0.symm)

/-- A block's index whose first extent is one. -/
theorem idx_one {a b : ℕ} (x : (⟨3, ![1, a, b]⟩ : Shape).Idx) : ∃ r l, x = ix3 0 r l :=
  ⟨x 1, x 2, (eq_ix3 x).trans (congrArg (fun z => ix3 z (x 1) (x 2)) (Subsingleton.elim (α := Fin 1) _ _))⟩

/-! ## The row codes and the gates -/

theorem out8 (r : Fin 256) (l : Fin 3584) : out0_8 m c t (ix2 r l) = rowCode (args m c) (row (pt t) r) l := by
  unfold out0_8 runT
  rw [pieces8, View.canon_unit_zero (S := S256x3584) zero2, ldN_eq]
  exact tile_code (loaded m c t) r l

theorem out16 (r : Fin 256) (l : Fin 96) : out0_16 m c t (ix2 r l) = gate (args m c) (row (pt t) r) l := by
  unfold out0_16 runT
  rw [pieces16, View.canon_unit_zero (S := S256x96) zero2, ldN_eq, ldGw_eq, ldGb_eq]
  exact tile_gate (loaded m c t) r l

/-! ## The heads' codes -/

theorem out9 (y : S32x256x256.Idx) : out0_9 m c t y = qCodes (args m c) (ix3 (y 0) (row (pt t) (y 1)) (y 2)) := by
  have hc := cover0_9 m c t (maxBefore m c t.val t.isLt) y
  unfold out0_9 runT
  rw [pieces9] at hc ⊢
  refine View.canon_apply_of_pieces (Val := Elt Ideal) (e := .fp8e4m3) (fun y : S32x256x256.Idx => qCodes (args m c) (ix3 (y 0) (row (pt t) (y 1)) (y 2))) _ ?_ y hc
  intro p hp x
  simp only [List.mem_ofFn] at hp
  obtain ⟨k, rfl⟩ := hp
  obtain ⟨r, l, rfl⟩ := idx_one x
  dsimp only
  rw [quad_eq]
  have hk := k.isLt
  refine (quad_codes (loaded m c t) r (slab m c t (headAt k)) ⟨(31 - k.val / 2) % 4, by omega⟩ ⟨1 - k.val % 2, by omega⟩ l).trans ?_
  refine qCodes_at _ _ _ _ _ ?_ ?_ ?_
  · show 31 - k.val / 2 + 1 * 0 = 4 * ((31 - k.val / 2) / 4) + (31 - k.val / 2) % 4; omega
  · show 256 * t.val + (0 + 1 * r.val) = 256 * t.val + r.val; omega
  · show 128 * (1 - k.val % 2) + 1 * l.val = 128 * (1 - k.val % 2) + l.val; omega

theorem out12 (y : S2x256x256.Idx) : out0_12 m c t y = kCodes (args m c) (ix3 (y 0) (row (pt t) (y 1)) (y 2)) := by
  have hc := cover0_12 m c t (maxBefore m c t.val t.isLt) y
  unfold out0_12 runT
  rw [pieces12] at hc ⊢
  refine View.canon_apply_of_pieces (Val := Elt Ideal) (e := .fp8e4m3) (fun y : S2x256x256.Idx => kCodes (args m c) (ix3 (y 0) (row (pt t) (y 1)) (y 2))) _ ?_ y hc
  intro p hp x
  simp only [List.mem_ofFn] at hp
  obtain ⟨k, rfl⟩ := hp
  obtain ⟨r, l, rfl⟩ := idx_one x
  dsimp only
  rw [quad_eq]
  have hk := k.isLt
  refine (quad_codes (loaded m c t) r (slab m c t 8) ⟨2 + (1 - k.val / 2), by omega⟩ ⟨1 - k.val % 2, by omega⟩ l).trans ?_
  refine kCodes_at _ _ _ _ _ ?_ ?_ ?_
  · show 34 + (1 - k.val / 2 + 1 * 0) = 4 * 8 + (2 + (1 - k.val / 2)); omega
  · show 256 * t.val + (0 + 1 * r.val) = 256 * t.val + r.val; omega
  · show 128 * (1 - k.val % 2) + 1 * l.val = 128 * (1 - k.val % 2) + l.val; omega

/-! ## The compressed keys, rotated -/

theorem cast64_apply (v : Tile Ideal) (r : Fin 256) (l : Fin 64) :
    shapeCast S1x256x64 (tail64 v) shapeCasts_S256x64_S1x256x64 (ix3 0 r l) = v (ix2 r ⟨l.val, by omega⟩) := by
  pointwise [tail64]
theorem cast128_apply (v : Tile Ideal) (r : Fin 256) (l : Fin 128) :
    shapeCast S1x256x128 v shapeCasts_S256x128_S1x256x128 (ix3 0 r l) = v (ix2 r l) := by
  pointwise

theorem key_lo (k : Fin 4) (r : Fin 256) (l : Fin 128) :
    shapeCast S1x256x128 (natLo (quad m c t 8) k.val) shapeCasts_S256x128_S1x256x128 (ix3 0 r l)
      = head (args m c) (row (pt t) r) ⟨32 + k.val, by omega⟩ ⟨l.val, by omega⟩ := by
  rw [cast128_apply, natLo_apply _ r k.val k.isLt, quad_eq, quad_head (loaded m c t) r (slab m c t 8)]
  rfl
theorem key_hi (k : Fin 4) (r : Fin 256) (l : Fin 64) :
    shapeCast S1x256x64 (tail64 (natHi (quad m c t 8) k.val)) shapeCasts_S256x64_S1x256x64 (ix3 0 r l)
      = head (args m c) (row (pt t) r) ⟨32 + k.val, by omega⟩ ⟨128 + l.val, by omega⟩ := by
  rw [cast64_apply, natHi_apply _ r k.val k.isLt, dif_pos l.isLt, quad_eq, quad_head (loaded m c t) r (slab m c t 8)]
  rfl

theorem out10 (y : S2x256x192.Idx) : out0_10 m c t y = kCmp (args m c) (ix3 (y 0) (row (pt t) (y 1)) (y 2)) := by
  have hc := cover0_10 m c t (maxBefore m c t.val t.isLt) y
  unfold out0_10 runT
  rw [pieces10] at hc ⊢
  refine View.canon_apply_of_pieces (Val := Elt Ideal) (e := .f32) (fun y : S2x256x192.Idx => kCmp (args m c) (ix3 (y 0) (row (pt t) (y 1)) (y 2))) _ ?_ y hc
  intro p hp x
  simp only [List.mem_cons, List.not_mem_nil, or_false] at hp
  rcases hp with rfl | rfl | rfl | rfl <;> obtain ⟨r, l, rfl⟩ := idx_one x
  · refine (key_hi m c t 1 r l).trans (kCmp_at _ _ _ _ _ rfl ?_ ?_)
    · show 256 * t.val + (0 + 1 * r.val) = 256 * t.val + r.val; omega
    · show 128 + 1 * l.val = 128 + l.val; omega
  · refine (key_lo m c t 1 r l).trans (kCmp_at _ _ _ _ _ rfl ?_ ?_)
    · show 256 * t.val + (0 + 1 * r.val) = 256 * t.val + r.val; omega
    · show 0 + 1 * l.val = l.val; omega
  · refine (key_hi m c t 0 r l).trans (kCmp_at _ _ _ _ _ rfl ?_ ?_)
    · show 256 * t.val + (0 + 1 * r.val) = 256 * t.val + r.val; omega
    · show 128 + 1 * l.val = 128 + l.val; omega
  · refine (key_lo m c t 0 r l).trans (kCmp_at _ _ _ _ _ rfl ?_ ?_)
    · show 256 * t.val + (0 + 1 * r.val) = 256 * t.val + r.val; omega
    · show 0 + 1 * l.val = l.val; omega

/-! ## The values -/

theorem pay2_apply (v : FVec Ideal S256x512 .f32) (r : Fin 256) (l : Fin 128) : k0_pay2 (F := Ideal) v (ix3 0 r l) = v (ix2 r ⟨128 + l.val, by omega⟩) := by
  pointwise [k0_pay2]
theorem pay4_apply (v : FVec Ideal S256x512 .f32) (r : Fin 256) (l : Fin 128) : k0_pay4 (F := Ideal) v (ix3 0 r l) = v (ix2 r ⟨384 + l.val, by omega⟩) := by
  pointwise [k0_pay4, k0_pay3]
theorem cut0_apply (v : FVec Ideal S256x512 .f32) (r : Fin 256) (l : Fin 128) :
    shapeCast S1x256x128 (extractStridedSlice S256x128 ![0, 0] v slices_S256x512_o0_0_S256x128) shapeCasts_S256x128_S1x256x128 (ix3 0 r l)
      = v (ix2 r ⟨l.val, by omega⟩) := by
  pointwise
theorem cut256_apply (v : FVec Ideal S256x512 .f32) (r : Fin 256) (l : Fin 128) :
    shapeCast S1x256x128 (extractStridedSlice S256x128 ![0, 256] v slices_S256x512_o0_256_S256x128) shapeCasts_S256x128_S1x256x128 (ix3 0 r l)
      = v (ix2 r ⟨256 + l.val, by omega⟩) := by
  pointwise

theorem out11 (y : S2x256x128.Idx) : out0_11 m c t y = vCmp (args m c) (ix3 (y 0) (row (pt t) (y 1)) (y 2)) := by
  have hc := cover0_11 m c t (maxBefore m c t.val t.isLt) y
  unfold out0_11 runT
  rw [pieces11] at hc ⊢
  refine View.canon_apply_of_pieces (Val := Elt Ideal) (e := .f32) (fun y : S2x256x128.Idx => vCmp (args m c) (ix3 (y 0) (row (pt t) (y 1)) (y 2))) _ ?_ y hc
  intro p hp x
  simp only [List.mem_cons, List.not_mem_nil, or_false] at hp
  rcases hp with rfl | rfl <;> obtain ⟨r, l, rfl⟩ := idx_one x
  · refine (pay2_apply _ r l).trans ((vcols_apply m c t r _).trans (vCmp_at _ _ _ _ ?_ ?_))
    · have : l.val < 128 := l.isLt
      show 6528 + 128 * (1 + 1 * 0) + (0 + 1 * l.val) = if 128 + l.val < 256 then 6528 + (128 + l.val) else 6912 + (128 + l.val)
      split_ifs <;> omega
    · show 256 * t.val + (0 + 1 * r.val) = 256 * t.val + r.val; omega
  · refine (cut0_apply (vcols m c t) r l).trans ((vcols_apply m c t r _).trans (vCmp_at _ _ _ _ ?_ ?_))
    · have : l.val < 128 := l.isLt
      show 6528 + 128 * (0 + 1 * 0) + (0 + 1 * l.val) = if l.val < 256 then 6528 + l.val else 6912 + l.val
      split_ifs <;> omega
    · show 256 * t.val + (0 + 1 * r.val) = 256 * t.val + r.val; omega

theorem out13 (y : S2x256x128.Idx) : out0_13 m c t y = vSw (args m c) (ix3 (y 0) (row (pt t) (y 1)) (y 2)) := by
  have hc := cover0_13 m c t (maxBefore m c t.val t.isLt) y
  unfold out0_13 runT
  rw [pieces13] at hc ⊢
  refine View.canon_apply_of_pieces (Val := Elt Ideal) (e := .f32) (fun y : S2x256x128.Idx => vSw (args m c) (ix3 (y 0) (row (pt t) (y 1)) (y 2))) _ ?_ y hc
  intro p hp x
  simp only [List.mem_cons, List.not_mem_nil, or_false] at hp
  rcases hp with rfl | rfl <;> obtain ⟨r, l, rfl⟩ := idx_one x
  · refine (pay4_apply _ r l).trans ((vcols_apply m c t r _).trans (vSw_at _ _ _ _ ?_ ?_))
    · have : l.val < 128 := l.isLt
      show 7168 + 128 * (1 + 1 * 0) + (0 + 1 * l.val) = if 384 + l.val < 256 then 6528 + (384 + l.val) else 6912 + (384 + l.val)
      split_ifs <;> omega
    · show 256 * t.val + (0 + 1 * r.val) = 256 * t.val + r.val; omega
  · refine (cut256_apply (vcols m c t) r l).trans ((vcols_apply m c t r _).trans (vSw_at _ _ _ _ ?_ ?_))
    · have : l.val < 128 := l.isLt
      show 7168 + 128 * (0 + 1 * 0) + (0 + 1 * l.val) = if 256 + l.val < 256 then 6528 + (256 + l.val) else 6912 + (256 + l.val)
      split_ifs <;> omega
    · show 256 * t.val + (0 + 1 * r.val) = 256 * t.val + r.val; omega

/-! ## The scales' lanes -/

theorem sel_eq {α : Type} (n l : Fin 128) (a b : α) :
    Scalar.select (IntOp.cmpi .eq (BitVec.ofNat 32 l.val) (BitVec.ofNat 32 n.val)) a b = if l.val = n.val then a else b := by
  rw [(by decide +kernel : ∀ n l : Fin 128, IntOp.cmpi .eq (BitVec.ofNat 32 l.val) (BitVec.ofNat 32 n.val) = BitVec.ofBool (decide (l.val = n.val))) n l, sel_bool]; simp

theorem laneIs_apply (n : Fin 128) (s : Col Ideal) (v : Tile Ideal) (r : Fin 256) (l : Fin 128) :
    laneIs (BitVec.ofNat 32 n.val) s v (ix2 r l) = if l.val = n.val then s (ix2 r 0) else v (ix2 r l) := by
  rw [← sel_eq n l]
  generalize BitVec.ofNat 32 n.val = b
  pointwise [laneIs, lane]

theorem zeroTile_apply (r : Fin 256) (l : Fin 128) : (broadcast S256x128 (Scalar.ofBits (F := Ideal) .f32 0x00000000#32) : Tile Ideal) (ix2 r l) = (0 : EReal) :=
  Ideal.ofBits_zero .f32

theorem lane_scale (g : Fin 9) (k : Fin 4) (r : Fin 256) (h : Fin 36) (e : 4 * g.val + k.val = h.val) :
    headScale (quad m c t g) k.val (ix2 r 0) = ProjectSpec.headScale (args m c) (row (pt t) r) h := by
  rw [quad_eq, quad_scale (loaded m c t) r (slab m c t g)]
  exact congrArg _ (Fin.ext e)

theorem statsOf_apply (r : Fin 256) (l : Fin 128) : ∀ n (hn : n ≤ 32), statsOf m c t n (ix2 r l)
    = if h : l.val < n then ProjectSpec.headScale (args m c) (row (pt t) r) ⟨l.val, by omega⟩
      else if l.val = 32 then rowScale (args m c) (row (pt t) r) else 0
  | 0, _ => by
    show laneIs (BitVec.ofNat 32 (32 : Fin 128).val) _ _ (ix2 r l) = _
    rw [laneIs_apply, zeroTile_apply, dif_neg (by omega)]
    unfold tileScale
    rw [ldN_eq, tile_scale (loaded m c t) r]
    rfl
  | n + 1, hn => by
    show laneIs (BitVec.ofNat 32 (⟨n, by omega⟩ : Fin 128).val) _ _ (ix2 r l) = _
    rw [laneIs_apply, statsOf_apply r l n (by omega)]
    by_cases e : l.val = n
    · rw [if_pos e, dif_pos (by omega)]
      exact lane_scale m c t ⟨n / 4 % 9, Nat.mod_lt _ (by decide)⟩ ⟨n % 4, by omega⟩ r _ (by show 4 * (n / 4 % 9) + n % 4 = l.val; omega)
    · rw [if_neg e]
      by_cases h : l.val < n
      · rw [dif_pos h, dif_pos (by omega)]
      · rw [dif_neg h, dif_neg (by omega)]

theorem out15 (r : Fin 256) (l : Fin 128) : out0_15 m c t (ix2 r l) = scaleLane (args m c) (row (pt t) r) l := by
  unfold out0_15 runT
  rw [pieces15, View.canon_unit_zero (S := S256x128) zero2]
  show laneIs (BitVec.ofNat 32 (34 : Fin 128).val) _ (laneIs (BitVec.ofNat 32 (33 : Fin 128).val) _ _) (ix2 r l) = _
  rw [laneIs_apply, laneIs_apply, show (34 : Fin 128).val = 34 from rfl, show (33 : Fin 128).val = 33 from rfl, statsOf_apply m c t r l 32 le_rfl,
    show Hand.headScale (quad m c t 8) 3 (ix2 r 0) = _ from lane_scale m c t 8 3 r 35 rfl,
    show Hand.headScale (quad m c t 8) 2 (ix2 r 0) = _ from lane_scale m c t 8 2 r 34 rfl]
  unfold scaleLane
  have hl := l.isLt
  by_cases h4 : l.val = 34
  · rw [if_pos h4, dif_neg (by omega), if_neg (by omega), dif_pos (by omega)]
    exact congrArg _ (Fin.ext (by show 35 = l.val + 1; omega))
  · rw [if_neg h4]
    by_cases h3 : l.val = 33
    · rw [if_pos h3, dif_neg (by omega), if_neg (by omega), dif_pos (by omega)]
      exact congrArg _ (Fin.ext (by show 34 = l.val + 1; omega))
    · rw [if_neg h3]
      by_cases h2 : l.val < 32
      · rw [dif_pos h2, dif_pos h2]
      · rw [dif_neg h2, dif_neg h2]
        by_cases e : l.val = 32
        · rw [if_pos e, if_pos e]
        · rw [if_neg e, if_neg e, dif_neg (by omega)]

end Cert.ProjectIdeal.Hand

end
-- ==== Proof.ProjectMax.lean ====
/-
  THE PROJECTION'S RUNNING MAXIMUM. A point takes the larger of its tile's largest windowed values and what the block held; a
  batch's first point takes zero for the latter. So after a point the block holds the largest over the batch's tiles so far.
-/
module

public import proofs.«01_k».proof.Proof.ProjectLoads

@[expose] public section

set_option maxRecDepth 4096

noncomputable section

namespace Cert.ProjectIdeal.Hand

open Cert.ProjectIdeal.Gen Cert.ProjectSpec Cert.Quant
open Idealize.ShloMosaic Idealize.ShloMosaic.TcCoe Idealize.ShloMosaic.Tactic

variable (m : (ℓ : Loc nD τ sig) → Buf (Elt Ideal) ℓ) (c : Dev nD) (t : Fin cfg0.N) (xo : Vec Ideal S1x2x8x128 .f32)

/-! ## One point -/

theorem tileAmax_apply (v : FVec Ideal S256x128 .f32) (s : Fin 8) (d : Fin 128) :
    multiReduction .maximumf [0] S8x128 (shapeCast S32x8x128 (absf v) shapeCasts_S256x128_S32x8x128) 0xFF800000#32
      reduces_S32x8x128_S8x128 (.inl rfl) rfl (ix2 s d) = amax fun k : Fin 32 => v (ix2 ⟨8 * k.val + s.val, by omega⟩ d) := by
  rw [show multiReduction .maximumf [0] S8x128 (shapeCast S32x8x128 (absf v) shapeCasts_S256x128_S32x8x128) 0xFF800000#32
      reduces_S32x8x128_S8x128 (.inl rfl) rfl (ix2 s d) = _ by pointwise; rfl]
  refine (congrArg (fun f => Finset.fold max cninf f Finset.univ) (funext fun k => ?_)).trans (fold_absf fun k : Fin 32 => v (ix2 ⟨8 * k.val + s.val, by omega⟩ d))
  congr 2
  exact congrArg (fun z => ix2 z d) (Fin.ext (by dsimp only; omega))

theorem pay1_apply (b : BitVec 1) (v : FVec Ideal S8x128 .f32) (o : Vec Ideal S1x1x8x128 .f32) (s : Fin 8) (d : Fin 128) :
    k0_pay1 (F := Ideal) b v o (ix4 0 0 s d) = max (v (ix2 s d)) (Scalar.select b (0 : EReal) (o (ix4 0 0 s d))) := by
  rcases (by decide : ∀ b : BitVec 1, b = 0#1 ∨ b = 1#1) b with rfl | rfl
  · rw [show k0_pay1 (F := Ideal) 0#1 v o (ix4 0 0 s d) = _ by pointwise [k0_pay1]; rfl]; rfl
  · rw [show k0_pay1 (F := Ideal) 1#1 v o (ix4 0 0 s d) = _ by pointwise [k0_pay1]; rfl]
    rfl

theorem pay5_eq (v : FVec Ideal S256x512 .f32) (b : BitVec 1) (o : Vec Ideal S1x1x8x128 .f32) :
    k0_pay5 (F := Ideal) v b o = k0_pay1 b (multiReduction .maximumf [0] S8x128 (shapeCast S32x8x128 (absf (k0_pay3 v)) shapeCasts_S256x128_S32x8x128) 0xFF800000#32
      reduces_S32x8x128_S8x128 (.inl rfl) rfl) o := rfl

theorem cutHi_apply (v : FVec Ideal S256x512 .f32) (r : Fin 256) (l : Fin 128) : k0_pay3 (F := Ideal) v (ix2 r l) = v (ix2 r ⟨384 + l.val, by omega⟩) := by
  pointwise [k0_pay3]
theorem cutLo_apply (v : FVec Ideal S256x512 .f32) (r : Fin 256) (l : Fin 128) :
    extractStridedSlice S256x128 ![0, 256] v slices_S256x512_o0_256_S256x128 (ix2 r l) = v (ix2 r ⟨256 + l.val, by omega⟩) := by
  pointwise

theorem ldMax_apply (k : Fin 2) (s : Fin 8) (d : Fin 128) : ldMax t xo k (ix4 0 0 s d) = xo (ix4 0 k s d) := by
  unfold ldMax
  rw [View.readAt_eq_ld, Memref.IsWhole.read_unread]
  show xo _ = xo _
  congr 1
  funext i
  apply Fin.ext
  match i with
  | ⟨0, _⟩ => rfl
  | ⟨1, _⟩ => show k.val + 1 * 0 = k.val; omega
  | ⟨2, _⟩ => show 0 + 1 * s.val = s.val; omega
  | ⟨3, _⟩ => show 0 + 1 * d.val = d.val; omega

/-- The tile's largest windowed value over the rows of one residue by 8. -/
def tileTop (A : Args) (u : Fin 48) (g : Fin 2) (s : Fin 8) (d : Fin 128) : EReal :=
  amax fun k : Fin 32 => vSw A (ix3 g (row u ⟨8 * k.val + s.val, by omega⟩) d)

theorem top_hi (s : Fin 8) (d : Fin 128) :
    multiReduction .maximumf [0] S8x128 (shapeCast S32x8x128 (absf (k0_pay3 (vcols m c t))) shapeCasts_S256x128_S32x8x128) 0xFF800000#32
      reduces_S32x8x128_S8x128 (.inl rfl) rfl (ix2 s d) = tileTop (args m c) (pt t) 1 s d := by
  rw [tileAmax_apply]
  unfold tileTop
  congr 1; funext k
  rw [cutHi_apply, vcols_apply]
  refine congrArg (column _ _) (Fin.ext ?_)
  show (if 384 + d.val < 256 then 6528 + (384 + d.val) else 6912 + (384 + d.val)) = 7168 + 128 * 1 + d.val
  split_ifs <;> omega

theorem pay604_eq (xs : Vec Ideal S256x1 .f32) (xc : Vec Ideal S256x3584 .fp8e4m3) (w : Vec Ideal S3584x512 .fp8e4m3) (s : Vec Ideal S1x512 .f32) :
    k0_pay604 (F := Ideal) (k0_pay603 xs xc w s) = multiReduction .maximumf [0] S8x128 (shapeCast S32x8x128 (absf (extractStridedSlice S256x128 ![0, 256]
      (k0_pay599 xs xc w s) slices_S256x512_o0_256_S256x128)) shapeCasts_S256x128_S32x8x128) 0xFF800000#32 reduces_S32x8x128_S8x128 (.inl rfl) rfl := rfl

theorem top_lo (s : Fin 8) (d : Fin 128) :
    k0_pay604 (k0_pay603 (tileScale m c t) (ldCodes m c t) (ldWv m c t) (ldSv m c t)) (ix2 s d) = tileTop (args m c) (pt t) 0 s d := by
  rw [pay604_eq, tileAmax_apply]
  unfold tileTop
  congr 1; funext k
  rw [cutLo_apply]
  refine (vcols_apply m c t _ _).trans ?_
  refine congrArg (column _ _) (Fin.ext ?_)
  show (if 256 + d.val < 256 then 6528 + (256 + d.val) else 6912 + (256 + d.val)) = 7168 + 128 * 0 + d.val
  split_ifs <;> omega

theorem idx_one4 {a b : ℕ} (x : (⟨4, ![1, 1, a, b]⟩ : Shape).Idx) : ∃ r l, x = ix4 0 0 r l :=
  ⟨x 2, x 3, (eq_ix4 x).trans (by
    rw [show x 0 = (0 : Fin 1) from Subsingleton.elim (α := Fin 1) _ _, show x 1 = (0 : Fin 1) from Subsingleton.elim (α := Fin 1) _ _])⟩

/-- One point's step. -/
theorem step (y : S1x2x8x128.Idx) : maxOut m c t xo y
    = max (tileTop (args m c) (pt t) (y 1) (y 2) (y 3)) (Scalar.select (firstIs t) (0 : EReal) (xo y)) := by
  have hc := cover0_14 m c t xo y
  unfold maxOut
  rw [pieces14] at hc ⊢
  refine View.canon_apply_of_pieces (Val := Elt Ideal) (e := .f32) (fun y : S1x2x8x128.Idx =>
    (max (tileTop (args m c) (pt t) (y 1) (y 2) (y 3)) (Scalar.select (firstIs t) (0 : EReal) (xo y)) : EReal)) _ ?_ y hc
  intro p hp x
  simp only [List.mem_cons, List.not_mem_nil, or_false] at hp
  rcases hp with rfl | rfl <;> obtain ⟨s, d, rfl⟩ := idx_one4 x
  · have e : (Rect.unit (s := S1x2x8x128) ![0, 1, 0, 0] S1x1x8x128.size (by decide)).emb (ix4 0 0 s d) = (ix4 0 1 s d : S1x2x8x128.Idx) := by
      funext i
      apply Fin.ext
      match i with
      | ⟨0, _⟩ => rfl
      | ⟨1, _⟩ => rfl
      | ⟨2, _⟩ => show 0 + 1 * s.val = s.val; omega
      | ⟨3, _⟩ => show 0 + 1 * d.val = d.val; omega
    dsimp only
    rw [e]
    refine (congrFun (pay5_eq _ _ _) _).trans ((pay1_apply _ _ _ s d).trans ?_)
    rw [top_hi, ldMax_apply]
    rfl
  · have e : (Rect.unit (s := S1x2x8x128) ![0, 0, 0, 0] S1x1x8x128.size (by decide)).emb (ix4 0 0 s d) = (ix4 0 0 s d : S1x2x8x128.Idx) := by
      funext i
      apply Fin.ext
      match i with
      | ⟨0, _⟩ => rfl
      | ⟨1, _⟩ => rfl
      | ⟨2, _⟩ => show 0 + 1 * s.val = s.val; omega
      | ⟨3, _⟩ => show 0 + 1 * d.val = d.val; omega
    dsimp only
    rw [e]
    refine (pay1_apply _ _ _ s d).trans ?_
    rw [top_lo, ldMax_apply]
    rfl

/-! ## The points of a batch -/

theorem firstIs_first : ∀ t : Fin cfg0.N, t.val % 12 = 0 → firstIs t = 1#1 :=
  (by decide +kernel : ∀ t : Fin grid0.N, t.val % 12 = 0 → projectRun.sl.v2455 (grid0.coords t) = 1#1)
theorem firstIs_later : ∀ t : Fin cfg0.N, t.val % 12 ≠ 0 → firstIs t = 0#1 :=
  (by decide +kernel : ∀ t : Fin grid0.N, t.val % 12 ≠ 0 → projectRun.sl.v2455 (grid0.coords t) = 0#1)

theorem tileTop_nonneg (A : Args) (u : Fin 48) (g : Fin 2) (s : Fin 8) (d : Fin 128) : 0 ≤ tileTop A u g s d :=
  (mg_nonneg _).trans (le_amax (fun k : Fin 32 => vSw A (ix3 g (row u ⟨8 * k.val + s.val, by omega⟩) d)) 0)

theorem out14_nonneg (y : S1x2x8x128.Idx) : 0 ≤ (out0_14 m c t y : EReal) := by
  rw [show out0_14 m c t y = maxOut m c t (maxBefore m c t.val t.isLt) y from rfl, step]
  exact le_max_of_le_left (tileTop_nonneg _ _ _ _ _)

theorem out14_first (hn : 0 < cfg0.N) : out0_14 m c ⟨0, hn⟩ = maxOut m c ⟨0, hn⟩ (maxBefore m c 0 hn) := rfl
theorem out14_next (n : ℕ) (hn : n + 1 < cfg0.N) : out0_14 m c ⟨n + 1, hn⟩ = maxOut m c ⟨n + 1, hn⟩ (out0_14 m c ⟨n, Nat.lt_of_succ_lt hn⟩) := rfl

theorem sel_first (a b : EReal) : Scalar.select 1#1 a b = a := rfl
theorem sel_later (a b : EReal) : Scalar.select 0#1 a b = b := rfl
theorem batch_same (n u : ℕ) (h0 : (n + 1) % 12 ≠ 0) : (n + 1) / 12 * 12 ≤ u ↔ n / 12 * 12 ≤ u := by omega
theorem batch_new (n u : ℕ) (h0 : (n + 1) % 12 = 0) (h1 : (n + 1) / 12 * 12 ≤ u) (h2 : u ≤ n + 1) : u = n + 1 := by omega

/-- After point `n` the block is the largest over the batch's tiles so far. -/
theorem out14_le (y : S1x2x8x128.Idx) (z : EReal) (hz : 0 ≤ z) : ∀ n (hn : n < cfg0.N), (out0_14 m c ⟨n, hn⟩ y : EReal) ≤ z
    ↔ ∀ u : Fin 48, n / 12 * 12 ≤ u.val → u.val ≤ n → tileTop (args m c) u (y 1) (y 2) (y 3) ≤ z
  | 0, hn => by
    rw [out14_first, step, firstIs_first _ rfl, sel_first]
    refine max_le_iff.trans ⟨fun h u _ hu => ?_, fun h => ⟨h (pt ⟨0, hn⟩) (Nat.zero_le _) le_rfl, hz⟩⟩
    obtain rfl : u = pt ⟨0, hn⟩ := Fin.ext (Nat.le_zero.mp hu)
    exact h.1
  | n + 1, hn => by
    have ih := out14_le y z hz n (Nat.lt_of_succ_lt hn)
    have self : (∀ u : Fin 48, (n + 1) / 12 * 12 ≤ u.val → u.val ≤ n + 1 → tileTop (args m c) u (y 1) (y 2) (y 3) ≤ z) →
        tileTop (args m c) (pt ⟨n + 1, hn⟩) (y 1) (y 2) (y 3) ≤ z := fun h => h (pt ⟨n + 1, hn⟩) (Nat.div_mul_le_self _ _) le_rfl
    rw [out14_next, step]
    refine max_le_iff.trans ?_
    by_cases h0 : (n + 1) % 12 = 0
    · rw [firstIs_first _ h0, sel_first]
      refine ⟨fun h u h1 h2 => ?_, fun h => ⟨self h, hz⟩⟩
      obtain rfl : u = pt ⟨n + 1, hn⟩ := Fin.ext (batch_new n _ h0 h1 h2)
      exact h.1
    · rw [firstIs_later _ h0, sel_later]
      refine ⟨fun h u h1 h2 => ?_, fun h => ⟨self h, ih.mpr fun u h1 h2 => h u ((batch_same n _ h0).mpr h1) (Nat.le_succ_of_le h2)⟩⟩
      by_cases e : u.val = n + 1
      · obtain rfl : u = pt ⟨n + 1, hn⟩ := Fin.ext e
        exact h.1
      · exact ih.mp h.2 u ((batch_same n _ h0).mp h1) (Nat.lt_succ_iff.mp (lt_of_le_of_ne h2 e))

/-- After a batch's last point the block is the batch's largest. -/
theorem out14 (y : S1x2x8x128.Idx) (b : Fin 4) (ht : t.val = 12 * b.val + 11) :
    out0_14 m c t y = vMax (args m c) (ix4 b (y 1) (y 2) (y 3)) := by
  have hy : (y 2).val < 8 := (y 2).isLt
  have hnn : (0 : EReal) ≤ vMax (args m c) (ix4 b (y 1) (y 2) (y 3)) :=
    (mg_nonneg _).trans (le_amax (fun k : Fin 384 => vSw (args m c) (ix3 (y 1) ⟨b.val * 3072 + k.val * 8 + (y 2).val, by omega⟩ (y 3))) 0)
  have key := fun z hz => out14_le m c y z hz t.val t.isLt
  refine le_antisymm ((key _ hnn).mpr fun u h1 h2 => amax_le fun k => ?_) ?_
  · refine le_of_eq_of_le ?_ (le_amax (fun k : Fin 384 => vSw (args m c) (ix3 (y 1) ⟨b.val * 3072 + k.val * 8 + (y 2).val, by omega⟩ (y 3))) ⟨32 * (u.val - 12 * b.val) + k.val, by omega⟩)
    refine congrArg (fun n => mg (vSw (args m c) (ix3 (y 1) n (y 3)))) (Fin.ext ?_)
    show 256 * u.val + (8 * k.val + (y 2).val) = b.val * 3072 + (32 * (u.val - 12 * b.val) + k.val) * 8 + (y 2).val
    omega
  · refine amax_le fun k => ?_
    have hk : k.val < 384 := k.isLt
    refine le_trans (le_of_eq ?_) ((le_amax (fun j : Fin 32 => vSw (args m c) (ix3 (y 1) (row ⟨12 * b.val + k.val / 32, by omega⟩ ⟨8 * j.val + (y 2).val, by omega⟩) (y 3))) ⟨k.val % 32, by omega⟩).trans
      ((key _ (out14_nonneg m c t y)).mp le_rfl ⟨12 * b.val + k.val / 32, by omega⟩ (by show t.val / 12 * 12 ≤ 12 * b.val + k.val / 32; omega) (by show 12 * b.val + k.val / 32 ≤ t.val; omega)))
    refine congrArg (fun n => mg (vSw (args m c) (ix3 (y 1) n (y 3)))) (Fin.ext ?_)
    show b.val * 3072 + k.val * 8 + (y 2).val = 256 * (12 * b.val + k.val / 32) + (8 * (k.val % 32) + (y 2).val)
    omega

end Cert.ProjectIdeal.Hand

end
-- ==== Proof.ProjectValue.lean ====
/-
  THE PROJECTION'S VALUE. The points' blocks tile each output, and each is the tile's part of the array it belongs to; so the
  outputs end holding the nine arrays of the arguments as launched.
-/
module

public import proofs.«01_k».proof.Proof.ProjectStores
public import proofs.«01_k».proof.Proof.ProjectMax

@[expose] public section

set_option maxRecDepth 4096

noncomputable section

namespace Cert.ProjectIdeal.Hand

open Cert.ProjectIdeal.Gen Cert.ProjectSpec Cert.Quant
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD) (t : Fin cfg0.N)

/-- The tile a row is in. -/
def tileOf (n : ℕ) (h : n < 12288) : Fin cfg0.N := ⟨n / 256, by show _ < 48; omega⟩

theorem in_tile (n : ℕ) : n / 256 * 256 ≤ n ∧ n < n / 256 * 256 + 256 := by omega
theorem in_whole (k n : ℕ) (h : n < k) : 0 * k ≤ n ∧ n < 0 * k + k := by omega
theorem row_val (t r : ℕ) : t * 256 + 1 * r = 256 * t + r := by omega
theorem whole_val (k r : ℕ) : 0 * k + 1 * r = r := by omega

theorem xCodes_at (A : Args) (n : Fin 12288) (l : Fin 3584) : rowCode A n l = xCodes A (ix2 n l) := rfl
theorem scales_at (A : Args) (n : Fin 12288) (l : Fin 128) : scaleLane A n l = scales A (ix2 n l) := rfl
theorem gates_at (A : Args) (n : Fin 12288) (l : Fin 96) : gate A n l = gates A (ix2 n l) := rfl

theorem idx8 : ∀ t : Fin cfg0.N, win0_8.index t 0 = t.val ∧ win0_8.index t 1 = 0 :=
  (by decide +kernel : ∀ t : Fin grid0.N, win0_8.index t 0 = t.val ∧ win0_8.index t 1 = 0)
theorem emb8 (r : Fin 256) (l : Fin 3584) : ((cfg0.win 8).blk t).view.emb (ix2 r l) = (ix2 (row (pt t) r) l : (⟨2, ![12288, 3584]⟩ : Shape).Idx) := by
  funext a
  apply Fin.ext
  match a with
  | ⟨0, _⟩ => show win0_8.index t 0 * 256 + 1 * r.val = 256 * t.val + r.val; rw [(idx8 t).1]; exact row_val _ _
  | ⟨1, _⟩ => show win0_8.index t 1 * 3584 + 1 * l.val = l.val; rw [(idx8 t).2]; exact whole_val _ _
theorem final8 : (dats m 0 c).arrAt 8 cfg0.N = xCodes (args m c) :=
  (dats m 0 c).arrAt_eq_of_cover 8 (xCodes (args m c) : Buf (Elt Ideal) ((c : Thread nD τ).loc main_v26_0)) (fun t _ => by
    show (cfg0.win 8).cut (grid0.coords t) ((dats m 0 c).after 8 t) = _
    rw [after0_8]
    funext j
    rw [View.read_apply]
    obtain ⟨r, l, rfl⟩ : ∃ (r : Fin 256) (l : Fin 3584), j = ix2 r l := ⟨j 0, j 1, eq_ix2 j⟩
    show out0_8 m c t (ix2 r l) = xCodes (args m c) (((cfg0.win 8).blk t).view.emb (ix2 r l))
    rw [emb8, ← xCodes_at, out8]) fun i => by
    have h0 : (i 0 : Nat) < 12288 := (i 0).isLt
    refine ⟨tileOf (i 0).val h0, (by decide +kernel : ∀ t : Fin grid0.N, win0_8.flush t = true) (tileOf (i 0).val h0), ?_⟩
    show i ∈ ((View.whole main_v26_0).slice (win0_8.rect (tileOf (i 0).val h0))).set
    rw [View.set_slice_whole, Rect.mem_set_unit]
    intro a
    match a with
    | ⟨0, _⟩ =>
      show win0_8.index (tileOf (i 0).val h0) 0 * 256 ≤ (i 0 : Nat) ∧ (i 0 : Nat) < win0_8.index (tileOf (i 0).val h0) 0 * 256 + 256
      rw [(idx8 (tileOf (i 0).val h0)).1]; exact in_tile _
    | ⟨1, _⟩ =>
      show win0_8.index (tileOf (i 0).val h0) 1 * 3584 ≤ (i 1 : Nat) ∧ (i 1 : Nat) < win0_8.index (tileOf (i 0).val h0) 1 * 3584 + 3584
      rw [(idx8 (tileOf (i 0).val h0)).2]; exact in_whole _ _ (i 1).isLt

theorem idx9 : ∀ t : Fin cfg0.N, win0_9.index t 0 = 0 ∧ win0_9.index t 1 = t.val ∧ win0_9.index t 2 = 0 :=
  (by decide +kernel : ∀ t : Fin grid0.N, win0_9.index t 0 = 0 ∧ win0_9.index t 1 = t.val ∧ win0_9.index t 2 = 0)
theorem emb9 (y : (⟨3, ![32, 256, 256]⟩ : Shape).Idx) :
    ((cfg0.win 9).blk t).view.emb y = (ix3 (y 0) (row (pt t) (y 1)) (y 2) : (⟨3, ![32, 12288, 256]⟩ : Shape).Idx) := by
  funext a
  apply Fin.ext
  match a with
  | ⟨0, _⟩ => show win0_9.index t 0 * 32 + 1 * (y 0).val = (y 0).val; rw [(idx9 t).1]; exact whole_val _ _
  | ⟨1, _⟩ => show win0_9.index t 1 * 256 + 1 * (y 1).val = 256 * t.val + (y 1).val; rw [(idx9 t).2.1]; exact row_val _ _
  | ⟨2, _⟩ => show win0_9.index t 2 * 256 + 1 * (y 2).val = (y 2).val; rw [(idx9 t).2.2]; exact whole_val _ _
theorem final9 : (dats m 0 c).arrAt 9 cfg0.N = qCodes (args m c) :=
  (dats m 0 c).arrAt_eq_of_cover 9 (qCodes (args m c) : Buf (Elt Ideal) ((c : Thread nD τ).loc main_v26_1)) (fun t _ => by
    show (cfg0.win 9).cut (grid0.coords t) ((dats m 0 c).after 9 t) = _
    rw [after0_9]
    funext j
    rw [View.read_apply]
    exact (out9 m c t j).trans (congrArg (qCodes (args m c)) (emb9 t j).symm)) fun i => by
    have h1 : (i 1 : Nat) < 12288 := (i 1).isLt
    refine ⟨tileOf (i 1).val h1, (by decide +kernel : ∀ t : Fin grid0.N, win0_9.flush t = true) (tileOf (i 1).val h1), ?_⟩
    show i ∈ ((View.whole main_v26_1).slice (win0_9.rect (tileOf (i 1).val h1))).set
    rw [View.set_slice_whole, Rect.mem_set_unit]
    intro a
    match a with
    | ⟨0, _⟩ =>
      show win0_9.index (tileOf (i 1).val h1) 0 * 32 ≤ (i 0 : Nat) ∧ (i 0 : Nat) < win0_9.index (tileOf (i 1).val h1) 0 * 32 + 32
      rw [(idx9 (tileOf (i 1).val h1)).1]; exact in_whole _ _ (i 0).isLt
    | ⟨1, _⟩ =>
      show win0_9.index (tileOf (i 1).val h1) 1 * 256 ≤ (i 1 : Nat) ∧ (i 1 : Nat) < win0_9.index (tileOf (i 1).val h1) 1 * 256 + 256
      rw [(idx9 (tileOf (i 1).val h1)).2.1]; exact in_tile _
    | ⟨2, _⟩ =>
      show win0_9.index (tileOf (i 1).val h1) 2 * 256 ≤ (i 2 : Nat) ∧ (i 2 : Nat) < win0_9.index (tileOf (i 1).val h1) 2 * 256 + 256
      rw [(idx9 (tileOf (i 1).val h1)).2.2]; exact in_whole _ _ (i 2).isLt

theorem idx10 : ∀ t : Fin cfg0.N, win0_10.index t 0 = 0 ∧ win0_10.index t 1 = t.val ∧ win0_10.index t 2 = 0 :=
  (by decide +kernel : ∀ t : Fin grid0.N, win0_10.index t 0 = 0 ∧ win0_10.index t 1 = t.val ∧ win0_10.index t 2 = 0)
theorem emb10 (y : (⟨3, ![2, 256, 192]⟩ : Shape).Idx) :
    ((cfg0.win 10).blk t).view.emb y = (ix3 (y 0) (row (pt t) (y 1)) (y 2) : (⟨3, ![2, 12288, 192]⟩ : Shape).Idx) := by
  funext a
  apply Fin.ext
  match a with
  | ⟨0, _⟩ => show win0_10.index t 0 * 2 + 1 * (y 0).val = (y 0).val; rw [(idx10 t).1]; exact whole_val _ _
  | ⟨1, _⟩ => show win0_10.index t 1 * 256 + 1 * (y 1).val = 256 * t.val + (y 1).val; rw [(idx10 t).2.1]; exact row_val _ _
  | ⟨2, _⟩ => show win0_10.index t 2 * 192 + 1 * (y 2).val = (y 2).val; rw [(idx10 t).2.2]; exact whole_val _ _
theorem final10 : (dats m 0 c).arrAt 10 cfg0.N = kCmp (args m c) :=
  (dats m 0 c).arrAt_eq_of_cover 10 (kCmp (args m c) : Buf (Elt Ideal) ((c : Thread nD τ).loc main_v26_2)) (fun t _ => by
    show (cfg0.win 10).cut (grid0.coords t) ((dats m 0 c).after 10 t) = _
    rw [after0_10]
    funext j
    rw [View.read_apply]
    exact (out10 m c t j).trans (congrArg (kCmp (args m c)) (emb10 t j).symm)) fun i => by
    have h1 : (i 1 : Nat) < 12288 := (i 1).isLt
    refine ⟨tileOf (i 1).val h1, (by decide +kernel : ∀ t : Fin grid0.N, win0_10.flush t = true) (tileOf (i 1).val h1), ?_⟩
    show i ∈ ((View.whole main_v26_2).slice (win0_10.rect (tileOf (i 1).val h1))).set
    rw [View.set_slice_whole, Rect.mem_set_unit]
    intro a
    match a with
    | ⟨0, _⟩ =>
      show win0_10.index (tileOf (i 1).val h1) 0 * 2 ≤ (i 0 : Nat) ∧ (i 0 : Nat) < win0_10.index (tileOf (i 1).val h1) 0 * 2 + 2
      rw [(idx10 (tileOf (i 1).val h1)).1]; exact in_whole _ _ (i 0).isLt
    | ⟨1, _⟩ =>
      show win0_10.index (tileOf (i 1).val h1) 1 * 256 ≤ (i 1 : Nat) ∧ (i 1 : Nat) < win0_10.index (tileOf (i 1).val h1) 1 * 256 + 256
      rw [(idx10 (tileOf (i 1).val h1)).2.1]; exact in_tile _
    | ⟨2, _⟩ =>
      show win0_10.index (tileOf (i 1).val h1) 2 * 192 ≤ (i 2 : Nat) ∧ (i 2 : Nat) < win0_10.index (tileOf (i 1).val h1) 2 * 192 + 192
      rw [(idx10 (tileOf (i 1).val h1)).2.2]; exact in_whole _ _ (i 2).isLt

theorem idx11 : ∀ t : Fin cfg0.N, win0_11.index t 0 = 0 ∧ win0_11.index t 1 = t.val ∧ win0_11.index t 2 = 0 :=
  (by decide +kernel : ∀ t : Fin grid0.N, win0_11.index t 0 = 0 ∧ win0_11.index t 1 = t.val ∧ win0_11.index t 2 = 0)
theorem emb11 (y : (⟨3, ![2, 256, 128]⟩ : Shape).Idx) :
    ((cfg0.win 11).blk t).view.emb y = (ix3 (y 0) (row (pt t) (y 1)) (y 2) : (⟨3, ![2, 12288, 128]⟩ : Shape).Idx) := by
  funext a
  apply Fin.ext
  match a with
  | ⟨0, _⟩ => show win0_11.index t 0 * 2 + 1 * (y 0).val = (y 0).val; rw [(idx11 t).1]; exact whole_val _ _
  | ⟨1, _⟩ => show win0_11.index t 1 * 256 + 1 * (y 1).val = 256 * t.val + (y 1).val; rw [(idx11 t).2.1]; exact row_val _ _
  | ⟨2, _⟩ => show win0_11.index t 2 * 128 + 1 * (y 2).val = (y 2).val; rw [(idx11 t).2.2]; exact whole_val _ _
theorem final11 : (dats m 0 c).arrAt 11 cfg0.N = vCmp (args m c) :=
  (dats m 0 c).arrAt_eq_of_cover 11 (vCmp (args m c) : Buf (Elt Ideal) ((c : Thread nD τ).loc main_v26_3)) (fun t _ => by
    show (cfg0.win 11).cut (grid0.coords t) ((dats m 0 c).after 11 t) = _
    rw [after0_11]
    funext j
    rw [View.read_apply]
    exact (out11 m c t j).trans (congrArg (vCmp (args m c)) (emb11 t j).symm)) fun i => by
    have h1 : (i 1 : Nat) < 12288 := (i 1).isLt
    refine ⟨tileOf (i 1).val h1, (by decide +kernel : ∀ t : Fin grid0.N, win0_11.flush t = true) (tileOf (i 1).val h1), ?_⟩
    show i ∈ ((View.whole main_v26_3).slice (win0_11.rect (tileOf (i 1).val h1))).set
    rw [View.set_slice_whole, Rect.mem_set_unit]
    intro a
    match a with
    | ⟨0, _⟩ =>
      show win0_11.index (tileOf (i 1).val h1) 0 * 2 ≤ (i 0 : Nat) ∧ (i 0 : Nat) < win0_11.index (tileOf (i 1).val h1) 0 * 2 + 2
      rw [(idx11 (tileOf (i 1).val h1)).1]; exact in_whole _ _ (i 0).isLt
    | ⟨1, _⟩ =>
      show win0_11.index (tileOf (i 1).val h1) 1 * 256 ≤ (i 1 : Nat) ∧ (i 1 : Nat) < win0_11.index (tileOf (i 1).val h1) 1 * 256 + 256
      rw [(idx11 (tileOf (i 1).val h1)).2.1]; exact in_tile _
    | ⟨2, _⟩ =>
      show win0_11.index (tileOf (i 1).val h1) 2 * 128 ≤ (i 2 : Nat) ∧ (i 2 : Nat) < win0_11.index (tileOf (i 1).val h1) 2 * 128 + 128
      rw [(idx11 (tileOf (i 1).val h1)).2.2]; exact in_whole _ _ (i 2).isLt

theorem idx12 : ∀ t : Fin cfg0.N, win0_12.index t 0 = 0 ∧ win0_12.index t 1 = t.val ∧ win0_12.index t 2 = 0 :=
  (by decide +kernel : ∀ t : Fin grid0.N, win0_12.index t 0 = 0 ∧ win0_12.index t 1 = t.val ∧ win0_12.index t 2 = 0)
theorem emb12 (y : (⟨3, ![2, 256, 256]⟩ : Shape).Idx) :
    ((cfg0.win 12).blk t).view.emb y = (ix3 (y 0) (row (pt t) (y 1)) (y 2) : (⟨3, ![2, 12288, 256]⟩ : Shape).Idx) := by
  funext a
  apply Fin.ext
  match a with
  | ⟨0, _⟩ => show win0_12.index t 0 * 2 + 1 * (y 0).val = (y 0).val; rw [(idx12 t).1]; exact whole_val _ _
  | ⟨1, _⟩ => show win0_12.index t 1 * 256 + 1 * (y 1).val = 256 * t.val + (y 1).val; rw [(idx12 t).2.1]; exact row_val _ _
  | ⟨2, _⟩ => show win0_12.index t 2 * 256 + 1 * (y 2).val = (y 2).val; rw [(idx12 t).2.2]; exact whole_val _ _
theorem final12 : (dats m 0 c).arrAt 12 cfg0.N = kCodes (args m c) :=
  (dats m 0 c).arrAt_eq_of_cover 12 (kCodes (args m c) : Buf (Elt Ideal) ((c : Thread nD τ).loc main_v26_4)) (fun t _ => by
    show (cfg0.win 12).cut (grid0.coords t) ((dats m 0 c).after 12 t) = _
    rw [after0_12]
    funext j
    rw [View.read_apply]
    exact (out12 m c t j).trans (congrArg (kCodes (args m c)) (emb12 t j).symm)) fun i => by
    have h1 : (i 1 : Nat) < 12288 := (i 1).isLt
    refine ⟨tileOf (i 1).val h1, (by decide +kernel : ∀ t : Fin grid0.N, win0_12.flush t = true) (tileOf (i 1).val h1), ?_⟩
    show i ∈ ((View.whole main_v26_4).slice (win0_12.rect (tileOf (i 1).val h1))).set
    rw [View.set_slice_whole, Rect.mem_set_unit]
    intro a
    match a with
    | ⟨0, _⟩ =>
      show win0_12.index (tileOf (i 1).val h1) 0 * 2 ≤ (i 0 : Nat) ∧ (i 0 : Nat) < win0_12.index (tileOf (i 1).val h1) 0 * 2 + 2
      rw [(idx12 (tileOf (i 1).val h1)).1]; exact in_whole _ _ (i 0).isLt
    | ⟨1, _⟩ =>
      show win0_12.index (tileOf (i 1).val h1) 1 * 256 ≤ (i 1 : Nat) ∧ (i 1 : Nat) < win0_12.index (tileOf (i 1).val h1) 1 * 256 + 256
      rw [(idx12 (tileOf (i 1).val h1)).2.1]; exact in_tile _
    | ⟨2, _⟩ =>
      show win0_12.index (tileOf (i 1).val h1) 2 * 256 ≤ (i 2 : Nat) ∧ (i 2 : Nat) < win0_12.index (tileOf (i 1).val h1) 2 * 256 + 256
      rw [(idx12 (tileOf (i 1).val h1)).2.2]; exact in_whole _ _ (i 2).isLt

theorem idx13 : ∀ t : Fin cfg0.N, win0_13.index t 0 = 0 ∧ win0_13.index t 1 = t.val ∧ win0_13.index t 2 = 0 :=
  (by decide +kernel : ∀ t : Fin grid0.N, win0_13.index t 0 = 0 ∧ win0_13.index t 1 = t.val ∧ win0_13.index t 2 = 0)
theorem emb13 (y : (⟨3, ![2, 256, 128]⟩ : Shape).Idx) :
    ((cfg0.win 13).blk t).view.emb y = (ix3 (y 0) (row (pt t) (y 1)) (y 2) : (⟨3, ![2, 12288, 128]⟩ : Shape).Idx) := by
  funext a
  apply Fin.ext
  match a with
  | ⟨0, _⟩ => show win0_13.index t 0 * 2 + 1 * (y 0).val = (y 0).val; rw [(idx13 t).1]; exact whole_val _ _
  | ⟨1, _⟩ => show win0_13.index t 1 * 256 + 1 * (y 1).val = 256 * t.val + (y 1).val; rw [(idx13 t).2.1]; exact row_val _ _
  | ⟨2, _⟩ => show win0_13.index t 2 * 128 + 1 * (y 2).val = (y 2).val; rw [(idx13 t).2.2]; exact whole_val _ _
theorem final13 : (dats m 0 c).arrAt 13 cfg0.N = vSw (args m c) :=
  (dats m 0 c).arrAt_eq_of_cover 13 (vSw (args m c) : Buf (Elt Ideal) ((c : Thread nD τ).loc main_v26_5)) (fun t _ => by
    show (cfg0.win 13).cut (grid0.coords t) ((dats m 0 c).after 13 t) = _
    rw [after0_13]
    funext j
    rw [View.read_apply]
    exact (out13 m c t j).trans (congrArg (vSw (args m c)) (emb13 t j).symm)) fun i => by
    have h1 : (i 1 : Nat) < 12288 := (i 1).isLt
    refine ⟨tileOf (i 1).val h1, (by decide +kernel : ∀ t : Fin grid0.N, win0_13.flush t = true) (tileOf (i 1).val h1), ?_⟩
    show i ∈ ((View.whole main_v26_5).slice (win0_13.rect (tileOf (i 1).val h1))).set
    rw [View.set_slice_whole, Rect.mem_set_unit]
    intro a
    match a with
    | ⟨0, _⟩ =>
      show win0_13.index (tileOf (i 1).val h1) 0 * 2 ≤ (i 0 : Nat) ∧ (i 0 : Nat) < win0_13.index (tileOf (i 1).val h1) 0 * 2 + 2
      rw [(idx13 (tileOf (i 1).val h1)).1]; exact in_whole _ _ (i 0).isLt
    | ⟨1, _⟩ =>
      show win0_13.index (tileOf (i 1).val h1) 1 * 256 ≤ (i 1 : Nat) ∧ (i 1 : Nat) < win0_13.index (tileOf (i 1).val h1) 1 * 256 + 256
      rw [(idx13 (tileOf (i 1).val h1)).2.1]; exact in_tile _
    | ⟨2, _⟩ =>
      show win0_13.index (tileOf (i 1).val h1) 2 * 128 ≤ (i 2 : Nat) ∧ (i 2 : Nat) < win0_13.index (tileOf (i 1).val h1) 2 * 128 + 128
      rw [(idx13 (tileOf (i 1).val h1)).2.2]; exact in_whole _ _ (i 2).isLt

theorem idx15 : ∀ t : Fin cfg0.N, win0_15.index t 0 = t.val ∧ win0_15.index t 1 = 0 :=
  (by decide +kernel : ∀ t : Fin grid0.N, win0_15.index t 0 = t.val ∧ win0_15.index t 1 = 0)
theorem emb15 (r : Fin 256) (l : Fin 128) : ((cfg0.win 15).blk t).view.emb (ix2 r l) = (ix2 (row (pt t) r) l : (⟨2, ![12288, 128]⟩ : Shape).Idx) := by
  funext a
  apply Fin.ext
  match a with
  | ⟨0, _⟩ => show win0_15.index t 0 * 256 + 1 * r.val = 256 * t.val + r.val; rw [(idx15 t).1]; exact row_val _ _
  | ⟨1, _⟩ => show win0_15.index t 1 * 128 + 1 * l.val = l.val; rw [(idx15 t).2]; exact whole_val _ _
theorem final15 : (dats m 0 c).arrAt 15 cfg0.N = scales (args m c) :=
  (dats m 0 c).arrAt_eq_of_cover 15 (scales (args m c) : Buf (Elt Ideal) ((c : Thread nD τ).loc main_v26_7)) (fun t _ => by
    show (cfg0.win 15).cut (grid0.coords t) ((dats m 0 c).after 15 t) = _
    rw [after0_15]
    funext j
    rw [View.read_apply]
    obtain ⟨r, l, rfl⟩ : ∃ (r : Fin 256) (l : Fin 128), j = ix2 r l := ⟨j 0, j 1, eq_ix2 j⟩
    show out0_15 m c t (ix2 r l) = scales (args m c) (((cfg0.win 15).blk t).view.emb (ix2 r l))
    rw [emb15, ← scales_at, out15]) fun i => by
    have h0 : (i 0 : Nat) < 12288 := (i 0).isLt
    refine ⟨tileOf (i 0).val h0, (by decide +kernel : ∀ t : Fin grid0.N, win0_15.flush t = true) (tileOf (i 0).val h0), ?_⟩
    show i ∈ ((View.whole main_v26_7).slice (win0_15.rect (tileOf (i 0).val h0))).set
    rw [View.set_slice_whole, Rect.mem_set_unit]
    intro a
    match a with
    | ⟨0, _⟩ =>
      show win0_15.index (tileOf (i 0).val h0) 0 * 256 ≤ (i 0 : Nat) ∧ (i 0 : Nat) < win0_15.index (tileOf (i 0).val h0) 0 * 256 + 256
      rw [(idx15 (tileOf (i 0).val h0)).1]; exact in_tile _
    | ⟨1, _⟩ =>
      show win0_15.index (tileOf (i 0).val h0) 1 * 128 ≤ (i 1 : Nat) ∧ (i 1 : Nat) < win0_15.index (tileOf (i 0).val h0) 1 * 128 + 128
      rw [(idx15 (tileOf (i 0).val h0)).2]; exact in_whole _ _ (i 1).isLt

theorem idx16 : ∀ t : Fin cfg0.N, win0_16.index t 0 = t.val ∧ win0_16.index t 1 = 0 :=
  (by decide +kernel : ∀ t : Fin grid0.N, win0_16.index t 0 = t.val ∧ win0_16.index t 1 = 0)
theorem emb16 (r : Fin 256) (l : Fin 96) : ((cfg0.win 16).blk t).view.emb (ix2 r l) = (ix2 (row (pt t) r) l : (⟨2, ![12288, 96]⟩ : Shape).Idx) := by
  funext a
  apply Fin.ext
  match a with
  | ⟨0, _⟩ => show win0_16.index t 0 * 256 + 1 * r.val = 256 * t.val + r.val; rw [(idx16 t).1]; exact row_val _ _
  | ⟨1, _⟩ => show win0_16.index t 1 * 96 + 1 * l.val = l.val; rw [(idx16 t).2]; exact whole_val _ _
theorem final16 : (dats m 0 c).arrAt 16 cfg0.N = gates (args m c) :=
  (dats m 0 c).arrAt_eq_of_cover 16 (gates (args m c) : Buf (Elt Ideal) ((c : Thread nD τ).loc main_v26_8)) (fun t _ => by
    show (cfg0.win 16).cut (grid0.coords t) ((dats m 0 c).after 16 t) = _
    rw [after0_16]
    funext j
    rw [View.read_apply]
    obtain ⟨r, l, rfl⟩ : ∃ (r : Fin 256) (l : Fin 96), j = ix2 r l := ⟨j 0, j 1, eq_ix2 j⟩
    show out0_16 m c t (ix2 r l) = gates (args m c) (((cfg0.win 16).blk t).view.emb (ix2 r l))
    rw [emb16, ← gates_at, out16]) fun i => by
    have h0 : (i 0 : Nat) < 12288 := (i 0).isLt
    refine ⟨tileOf (i 0).val h0, (by decide +kernel : ∀ t : Fin grid0.N, win0_16.flush t = true) (tileOf (i 0).val h0), ?_⟩
    show i ∈ ((View.whole main_v26_8).slice (win0_16.rect (tileOf (i 0).val h0))).set
    rw [View.set_slice_whole, Rect.mem_set_unit]
    intro a
    match a with
    | ⟨0, _⟩ =>
      show win0_16.index (tileOf (i 0).val h0) 0 * 256 ≤ (i 0 : Nat) ∧ (i 0 : Nat) < win0_16.index (tileOf (i 0).val h0) 0 * 256 + 256
      rw [(idx16 (tileOf (i 0).val h0)).1]; exact in_tile _
    | ⟨1, _⟩ =>
      show win0_16.index (tileOf (i 0).val h0) 1 * 96 ≤ (i 1 : Nat) ∧ (i 1 : Nat) < win0_16.index (tileOf (i 0).val h0) 1 * 96 + 96
      rw [(idx16 (tileOf (i 0).val h0)).2]; exact in_whole _ _ (i 1).isLt

/-! The running maximum's block is written back after a batch's last point only. -/
theorem idx14 : ∀ t : Fin cfg0.N, win0_14.index t 0 = t.val / 12 ∧ win0_14.index t 1 = 0 ∧ win0_14.index t 2 = 0 ∧ win0_14.index t 3 = 0 :=
  (by decide +kernel : ∀ t : Fin grid0.N, win0_14.index t 0 = t.val / 12 ∧ win0_14.index t 1 = 0 ∧ win0_14.index t 2 = 0 ∧ win0_14.index t 3 = 0)
theorem flush14 : ∀ t : Fin cfg0.N, win0_14.flush t = true ↔ t.val % 12 = 11 :=
  (by decide +kernel : ∀ t : Fin grid0.N, win0_14.flush t = true ↔ t.val % 12 = 11)
/-- The batch a tile is of. -/
def batch : Fin 4 := ⟨t.val / 12, by have : t.val < 48 := t.isLt; omega⟩
theorem emb14 (y : (⟨4, ![1, 2, 8, 128]⟩ : Shape).Idx) :
    ((cfg0.win 14).blk t).view.emb y = (ix4 (batch t) (y 1) (y 2) (y 3) : (⟨4, ![4, 2, 8, 128]⟩ : Shape).Idx) := by
  have h0 : (y 0).val < 1 := (y 0).isLt
  funext a
  apply Fin.ext
  match a with
  | ⟨0, _⟩ => show win0_14.index t 0 * 1 + 1 * (y 0).val = t.val / 12; rw [(idx14 t).1]; omega
  | ⟨1, _⟩ => show win0_14.index t 1 * 2 + 1 * (y 1).val = (y 1).val; rw [(idx14 t).2.1]; exact whole_val _ _
  | ⟨2, _⟩ => show win0_14.index t 2 * 8 + 1 * (y 2).val = (y 2).val; rw [(idx14 t).2.2.1]; exact whole_val _ _
  | ⟨3, _⟩ => show win0_14.index t 3 * 128 + 1 * (y 3).val = (y 3).val; rw [(idx14 t).2.2.2]; exact whole_val _ _
theorem final14 : (dats m 0 c).arrAt 14 cfg0.N = vMax (args m c) :=
  (dats m 0 c).arrAt_eq_of_cover 14 (vMax (args m c) : Buf (Elt Ideal) ((c : Thread nD τ).loc main_v26_6)) (fun t ht => by
    show (cfg0.win 14).cut (grid0.coords t) ((dats m 0 c).after 14 t) = _
    rw [after0_14]
    funext j
    rw [View.read_apply]
    have h11 := (flush14 t).mp ht
    exact (out14 m c t j (batch t) (by show t.val = 12 * (t.val / 12) + 11; omega)).trans (congrArg (vMax (args m c)) (emb14 t j).symm)) fun i => by
    have h0 : (i 0 : Nat) < 4 := (i 0).isLt
    have hN : 12 * (i 0 : Nat) + 11 < cfg0.N := by show _ < 48; omega
    refine ⟨⟨12 * (i 0).val + 11, hN⟩, (flush14 ⟨12 * (i 0).val + 11, hN⟩).mpr (by show (12 * (i 0).val + 11) % 12 = 11; omega), ?_⟩
    show i ∈ ((View.whole main_v26_6).slice (win0_14.rect ⟨12 * (i 0).val + 11, hN⟩)).set
    rw [View.set_slice_whole, Rect.mem_set_unit]
    intro a
    match a with
    | ⟨0, _⟩ =>
      show win0_14.index ⟨12 * (i 0).val + 11, hN⟩ 0 * 1 ≤ (i 0 : Nat) ∧ (i 0 : Nat) < win0_14.index ⟨12 * (i 0).val + 11, hN⟩ 0 * 1 + 1
      rw [(idx14 ⟨12 * (i 0).val + 11, hN⟩).1]; show (12 * (i 0 : Nat) + 11) / 12 * 1 ≤ (i 0 : Nat) ∧ (i 0 : Nat) < (12 * (i 0 : Nat) + 11) / 12 * 1 + 1; omega
    | ⟨1, _⟩ =>
      show win0_14.index ⟨12 * (i 0).val + 11, hN⟩ 1 * 2 ≤ (i 1 : Nat) ∧ (i 1 : Nat) < win0_14.index ⟨12 * (i 0).val + 11, hN⟩ 1 * 2 + 2
      rw [(idx14 ⟨12 * (i 0).val + 11, hN⟩).2.1]; exact in_whole _ _ (i 1).isLt
    | ⟨2, _⟩ =>
      show win0_14.index ⟨12 * (i 0).val + 11, hN⟩ 2 * 8 ≤ (i 2 : Nat) ∧ (i 2 : Nat) < win0_14.index ⟨12 * (i 0).val + 11, hN⟩ 2 * 8 + 8
      rw [(idx14 ⟨12 * (i 0).val + 11, hN⟩).2.2.1]; exact in_whole _ _ (i 2).isLt
    | ⟨3, _⟩ =>
      show win0_14.index ⟨12 * (i 0).val + 11, hN⟩ 3 * 128 ≤ (i 3 : Nat) ∧ (i 3 : Nat) < win0_14.index ⟨12 * (i 0).val + 11, hN⟩ 3 * 128 + 128
      rw [(idx14 ⟨12 * (i 0).val + 11, hN⟩).2.2.2]; exact in_whole _ _ (i 3).isLt

/-- The run: the nine results at the nine arrays of the arguments, the arguments unchanged. -/
theorem run : θ_run defs (onTc (τ := τ) (main (F := Ideal))) ⟨m, fun _ => 0, ρ⟩ fun r => ∀ c : Dev nD,
      r.2.mem ((c : Thread nD τ).loc main_v26_0) = xCodes (args m c)
      ∧ r.2.mem ((c : Thread nD τ).loc main_v26_1) = qCodes (args m c)
      ∧ r.2.mem ((c : Thread nD τ).loc main_v26_2) = kCmp (args m c)
      ∧ r.2.mem ((c : Thread nD τ).loc main_v26_3) = vCmp (args m c)
      ∧ r.2.mem ((c : Thread nD τ).loc main_v26_4) = kCodes (args m c)
      ∧ r.2.mem ((c : Thread nD τ).loc main_v26_5) = vSw (args m c)
      ∧ r.2.mem ((c : Thread nD τ).loc main_v26_6) = vMax (args m c)
      ∧ r.2.mem ((c : Thread nD τ).loc main_v26_7) = scales (args m c)
      ∧ r.2.mem ((c : Thread nD τ).loc main_v26_8) = gates (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ⟨?_, ?_, ?_, ?_, ?_, ?_, ?_, ?_, ?_, ?_⟩) (θ_run_and (run_main m ρ) (unchanged m ρ))
  · exact ((h.1 c).1 8).trans (final8 m c)
  · exact ((h.1 c).1 9).trans (final9 m c)
  · exact ((h.1 c).1 10).trans (final10 m c)
  · exact ((h.1 c).1 11).trans (final11 m c)
  · exact ((h.1 c).1 12).trans (final12 m c)
  · exact ((h.1 c).1 13).trans (final13 m c)
  · exact ((h.1 c).1 14).trans (final14 m c)
  · exact ((h.1 c).1 15).trans (final15 m c)
  · exact ((h.1 c).1 16).trans (final16 m c)
  · exact h.2 c

end Cert.ProjectIdeal.Hand

end
-- ==== Proof.ProjectRefPay.lean ====
/-
  THE PROJECTION REFERENCE'S STORED VALUES. Each of the nine values the reference's one call stores, at an index, is the entry
  ProjectSpec.lean gives for it.
-/
module

public import proofs.«01_k».proof.Proof.Gen.ProjectRefIdeal.Skeleton
public import proofs.«01_k».proof.Proof.ProjectSpec

@[expose] public section

set_option maxRecDepth 16384

noncomputable section

namespace Cert.ProjectRefIdeal.Hand

open Cert.ProjectRefIdeal Cert.ProjectRefIdeal.Gen Idealize.ShloMosaic Idealize.ShloMosaic.TcCoe
open Cert.ProjectSpec Cert.Quant

variable (A : Args) (n : Fin 12288)

/-! ## The row: entries, scale, codes, columns -/

theorem pay6_apply (l : Fin 3584) : k0_pay6 (F := Ideal) A.x A.nw (ix2 n l) = normed A n l := by
  rw [show k0_pay6 (F := Ideal) A.x A.nw (ix2 n l) = _ by pointwise [k0_pay6]; rfl]
  rfl

theorem rowMax_apply (v : FVec Ideal S12288x3584 .f32) :
    shapeCast S12288x1 (multiReduction .maximumf [1] S12288 (absf v) 0xFF800000#32 reduces_S12288x3584_S12288 (.inl rfl) rfl)
      shapeCasts_S12288_S12288x1 (ix2 n 0) = amax fun l => v (ix2 n l) := by
  rw [show shapeCast S12288x1 (multiReduction .maximumf [1] S12288 (absf v) 0xFF800000#32 reduces_S12288x3584_S12288 (.inl rfl) rfl)
      shapeCasts_S12288_S12288x1 (ix2 n 0) = _ by pointwise; rfl]
  exact fold_absf _

theorem pay7_apply : k0_pay7 (F := Ideal) A.x A.nw (ix2 n 0) = rowScale A n := by
  unfold k0_pay7
  rw [scale_apply, rowMax_apply]
  simp only [pay6_apply]
  rfl

theorem along (v : FVec Ideal S12288x1 .f32) (l : Fin 3584) : broadcastTo S12288x3584 v broadcasts_S12288x1_S12288x3584 (ix2 n l) = v (ix2 n 0) := by
  pointwise

theorem pay8_apply (l : Fin 3584) : k0_pay8 (F := Ideal) A.x A.nw (ix2 n l) = rowCode A n l := by
  unfold k0_pay8
  rw [codes_apply, along, pay6_apply, pay7_apply]
  rfl

/-- The reference's product. -/
abbrev qkv : FVec Ideal S12288x7424 .f32 := k0_pay9 (F := Ideal) A.x A.nw A.w A.s

theorem columns_apply (xc : FVec Ideal S12288x3584 .fp8e4m3) (xs : FVec Ideal S12288x1 .f32) (w : FVec Ideal S3584x7424 .fp8e4m3) (s : FVec Ideal S1x7424 .f32) (j : Fin 7424) :
    mulf (mulf (matmul dot_S12288x3584_S3584x7424_S12288x7424_1_0_0_1_n_n none xc w (constant S12288x7424 .f32 0x00000000#32))
      (broadcastTo S12288x7424 xs broadcasts_S12288x1_S12288x7424))
      (broadcastTo S12288x7424 (shapeCast S1x7424 s shapeCasts_S1x7424_S1x7424) broadcasts_S1x7424_S12288x7424) (ix2 n j)
      = ((∑ l : Fin 3584, xc (ix2 n l) * w (ix2 l j)) * xs (ix2 n 0) * s (ix2 0 j) : EReal) := by
  pointwise

theorem qkv_apply (j : Fin 7424) : qkv A (ix2 n j) = column A n j := by
  unfold qkv k0_pay9
  rw [columns_apply, pay7_apply]
  simp only [pay8_apply]
  rfl

/-! ## The heads -/

/-- A rotated entry of head `h`, of its 192 columns `f`. -/
theorem rot_head (h : Fin 36) (p : Fin 192) (f : Fin 192 → EReal) (hf : ∀ q, f q = column A n ⟨headBase h.val + q.val, headBase_lt h q⟩) :
    (if hp : p.val < 96 then f p * A.co (ix2 n ⟨p.val, hp⟩) - f ⟨96 + p.val, by omega⟩ * A.si (ix2 n ⟨p.val, hp⟩)
    else f ⟨96 + (p.val - 96), by omega⟩ * A.co (ix2 n ⟨p.val - 96, by omega⟩) + f ⟨p.val - 96, by omega⟩ * A.si (ix2 n ⟨p.val - 96, by omega⟩) : EReal)
      = head A n h p := by
  obtain rfl : f = fun q => column A n ⟨headBase h.val + q.val, headBase_lt h q⟩ := funext hf
  unfold head rot
  by_cases hp : p.val < 96
  · rw [dif_pos hp, dif_pos hp]
  · rw [dif_neg hp, dif_neg hp]
    rw [show (⟨96 + (p.val - 96), by omega⟩ : Fin 192) = p from Fin.ext (by dsimp only; omega)]

theorem pay16_of (y : FVec Ideal S12288x6144 .f32) (co si : FVec Ideal S12288x96 .f32) (h : Fin 32) (p : Fin 192) :
    k0_pay16 (F := Ideal) y co si (ix3 n h p)
      = (if hp : p.val < 96 then y (ix2 n ⟨h.val * 192 + p.val, by omega⟩) * co (ix2 n ⟨p.val, hp⟩) - y (ix2 n ⟨h.val * 192 + (96 + p.val), by omega⟩) * si (ix2 n ⟨p.val, hp⟩)
      else y (ix2 n ⟨h.val * 192 + (96 + (p.val - 96)), by omega⟩) * co (ix2 n ⟨p.val - 96, by omega⟩)
        + y (ix2 n ⟨h.val * 192 + (p.val - 96), by omega⟩) * si (ix2 n ⟨p.val - 96, by omega⟩) : EReal) := by
  pointwise [k0_pay16, k0_pay14, k0_pay15]

theorem slice_q (y : FVec Ideal S12288x7424 .f32) (j : Fin 6144) :
    extractStridedSlice S12288x6144 ![0, 0] y slices_S12288x7424_o0_0_S12288x6144 (ix2 n j) = y (ix2 n ⟨j.val, by omega⟩) := by
  pointwise

theorem pay16_apply (h : Fin 32) (p : Fin 192) :
    k0_pay16 (F := Ideal) (k0_pay10 A.x A.nw A.w A.s) A.co A.si (ix3 n h p) = head A n ⟨h.val, by omega⟩ p := by
  rw [pay16_of]
  refine rot_head A n ⟨h.val, by omega⟩ p (fun q => k0_pay10 (F := Ideal) A.x A.nw A.w A.s (ix2 n ⟨h.val * 192 + q.val, by omega⟩)) fun q => ?_
  refine (slice_q n (qkv A) _).trans ((qkv_apply A n _).trans ?_)
  congr 1
  apply Fin.ext
  show h.val * 192 + q.val = headBase h.val + q.val
  unfold headBase
  rw [if_pos (by omega)]
  omega

/-- Of the heads of windowed keys. -/
theorem pay24_of (y : FVec Ideal S12288x7424 .f32) (co si : FVec Ideal S12288x96 .f32) (h : Fin 2) (p : Fin 192) :
    k0_pay24 (F := Ideal) (k0_pay22 y co si) (k0_pay23 y co si) (ix3 n h p)
      = (if hp : p.val < 96 then y (ix2 n ⟨6784 + (h.val * 192 + p.val), by omega⟩) * co (ix2 n ⟨p.val, hp⟩)
          - y (ix2 n ⟨6784 + (h.val * 192 + (96 + p.val)), by omega⟩) * si (ix2 n ⟨p.val, hp⟩)
      else y (ix2 n ⟨6784 + (h.val * 192 + (96 + (p.val - 96))), by omega⟩) * co (ix2 n ⟨p.val - 96, by omega⟩)
        + y (ix2 n ⟨6784 + (h.val * 192 + (p.val - 96)), by omega⟩) * si (ix2 n ⟨p.val - 96, by omega⟩) : EReal) := by
  pointwise [k0_pay24, k0_pay22, k0_pay23, k0_pay19, k0_pay20, k0_pay21, k0_pay14, k0_pay15]

theorem pay24_apply (h : Fin 2) (p : Fin 192) :
    k0_pay24 (F := Ideal) (k0_pay22 (qkv A) A.co A.si) (k0_pay23 (qkv A) A.co A.si) (ix3 n h p) = head A n ⟨34 + h.val, by omega⟩ p := by
  rw [pay24_of]
  refine rot_head A n ⟨34 + h.val, by omega⟩ p (fun q => qkv A (ix2 n ⟨6784 + (h.val * 192 + q.val), by omega⟩)) fun q => ?_
  refine (qkv_apply A n _).trans ?_
  congr 1
  apply Fin.ext
  show 6784 + (h.val * 192 + q.val) = headBase (34 + h.val) + q.val
  unfold headBase
  rw [if_neg (by omega)]
  omega

/-- Of the heads of compressed keys. -/
theorem pay29_of (y : FVec Ideal S12288x384 .f32) (co si : FVec Ideal S12288x96 .f32) (h : Fin 2) (p : Fin 192) :
    k0_pay29 (F := Ideal) y (k0_pay14 co) (k0_pay15 si) (ix3 h n p)
      = (if hp : p.val < 96 then y (ix2 n ⟨h.val * 192 + p.val, by omega⟩) * co (ix2 n ⟨p.val, hp⟩)
          - y (ix2 n ⟨h.val * 192 + (96 + p.val), by omega⟩) * si (ix2 n ⟨p.val, hp⟩)
      else y (ix2 n ⟨h.val * 192 + (96 + (p.val - 96)), by omega⟩) * co (ix2 n ⟨p.val - 96, by omega⟩)
        + y (ix2 n ⟨h.val * 192 + (p.val - 96), by omega⟩) * si (ix2 n ⟨p.val - 96, by omega⟩) : EReal) := by
  pointwise [k0_pay29, k0_pay14, k0_pay15]

theorem slice_kc (y : FVec Ideal S12288x7424 .f32) (j : Fin 384) :
    extractStridedSlice S12288x384 ![0, 6144] y slices_S12288x7424_o0_6144_S12288x384 (ix2 n j) = y (ix2 n ⟨6144 + j.val, by omega⟩) := by
  pointwise

theorem pay29_apply (h : Fin 2) (p : Fin 192) :
    k0_pay29 (F := Ideal) (k0_pay11 A.x A.nw A.w A.s) (k0_pay14 A.co) (k0_pay15 A.si) (ix3 h n p) = head A n ⟨32 + h.val, by omega⟩ p := by
  rw [pay29_of]
  refine rot_head A n ⟨32 + h.val, by omega⟩ p (fun q => k0_pay11 (F := Ideal) A.x A.nw A.w A.s (ix2 n ⟨h.val * 192 + q.val, by omega⟩)) fun q => ?_
  refine (slice_kc n (qkv A) _).trans ((qkv_apply A n _).trans ?_)
  congr 1
  apply Fin.ext
  show 6144 + (h.val * 192 + q.val) = headBase (32 + h.val) + q.val
  unfold headBase
  rw [if_pos (by omega)]
  omega

/-! ## Their scales and codes -/

theorem headMax_q (v : FVec Ideal S12288x32x192 .f32) (h : Fin 32) :
    shapeCast S12288x32x1 (multiReduction .maximumf [2] S12288x32 (absf v) 0xFF800000#32 reduces_S12288x32x192_S12288x32 (.inl rfl) rfl)
      shapeCasts_S12288x32_S12288x32x1 (ix3 n h 0) = amax fun p => v (ix3 n h p) := by
  rw [show shapeCast S12288x32x1 (multiReduction .maximumf [2] S12288x32 (absf v) 0xFF800000#32 reduces_S12288x32x192_S12288x32 (.inl rfl) rfl)
      shapeCasts_S12288x32_S12288x32x1 (ix3 n h 0) = _ by pointwise; rfl]
  exact fold_absf _

theorem headMax_k (v : FVec Ideal S12288x2x192 .f32) (h : Fin 2) :
    shapeCast S12288x2x1 (multiReduction .maximumf [2] S12288x2 (absf v) 0xFF800000#32 reduces_S12288x2x192_S12288x2 (.inl rfl) rfl)
      shapeCasts_S12288x2_S12288x2x1 (ix3 n h 0) = amax fun p => v (ix3 n h p) := by
  rw [show shapeCast S12288x2x1 (multiReduction .maximumf [2] S12288x2 (absf v) 0xFF800000#32 reduces_S12288x2x192_S12288x2 (.inl rfl) rfl)
      shapeCasts_S12288x2_S12288x2x1 (ix3 n h 0) = _ by pointwise; rfl]
  exact fold_absf _

theorem pay17_apply (h : Fin 32) :
    k0_pay17 (F := Ideal) (k0_pay10 A.x A.nw A.w A.s) A.co A.si (ix3 n h 0) = headScale A n ⟨h.val, by omega⟩ := by
  unfold k0_pay17
  rw [scale_apply, headMax_q]
  simp only [pay16_apply]
  rfl

theorem pay25_apply (h : Fin 2) :
    k0_pay25 (F := Ideal) (k0_pay22 (qkv A) A.co A.si) (k0_pay23 (qkv A) A.co A.si) (ix3 n h 0) = headScale A n ⟨34 + h.val, by omega⟩ := by
  unfold k0_pay25
  rw [scale_apply, headMax_k]
  simp only [pay24_apply]
  rfl

theorem along_q (v : FVec Ideal S12288x32x1 .f32) (h : Fin 32) (p : Fin 192) :
    broadcastTo S12288x32x192 v broadcasts_S12288x32x1_S12288x32x192 (ix3 n h p) = v (ix3 n h 0) := by
  pointwise

theorem along_k (v : FVec Ideal S12288x2x1 .f32) (h : Fin 2) (p : Fin 192) :
    broadcastTo S12288x2x192 v broadcasts_S12288x2x1_S12288x2x192 (ix3 n h p) = v (ix3 n h 0) := by
  pointwise

theorem pay18_apply (h : Fin 32) (p : Fin 192) :
    k0_pay18 (F := Ideal) (k0_pay10 A.x A.nw A.w A.s) A.co A.si (ix3 n h p)
      = code (head A n ⟨h.val, by omega⟩ p) (headScale A n ⟨h.val, by omega⟩) := by
  unfold k0_pay18
  rw [codes_apply, along_q, pay16_apply, pay17_apply]

theorem pay26_apply (h : Fin 2) (p : Fin 192) :
    k0_pay26 (F := Ideal) (k0_pay22 (qkv A) A.co A.si) (k0_pay23 (qkv A) A.co A.si) (ix3 n h p)
      = code (head A n ⟨34 + h.val, by omega⟩ p) (headScale A n ⟨34 + h.val, by omega⟩) := by
  unfold k0_pay26
  rw [codes_apply, along_k, pay24_apply, pay25_apply]

theorem zero_code : (Ideal.ofBits .fp8e4m3 0x00#8 : EReal) = 0 := by
  simp [Ideal.ofBits, Ideal.e4m3fn]

theorem pay28_of (v : FVec Ideal S12288x32x192 .fp8e4m3) (h : Fin 32) (p : Fin 256) :
    k0_pay28 (F := Ideal) v (ix3 h n p) = if hp : p.val < 192 then v (ix3 n h ⟨p.val, hp⟩) else Ideal.ofBits .fp8e4m3 0x00#8 := by
  pointwise [k0_pay28]

theorem pay1_of (v : FVec Ideal S12288x2x192 .fp8e4m3) (h : Fin 2) (p : Fin 256) :
    k0_pay1 (F := Ideal) v (ix3 h n p) = if hp : p.val < 192 then v (ix3 n h ⟨p.val, hp⟩) else Ideal.ofBits .fp8e4m3 0x00#8 := by
  pointwise [k0_pay1]

theorem pay28_apply (h : Fin 32) (p : Fin 256) :
    k0_pay28 (F := Ideal) (k0_pay18 (k0_pay10 A.x A.nw A.w A.s) A.co A.si) (ix3 h n p) = headCode A n ⟨h.val, by omega⟩ p.val := by
  rw [pay28_of]
  simp only [pay18_apply, zero_code]
  rfl

theorem pay1_apply (h : Fin 2) (p : Fin 256) :
    k0_pay1 (F := Ideal) (k0_pay26 (k0_pay22 (qkv A) A.co A.si) (k0_pay23 (qkv A) A.co A.si)) (ix3 h n p) = headCode A n ⟨34 + h.val, by omega⟩ p.val := by
  rw [pay1_of]
  simp only [pay26_apply, zero_code]
  rfl

/-! ## The values, the scales, the gates -/

theorem pay30_of (y : FVec Ideal S12288x7424 .f32) (g : Fin 2) (d : Fin 128) :
    k0_pay30 (F := Ideal) (k0_pay12 y) (ix3 g n d) = y (ix2 n ⟨6528 + (g.val * 128 + d.val), by omega⟩) := by
  pointwise [k0_pay30, k0_pay12]

theorem pay27_of (y : FVec Ideal S12288x7424 .f32) (g : Fin 2) (d : Fin 128) :
    k0_pay27 (F := Ideal) (k0_pay13 y) (ix3 n g d) = y (ix2 n ⟨7168 + (g.val * 128 + d.val), by omega⟩) := by
  pointwise [k0_pay27, k0_pay13]

theorem pay2_of (v : FVec Ideal S12288x2x128 .f32) (g : Fin 2) (d : Fin 128) : k0_pay2 (F := Ideal) v (ix3 g n d) = v (ix3 n g d) := by
  pointwise [k0_pay2]

theorem pay3_of (v : FVec Ideal S12288x2x128 .f32) (b : Fin 4) (g : Fin 2) (s : Fin 8) (d : Fin 128) :
    k0_pay3 (F := Ideal) v (ix4 b g s d) = amax fun k : Fin 384 => v (ix3 ⟨b.val * 3072 + k.val * 8 + s.val, by omega⟩ g d) := by
  rw [show k0_pay3 (F := Ideal) v (ix4 b g s d) = _ by pointwise [k0_pay3]; rfl]
  exact fold_absf _

theorem pay4_of (xs : FVec Ideal S12288x1 .f32) (qs : FVec Ideal S12288x32x1 .f32) (ks : FVec Ideal S12288x2x1 .f32) (l : Fin 128) :
    k0_pay4 (F := Ideal) xs qs ks (ix2 n l) = if h : l.val < 32 then qs (ix3 n ⟨l.val, h⟩ 0) else if l.val = 32 then xs (ix2 n 0)
      else if h : l.val < 35 then ks (ix3 n ⟨l.val - 33, by omega⟩ 0) else (0 : EReal) := by
  rw [show k0_pay4 (F := Ideal) xs qs ks (ix2 n l) = _ by pointwise [k0_pay4]; rfl]
  by_cases h : l.val < 32
  · rw [dif_pos h, dif_pos h]
  · rw [dif_neg h, dif_neg h]
    by_cases h' : l.val = 32
    · rw [dif_pos (by omega), if_pos h', show (⟨l.val - 32, by omega⟩ : Fin 1) = 0 from Subsingleton.elim _ _]
    · rw [dif_neg (by omega), if_neg h']
      by_cases h'' : l.val < 35
      · rw [dif_pos (by omega), dif_pos h'', show (⟨l.val - 32 - 1, by omega⟩ : Fin 2) = ⟨l.val - 33, by omega⟩ from Fin.ext (by dsimp only; omega)]
      · rw [dif_neg (by omega), dif_neg h'']

theorem pay4_apply (l : Fin 128) :
    k0_pay4 (F := Ideal) (k0_pay7 A.x A.nw) (k0_pay17 (k0_pay10 A.x A.nw A.w A.s) A.co A.si)
      (k0_pay25 (k0_pay22 (qkv A) A.co A.si) (k0_pay23 (qkv A) A.co A.si)) (ix2 n l) = scaleLane A n l := by
  rw [pay4_of]
  unfold scaleLane
  by_cases h : l.val < 32
  · rw [dif_pos h, dif_pos h, pay17_apply]
  · rw [dif_neg h, dif_neg h, pay7_apply]
    by_cases h' : l.val = 32
    · rw [if_pos h', if_pos h']
    · rw [if_neg h', if_neg h']
      by_cases h'' : l.val < 35
      · rw [dif_pos h'', dif_pos h'', pay25_apply]
        congr 1
        exact Fin.ext (by dsimp only; omega)
      · rw [dif_neg h'', dif_neg h'']

theorem pay5_of (xn : FVec Ideal S12288x3584 .f32) (gw : FVec Ideal S3584x96 .f32) (gb : FVec Ideal S1x96 .f32) (l : Fin 96) :
    k0_pay5 (F := Ideal) xn gw gb (ix2 n l) = Ideal.logistic (∑ k : Fin 3584, xn (ix2 n k) * gw (ix2 k l) + gb (ix2 0 l)) := by
  rw [show k0_pay5 (F := Ideal) xn gw gb (ix2 n l) = _ by pointwise [k0_pay5]; rfl]

theorem pay5_apply (l : Fin 96) : k0_pay5 (F := Ideal) (k0_pay6 A.x A.nw) A.gw A.gb (ix2 n l) = gate A n l := by
  rw [pay5_of]
  simp only [pay6_apply]
  rfl

end Cert.ProjectRefIdeal.Hand

end
-- ==== Proof.ProjectRefValue.lean ====
/-
  THE PROJECTION REFERENCE'S VALUE. The reference is one call over the whole arrays: each output's only block is the array, and
  what the body stores in it is the array of ProjectSpec.lean of that name.
-/
module

public import proofs.«01_k».proof.Proof.Gen.ProjectRefIdeal.Frame
public import proofs.«01_k».proof.Proof.ProjectRefPay

@[expose] public section

set_option maxRecDepth 16384

noncomputable section

namespace Cert.ProjectRefIdeal.Hand

open Cert.ProjectRefIdeal Cert.ProjectRefIdeal.Gen Idealize.ShloMosaic Idealize.ShloMosaic.TcCoe Idealize.SL.Sem
open Cert.ProjectSpec

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## What the body leaves in each output, of the arguments' arrays -/

section
variable (A : Args)

theorem loads_of (x0 : Vec Ideal S12288x3584 .bf16) (x1 : Vec Ideal S1x3584 .f32) (x2 : Vec Ideal S3584x7424 .fp8e4m3) (x3 : Vec Ideal S1x7424 .f32)
    (x4 x5 : Vec Ideal S12288x96 .f32) (x6 : Vec Ideal S3584x96 .f32) (x7 : Vec Ideal S1x96 .f32) :
    View.ld x0 r0_0 = x0 ∧ View.ld x1 r0_1 = x1 ∧ View.ld x2 r0_2 = x2 ∧ View.ld x3 r0_3 = x3
    ∧ View.ld x4 r0_4 = x4 ∧ View.ld x5 r0_4 = x5 ∧ View.ld x6 r0_11 = x6 ∧ View.ld x7 r0_12 = x7 :=
  ⟨View.ld_unit_zero hz2 _ _, View.ld_unit_zero hz2 _ _, View.ld_unit_zero hz2 _ _, View.ld_unit_zero hz2 _ _,
    View.ld_unit_zero hz2 _ _, View.ld_unit_zero hz2 _ _, View.ld_unit_zero hz2 _ _, View.ld_unit_zero hz2 _ _⟩

/-- The columns, of the loaded blocks. -/
theorem loaded : k0_pay31 (F := Ideal) A.x A.nw A.w A.s A.co A.si A.gw A.gb = qkv A
    ∧ k0_pay32 (F := Ideal) A.x A.nw A.w A.s A.co A.si A.gw A.gb = k0_pay10 A.x A.nw A.w A.s
    ∧ k0_pay33 (F := Ideal) A.x A.nw A.w A.s A.co A.si A.gw A.gb = k0_pay22 (qkv A) A.co A.si
    ∧ k0_pay34 (F := Ideal) A.x A.nw A.w A.s A.co A.si A.gw A.gb = k0_pay23 (qkv A) A.co A.si
    ∧ k0_pay35 (F := Ideal) A.x A.nw A.w A.s A.co A.si A.gw A.gb = k0_pay27 (k0_pay13 (qkv A)) := by
  obtain ⟨h0, h1, h2, h3, h4, h5, h6, h7⟩ := loads_of A.x A.nw A.w A.s A.co A.si A.gw A.gb
  unfold k0_pay33 k0_pay34 k0_pay35 k0_pay32 k0_pay31
  rw [h0, h1, h2, h3, h4, h5]
  exact ⟨rfl, rfl, rfl, rfl, rfl⟩

theorem out8_eq : out0_8 (F := Ideal) A.x A.nw A.w A.s A.co A.si A.gw A.gb = xCodes A := by
  obtain ⟨h0, h1, h2, h3, h4, h5, h6, h7⟩ := loads_of A.x A.nw A.w A.s A.co A.si A.gw A.gb
  obtain ⟨g1, g2, g3, g4, g5⟩ := loaded A
  unfold out0_8
  rw [View.canon_unit_zero hz2]
  simp only [h0, h1, h2, h3, h4, h5, h6, h7, g1, g2, g3, g4, g5]
  funext j
  obtain ⟨r, l, rfl⟩ : ∃ (r : Fin 12288) (l : Fin 3584), j = ix2 r l := ⟨j 0, j 1, eq_ix2 j⟩
  exact (pay8_apply A r l)

theorem out9_eq : out0_9 (F := Ideal) A.x A.nw A.w A.s A.co A.si A.gw A.gb = qCodes A := by
  obtain ⟨h0, h1, h2, h3, h4, h5, h6, h7⟩ := loads_of A.x A.nw A.w A.s A.co A.si A.gw A.gb
  obtain ⟨g1, g2, g3, g4, g5⟩ := loaded A
  unfold out0_9
  rw [View.canon_unit_zero hz3]
  simp only [h0, h1, h2, h3, h4, h5, h6, h7, g1, g2, g3, g4, g5]
  funext j
  obtain ⟨h, n, p, rfl⟩ : ∃ (h : Fin 32) (n : Fin 12288) (p : Fin 256), j = ix3 h n p := ⟨j 0, j 1, j 2, eq_ix3 j⟩
  exact (pay28_apply A n h p)

theorem out10_eq : out0_10 (F := Ideal) A.x A.nw A.w A.s A.co A.si A.gw A.gb = kCmp A := by
  obtain ⟨h0, h1, h2, h3, h4, h5, h6, h7⟩ := loads_of A.x A.nw A.w A.s A.co A.si A.gw A.gb
  obtain ⟨g1, g2, g3, g4, g5⟩ := loaded A
  unfold out0_10
  rw [View.canon_unit_zero hz3]
  simp only [h0, h1, h2, h3, h4, h5, h6, h7, g1, g2, g3, g4, g5]
  funext j
  obtain ⟨h, n, p, rfl⟩ : ∃ (h : Fin 2) (n : Fin 12288) (p : Fin 192), j = ix3 h n p := ⟨j 0, j 1, j 2, eq_ix3 j⟩
  exact (pay29_apply A n h p)

theorem out11_eq : out0_11 (F := Ideal) A.x A.nw A.w A.s A.co A.si A.gw A.gb = vCmp A := by
  obtain ⟨h0, h1, h2, h3, h4, h5, h6, h7⟩ := loads_of A.x A.nw A.w A.s A.co A.si A.gw A.gb
  obtain ⟨g1, g2, g3, g4, g5⟩ := loaded A
  unfold out0_11
  rw [View.canon_unit_zero hz3]
  simp only [h0, h1, h2, h3, h4, h5, h6, h7, g1, g2, g3, g4, g5]
  funext j
  obtain ⟨g, n, d, rfl⟩ : ∃ (g : Fin 2) (n : Fin 12288) (d : Fin 128), j = ix3 g n d := ⟨j 0, j 1, j 2, eq_ix3 j⟩
  exact ((pay30_of n (qkv A) g d).trans ((qkv_apply A n _).trans (congrArg (column A n) (Fin.ext (show 6528 + (g.val * 128 + d.val) = 6528 + 128 * g.val + d.val by omega)))))

theorem out12_eq : out0_12 (F := Ideal) A.x A.nw A.w A.s A.co A.si A.gw A.gb = kCodes A := by
  obtain ⟨h0, h1, h2, h3, h4, h5, h6, h7⟩ := loads_of A.x A.nw A.w A.s A.co A.si A.gw A.gb
  obtain ⟨g1, g2, g3, g4, g5⟩ := loaded A
  unfold out0_12
  rw [View.canon_unit_zero hz3]
  simp only [h0, h1, h2, h3, h4, h5, h6, h7, g1, g2, g3, g4, g5]
  funext j
  obtain ⟨h, n, p, rfl⟩ : ∃ (h : Fin 2) (n : Fin 12288) (p : Fin 256), j = ix3 h n p := ⟨j 0, j 1, j 2, eq_ix3 j⟩
  exact (pay1_apply A n h p)

theorem vsw_apply (n : Fin 12288) (g : Fin 2) (d : Fin 128) : k0_pay27 (F := Ideal) (k0_pay13 (qkv A)) (ix3 n g d) = vSw A (ix3 g n d) :=
  (pay27_of n (qkv A) g d).trans ((qkv_apply A n _).trans (congrArg (column A n) (Fin.ext (show 7168 + (g.val * 128 + d.val) = 7168 + 128 * g.val + d.val by omega))))

theorem out13_eq : out0_13 (F := Ideal) A.x A.nw A.w A.s A.co A.si A.gw A.gb = vSw A := by
  obtain ⟨h0, h1, h2, h3, h4, h5, h6, h7⟩ := loads_of A.x A.nw A.w A.s A.co A.si A.gw A.gb
  obtain ⟨g1, g2, g3, g4, g5⟩ := loaded A
  unfold out0_13
  rw [View.canon_unit_zero hz3]
  simp only [h0, h1, h2, h3, h4, h5, h6, h7, g1, g2, g3, g4, g5]
  funext j
  obtain ⟨g, n, d, rfl⟩ : ∃ (g : Fin 2) (n : Fin 12288) (d : Fin 128), j = ix3 g n d := ⟨j 0, j 1, j 2, eq_ix3 j⟩
  exact ((pay2_of n _ g d).trans (vsw_apply A n g d))

theorem out14_eq : out0_14 (F := Ideal) A.x A.nw A.w A.s A.co A.si A.gw A.gb = vMax A := by
  obtain ⟨h0, h1, h2, h3, h4, h5, h6, h7⟩ := loads_of A.x A.nw A.w A.s A.co A.si A.gw A.gb
  obtain ⟨g1, g2, g3, g4, g5⟩ := loaded A
  unfold out0_14
  rw [View.canon_unit_zero hz4]
  simp only [h0, h1, h2, h3, h4, h5, h6, h7, g1, g2, g3, g4, g5]
  funext j
  obtain ⟨b, g, s, d, rfl⟩ : ∃ (b : Fin 4) (g : Fin 2) (s : Fin 8) (d : Fin 128), j = ix4 b g s d := ⟨j 0, j 1, j 2, j 3, eq_ix4 j⟩
  exact ((pay3_of _ b g s d).trans (congrArg Cert.Quant.amax (funext fun k => vsw_apply A _ g d)))

theorem out15_eq : out0_15 (F := Ideal) A.x A.nw A.w A.s A.co A.si A.gw A.gb = scales A := by
  obtain ⟨h0, h1, h2, h3, h4, h5, h6, h7⟩ := loads_of A.x A.nw A.w A.s A.co A.si A.gw A.gb
  obtain ⟨g1, g2, g3, g4, g5⟩ := loaded A
  unfold out0_15
  rw [View.canon_unit_zero hz2]
  simp only [h0, h1, h2, h3, h4, h5, h6, h7, g1, g2, g3, g4, g5]
  funext j
  obtain ⟨n, l, rfl⟩ : ∃ (n : Fin 12288) (l : Fin 128), j = ix2 n l := ⟨j 0, j 1, eq_ix2 j⟩
  exact (pay4_apply A n l)

theorem out16_eq : out0_16 (F := Ideal) A.x A.nw A.w A.s A.co A.si A.gw A.gb = gates A := by
  obtain ⟨h0, h1, h2, h3, h4, h5, h6, h7⟩ := loads_of A.x A.nw A.w A.s A.co A.si A.gw A.gb
  obtain ⟨g1, g2, g3, g4, g5⟩ := loaded A
  unfold out0_16
  rw [View.canon_unit_zero hz2]
  simp only [h0, h1, h2, h3, h4, h5, h6, h7, g1, g2, g3, g4, g5]
  funext j
  obtain ⟨n, l, rfl⟩ : ∃ (n : Fin 12288) (l : Fin 96), j = ix2 n l := ⟨j 0, j 1, eq_ix2 j⟩
  exact (pay5_apply A n l)

end

/-! ## The blocks -/

variable (m : (ℓ : Loc nD τ sig) → Buf (Elt Ideal) ℓ) (ρ : Dev nD → PrngReg)

theorem off0 (t : Fin cfg0.N) : (fun a => win0_0.index t a * main_arg0.ty.shape.size a) = fun _ => 0 :=
  funext fun a => (congrArg (· * _) ((by decide +kernel : ∀ (t : Fin grid0.N) (a : Fin 2), win0_0.index t a = 0) t a)).trans (Nat.zero_mul _)
/-- Window 0's one block is its array. -/
theorem blk0 (c : Dev nD) (t : Fin cfg0.N) : iblk m c 0 t = V m c main_arg0 :=
  Memref.read_access_unit_zero (Elt Ideal) main_arg0 (off0 t) (fun a => by rw [congrFun (off0 t) a]; simp) (V m c main_arg0)
theorem off1 (t : Fin cfg0.N) : (fun a => win0_1.index t a * main_v2.ty.shape.size a) = fun _ => 0 :=
  funext fun a => (congrArg (· * _) ((by decide +kernel : ∀ (t : Fin grid0.N) (a : Fin 2), win0_1.index t a = 0) t a)).trans (Nat.zero_mul _)
/-- Window 1's one block is its array. -/
theorem blk1 (c : Dev nD) (t : Fin cfg0.N) : iblk m c 1 t = V m c main_v2 :=
  Memref.read_access_unit_zero (Elt Ideal) main_v2 (off1 t) (fun a => by rw [congrFun (off1 t) a]; simp) (V m c main_v2)
theorem off2 (t : Fin cfg0.N) : (fun a => win0_2.index t a * main_arg2.ty.shape.size a) = fun _ => 0 :=
  funext fun a => (congrArg (· * _) ((by decide +kernel : ∀ (t : Fin grid0.N) (a : Fin 2), win0_2.index t a = 0) t a)).trans (Nat.zero_mul _)
/-- Window 2's one block is its array. -/
theorem blk2 (c : Dev nD) (t : Fin cfg0.N) : iblk m c 2 t = V m c main_arg2 :=
  Memref.read_access_unit_zero (Elt Ideal) main_arg2 (off2 t) (fun a => by rw [congrFun (off2 t) a]; simp) (V m c main_arg2)
theorem off3 (t : Fin cfg0.N) : (fun a => win0_3.index t a * main_v3.ty.shape.size a) = fun _ => 0 :=
  funext fun a => (congrArg (· * _) ((by decide +kernel : ∀ (t : Fin grid0.N) (a : Fin 2), win0_3.index t a = 0) t a)).trans (Nat.zero_mul _)
/-- Window 3's one block is its array. -/
theorem blk3 (c : Dev nD) (t : Fin cfg0.N) : iblk m c 3 t = V m c main_v3 :=
  Memref.read_access_unit_zero (Elt Ideal) main_v3 (off3 t) (fun a => by rw [congrFun (off3 t) a]; simp) (V m c main_v3)
theorem off4 (t : Fin cfg0.N) : (fun a => win0_4.index t a * main_arg4.ty.shape.size a) = fun _ => 0 :=
  funext fun a => (congrArg (· * _) ((by decide +kernel : ∀ (t : Fin grid0.N) (a : Fin 2), win0_4.index t a = 0) t a)).trans (Nat.zero_mul _)
/-- Window 4's one block is its array. -/
theorem blk4 (c : Dev nD) (t : Fin cfg0.N) : iblk m c 4 t = V m c main_arg4 :=
  Memref.read_access_unit_zero (Elt Ideal) main_arg4 (off4 t) (fun a => by rw [congrFun (off4 t) a]; simp) (V m c main_arg4)
theorem off5 (t : Fin cfg0.N) : (fun a => win0_5.index t a * main_arg5.ty.shape.size a) = fun _ => 0 :=
  funext fun a => (congrArg (· * _) ((by decide +kernel : ∀ (t : Fin grid0.N) (a : Fin 2), win0_5.index t a = 0) t a)).trans (Nat.zero_mul _)
/-- Window 5's one block is its array. -/
theorem blk5 (c : Dev nD) (t : Fin cfg0.N) : iblk m c 5 t = V m c main_arg5 :=
  Memref.read_access_unit_zero (Elt Ideal) main_arg5 (off5 t) (fun a => by rw [congrFun (off5 t) a]; simp) (V m c main_arg5)
theorem off6 (t : Fin cfg0.N) : (fun a => win0_6.index t a * main_v1.ty.shape.size a) = fun _ => 0 :=
  funext fun a => (congrArg (· * _) ((by decide +kernel : ∀ (t : Fin grid0.N) (a : Fin 2), win0_6.index t a = 0) t a)).trans (Nat.zero_mul _)
/-- Window 6's one block is its array. -/
theorem blk6 (c : Dev nD) (t : Fin cfg0.N) : iblk m c 6 t = V m c main_v1 :=
  Memref.read_access_unit_zero (Elt Ideal) main_v1 (off6 t) (fun a => by rw [congrFun (off6 t) a]; simp) (V m c main_v1)
theorem off7 (t : Fin cfg0.N) : (fun a => win0_7.index t a * main_v5.ty.shape.size a) = fun _ => 0 :=
  funext fun a => (congrArg (· * _) ((by decide +kernel : ∀ (t : Fin grid0.N) (a : Fin 2), win0_7.index t a = 0) t a)).trans (Nat.zero_mul _)
/-- Window 7's one block is its array. -/
theorem blk7 (c : Dev nD) (t : Fin cfg0.N) : iblk m c 7 t = V m c main_v5 :=
  Memref.read_access_unit_zero (Elt Ideal) main_v5 (off7 t) (fun a => by rw [congrFun (off7 t) a]; simp) (V m c main_v5)

/-- The host's arrays. -/
theorem V_nw (c : Dev nD) : V m c main_v2 = shapeCast S1x3584 (m ((c : Thread nD τ).loc main_arg1)) shapeCasts_S3584_S1x3584 := by
  unfold V hostOps0
  after_results
  rfl
theorem V_s (c : Dev nD) : V m c main_v3 = shapeCast S1x7424 (m ((c : Thread nD τ).loc main_arg3)) shapeCasts_S7424_S1x7424 := by
  unfold V hostOps0
  after_results
  rfl
theorem V_gw (c : Dev nD) : V m c main_v1 = shapeCast S3584x96 (transpose S3584x3x32 [0, 2, 1] (m ((c : Thread nD τ).loc main_arg6)) transposes_S3584x32x3_S3584x3x32_0_2_1) shapeCasts_S3584x3x32_S3584x96 := by
  unfold V hostOps0
  after_results
  rfl
theorem V_gb (c : Dev nD) : V m c main_v5 = shapeCast S1x96 (transpose S3x32 [1, 0] (m ((c : Thread nD τ).loc main_arg7)) transposes_S32x3_S3x32_1_0) shapeCasts_S3x32_S1x96 := by
  unfold V hostOps0
  after_results
  rfl

/-- The arguments as launched. -/
def args (c : Dev nD) : Args where
  x := m ((c : Thread nD τ).loc main_arg0)
  nw := shapeCast S1x3584 (m ((c : Thread nD τ).loc main_arg1)) shapeCasts_S3584_S1x3584
  w := m ((c : Thread nD τ).loc main_arg2)
  s := shapeCast S1x7424 (m ((c : Thread nD τ).loc main_arg3)) shapeCasts_S7424_S1x7424
  co := m ((c : Thread nD τ).loc main_arg4)
  si := m ((c : Thread nD τ).loc main_arg5)
  gw := shapeCast S3584x96 (transpose S3584x3x32 [0, 2, 1] (m ((c : Thread nD τ).loc main_arg6)) transposes_S3584x32x3_S3584x3x32_0_2_1) shapeCasts_S3584x3x32_S3584x96
  gb := shapeCast S1x96 (transpose S3x32 [1, 0] (m ((c : Thread nD τ).loc main_arg7)) transposes_S32x3_S3x32_1_0) shapeCasts_S3x32_S1x96

theorem blks (c : Dev nD) (t : Fin cfg0.N) : iblk m c 0 t = (args m c).x ∧ iblk m c 1 t = (args m c).nw ∧ iblk m c 2 t = (args m c).w
    ∧ iblk m c 3 t = (args m c).s ∧ iblk m c 4 t = (args m c).co ∧ iblk m c 5 t = (args m c).si ∧ iblk m c 6 t = (args m c).gw
    ∧ iblk m c 7 t = (args m c).gb :=
  ⟨(blk0 m c t).trans (V_main_arg0 m c), (blk1 m c t).trans (V_nw m c), (blk2 m c t).trans (V_main_arg2 m c), (blk3 m c t).trans (V_s m c),
    (blk4 m c t).trans (V_main_arg4 m c), (blk5 m c t).trans (V_main_arg5 m c), (blk6 m c t).trans (V_gw m c), (blk7 m c t).trans (V_gb m c)⟩

/-! ## The final arrays -/

/-- The one point. -/
def pt0 : Fin cfg0.N := ⟨0, by decide⟩

theorem off8 (t : Fin cfg0.N) : (fun a => win0_8.index t a * main_v6_0.ty.shape.size a) = fun _ => 0 :=
  funext fun a => (congrArg (· * _) ((by decide +kernel : ∀ (t : Fin grid0.N) (a : Fin 2), win0_8.index t a = 0) t a)).trans (Nat.zero_mul _)
theorem final8 (c : Dev nD) : (dats m 0 c).arrAt 8 cfg0.N = xCodes (args m c) :=
  (dats m 0 c).arrAt_eq_of_cover 8 (xCodes (args m c) : Buf (Elt Ideal) ((c : Thread nD τ).loc main_v6_0)) (fun t _ => by
    obtain ⟨h0, h1, h2, h3, h4, h5, h6, h7⟩ := blks m c t
    show (cfg0.win 8).cut (grid0.coords t) ((dats m 0 c).after 8 t) = _
    rw [after0_8, h0, h1, h2, h3, h4, h5, h6, h7, out8_eq]
    exact (Memref.read_access_unit_zero (Elt Ideal) main_v6_0 (off8 t) (fun a => by rw [congrFun (off8 t) a]; simp) _).symm) fun i =>
    ⟨pt0, (by decide +kernel : ∀ t : Fin grid0.N, win0_8.flush t = true) pt0, by
      show i ∈ ((View.whole main_v6_0).slice (win0_8.rect pt0)).set
      rw [View.set_slice_whole, Rect.mem_set_unit]
      intro a
      have h := congrFun (off8 pt0) a
      have hi := (i a).isLt
      show win0_8.index pt0 a * main_v6_0.ty.shape.size a ≤ (i a : Nat) ∧ (i a : Nat) < win0_8.index pt0 a * main_v6_0.ty.shape.size a + main_v6_0.ty.shape.size a
      rw [h]
      exact ⟨Nat.zero_le _, by rw [Nat.zero_add]; exact hi⟩⟩

theorem off9 (t : Fin cfg0.N) : (fun a => win0_9.index t a * main_v6_1.ty.shape.size a) = fun _ => 0 :=
  funext fun a => (congrArg (· * _) ((by decide +kernel : ∀ (t : Fin grid0.N) (a : Fin 3), win0_9.index t a = 0) t a)).trans (Nat.zero_mul _)
theorem final9 (c : Dev nD) : (dats m 0 c).arrAt 9 cfg0.N = qCodes (args m c) :=
  (dats m 0 c).arrAt_eq_of_cover 9 (qCodes (args m c) : Buf (Elt Ideal) ((c : Thread nD τ).loc main_v6_1)) (fun t _ => by
    obtain ⟨h0, h1, h2, h3, h4, h5, h6, h7⟩ := blks m c t
    show (cfg0.win 9).cut (grid0.coords t) ((dats m 0 c).after 9 t) = _
    rw [after0_9, h0, h1, h2, h3, h4, h5, h6, h7, out9_eq]
    exact (Memref.read_access_unit_zero (Elt Ideal) main_v6_1 (off9 t) (fun a => by rw [congrFun (off9 t) a]; simp) _).symm) fun i =>
    ⟨pt0, (by decide +kernel : ∀ t : Fin grid0.N, win0_9.flush t = true) pt0, by
      show i ∈ ((View.whole main_v6_1).slice (win0_9.rect pt0)).set
      rw [View.set_slice_whole, Rect.mem_set_unit]
      intro a
      have h := congrFun (off9 pt0) a
      have hi := (i a).isLt
      show win0_9.index pt0 a * main_v6_1.ty.shape.size a ≤ (i a : Nat) ∧ (i a : Nat) < win0_9.index pt0 a * main_v6_1.ty.shape.size a + main_v6_1.ty.shape.size a
      rw [h]
      exact ⟨Nat.zero_le _, by rw [Nat.zero_add]; exact hi⟩⟩

theorem off10 (t : Fin cfg0.N) : (fun a => win0_10.index t a * main_v6_2.ty.shape.size a) = fun _ => 0 :=
  funext fun a => (congrArg (· * _) ((by decide +kernel : ∀ (t : Fin grid0.N) (a : Fin 3), win0_10.index t a = 0) t a)).trans (Nat.zero_mul _)
theorem final10 (c : Dev nD) : (dats m 0 c).arrAt 10 cfg0.N = kCmp (args m c) :=
  (dats m 0 c).arrAt_eq_of_cover 10 (kCmp (args m c) : Buf (Elt Ideal) ((c : Thread nD τ).loc main_v6_2)) (fun t _ => by
    obtain ⟨h0, h1, h2, h3, h4, h5, h6, h7⟩ := blks m c t
    show (cfg0.win 10).cut (grid0.coords t) ((dats m 0 c).after 10 t) = _
    rw [after0_10, h0, h1, h2, h3, h4, h5, h6, h7, out10_eq]
    exact (Memref.read_access_unit_zero (Elt Ideal) main_v6_2 (off10 t) (fun a => by rw [congrFun (off10 t) a]; simp) _).symm) fun i =>
    ⟨pt0, (by decide +kernel : ∀ t : Fin grid0.N, win0_10.flush t = true) pt0, by
      show i ∈ ((View.whole main_v6_2).slice (win0_10.rect pt0)).set
      rw [View.set_slice_whole, Rect.mem_set_unit]
      intro a
      have h := congrFun (off10 pt0) a
      have hi := (i a).isLt
      show win0_10.index pt0 a * main_v6_2.ty.shape.size a ≤ (i a : Nat) ∧ (i a : Nat) < win0_10.index pt0 a * main_v6_2.ty.shape.size a + main_v6_2.ty.shape.size a
      rw [h]
      exact ⟨Nat.zero_le _, by rw [Nat.zero_add]; exact hi⟩⟩

theorem off11 (t : Fin cfg0.N) : (fun a => win0_11.index t a * main_v6_3.ty.shape.size a) = fun _ => 0 :=
  funext fun a => (congrArg (· * _) ((by decide +kernel : ∀ (t : Fin grid0.N) (a : Fin 3), win0_11.index t a = 0) t a)).trans (Nat.zero_mul _)
theorem final11 (c : Dev nD) : (dats m 0 c).arrAt 11 cfg0.N = vCmp (args m c) :=
  (dats m 0 c).arrAt_eq_of_cover 11 (vCmp (args m c) : Buf (Elt Ideal) ((c : Thread nD τ).loc main_v6_3)) (fun t _ => by
    obtain ⟨h0, h1, h2, h3, h4, h5, h6, h7⟩ := blks m c t
    show (cfg0.win 11).cut (grid0.coords t) ((dats m 0 c).after 11 t) = _
    rw [after0_11, h0, h1, h2, h3, h4, h5, h6, h7, out11_eq]
    exact (Memref.read_access_unit_zero (Elt Ideal) main_v6_3 (off11 t) (fun a => by rw [congrFun (off11 t) a]; simp) _).symm) fun i =>
    ⟨pt0, (by decide +kernel : ∀ t : Fin grid0.N, win0_11.flush t = true) pt0, by
      show i ∈ ((View.whole main_v6_3).slice (win0_11.rect pt0)).set
      rw [View.set_slice_whole, Rect.mem_set_unit]
      intro a
      have h := congrFun (off11 pt0) a
      have hi := (i a).isLt
      show win0_11.index pt0 a * main_v6_3.ty.shape.size a ≤ (i a : Nat) ∧ (i a : Nat) < win0_11.index pt0 a * main_v6_3.ty.shape.size a + main_v6_3.ty.shape.size a
      rw [h]
      exact ⟨Nat.zero_le _, by rw [Nat.zero_add]; exact hi⟩⟩

theorem off12 (t : Fin cfg0.N) : (fun a => win0_12.index t a * main_v6_4.ty.shape.size a) = fun _ => 0 :=
  funext fun a => (congrArg (· * _) ((by decide +kernel : ∀ (t : Fin grid0.N) (a : Fin 3), win0_12.index t a = 0) t a)).trans (Nat.zero_mul _)
theorem final12 (c : Dev nD) : (dats m 0 c).arrAt 12 cfg0.N = kCodes (args m c) :=
  (dats m 0 c).arrAt_eq_of_cover 12 (kCodes (args m c) : Buf (Elt Ideal) ((c : Thread nD τ).loc main_v6_4)) (fun t _ => by
    obtain ⟨h0, h1, h2, h3, h4, h5, h6, h7⟩ := blks m c t
    show (cfg0.win 12).cut (grid0.coords t) ((dats m 0 c).after 12 t) = _
    rw [after0_12, h0, h1, h2, h3, h4, h5, h6, h7, out12_eq]
    exact (Memref.read_access_unit_zero (Elt Ideal) main_v6_4 (off12 t) (fun a => by rw [congrFun (off12 t) a]; simp) _).symm) fun i =>
    ⟨pt0, (by decide +kernel : ∀ t : Fin grid0.N, win0_12.flush t = true) pt0, by
      show i ∈ ((View.whole main_v6_4).slice (win0_12.rect pt0)).set
      rw [View.set_slice_whole, Rect.mem_set_unit]
      intro a
      have h := congrFun (off12 pt0) a
      have hi := (i a).isLt
      show win0_12.index pt0 a * main_v6_4.ty.shape.size a ≤ (i a : Nat) ∧ (i a : Nat) < win0_12.index pt0 a * main_v6_4.ty.shape.size a + main_v6_4.ty.shape.size a
      rw [h]
      exact ⟨Nat.zero_le _, by rw [Nat.zero_add]; exact hi⟩⟩

theorem off13 (t : Fin cfg0.N) : (fun a => win0_13.index t a * main_v6_5.ty.shape.size a) = fun _ => 0 :=
  funext fun a => (congrArg (· * _) ((by decide +kernel : ∀ (t : Fin grid0.N) (a : Fin 3), win0_13.index t a = 0) t a)).trans (Nat.zero_mul _)
theorem final13 (c : Dev nD) : (dats m 0 c).arrAt 13 cfg0.N = vSw (args m c) :=
  (dats m 0 c).arrAt_eq_of_cover 13 (vSw (args m c) : Buf (Elt Ideal) ((c : Thread nD τ).loc main_v6_5)) (fun t _ => by
    obtain ⟨h0, h1, h2, h3, h4, h5, h6, h7⟩ := blks m c t
    show (cfg0.win 13).cut (grid0.coords t) ((dats m 0 c).after 13 t) = _
    rw [after0_13, h0, h1, h2, h3, h4, h5, h6, h7, out13_eq]
    exact (Memref.read_access_unit_zero (Elt Ideal) main_v6_5 (off13 t) (fun a => by rw [congrFun (off13 t) a]; simp) _).symm) fun i =>
    ⟨pt0, (by decide +kernel : ∀ t : Fin grid0.N, win0_13.flush t = true) pt0, by
      show i ∈ ((View.whole main_v6_5).slice (win0_13.rect pt0)).set
      rw [View.set_slice_whole, Rect.mem_set_unit]
      intro a
      have h := congrFun (off13 pt0) a
      have hi := (i a).isLt
      show win0_13.index pt0 a * main_v6_5.ty.shape.size a ≤ (i a : Nat) ∧ (i a : Nat) < win0_13.index pt0 a * main_v6_5.ty.shape.size a + main_v6_5.ty.shape.size a
      rw [h]
      exact ⟨Nat.zero_le _, by rw [Nat.zero_add]; exact hi⟩⟩

theorem off14 (t : Fin cfg0.N) : (fun a => win0_14.index t a * main_v6_6.ty.shape.size a) = fun _ => 0 :=
  funext fun a => (congrArg (· * _) ((by decide +kernel : ∀ (t : Fin grid0.N) (a : Fin 4), win0_14.index t a = 0) t a)).trans (Nat.zero_mul _)
theorem final14 (c : Dev nD) : (dats m 0 c).arrAt 14 cfg0.N = vMax (args m c) :=
  (dats m 0 c).arrAt_eq_of_cover 14 (vMax (args m c) : Buf (Elt Ideal) ((c : Thread nD τ).loc main_v6_6)) (fun t _ => by
    obtain ⟨h0, h1, h2, h3, h4, h5, h6, h7⟩ := blks m c t
    show (cfg0.win 14).cut (grid0.coords t) ((dats m 0 c).after 14 t) = _
    rw [after0_14, h0, h1, h2, h3, h4, h5, h6, h7, out14_eq]
    exact (Memref.read_access_unit_zero (Elt Ideal) main_v6_6 (off14 t) (fun a => by rw [congrFun (off14 t) a]; simp) _).symm) fun i =>
    ⟨pt0, (by decide +kernel : ∀ t : Fin grid0.N, win0_14.flush t = true) pt0, by
      show i ∈ ((View.whole main_v6_6).slice (win0_14.rect pt0)).set
      rw [View.set_slice_whole, Rect.mem_set_unit]
      intro a
      have h := congrFun (off14 pt0) a
      have hi := (i a).isLt
      show win0_14.index pt0 a * main_v6_6.ty.shape.size a ≤ (i a : Nat) ∧ (i a : Nat) < win0_14.index pt0 a * main_v6_6.ty.shape.size a + main_v6_6.ty.shape.size a
      rw [h]
      exact ⟨Nat.zero_le _, by rw [Nat.zero_add]; exact hi⟩⟩

theorem off15 (t : Fin cfg0.N) : (fun a => win0_15.index t a * main_v6_7.ty.shape.size a) = fun _ => 0 :=
  funext fun a => (congrArg (· * _) ((by decide +kernel : ∀ (t : Fin grid0.N) (a : Fin 2), win0_15.index t a = 0) t a)).trans (Nat.zero_mul _)
theorem final15 (c : Dev nD) : (dats m 0 c).arrAt 15 cfg0.N = scales (args m c) :=
  (dats m 0 c).arrAt_eq_of_cover 15 (scales (args m c) : Buf (Elt Ideal) ((c : Thread nD τ).loc main_v6_7)) (fun t _ => by
    obtain ⟨h0, h1, h2, h3, h4, h5, h6, h7⟩ := blks m c t
    show (cfg0.win 15).cut (grid0.coords t) ((dats m 0 c).after 15 t) = _
    rw [after0_15, h0, h1, h2, h3, h4, h5, h6, h7, out15_eq]
    exact (Memref.read_access_unit_zero (Elt Ideal) main_v6_7 (off15 t) (fun a => by rw [congrFun (off15 t) a]; simp) _).symm) fun i =>
    ⟨pt0, (by decide +kernel : ∀ t : Fin grid0.N, win0_15.flush t = true) pt0, by
      show i ∈ ((View.whole main_v6_7).slice (win0_15.rect pt0)).set
      rw [View.set_slice_whole, Rect.mem_set_unit]
      intro a
      have h := congrFun (off15 pt0) a
      have hi := (i a).isLt
      show win0_15.index pt0 a * main_v6_7.ty.shape.size a ≤ (i a : Nat) ∧ (i a : Nat) < win0_15.index pt0 a * main_v6_7.ty.shape.size a + main_v6_7.ty.shape.size a
      rw [h]
      exact ⟨Nat.zero_le _, by rw [Nat.zero_add]; exact hi⟩⟩

theorem off16 (t : Fin cfg0.N) : (fun a => win0_16.index t a * main_v6_8.ty.shape.size a) = fun _ => 0 :=
  funext fun a => (congrArg (· * _) ((by decide +kernel : ∀ (t : Fin grid0.N) (a : Fin 2), win0_16.index t a = 0) t a)).trans (Nat.zero_mul _)
theorem final16 (c : Dev nD) : (dats m 0 c).arrAt 16 cfg0.N = gates (args m c) :=
  (dats m 0 c).arrAt_eq_of_cover 16 (gates (args m c) : Buf (Elt Ideal) ((c : Thread nD τ).loc main_v6_8)) (fun t _ => by
    obtain ⟨h0, h1, h2, h3, h4, h5, h6, h7⟩ := blks m c t
    show (cfg0.win 16).cut (grid0.coords t) ((dats m 0 c).after 16 t) = _
    rw [after0_16, h0, h1, h2, h3, h4, h5, h6, h7, out16_eq]
    exact (Memref.read_access_unit_zero (Elt Ideal) main_v6_8 (off16 t) (fun a => by rw [congrFun (off16 t) a]; simp) _).symm) fun i =>
    ⟨pt0, (by decide +kernel : ∀ t : Fin grid0.N, win0_16.flush t = true) pt0, by
      show i ∈ ((View.whole main_v6_8).slice (win0_16.rect pt0)).set
      rw [View.set_slice_whole, Rect.mem_set_unit]
      intro a
      have h := congrFun (off16 pt0) a
      have hi := (i a).isLt
      show win0_16.index pt0 a * main_v6_8.ty.shape.size a ≤ (i a : Nat) ∧ (i a : Nat) < win0_16.index pt0 a * main_v6_8.ty.shape.size a + main_v6_8.ty.shape.size a
      rw [h]
      exact ⟨Nat.zero_le _, by rw [Nat.zero_add]; exact hi⟩⟩

/-- The run: the nine results, the arguments unchanged. -/
theorem run : θ_run defs (onTc (τ := τ) (main (F := Ideal))) ⟨m, fun _ => 0, ρ⟩ fun r => ∀ c : Dev nD,
      r.2.mem ((c : Thread nD τ).loc main_v6_0) = xCodes (args m c)
      ∧ r.2.mem ((c : Thread nD τ).loc main_v6_1) = qCodes (args m c)
      ∧ r.2.mem ((c : Thread nD τ).loc main_v6_2) = kCmp (args m c)
      ∧ r.2.mem ((c : Thread nD τ).loc main_v6_3) = vCmp (args m c)
      ∧ r.2.mem ((c : Thread nD τ).loc main_v6_4) = kCodes (args m c)
      ∧ r.2.mem ((c : Thread nD τ).loc main_v6_5) = vSw (args m c)
      ∧ r.2.mem ((c : Thread nD τ).loc main_v6_6) = vMax (args m c)
      ∧ r.2.mem ((c : Thread nD τ).loc main_v6_7) = scales (args m c)
      ∧ r.2.mem ((c : Thread nD τ).loc main_v6_8) = gates (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ⟨?_, ?_, ?_, ?_, ?_, ?_, ?_, ?_, ?_, ?_⟩) (θ_run_and (run_main m ρ) (unchanged m ρ))
  · exact ((h.1 c).1 8).trans (final8 m c)
  · exact ((h.1 c).1 9).trans (final9 m c)
  · exact ((h.1 c).1 10).trans (final10 m c)
  · exact ((h.1 c).1 11).trans (final11 m c)
  · exact ((h.1 c).1 12).trans (final12 m c)
  · exact ((h.1 c).1 13).trans (final13 m c)
  · exact ((h.1 c).1 14).trans (final14 m c)
  · exact ((h.1 c).1 15).trans (final15 m c)
  · exact ((h.1 c).1 16).trans (final16 m c)
  · exact h.2 c

end Cert.ProjectRefIdeal.Hand

end
-- ==== Proof.ProjectClaim.lean ====
/-
  THE PROJECTION'S CLAIM: the tiled kernel and the reference, run from the same arguments, both end with the nine arrays of them.
-/
module

public import proofs.«01_k».proof.Defs
public import proofs.«01_k».proof.Proof.ProjectValue
public import proofs.«01_k».proof.Proof.ProjectRefValue

@[expose] public section

noncomputable section

namespace Cert.ProjectClaim

open Idealize.ShloMosaic Idealize.ShloMosaic.TcCoe Idealize.SL.Sem Cert.ProjectSpec

/-- Over the extended reals the projection kernel computes its reference's results. -/
theorem algebraic : algebraic_ProjectIdeal_ProjectRefIdeal (hProjectIdeal := Cert.ProjectIdeal.Gen.facts) (hProjectRefIdeal := Cert.ProjectRefIdeal.Gen.facts) := by
  intro m g m' g' _ hargs
  refine ⟨fun c => xCodes (ProjectIdeal.Hand.args m c), fun c => qCodes (ProjectIdeal.Hand.args m c), fun c => kCmp (ProjectIdeal.Hand.args m c),
    fun c => vCmp (ProjectIdeal.Hand.args m c), fun c => kCodes (ProjectIdeal.Hand.args m c), fun c => vSw (ProjectIdeal.Hand.args m c),
    fun c => vMax (ProjectIdeal.Hand.args m c), fun c => scales (ProjectIdeal.Hand.args m c), fun c => gates (ProjectIdeal.Hand.args m c),
    ProjectIdeal.Hand.run m g, ?_⟩
  have e : ∀ c, ProjectRefIdeal.Hand.args m' c = ProjectIdeal.Hand.args m c := fun c => by
    obtain ⟨h0, h1, h2, h3, h4, h5, h6, h7⟩ := hargs c
    unfold ProjectRefIdeal.Hand.args ProjectIdeal.Hand.args
    rw [h0, h1, h2, h3, h4, h5, h6, h7]
  refine (θ_run _ _ _).mono (fun _ h c => ?_) (ProjectRefIdeal.Hand.run m' g')
  have h := h c
  rw [e c] at h
  exact h

end Cert.ProjectClaim

end
-- ==== Proof.ProjectBits.lean ====
/-
  THE FRAME OF THE KERNEL AS LAUNCHED. The program and the one its value is claimed of are the same operations on the same
  buffers under two names, so the frame of the one is the frame of the other.
-/
module

public import proofs.«01_k».proof.Proof.ProjectFrame
public import proofs.«01_k».proof.Proof.Gen.Project.Frame
public import proofs.«01_k».proof.Defs

@[expose] public section

set_option maxRecDepth 65536

noncomputable section
open Idealize.ShloMosaic Idealize.ShloMosaic.TcCoe Idealize.ShloMosaic.Tactic Idealize.SL.Sem

variable {F : FTy → Type} [FloatOps F]

theorem Cert.Project.Hand.frame_eq : (∀ (m : (ℓ : Loc Cert.Project.nD Cert.Project.τ Cert.Project.sig) → Buf (Elt F) ℓ) (g : Dev Cert.Project.nD → PrngReg),
    θ_run (Cert.Project.defs (F := F)) (onTc (τ := Cert.Project.τ) (Cert.Project.main (F := F))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7))
      ∧ r.2.sem = fun _ => 0))
   = (∀ (m : (ℓ : Loc Cert.ProjectIdeal.nD Cert.ProjectIdeal.τ Cert.ProjectIdeal.sig) → Buf (Elt F) ℓ) (g : Dev Cert.ProjectIdeal.nD → PrngReg),
    θ_run (Cert.ProjectIdeal.defs (F := F)) (onTc (τ := Cert.ProjectIdeal.τ) (Cert.ProjectIdeal.main (F := F))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7))
      ∧ r.2.sem = fun _ => 0)) := by
  sl_kernel_rfl

/-- Every run of the kernel ends with its arguments as they were and its semaphores at zero. -/
theorem Cert.Project.Hand.frame : ∀ (m : (ℓ : Loc Cert.Project.nD Cert.Project.τ Cert.Project.sig) → Buf (Elt F) ℓ) (g : Dev Cert.Project.nD → PrngReg),
    θ_run (Cert.Project.defs (F := F)) (onTc (τ := Cert.Project.τ) (Cert.Project.main (F := F))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7))
      ∧ r.2.sem = fun _ => 0) :=
  Cert.Project.Hand.frame_eq.mpr fun m g => Cert.ProjectIdeal.Hand.frame m g

end
-- ==== Proof.OutputSpec.lean ====
/-
  THE OUTPUT PROJECTION, AS A FORMULA. `hidden x oc os w s` is the array both programs compute over the extended reals:
  entry (r, l) is the residual `x (r, l)` plus the product row of the codes `oc` with the column of the weight codes `w`,
  scaled by the row's scale `os r` and the column's scale `s l`.
-/
module

public import proofs.«01_k».proof.OutputIdeal
public import Idealize.ShloMosaic.Lib.Pointwise

@[expose] public section

noncomputable section

namespace Cert.OutputSpec

open Idealize.ShloMosaic Cert.OutputIdeal

/-- The output projection with its residual: `x + ((oc · w) * os) * s`. -/
def hidden (x : Vec Ideal S12288x3584 .bf16) (oc : Vec Ideal S12288x4096 .fp8e4m3) (os : Vec Ideal S12288x1 .f32)
    (w : Vec Ideal S4096x3584 .fp8e4m3) (s : Vec Ideal S3584 .f32) : Vec Ideal S12288x3584 .bf16 :=
  fun i => (x i + (∑ k : Fin 4096, oc (ix2 (i 0) k) * w (ix2 k (i 1)) : EReal) * os (ix2 (i 0) 0) * s (ix1 (i 1)) : EReal)

end Cert.OutputSpec

end
-- ==== Proof.OutputValue.lean ====
/-
  THE OUTPUT KERNEL'S VALUE. Grid point `t` computes rows `256 t … 256 t + 255` of `hidden` (OutputSpec.lean): one product of
  the row block of the codes with the whole weight, the two scales, the residual. Its 48 blocks tile the result.
-/
module

public import proofs.«01_k».proof.Proof.Gen.OutputIdeal.Value
public import proofs.«01_k».proof.Proof.OutputSpec

@[expose] public section

set_option maxRecDepth 16384

noncomputable section

namespace Cert.OutputIdeal.Hand

open Cert.OutputIdeal Cert.OutputIdeal.Gen Idealize.ShloMosaic Idealize.ShloMosaic.TcCoe Idealize.SL.Sem
open Cert.OutputSpec

variable (m : (ℓ : Loc nD τ sig) → Buf (Elt Ideal) ℓ) (ρ : Dev nD → PrngReg)

theorem hz : (![0, 0] : Fin 2 → Nat) = fun _ => 0 := funext fun a => by fin_cases a <;> rfl

/-- The body's stored value at an index. -/
theorem pay_apply (x : Vec Ideal S256x3584 .bf16) (oc : Vec Ideal S256x4096 .fp8e4m3) (os : Vec Ideal S256x1 .f32)
    (w : Vec Ideal S4096x3584 .fp8e4m3) (s : Vec Ideal S1x3584 .f32) (r : Fin 256) (l : Fin 3584) :
    k0_pay1 (F := Ideal) oc w os s x (ix2 r l)
      = (x (ix2 r l) + (∑ k : Fin 4096, oc (ix2 r k) * w (ix2 k l) : EReal) * os (ix2 r 0) * s (ix2 0 l) : EReal) := by
  pointwise [k0_pay1]

/-- What the body leaves in the output block, of the five input blocks. -/
theorem out_eq (x : Vec Ideal S256x3584 .bf16) (oc : Vec Ideal S256x4096 .fp8e4m3) (os : Vec Ideal S256x1 .f32)
    (w : Vec Ideal S4096x3584 .fp8e4m3) (s : Vec Ideal S1x3584 .f32) :
    out0_5 (F := Ideal) x oc os w s = k0_pay1 oc w os s x := by
  unfold out0_5
  rw [View.canon_unit_zero hz]
  simp only [View.ld_unit_zero (S := S256x3584) hz, View.ld_unit_zero (S := S256x4096) hz, View.ld_unit_zero (S := S256x1) hz,
    View.ld_unit_zero (S := S4096x3584) hz, View.ld_unit_zero (S := S1x3584) hz]

/-- Where the windows stand at each grid point. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)

theorem t_lt (t : Fin cfg0.N) : t.val < 48 := t.isLt

/-- Row `r` of the block of point `t`, as a row of the array. -/
def row (t : Fin cfg0.N) (r : Fin 256) : Fin 12288 := ⟨t.val * 256 + r.val, by have := t_lt t; omega⟩

/-- The residual's block. -/
theorem blk0 (c : Dev nD) (t : Fin cfg0.N) (r : Fin 256) (l : Fin 3584) :
    (iblk m c 0 t : Vec Ideal S256x3584 .bf16) (ix2 r l) = m ((c : Thread nD τ).loc main_arg0) (ix2 (row t r) l) := by
  unfold iblk
  rw [View.read_apply]
  show V m c main_arg0 _ = _
  rw [V_main_arg0]
  congr 1
  funext a
  apply Fin.ext
  match a with
  | ⟨0, _⟩ => show win0_0.index t 0 * 256 + 1 * r.val = t.val * 256 + r.val; rw [(idx0 t).1]; omega
  | ⟨1, _⟩ => show win0_0.index t 1 * 3584 + 1 * l.val = l.val; rw [(idx0 t).2]; omega

/-- The codes' block. -/
theorem blk1 (c : Dev nD) (t : Fin cfg0.N) (r : Fin 256) (l : Fin 4096) :
    (iblk m c 1 t : Vec Ideal S256x4096 .fp8e4m3) (ix2 r l) = m ((c : Thread nD τ).loc main_arg1) (ix2 (row t r) l) := by
  unfold iblk
  rw [View.read_apply]
  show V m c main_arg1 _ = _
  rw [V_main_arg1]
  congr 1
  funext a
  apply Fin.ext
  match a with
  | ⟨0, _⟩ => show win0_1.index t 0 * 256 + 1 * r.val = t.val * 256 + r.val; rw [(idx1 t).1]; omega
  | ⟨1, _⟩ => show win0_1.index t 1 * 4096 + 1 * l.val = l.val; rw [(idx1 t).2]; omega

/-- The rows' scales' block. -/
theorem blk2 (c : Dev nD) (t : Fin cfg0.N) (r : Fin 256) :
    (iblk m c 2 t : Vec Ideal S256x1 .f32) (ix2 r 0) = m ((c : Thread nD τ).loc main_arg2) (ix2 (row t r) 0) := by
  unfold iblk
  rw [View.read_apply]
  show V m c main_arg2 _ = _
  rw [V_main_arg2]
  congr 1
  funext a
  apply Fin.ext
  match a with
  | ⟨0, _⟩ => show win0_2.index t 0 * 256 + 1 * r.val = t.val * 256 + r.val; rw [(idx2 t).1]; omega
  | ⟨1, _⟩ => show win0_2.index t 1 * 1 + 1 * 0 = 0; rw [(idx2 t).2]

/-- The weight's one block is the weight. -/
theorem blk3 (c : Dev nD) (t : Fin cfg0.N) (k : Fin 4096) (l : Fin 3584) :
    (iblk m c 3 t : Vec Ideal S4096x3584 .fp8e4m3) (ix2 k l) = m ((c : Thread nD τ).loc main_arg3) (ix2 k l) := by
  unfold iblk
  rw [View.read_apply]
  show V m c main_arg3 _ = _
  rw [V_main_arg3]
  congr 1
  funext a
  apply Fin.ext
  match a with
  | ⟨0, _⟩ => show win0_3.index t 0 * 4096 + 1 * k.val = k.val; rw [(idx3 t).1]; omega
  | ⟨1, _⟩ => show win0_3.index t 1 * 3584 + 1 * l.val = l.val; rw [(idx3 t).2]; omega

/-- The host lays the columns' scales out as one row. -/
theorem V_s (c : Dev nD) : V m c main_v0 = shapeCast S1x3584 (m ((c : Thread nD τ).loc main_arg4)) shapeCasts_S3584_S1x3584 := by
  unfold V hostOps0
  after_results
  rfl

/-- The columns' scales' one block. -/
theorem blk4 (c : Dev nD) (t : Fin cfg0.N) (l : Fin 3584) :
    (iblk m c 4 t : Vec Ideal S1x3584 .f32) (ix2 0 l) = m ((c : Thread nD τ).loc main_arg4) (ix1 l) := by
  unfold iblk
  rw [View.read_apply]
  have e : ((cfg0.win 4).blk t).view.emb (ix2 0 l) = (ix2 0 l : S1x3584.Idx) := by
    funext a
    apply Fin.ext
    match a with
    | ⟨0, _⟩ => show win0_4.index t 0 * 1 + 1 * 0 = 0; rw [(idx4 t).1]
    | ⟨1, _⟩ => show win0_4.index t 1 * 3584 + 1 * l.val = l.val; rw [(idx4 t).2]; omega
  show V m c main_v0 (((cfg0.win 4).blk t).view.emb (ix2 0 l)) = _
  rw [e, V_s]
  pointwise

/-- `hidden` of the arguments as launched. -/
abbrev result (c : Dev nD) : Buf (Elt Ideal) ((c : Thread nD τ).loc main_v1) :=
  hidden (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is its block of `hidden`. -/
theorem flushed_eq (c : Dev nD) (t : Fin cfg0.N) :
    (dats m 0 c).flushed 5 t = ((cfg0.win 5).blk t).view.read (Elt Ideal) (result m c) := by
  rw [Value.flushed5, out_eq]
  funext j
  rw [View.read_apply]
  obtain ⟨r, l, rfl⟩ : ∃ (r : Fin 256) (l : Fin 3584), j = ix2 r l := ⟨j 0, j 1, eq_ix2 j⟩
  have e : ((cfg0.win 5).blk t).view.emb (ix2 r l) = (ix2 (row t r) l : S12288x3584.Idx) := by
    funext a
    apply Fin.ext
    match a with
    | ⟨0, _⟩ => show win0_5.index t 0 * 256 + 1 * r.val = t.val * 256 + r.val; rw [(idx5 t).1]; omega
    | ⟨1, _⟩ => show win0_5.index t 1 * 3584 + 1 * l.val = l.val; rw [(idx5 t).2]; omega
  show k0_pay1 (F := Ideal) (iblk m c 1 t) (iblk m c 3 t) (iblk m c 2 t) (iblk m c 4 t) (iblk m c 0 t) (ix2 r l)
    = result m c (((cfg0.win 5).blk t).view.emb (ix2 r l))
  rw [e, pay_apply, blk0, blk2, blk4]
  simp only [blk1, blk3]
  rfl

/-- The blocks tile the result: it ends holding `hidden`. -/
theorem final_o (c : Dev nD) : (dats m 0 c).arrAt 5 cfg0.N = result m c :=
  (dats m 0 c).arrAt_eq_of_cover 5 (result m c) (fun t _ => flushed_eq m c t) fun i => by
    have h0 : (i 0 : Nat) < 12288 := (i 0).isLt
    have h1 : (i 1 : Nat) < 3584 := (i 1).isLt
    let t : Fin cfg0.N := ⟨(i 0 : Nat) / 256, by show _ < 48; omega⟩
    refine ⟨t, (by decide +kernel : ∀ t : Fin grid0.N, win0_5.flush t = true) t, ?_⟩
    show i ∈ ((View.whole main_v1).slice (win0_5.rect t)).set
    rw [View.set_slice_whole, Rect.mem_set_unit]
    intro a
    match a with
    | ⟨0, _⟩ =>
      show win0_5.index t 0 * 256 ≤ (i 0 : Nat) ∧ (i 0 : Nat) < win0_5.index t 0 * 256 + 256
      rw [(idx5 t).1]; show (i 0 : Nat) / 256 * 256 ≤ _ ∧ _ < (i 0 : Nat) / 256 * 256 + 256; omega
    | ⟨1, _⟩ =>
      show win0_5.index t 1 * 3584 ≤ (i 1 : Nat) ∧ (i 1 : Nat) < win0_5.index t 1 * 3584 + 3584
      rw [(idx5 t).2]; omega

/-- The run: the result at `hidden` of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_o m c), (h c).2⟩) (Value.run_blocks m ρ)

end Cert.OutputIdeal.Hand

end
-- ==== Proof.OutputRefValue.lean ====
/-
  THE OUTPUT REFERENCE'S VALUE. The reference is one call over the whole arrays: its only block is the array, and its stored
  value at an index is `hidden` (OutputSpec.lean).
-/
module

public import proofs.«01_k».proof.Proof.Gen.OutputRefIdeal.Value
public import proofs.«01_k».proof.Proof.OutputSpec

@[expose] public section

set_option maxRecDepth 16384

noncomputable section

namespace Cert.OutputRefIdeal.Hand

open Cert.OutputRefIdeal Cert.OutputRefIdeal.Gen Idealize.ShloMosaic Idealize.ShloMosaic.TcCoe Idealize.SL.Sem
open Cert.OutputSpec

variable (m : (ℓ : Loc nD τ sig) → Buf (Elt Ideal) ℓ) (ρ : Dev nD → PrngReg)

theorem hz : (![0, 0] : Fin 2 → Nat) = fun _ => 0 := funext fun a => by fin_cases a <;> rfl

/-- The body's stored value at an index. -/
theorem pay_apply (x : Vec Ideal S12288x3584 .bf16) (oc : Vec Ideal S12288x4096 .fp8e4m3) (os : Vec Ideal S12288x1 .f32)
    (w : Vec Ideal S4096x3584 .fp8e4m3) (s : Vec Ideal S1x3584 .f32) (r : Fin 12288) (l : Fin 3584) :
    k0_pay1 (F := Ideal) oc w os s x (ix2 r l)
      = (x (ix2 r l) + (∑ k : Fin 4096, oc (ix2 r k) * w (ix2 k l) : EReal) * os (ix2 r 0) * s (ix2 0 l) : EReal) := by
  pointwise [k0_pay1]

/-- What the body leaves in the output block, of the five inputs. -/
theorem out_eq (x : Vec Ideal S12288x3584 .bf16) (oc : Vec Ideal S12288x4096 .fp8e4m3) (os : Vec Ideal S12288x1 .f32)
    (w : Vec Ideal S4096x3584 .fp8e4m3) (s : Vec Ideal S1x3584 .f32) :
    out0_5 (F := Ideal) x oc os w s = k0_pay1 oc w os s x := by
  unfold out0_5
  rw [View.canon_unit_zero hz]
  simp only [View.ld_unit_zero (S := S12288x3584) hz, View.ld_unit_zero (S := S12288x4096) hz, View.ld_unit_zero (S := S12288x1) hz,
    View.ld_unit_zero (S := S4096x3584) hz, View.ld_unit_zero (S := S1x3584) hz]

theorem off0 : ∀ t : Fin cfg0.N, (fun a => win0_0.index t a * main_arg0.ty.shape.size a) = fun _ => 0 := fun t => by
  have h : win0_0.index t 0 = 0 ∧ win0_0.index t 1 = 0 := (by decide +kernel : ∀ t : Fin grid0.N, win0_0.index t 0 = 0 ∧ win0_0.index t 1 = 0) t
  funext a
  match a with
  | ⟨0, _⟩ => exact (congrArg (· * _) h.1).trans (Nat.zero_mul _)
  | ⟨1, _⟩ => exact (congrArg (· * _) h.2).trans (Nat.zero_mul _)
/-- Window 0's one block is its array. -/
theorem blk0 (c : Dev nD) (t : Fin cfg0.N) : iblk m c 0 t = V m c main_arg0 :=
  Memref.read_access_unit_zero (Elt Ideal) main_arg0 (off0 t) (fun a => by rw [congrFun (off0 t) a]; simp) (V m c main_arg0)

theorem off1 : ∀ t : Fin cfg0.N, (fun a => win0_1.index t a * main_arg1.ty.shape.size a) = fun _ => 0 := fun t => by
  have h : win0_1.index t 0 = 0 ∧ win0_1.index t 1 = 0 := (by decide +kernel : ∀ t : Fin grid0.N, win0_1.index t 0 = 0 ∧ win0_1.index t 1 = 0) t
  funext a
  match a with
  | ⟨0, _⟩ => exact (congrArg (· * _) h.1).trans (Nat.zero_mul _)
  | ⟨1, _⟩ => exact (congrArg (· * _) h.2).trans (Nat.zero_mul _)
/-- Window 1's one block is its array. -/
theorem blk1 (c : Dev nD) (t : Fin cfg0.N) : iblk m c 1 t = V m c main_arg1 :=
  Memref.read_access_unit_zero (Elt Ideal) main_arg1 (off1 t) (fun a => by rw [congrFun (off1 t) a]; simp) (V m c main_arg1)

theorem off2 : ∀ t : Fin cfg0.N, (fun a => win0_2.index t a * main_arg2.ty.shape.size a) = fun _ => 0 := fun t => by
  have h : win0_2.index t 0 = 0 ∧ win0_2.index t 1 = 0 := (by decide +kernel : ∀ t : Fin grid0.N, win0_2.index t 0 = 0 ∧ win0_2.index t 1 = 0) t
  funext a
  match a with
  | ⟨0, _⟩ => exact (congrArg (· * _) h.1).trans (Nat.zero_mul _)
  | ⟨1, _⟩ => exact (congrArg (· * _) h.2).trans (Nat.zero_mul _)
/-- Window 2's one block is its array. -/
theorem blk2 (c : Dev nD) (t : Fin cfg0.N) : iblk m c 2 t = V m c main_arg2 :=
  Memref.read_access_unit_zero (Elt Ideal) main_arg2 (off2 t) (fun a => by rw [congrFun (off2 t) a]; simp) (V m c main_arg2)

theorem off3 : ∀ t : Fin cfg0.N, (fun a => win0_3.index t a * main_arg3.ty.shape.size a) = fun _ => 0 := fun t => by
  have h : win0_3.index t 0 = 0 ∧ win0_3.index t 1 = 0 := (by decide +kernel : ∀ t : Fin grid0.N, win0_3.index t 0 = 0 ∧ win0_3.index t 1 = 0) t
  funext a
  match a with
  | ⟨0, _⟩ => exact (congrArg (· * _) h.1).trans (Nat.zero_mul _)
  | ⟨1, _⟩ => exact (congrArg (· * _) h.2).trans (Nat.zero_mul _)
/-- Window 3's one block is its array. -/
theorem blk3 (c : Dev nD) (t : Fin cfg0.N) : iblk m c 3 t = V m c main_arg3 :=
  Memref.read_access_unit_zero (Elt Ideal) main_arg3 (off3 t) (fun a => by rw [congrFun (off3 t) a]; simp) (V m c main_arg3)

theorem off4 : ∀ t : Fin cfg0.N, (fun a => win0_4.index t a * main_v0.ty.shape.size a) = fun _ => 0 := fun t => by
  have h : win0_4.index t 0 = 0 ∧ win0_4.index t 1 = 0 := (by decide +kernel : ∀ t : Fin grid0.N, win0_4.index t 0 = 0 ∧ win0_4.index t 1 = 0) t
  funext a
  match a with
  | ⟨0, _⟩ => exact (congrArg (· * _) h.1).trans (Nat.zero_mul _)
  | ⟨1, _⟩ => exact (congrArg (· * _) h.2).trans (Nat.zero_mul _)
/-- Window 4's one block is its array. -/
theorem blk4 (c : Dev nD) (t : Fin cfg0.N) : iblk m c 4 t = V m c main_v0 :=
  Memref.read_access_unit_zero (Elt Ideal) main_v0 (off4 t) (fun a => by rw [congrFun (off4 t) a]; simp) (V m c main_v0)

/-- The host lays the columns' scales out as one row. -/
theorem V_s (c : Dev nD) : V m c main_v0 = shapeCast S1x3584 (m ((c : Thread nD τ).loc main_arg4)) shapeCasts_S3584_S1x3584 := by
  unfold V hostOps0
  after_results
  rfl

/-- `hidden` of the arguments as launched. -/
abbrev result (c : Dev nD) : Buf (Elt Ideal) ((c : Thread nD τ).loc main_v1) :=
  hidden (m ((c : Thread nD τ).loc main_arg0)) (m ((c : Thread nD τ).loc main_arg1)) (m ((c : Thread nD τ).loc main_arg2))
    (m ((c : Thread nD τ).loc main_arg3)) (m ((c : Thread nD τ).loc main_arg4))

theorem off5 : ∀ t : Fin cfg0.N, (fun a => win0_5.index t a * main_v1.ty.shape.size a) = fun _ => 0 := fun t => by
  have h : win0_5.index t 0 = 0 ∧ win0_5.index t 1 = 0 := (by decide +kernel : ∀ t : Fin grid0.N, win0_5.index t 0 = 0 ∧ win0_5.index t 1 = 0) t
  funext a
  match a with
  | ⟨0, _⟩ => exact (congrArg (· * _) h.1).trans (Nat.zero_mul _)
  | ⟨1, _⟩ => exact (congrArg (· * _) h.2).trans (Nat.zero_mul _)

/-- What the one point writes back is `hidden`. -/
theorem flushed_eq (c : Dev nD) (t : Fin cfg0.N) :
    (dats m 0 c).flushed 5 t = ((cfg0.win 5).blk t).view.read (Elt Ideal) (result m c) := by
  rw [Value.flushed5, out_eq, blk0, blk1, blk2, blk3, blk4, V_main_arg0, V_main_arg1, V_main_arg2, V_main_arg3, V_s]
  refine Eq.trans ?_ (Memref.read_access_unit_zero (Elt Ideal) main_v1 (off5 t) (fun a => by rw [congrFun (off5 t) a]; simp) (result m c)).symm
  funext j
  obtain ⟨r, l, rfl⟩ : ∃ (r : Fin 12288) (l : Fin 3584), j = ix2 r l := ⟨j 0, j 1, eq_ix2 j⟩
  refine (pay_apply _ _ _ _ _ r l).trans ?_
  unfold result OutputSpec.hidden
  pointwise

/-- The block is the whole result: it ends holding `hidden`. -/
theorem final_o (c : Dev nD) : (dats m 0 c).arrAt 5 cfg0.N = result m c :=
  (dats m 0 c).arrAt_eq_of_cover 5 (result m c) (fun t _ => flushed_eq m c t) fun i => by
    have h0 : (i 0 : Nat) < 12288 := (i 0).isLt
    have h1 : (i 1 : Nat) < 3584 := (i 1).isLt
    let t : Fin cfg0.N := ⟨0, by decide⟩
    refine ⟨t, (by decide +kernel : ∀ t : Fin grid0.N, win0_5.flush t = true) t, ?_⟩
    show i ∈ ((View.whole main_v1).slice (win0_5.rect t)).set
    rw [View.set_slice_whole, Rect.mem_set_unit]
    intro a
    match a with
    | ⟨0, _⟩ => show win0_5.index t 0 * 12288 ≤ (i 0 : Nat) ∧ (i 0 : Nat) < win0_5.index t 0 * 12288 + 12288
                rw [show win0_5.index t 0 = 0 from by decide +kernel]; omega
    | ⟨1, _⟩ => show win0_5.index t 1 * 3584 ≤ (i 1 : Nat) ∧ (i 1 : Nat) < win0_5.index t 1 * 3584 + 3584
                rw [show win0_5.index t 1 = 0 from by decide +kernel]; omega

/-- The run: the result at `hidden` of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_o m c), (h c).2⟩) (Value.run_blocks m ρ)

end Cert.OutputRefIdeal.Hand

end
-- ==== Proof.OutputClaim.lean ====
/-
  THE OUTPUT CALL'S CLAIM: the tiled kernel and the reference, run from the same arguments, both end with `hidden` of them.
-/
module

public import proofs.«01_k».proof.Defs
public import proofs.«01_k».proof.Proof.OutputValue
public import proofs.«01_k».proof.Proof.OutputRefValue

@[expose] public section

noncomputable section

namespace Cert.OutputClaim

open Idealize.ShloMosaic Idealize.ShloMosaic.TcCoe Idealize.SL.Sem

/-- Over the extended reals the output kernel computes its reference's result. -/
theorem algebraic : algebraic_OutputIdeal_OutputRefIdeal (hOutputIdeal := Cert.OutputIdeal.Gen.facts) (hOutputRefIdeal := Cert.OutputRefIdeal.Gen.facts) := by
  intro m g m' g' _ hargs
  refine ⟨fun c => OutputIdeal.Hand.result m c, OutputIdeal.Hand.run m g, ?_⟩
  refine (θ_run _ _ _).mono (fun _ h c => ⟨(h c).1.trans ?_, (h c).2⟩) (OutputRefIdeal.Hand.run m' g')
  obtain ⟨h0, h1, h2, h3, h4⟩ := hargs c
  show OutputRefIdeal.Hand.result m' c = OutputIdeal.Hand.result m c
  unfold OutputRefIdeal.Hand.result OutputIdeal.Hand.result
  rw [h0, h1, h2, h3, h4]

end Cert.OutputClaim

end
-- ==== Proof.CompressSpec.lean ====
/-
  THE COMPRESSION, AS FORMULAS. A block of 32 positions, with its position embedding added, is one row of `32 c` entries. Its
  codes go through two quantised layers: a hidden layer of 1536 with `x * logistic x`, whose row is quantised again, and an
  output layer. Both compression calls (keys, `c = 192`; values, `c = 128`) and both their references compute these.
-/
module

public import Idealize.ShloMosaic.Lib.Pointwise
public import Idealize.ShloMosaic.Lib.Pipeline.Value
public import proofs.«01_k».proof.Proof.Quant

@[expose] public section

noncomputable section

namespace Cert.CompressSpec

open Idealize.ShloMosaic Cert.Quant

/-- The two layers' codes, scales and biases. -/
structure Net (W O : ℕ) where
  w1 : FVec Ideal ⟨2, ![W, 1536]⟩ .fp8e4m3
  s1 : FVec Ideal ⟨2, ![1, 1536]⟩ .f32
  b1 : FVec Ideal ⟨2, ![1, 1536]⟩ .f32
  w2 : FVec Ideal ⟨2, ![1536, O]⟩ .fp8e4m3
  s2 : FVec Ideal ⟨2, ![1, O]⟩ .f32
  b2 : FVec Ideal ⟨2, ![1, O]⟩ .f32

variable {W O c : ℕ} (N : Net W O) (f : Fin W → EReal)

/-- The row's scale, and its codes. -/
def inScale : EReal := scaleOf (amax f)
def inCode (k : Fin W) : EReal := code (f k) (inScale f)

/-- The hidden layer before and after its activation. -/
def pre (j : Fin 1536) : EReal :=
  (∑ k : Fin W, inCode f k * (N.w1 (ix2 k j) : EReal)) * inScale f * (N.s1 (ix2 0 j) : EReal) + (N.b1 (ix2 0 j) : EReal)
def hid (j : Fin 1536) : EReal := pre N f j * Ideal.logistic (pre N f j)

/-- The hidden row's scale, and its codes. -/
def hidScale : EReal := scaleOf (amax (hid N f))
def hidCode (j : Fin 1536) : EReal := code (hid N f j) (hidScale N f)

/-- The output layer. -/
def out (o : Fin O) : EReal :=
  (∑ j : Fin 1536, hidCode N f j * (N.w2 (ix2 j o) : EReal)) * hidScale N f * (N.s2 (ix2 0 o) : EReal) + (N.b2 (ix2 0 o) : EReal)

/-- The two scales: the row's in lane 0, the hidden row's in the others. -/
def stat (l : Fin 128) : EReal := if l.val = 0 then inScale f else hidScale N f

/-- Entry `k` of block `n` of head-and-batch `b`: position `16 n + k / c` (around the end), channel `k % c`. -/
def entry (hW : W = 32 * c) (v : FVec Ideal ⟨3, ![8, 3072, c]⟩ .f32) (p : FVec Ideal ⟨2, ![32, c]⟩ .f32) (b : Fin 8) (n : Fin 192) (k : Fin W) : EReal :=
  have hc : 0 < c := by have := k.isLt; omega
  (v (ix3 b ⟨(16 * n.val + k.val / c) % 3072, Nat.mod_lt _ (by norm_num)⟩ ⟨k.val % c, Nat.mod_lt _ hc⟩) : EReal)
    + (p (ix2 ⟨k.val / c, Nat.div_lt_of_lt_mul (by have := k.isLt; omega)⟩ ⟨k.val % c, Nat.mod_lt _ hc⟩) : EReal)

/-! The four arrays a call ends with, of its rows `row b n`. -/
section
variable (row : Fin 8 → Fin 192 → Fin W → EReal)
def outs : FVec Ideal ⟨3, ![8, 192, O]⟩ .bf16 := fun i => out N (row (i 0) (i 1)) (i 2)
def inCodes : FVec Ideal ⟨3, ![8, 192, W]⟩ .fp8e4m3 := fun i => inCode (row (i 0) (i 1)) (i 2)
def hidCodes : FVec Ideal ⟨3, ![8, 192, 1536]⟩ .fp8e4m3 := fun i => hidCode N (row (i 0) (i 1)) (i 2)
def stats : FVec Ideal ⟨3, ![8, 192, 128]⟩ .f32 := fun i => stat N (row (i 0) (i 1)) (i 2)
end

/-! ## Lemmas both calls use -/

theorem lane_cmp : ∀ l : Fin 128, IntOp.cmpi .eq (BitVec.ofNat 32 l.val) 0#32 = if l.val = 0 then 1#1 else 0#1 := by decide

/-- Choosing by lane. -/
theorem lane_select (l : Fin 128) (a b : EReal) :
    Scalar.select (IntOp.cmpi .eq (BitVec.ofNat 32 l.val) 0#32) a b = if l.val = 0 then a else b := by
  rw [lane_cmp]
  split <;> rfl

/-- The largest magnitude of a row, of its halves'. -/
theorem amax_halves {V : ℕ} (hV : W = V + V) (g h : Fin V → EReal) (hg : ∀ k : Fin V, f ⟨k.val, by omega⟩ = g k)
    (hh : ∀ k : Fin V, f ⟨V + k.val, by omega⟩ = h k) : max (amax g) (amax h) = amax f := by
  apply le_antisymm
  · refine max_le (amax_le fun k => ?_) (amax_le fun k => ?_)
    · rw [← hg k]; exact le_amax f _
    · rw [← hh k]; exact le_amax f _
  · refine amax_le fun k => ?_
    by_cases hk : k.val < V
    · exact le_max_of_le_left (by have := le_amax g ⟨k.val, hk⟩; rwa [← hg] at this)
    · have e : (⟨V + (k.val - V), by omega⟩ : Fin W) = k := Fin.ext (show V + (k.val - V) = k.val by omega)
      exact le_max_of_le_right (by have := le_amax h ⟨k.val - V, by omega⟩; rw [← hh] at this; rwa [e] at this)

/-- An entry, of its position and channel. -/
theorem entry_of (hW : W = 32 * c) (v : FVec Ideal ⟨3, ![8, 3072, c]⟩ .f32) (p : FVec Ideal ⟨2, ![32, c]⟩ .f32) (b : Fin 8) (n : Fin 192) (k : Fin W)
    (i : Fin 3072) (d : Fin c) (q : Fin 32) (hi : i.val = (16 * n.val + k.val / c) % 3072) (hd : d.val = k.val % c) (hq : q.val = k.val / c) :
    entry hW v p b n k = ((v (ix3 b i d) : EReal) + (p (ix2 q d) : EReal) : EReal) := by
  unfold entry
  rw [show i = ⟨(16 * n.val + k.val / c) % 3072, Nat.mod_lt _ (by norm_num)⟩ from Fin.ext hi]
  rw [show d = ⟨k.val % c, hd ▸ d.isLt⟩ from Fin.ext hd, show q = ⟨k.val / c, hq ▸ q.isLt⟩ from Fin.ext hq]

/-- A block the claims' mask selects is one of the sequence's 191. -/
theorem block_lt (n : Fin 192) (h : Scalar.cmpi .slt (BitVec.ofNat 32 n.val) 191#32 = 1#1) : n.val < 191 := by
  revert n
  decide

/-- Row `n` of head-and-batch `b`, of the rows in one array. -/
def rowOf (b : Fin 8) (n : Fin 192) : Fin 1536 := ⟨192 * b.val + n.val, by omega⟩

/-- The rows in one array, apart by head and batch. -/
theorem apart_apply {C : ℕ} {α : Type} (x : (⟨2, ![1536, C]⟩ : Shape).Idx → α) (h : (⟨2, ![1536, C]⟩ : Shape).ShapeCasts ⟨3, ![8, 192, C]⟩)
    (b : Fin 8) (n : Fin 192) (o : Fin C) : shapeCast ⟨3, ![8, 192, C]⟩ x h (ix3 b n o) = x (ix2 (rowOf b n) o) := by
  refine shapeCast_apply x _ _ _ ?_
  rw [Shape.rowMajor_val_two, Shape.rowMajor_val_three]
  show (192 * b.val + n.val) * C + o.val = (b.val * 192 + n.val) * C + o.val
  rw [Nat.mul_comm 192]

/-- The rows apart by head and batch, in one array. -/
theorem together_apply {C : ℕ} {α : Type} (x : (⟨3, ![8, 192, C]⟩ : Shape).Idx → α) (h : (⟨3, ![8, 192, C]⟩ : Shape).ShapeCasts ⟨2, ![1536, C]⟩)
    (b : Fin 8) (n : Fin 192) (o : Fin C) : shapeCast ⟨2, ![1536, C]⟩ x h (ix2 (rowOf b n) o) = x (ix3 b n o) := by
  refine shapeCast_apply x _ _ _ ?_
  rw [Shape.rowMajor_val_two, Shape.rowMajor_val_three]
  show (b.val * 192 + n.val) * C + o.val = (192 * b.val + n.val) * C + o.val
  rw [Nat.mul_comm 192]

end Cert.CompressSpec

end
-- ==== Proof.CompressKPay.lean ====
/-
  THE KEYS' COMPRESSION: what its body computes of the values it loads, at an index, is what CompressSpec.lean says.
-/
module

public import proofs.«01_k».proof.Proof.Gen.CompressKIdeal.Skeleton
public import proofs.«01_k».proof.Proof.CompressSpec
public import Idealize.ShloMosaic.Lib.KernelVsHost

@[expose] public section

set_option maxRecDepth 16384

noncomputable section

namespace Cert.CompressKIdeal.Hand

open Cert.CompressKIdeal Cert.CompressKIdeal.Gen Idealize.ShloMosaic Idealize.ShloMosaic.TcCoe
open Cert.CompressSpec Cert.Quant

/-! A row's first half and its second. -/
def lo (k : Fin 3072) : Fin 6144 := ⟨k.val, by omega⟩
def hi (k : Fin 3072) : Fin 6144 := ⟨3072 + k.val, by omega⟩

/-! ## The row, its scale and its codes -/

section
variable (v : Vec Ideal S1x192x3072 .f32) (p q : Vec Ideal S1x3072 .f32) (n : Fin 192)

/-- The block after `n`, around the end. -/
def nextBlock : Fin 192 := ⟨(n.val + 1) % 192, Nat.mod_lt _ (by norm_num)⟩

theorem first_apply (k : Fin 3072) : k0_pay6 (F := Ideal) v p (ix2 n k) = (v (ix3 0 n k) + p (ix2 0 k) : EReal) := by
  pointwise [k0_pay6, k0_pay5]

theorem rolled_apply (x : FVec Ideal S192x3072 .f32) (k : Fin 3072) :
    dynamicRotate 0 191#32 none x rotates_S192x3072_d0 (ix2 n k) = x (ix2 (nextBlock n) k) :=
  dynamicRotate_apply 0 191#32 x rotates_S192x3072_d0 (ix2 n k) (ix2 (nextBlock n) k) fun b => by
    match b with
    | ⟨0, _⟩ => show (n.val + 1) % 192 = (n.val + 192 - 191) % 192; congr 1
    | ⟨1, _⟩ => rfl

theorem second_apply (k : Fin 3072) : k0_pay7 (F := Ideal) v q (ix2 n k) = (v (ix3 0 (nextBlock n) k) + q (ix2 0 k) : EReal) := by
  unfold k0_pay7
  rw [show ∀ x : FVec Ideal S192x3072 .f32, addf x (broadcastTo S192x3072 (shapeCast S1x3072 q shapeCasts_S1x3072_S1x3072) broadcasts_S1x3072_S192x3072) (ix2 n k)
    = (x (ix2 n k) + q (ix2 0 k) : EReal) from fun x => by pointwise, rolled_apply]
  rw [show k0_pay5 (F := Ideal) v (ix2 (nextBlock n) k) = v (ix3 0 (nextBlock n) k) by pointwise [k0_pay5]]

theorem rowMax_apply (x : FVec Ideal S192x3072 .f32) :
    shapeCast S192x1 (multiReduction .maximumf [1] S192 (absf x) 0xFF800000#32 reduces_S192x3072_S192 (.inl rfl) rfl)
      shapeCasts_S192_S192x1 (ix2 n 0) = amax fun l => x (ix2 n l) := by
  rw [show shapeCast S192x1 (multiReduction .maximumf [1] S192 (absf x) 0xFF800000#32 reduces_S192x3072_S192 (.inl rfl) rfl)
      shapeCasts_S192_S192x1 (ix2 n 0) = _ by pointwise; rfl]
  exact fold_absf _

theorem max_apply (x y : FVec Ideal S192x1 .f32) (i : S192x1.Idx) : maximumf x y i = max (x i : EReal) (y i) := rfl

theorem along (x : FVec Ideal S192x1 .f32) (l : Fin 3072) : broadcastTo S192x3072 x broadcasts_S192x1_S192x3072 (ix2 n l) = x (ix2 n 0) := by
  pointwise

theorem leading {x : FVec Ideal S192x3072 .fp8e4m3} (l : Fin 3072) : shapeCast S1x192x3072 x shapeCasts_S192x3072_S1x192x3072 (ix3 0 n l) = x (ix2 n l) := by
  pointwise

variable (f : Fin 6144 → EReal) (hf : ∀ k : Fin 3072, f (lo k) = (v (ix3 0 n k) + p (ix2 0 k) : EReal))
  (hs : ∀ k : Fin 3072, f (hi k) = (v (ix3 0 (nextBlock n) k) + q (ix2 0 k) : EReal))
include hf hs

theorem inScale_of : k0_pay8 (F := Ideal) v p q (ix2 n 0) = inScale f := by
  unfold k0_pay8
  rw [scale_apply, max_apply, rowMax_apply, rowMax_apply]
  simp only [first_apply, second_apply]
  rw [amax_halves f (by norm_num) _ _ hf hs]
  rfl

theorem recip_of : k0_pay9 (F := Ideal) v p q (ix2 n 0) = Ideal.div (Ideal.ofBits .f32 0x3F800000#32) (inScale f) := by
  unfold k0_pay9
  rw [one_div_apply, inScale_of v p q n f hf hs]

theorem firstCodes_of (k : Fin 3072) : k0_pay10 (F := Ideal) v p q (ix3 0 n k) = inCode f (lo k) := by
  unfold k0_pay10
  rw [leading, mul_codes_apply, along, recip_of v p q n f hf hs, first_apply, inScale, clip_mul_recip, ← hf k]
  rfl

theorem secondCodes_of (k : Fin 3072) :
    k0_pay12 (F := Ideal) (k0_pay11 v p q) (Scalar.ofBits .f32 0xC3E00000#32) (ix3 0 n k) = inCode f (hi k) := by
  unfold k0_pay12 k0_pay11
  rw [leading, mul_codes_apply, along, recip_of v p q n f hf hs, second_apply, inScale, clip_mul_recip, ← hs k]
  rfl

end

/-! ## The hidden layer and the output layer -/

section
variable (N : Net 6144 192) (f : Fin 6144 → EReal) (n : Fin 192)

theorem rowMaxHid_apply (y : FVec Ideal S192x1536 .f32) :
    shapeCast S192x1 (multiReduction .maximumf [1] S192 (absf y) 0xFF800000#32 reduces_S192x1536_S192 (.inl rfl) rfl)
      shapeCasts_S192_S192x1 (ix2 n 0) = amax fun l => y (ix2 n l) := by
  rw [show shapeCast S192x1 (multiReduction .maximumf [1] S192 (absf y) 0xFF800000#32 reduces_S192x1536_S192 (.inl rfl) rfl)
      shapeCasts_S192_S192x1 (ix2 n 0) = _ by pointwise; rfl]
  exact fold_absf _

theorem layer_apply (y : FVec Ideal S192x1 .f32) (hcs : FVec Ideal S192x1536 .fp8e4m3) (o : Fin 192) :
    shapeCast S1x192x192 (truncf .bf16 (addf (mulf (mulf (matmul dot_S192x1536_S1536x192_S192x192_1_0_0_1_n_n none hcs N.w2 (constant S192x192 .f32 0x00000000#32))
      (broadcastTo S192x192 y broadcasts_S192x1_S192x192)) (broadcastTo S192x192 (shapeCast S1x192 N.s2 shapeCasts_S1x192_S1x192) broadcasts_S1x192_S192x192))
      (broadcastTo S192x192 (shapeCast S1x192 N.b2 shapeCasts_S1x192_S1x192) broadcasts_S1x192_S192x192)) bitsLt_bf16_f32) shapeCasts_S192x192_S1x192x192 (ix3 0 n o)
      = ((∑ j : Fin 1536, hcs (ix2 n j) * N.w2 (ix2 j o)) * y (ix2 n 0) * N.s2 (ix2 0 o) + N.b2 (ix2 0 o) : EReal) := by
  pointwise

variable (x : FVec Ideal S192x1 .f32) (cs : Vec Ideal S1x192x6144 .fp8e4m3)
  (hx : x (ix2 n 0) = inScale f) (hc : ∀ k : Fin 6144, cs (ix3 0 n k) = inCode f k)
include hx hc

theorem hid_of (j : Fin 1536) : k0_pay13 (F := Ideal) x cs N.w1 N.s1 N.b1 (ix2 n j) = hid N f j := by
  rw [show k0_pay13 (F := Ideal) x cs N.w1 N.s1 N.b1 (ix2 n j) = _ by pointwise [k0_pay13]; rfl]
  simp only [hx, hc]
  rfl

theorem hidScale_of : k0_pay14 (F := Ideal) x cs N.w1 N.s1 N.b1 (ix2 n 0) = hidScale N f := by
  unfold k0_pay14
  rw [scale_apply, rowMaxHid_apply]
  simp only [hid_of N f n x cs hx hc]
  rfl

theorem hidCode_of (j : Fin 1536) :
    k0_pay1 (F := Ideal) (k0_pay15 x cs N.w1 N.s1 N.b1) (Scalar.ofBits .f32 0x43E00000#32) k0_pay16 (ix2 n j) = hidCode N f j := by
  unfold k0_pay1 k0_pay15 k0_pay16
  rw [mul_codes_apply, show ∀ y : FVec Ideal S192x1 .f32, broadcastTo S192x1536 y broadcasts_S192x1_S192x1536 (ix2 n j) = y (ix2 n 0) from fun y => by pointwise,
    one_div_apply, hidScale_of N f n x cs hx hc, hid_of N f n x cs hx hc, hidScale, clip_mul_recip]
  rfl

theorem hidCodes_of (j : Fin 1536) :
    k0_pay2 (F := Ideal) (k0_pay15 x cs N.w1 N.s1 N.b1) (Scalar.ofBits .f32 0x43E00000#32) k0_pay16 (ix3 0 n j) = hidCode N f j := by
  unfold k0_pay2
  rw [show ∀ y : FVec Ideal S192x1536 .fp8e4m3, shapeCast S1x192x1536 y shapeCasts_S192x1536_S1x192x1536 (ix3 0 n j) = y (ix2 n j) from fun y => by pointwise]
  exact hidCode_of N f n x cs hx hc j

theorem out_of (o : Fin 192) :
    k0_pay3 (F := Ideal) (k0_pay14 x cs N.w1 N.s1 N.b1) (k0_pay15 x cs N.w1 N.s1 N.b1) (Scalar.ofBits .f32 0x43E00000#32) k0_pay16 N.w2 N.s2 N.b2 (ix3 0 n o)
      = out N f o := by
  unfold k0_pay3
  rw [layer_apply, hidScale_of N f n x cs hx hc]
  simp only [hidCode_of N f n x cs hx hc]
  rfl

theorem stat_of (l : Fin 128) : k0_pay4 (F := Ideal) x (k0_pay14 x cs N.w1 N.s1 N.b1) (ix3 0 n l) = stat N f l := by
  rw [show ∀ y z : FVec Ideal S192x1 .f32, k0_pay4 (F := Ideal) y z (ix3 0 n l) = (if l.val = 0 then y (ix2 n 0) else z (ix2 n 0) : EReal) from
    fun y z => by rw [← lane_select]; pointwise [k0_pay4], hidScale_of N f n x cs hx hc, hx]
  rfl

end

end Cert.CompressKIdeal.Hand

end
-- ==== Proof.CompressKPieces.lean ====
/-
  WHAT A POINT OF THE KEYS' COMPRESSION STORES: each output's pieces at a grid point, in the payloads' terms.
-/
module

public import proofs.«01_k».proof.Proof.Gen.CompressKIdeal.Value
public import proofs.«01_k».proof.Proof.CompressKPay

@[expose] public section

set_option maxRecDepth 16384

noncomputable section

namespace Cert.CompressKIdeal.Hand

open Cert.CompressKIdeal.Gen
open Idealize.ShloMosaic Idealize.ShloMosaic.TcCoe Idealize.ShloMosaic.Tactic

variable {F : FTy → Type} [FloatOps F]

variable (m : (ℓ : Loc nD τ sig) → Buf (Elt F) ℓ) (c : Dev nD) (t : Fin cfg0.N)

/-! ## What the body loads at a point -/

def ldV : Vec F S1x192x3072 .f32 :=
  View.readAt (Elt F) (ms0_0 t).view (Rect.unit (s := S1x192x3072) ![0, 0, 0] S1x192x3072.size (by decide)).toLoadRect ((hs0_0 t).unread (iblk m c 0 t))
def ldP : Vec F S1x3072 .f32 :=
  View.readAt (Elt F) (ms0_1 t).view (Rect.unit (s := S1x6144) ![0, 0] S1x3072.size (by decide)).toLoadRect ((hs0_1 t).unread (iblk m c 1 t))
def ldQ : Vec F S1x3072 .f32 :=
  View.readAt (Elt F) (ms0_1 t).view (Rect.unit (s := S1x6144) ![0, 3072] S1x3072.size (by decide)).toLoadRect ((hs0_1 t).unread (iblk m c 1 t))
def ldW1 : Vec F S6144x1536 .fp8e4m3 :=
  View.readAt (Elt F) (ms0_2 t).view (Rect.unit (s := S6144x1536) ![0, 0] S6144x1536.size (by decide)).toLoadRect ((hs0_2 t).unread (iblk m c 2 t))
def ldS1 : Vec F S1x1536 .f32 :=
  View.readAt (Elt F) (ms0_3 t).view (Rect.unit (s := S1x1536) ![0, 0] S1x1536.size (by decide)).toLoadRect ((hs0_3 t).unread (iblk m c 3 t))
def ldB1 : Vec F S1x1536 .f32 :=
  View.readAt (Elt F) (ms0_4 t).view (Rect.unit (s := S1x1536) ![0, 0] S1x1536.size (by decide)).toLoadRect ((hs0_4 t).unread (iblk m c 4 t))
def ldW2 : Vec F S1536x192 .fp8e4m3 :=
  View.readAt (Elt F) (ms0_5 t).view (Rect.unit (s := S1536x192) ![0, 0] S1536x192.size (by decide)).toLoadRect ((hs0_5 t).unread (iblk m c 5 t))
def ldS2 : Vec F S1x192 .f32 :=
  View.readAt (Elt F) (ms0_6 t).view (Rect.unit (s := S1x192) ![0, 0] S1x192.size (by decide)).toLoadRect ((hs0_6 t).unread (iblk m c 6 t))
def ldB2 : Vec F S1x192 .f32 :=
  View.readAt (Elt F) (ms0_7 t).view (Rect.unit (s := S1x192) ![0, 0] S1x192.size (by decide)).toLoadRect ((hs0_7 t).unread (iblk m c 7 t))

/-- The two halves of the row codes, as stored. -/
def codePieces : List (View.Piece (Elt F) S1x192x6144 .fp8e4m3) :=
  [⟨Rect.unit (s := S1x192x6144) ![0, 0, 3072] S1x192x3072.size (by decide), k0_pay12 (k0_pay11 (ldV m c t) (ldP m c t) (ldQ m c t)) (Scalar.ofBits .f32 0xC3E00000#32)⟩,
    ⟨Rect.unit (s := S1x192x6144) ![0, 0, 0] S1x192x3072.size (by decide), k0_pay10 (ldV m c t) (ldP m c t) (ldQ m c t)⟩]

/-- The row codes, loaded back. -/
def ldCodes : Vec F S1x192x6144 .fp8e4m3 :=
  View.readCov (Val := Elt F) (ms0_9 t).view (codePieces m c t) (Rect.unit (s := S1x192x6144) ![0, 0, 0] S1x192x6144.size (by decide)).toLoadRect

/-! The row scales; the hidden layer before its quantisation, its scales and its entries over them. -/
def rowScale : FVec F S192x1 .f32 := k0_pay8 (ldV m c t) (ldP m c t) (ldQ m c t)
def hidScales : FVec F S192x1 .f32 := k0_pay14 (rowScale m c t) (ldCodes m c t) (ldW1 m c t) (ldS1 m c t) (ldB1 m c t)
def hidOver : FVec F S192x1536 .f32 := k0_pay15 (rowScale m c t) (ldCodes m c t) (ldW1 m c t) (ldS1 m c t) (ldB1 m c t)

/-! ## The pieces -/

/-- The run at a point. -/
abbrev runAt := kernelRun0_A c (grid0.coords t) (ms0_0 t) (hs0_0 t) (ms0_1 t) (hs0_1 t) (ms0_2 t) (hs0_2 t) (ms0_3 t) (hs0_3 t) (ms0_4 t) (hs0_4 t)
  (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
  (iblk m c 0 t) (iblk m c 1 t) (iblk m c 2 t) (iblk m c 3 t) (iblk m c 4 t) (iblk m c 5 t) (iblk m c 6 t) (iblk m c 7 t)

theorem pieces8 : (runAt m c t).1 = [⟨Rect.unit (s := S1x192x192) ![0, 0, 0] S1x192x192.size (by decide),
    k0_pay3 (hidScales m c t) (hidOver m c t) (Scalar.ofBits .f32 0x43E00000#32) k0_pay16 (ldW2 m c t) (ldS2 m c t) (ldB2 m c t)⟩] := by
  sl_kernel_rfl

theorem pieces9 : (runAt m c t).2.1 = codePieces m c t := by
  sl_kernel_rfl

theorem pieces10 : (runAt m c t).2.2.1 = [⟨Rect.unit (s := S1x192x1536) ![0, 0, 0] S1x192x1536.size (by decide),
    k0_pay2 (hidOver m c t) (Scalar.ofBits .f32 0x43E00000#32) k0_pay16⟩] := by
  sl_kernel_rfl

theorem pieces11 : (runAt m c t).2.2.2.1 = [⟨Rect.unit (s := S1x192x128) ![0, 0, 0] S1x192x128.size (by decide), k0_pay4 (rowScale m c t) (hidScales m c t)⟩] := by
  sl_kernel_rfl

end Cert.CompressKIdeal.Hand

end
-- ==== Proof.CompressKLoads.lean ====
/-
  WHAT A POINT OF THE KEYS' COMPRESSION LOADS: the rows of its head and batch, the whole of the others. So its row codes and
  scales are the formulas' (CompressSpec.lean).
-/
module

public import proofs.«01_k».proof.Proof.CompressKPieces

@[expose] public section

set_option maxRecDepth 16384

noncomputable section

namespace Cert.CompressKIdeal.Hand

open Cert.CompressKIdeal.Gen Cert.CompressSpec Cert.Quant
open Idealize.ShloMosaic Idealize.ShloMosaic.TcCoe Idealize.ShloMosaic.Tactic

variable (m : (ℓ : Loc nD τ sig) → Buf (Elt Ideal) ℓ) (c : Dev nD) (t : Fin cfg0.N)

/-- The layers, of the arguments as launched. -/
def net : Net 6144 192 where
  w1 := m ((c : Thread nD τ).loc main_arg2)
  s1 := shapeCast S1x1536 (m ((c : Thread nD τ).loc main_arg3)) shapeCasts_S1536_S1x1536
  b1 := shapeCast S1x1536 (m ((c : Thread nD τ).loc main_arg4)) shapeCasts_S1536_S1x1536
  w2 := m ((c : Thread nD τ).loc main_arg5)
  s2 := shapeCast S1x192 (m ((c : Thread nD τ).loc main_arg6)) shapeCasts_S192_S1x192
  b2 := shapeCast S1x192 (m ((c : Thread nD τ).loc main_arg7)) shapeCasts_S192_S1x192

/-- The row of block `n` of head-and-batch `b`, of the arguments as launched. -/
def rowAt (b : Fin 8) (n : Fin 192) (k : Fin 6144) : EReal :=
  entry (c := 192) (by norm_num) (m ((c : Thread nD τ).loc main_arg0)) (m ((c : Thread nD τ).loc main_arg1)) b n k

/-- The point as a head-and-batch. -/
def pt : Fin 8 := ⟨t.val, t.isLt⟩

/-! ## The host's arrays -/

theorem V_v (c : Dev nD) : V m c main_v0 = shapeCast S8x192x3072 (m ((c : Thread nD τ).loc main_arg0)) shapeCasts_S8x3072x192_S8x192x3072 := by
  unfold V hostOps0
  after_results
  rfl
theorem V_p (c : Dev nD) : V m c main_v1 = shapeCast S1x6144 (m ((c : Thread nD τ).loc main_arg1)) shapeCasts_S32x192_S1x6144 := by
  unfold V hostOps0
  after_results
  rfl
theorem V_s1 (c : Dev nD) : V m c main_v2 = (net m c).s1 := by
  unfold V hostOps0 net
  after_results
  rfl
theorem V_b1 (c : Dev nD) : V m c main_v3 = (net m c).b1 := by
  unfold V hostOps0 net
  after_results
  rfl
theorem V_s2 (c : Dev nD) : V m c main_v4 = (net m c).s2 := by
  unfold V hostOps0 net
  after_results
  rfl
theorem V_b2 (c : Dev nD) : V m c main_v5 = (net m c).b2 := by
  unfold V hostOps0 net
  after_results
  rfl

theorem rows_apply (v : FVec Ideal S8x3072x192 .f32) (b : Fin 8) (n : Fin 192) (k : Fin 3072) :
    shapeCast S8x192x3072 v shapeCasts_S8x3072x192_S8x192x3072 (ix3 b n k)
      = v (ix3 b ⟨16 * n.val + k.val / 192, by omega⟩ ⟨k.val % 192, by omega⟩) := by
  refine shapeCast_apply v _ _ _ ?_
  rw [Shape.rowMajor_val_three, Shape.rowMajor_val_three]
  show (b.val * 3072 + (16 * n.val + k.val / 192)) * 192 + k.val % 192 = (b.val * 192 + n.val) * 3072 + k.val
  omega

theorem pos_apply (p : FVec Ideal S32x192 .f32) (k : Fin 6144) :
    shapeCast S1x6144 p shapeCasts_S32x192_S1x6144 (ix2 0 k) = p (ix2 ⟨k.val / 192, by omega⟩ ⟨k.val % 192, by omega⟩) := by
  refine shapeCast_apply p _ _ _ ?_
  rw [Shape.rowMajor_val_two, Shape.rowMajor_val_two]
  show k.val / 192 * 192 + k.val % 192 = 0 * 6144 + k.val
  omega

/-! ## The blocks -/

theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

theorem blk0 (n : Fin 192) (k : Fin 3072) :
    (iblk m c 0 t : Vec Ideal S1x192x3072 .f32) (ix3 0 n k)
      = shapeCast S8x192x3072 (m ((c : Thread nD τ).loc main_arg0)) shapeCasts_S8x3072x192_S8x192x3072 (ix3 (pt t) n k) := by
  unfold iblk
  rw [View.read_apply]
  show V m c main_v0 _ = _
  rw [V_v]
  congr 1
  funext a
  apply Fin.ext
  match a with
  | ⟨0, _⟩ => show win0_0.index t 0 * 1 + 1 * 0 = t.val; rw [(idx0 t).1]; omega
  | ⟨1, _⟩ => show win0_0.index t 1 * 192 + 1 * n.val = n.val; rw [(idx0 t).2.1]; omega
  | ⟨2, _⟩ => show win0_0.index t 2 * 3072 + 1 * k.val = k.val; rw [(idx0 t).2.2]; omega

theorem off1 (t : Fin cfg0.N) : (fun a => win0_1.index t a * main_v1.ty.shape.size a) = fun _ => 0 :=
  funext fun a => (congrArg (· * _) ((by decide +kernel : ∀ (t : Fin grid0.N) (a : Fin 2), win0_1.index t a = 0) t a)).trans (Nat.zero_mul _)
/-- Window 1's one block is its array. -/
theorem blk1 : iblk m c 1 t = V m c main_v1 :=
  Memref.read_access_unit_zero (Elt Ideal) main_v1 (off1 t) (fun a => by rw [congrFun (off1 t) a]; simp) (V m c main_v1)
theorem off2 (t : Fin cfg0.N) : (fun a => win0_2.index t a * main_arg2.ty.shape.size a) = fun _ => 0 :=
  funext fun a => (congrArg (· * _) ((by decide +kernel : ∀ (t : Fin grid0.N) (a : Fin 2), win0_2.index t a = 0) t a)).trans (Nat.zero_mul _)
/-- Window 2's one block is its array. -/
theorem blk2 : iblk m c 2 t = V m c main_arg2 :=
  Memref.read_access_unit_zero (Elt Ideal) main_arg2 (off2 t) (fun a => by rw [congrFun (off2 t) a]; simp) (V m c main_arg2)
theorem off3 (t : Fin cfg0.N) : (fun a => win0_3.index t a * main_v2.ty.shape.size a) = fun _ => 0 :=
  funext fun a => (congrArg (· * _) ((by decide +kernel : ∀ (t : Fin grid0.N) (a : Fin 2), win0_3.index t a = 0) t a)).trans (Nat.zero_mul _)
/-- Window 3's one block is its array. -/
theorem blk3 : iblk m c 3 t = V m c main_v2 :=
  Memref.read_access_unit_zero (Elt Ideal) main_v2 (off3 t) (fun a => by rw [congrFun (off3 t) a]; simp) (V m c main_v2)
theorem off4 (t : Fin cfg0.N) : (fun a => win0_4.index t a * main_v3.ty.shape.size a) = fun _ => 0 :=
  funext fun a => (congrArg (· * _) ((by decide +kernel : ∀ (t : Fin grid0.N) (a : Fin 2), win0_4.index t a = 0) t a)).trans (Nat.zero_mul _)
/-- Window 4's one block is its array. -/
theorem blk4 : iblk m c 4 t = V m c main_v3 :=
  Memref.read_access_unit_zero (Elt Ideal) main_v3 (off4 t) (fun a => by rw [congrFun (off4 t) a]; simp) (V m c main_v3)
theorem off5 (t : Fin cfg0.N) : (fun a => win0_5.index t a * main_arg5.ty.shape.size a) = fun _ => 0 :=
  funext fun a => (congrArg (· * _) ((by decide +kernel : ∀ (t : Fin grid0.N) (a : Fin 2), win0_5.index t a = 0) t a)).trans (Nat.zero_mul _)
/-- Window 5's one block is its array. -/
theorem blk5 : iblk m c 5 t = V m c main_arg5 :=
  Memref.read_access_unit_zero (Elt Ideal) main_arg5 (off5 t) (fun a => by rw [congrFun (off5 t) a]; simp) (V m c main_arg5)
theorem off6 (t : Fin cfg0.N) : (fun a => win0_6.index t a * main_v4.ty.shape.size a) = fun _ => 0 :=
  funext fun a => (congrArg (· * _) ((by decide +kernel : ∀ (t : Fin grid0.N) (a : Fin 2), win0_6.index t a = 0) t a)).trans (Nat.zero_mul _)
/-- Window 6's one block is its array. -/
theorem blk6 : iblk m c 6 t = V m c main_v4 :=
  Memref.read_access_unit_zero (Elt Ideal) main_v4 (off6 t) (fun a => by rw [congrFun (off6 t) a]; simp) (V m c main_v4)
theorem off7 (t : Fin cfg0.N) : (fun a => win0_7.index t a * main_v5.ty.shape.size a) = fun _ => 0 :=
  funext fun a => (congrArg (· * _) ((by decide +kernel : ∀ (t : Fin grid0.N) (a : Fin 2), win0_7.index t a = 0) t a)).trans (Nat.zero_mul _)
/-- Window 7's one block is its array. -/
theorem blk7 : iblk m c 7 t = V m c main_v5 :=
  Memref.read_access_unit_zero (Elt Ideal) main_v5 (off7 t) (fun a => by rw [congrFun (off7 t) a]; simp) (V m c main_v5)

/-! ## The loads -/

theorem zero2 : (![0, 0] : Fin 2 → ℕ) = fun _ => 0 := by decide
theorem zero3 : (![0, 0, 0] : Fin 3 → ℕ) = fun _ => 0 := by decide

theorem ldV_eq : ldV m c t = iblk m c 0 t := by
  unfold ldV
  rw [View.readAt_eq_ld, Memref.IsWhole.read_unread]
  exact View.ld_unit_zero (S := S1x192x3072) zero3 _ _
theorem ldW1_eq : ldW1 m c t = (net m c).w1 := by
  unfold ldW1
  rw [View.readAt_eq_ld, Memref.IsWhole.read_unread]
  exact (View.ld_unit_zero (S := S6144x1536) zero2 _ _).trans ((blk2 m c t).trans (V_main_arg2 m c))
theorem ldS1_eq : ldS1 m c t = (net m c).s1 := by
  unfold ldS1
  rw [View.readAt_eq_ld, Memref.IsWhole.read_unread]
  exact (View.ld_unit_zero (S := S1x1536) zero2 _ _).trans ((blk3 m c t).trans (V_s1 m c))
theorem ldB1_eq : ldB1 m c t = (net m c).b1 := by
  unfold ldB1
  rw [View.readAt_eq_ld, Memref.IsWhole.read_unread]
  exact (View.ld_unit_zero (S := S1x1536) zero2 _ _).trans ((blk4 m c t).trans (V_b1 m c))
theorem ldW2_eq : ldW2 m c t = (net m c).w2 := by
  unfold ldW2
  rw [View.readAt_eq_ld, Memref.IsWhole.read_unread]
  exact (View.ld_unit_zero (S := S1536x192) zero2 _ _).trans ((blk5 m c t).trans (V_main_arg5 m c))
theorem ldS2_eq : ldS2 m c t = (net m c).s2 := by
  unfold ldS2
  rw [View.readAt_eq_ld, Memref.IsWhole.read_unread]
  exact (View.ld_unit_zero (S := S1x192) zero2 _ _).trans ((blk6 m c t).trans (V_s2 m c))
theorem ldB2_eq : ldB2 m c t = (net m c).b2 := by
  unfold ldB2
  rw [View.readAt_eq_ld, Memref.IsWhole.read_unread]
  exact (View.ld_unit_zero (S := S1x192) zero2 _ _).trans ((blk7 m c t).trans (V_b2 m c))

/-- A load of columns of a row. -/
theorem cols_apply (x : Vec Ideal S1x6144 .f32) (o : ℕ) (h : ∀ i, (![0, o] : Fin 2 → ℕ) i + S1x3072.size i ≤ S1x6144.size i) (k : Fin 3072) (j : Fin 6144)
    (hj : o + k.val = j.val) : View.ld (Val := Elt Ideal) x (Rect.unit (s := S1x6144) ![0, o] S1x3072.size h) (ix2 0 k) = x (ix2 0 j) := by
  show x _ = x _
  congr 1
  funext i
  apply Fin.ext
  match i with
  | ⟨0, _⟩ => rfl
  | ⟨1, _⟩ => show o + 1 * k.val = j.val; omega

theorem ldP_apply (k : Fin 3072) : ldP m c t (ix2 0 k)
    = shapeCast S1x6144 (m ((c : Thread nD τ).loc main_arg1)) shapeCasts_S32x192_S1x6144 (ix2 0 (lo k)) := by
  unfold ldP
  rw [View.readAt_eq_ld, Memref.IsWhole.read_unread, blk1, V_p]
  exact cols_apply _ 0 _ k _ (Nat.zero_add _)
theorem ldQ_apply (k : Fin 3072) : ldQ m c t (ix2 0 k)
    = shapeCast S1x6144 (m ((c : Thread nD τ).loc main_arg1)) shapeCasts_S32x192_S1x6144 (ix2 0 (hi k)) := by
  unfold ldQ
  rw [View.readAt_eq_ld, Memref.IsWhole.read_unread, blk1, V_p]
  exact cols_apply _ 3072 _ k _ rfl

/-! ## The row's entries, codes and scale -/

variable (n : Fin 192)

theorem first_eq (k : Fin 3072) : rowAt m c (pt t) n (lo k) = (ldV m c t (ix3 0 n k) + ldP m c t (ix2 0 k) : EReal) := by
  rw [ldV_eq, ldP_apply, blk0, rows_apply, pos_apply]
  exact entry_of _ _ _ _ _ _ _ _ _ (by show 16 * n.val + k.val / 192 = (16 * n.val + k.val / 192) % 3072; omega) rfl rfl

theorem second_eq (k : Fin 3072) : rowAt m c (pt t) n (hi k)
    = (ldV m c t (ix3 0 (nextBlock n) k) + ldQ m c t (ix2 0 k) : EReal) := by
  rw [ldV_eq, ldQ_apply, blk0, rows_apply, pos_apply]
  rw [show (⟨k.val % 192, by omega⟩ : Fin 192) = ⟨(3072 + k.val) % 192, by omega⟩ from Fin.ext (show k.val % 192 = (3072 + k.val) % 192 by omega)]
  exact entry_of _ _ _ _ _ _ _ _ _
    (by show 16 * ((n.val + 1) % 192) + k.val / 192 = (16 * n.val + (3072 + k.val) / 192) % 3072; omega) rfl rfl

theorem rowScale_eq : rowScale m c t (ix2 n 0) = inScale (rowAt m c (pt t) n) :=
  inScale_of _ _ _ n _ (first_eq m c t n) (second_eq m c t n)

theorem idx_one {a b : ℕ} (x : (⟨3, ![1, a, b]⟩ : Shape).Idx) : ∃ r l, x = ix3 0 r l :=
  ⟨x 1, x 2, (eq_ix3 x).trans (congrArg (fun z => ix3 z (x 1) (x 2)) (Subsingleton.elim (α := Fin 1) _ _))⟩

theorem inCode_at (b : Fin 8) (n n' : Fin 192) (k k' : Fin 6144) (hn : n.val = n'.val) (hk : k.val = k'.val) :
    inCode (rowAt m c b n) k = inCode (rowAt m c b n') k' := by
  obtain rfl := Fin.ext hn
  obtain rfl := Fin.ext hk
  rfl

/-- The stored halves are the row's codes. -/
theorem codePieces_eq : ∀ p ∈ codePieces m c t, ∀ x : p.1.shape.Idx,
    p.2 x = (fun y : S1x192x6144.Idx => inCode (rowAt m c (pt t) (y 1)) (y 2)) (p.1.emb x) := by
  intro p hp x
  simp only [codePieces, List.mem_cons, List.not_mem_nil, or_false] at hp
  rcases hp with rfl | rfl <;> obtain ⟨r, l, rfl⟩ := idx_one x
  · refine (secondCodes_of _ _ _ r _ (first_eq m c t r) (second_eq m c t r) l).trans (inCode_at m c _ _ _ _ _ ?_ ?_)
    · show r.val = 0 + 1 * r.val; omega
    · show 3072 + l.val = 3072 + 1 * l.val; omega
  · refine (firstCodes_of _ _ _ r _ (first_eq m c t r) (second_eq m c t r) l).trans (inCode_at m c _ _ _ _ _ ?_ ?_)
    · show r.val = 0 + 1 * r.val; omega
    · show l.val = 0 + 1 * l.val; omega

/-- What output 9 holds once both halves are stored. -/
theorem codes_canon (y : S1x192x6144.Idx) : View.canon (Val := Elt Ideal) (codePieces m c t) y = inCode (rowAt m c (pt t) (y 1)) (y 2) := by
  have hc := cover0_A_9 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (iblk m c 0 t) (iblk m c 1 t) (iblk m c 2 t) (iblk m c 3 t) (iblk m c 4 t) (iblk m c 5 t) (iblk m c 6 t) (iblk m c 7 t) y
  rw [pieces9] at hc
  exact View.canon_apply_of_pieces (Val := Elt Ideal) (e := .fp8e4m3) (fun y : S1x192x6144.Idx => inCode (rowAt m c (pt t) (y 1)) (y 2)) _ (codePieces_eq m c t) y hc

theorem ldCodes_eq (k : Fin 6144) : ldCodes m c t (ix3 0 n k) = inCode (rowAt m c (pt t) n) k := by
  unfold ldCodes
  rw [View.readCov_eq_canon']
  refine (codes_canon m c t _).trans (inCode_at m c _ _ _ _ _ ?_ ?_)
  · show 0 + 1 * n.val = n.val; omega
  · show 0 + 1 * k.val = k.val; omega

end Cert.CompressKIdeal.Hand

end
-- ==== Proof.CompressKValue.lean ====
/-
  THE KEYS' COMPRESSION'S VALUE. Grid point `t` computes the 192 rows of head-and-batch `t` of the four arrays of
  CompressSpec.lean; its 8 blocks tile each result.
-/
module

public import proofs.«01_k».proof.Proof.CompressKLoads

@[expose] public section

set_option maxRecDepth 16384

noncomputable section

namespace Cert.CompressKIdeal.Hand

open Cert.CompressKIdeal.Gen Cert.CompressSpec Cert.Quant
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD) (t : Fin cfg0.N)

/-! ## What a point stores, at an index -/

section
variable (n : Fin 192)

theorem stored_out (o : Fin 192) :
    k0_pay3 (hidScales m c t) (hidOver m c t) (Scalar.ofBits .f32 0x43E00000#32) k0_pay16 (ldW2 m c t) (ldS2 m c t) (ldB2 m c t) (ix3 0 n o)
      = out (net m c) (rowAt m c (pt t) n) o := by
  unfold hidScales hidOver
  rw [ldW1_eq, ldS1_eq, ldB1_eq, ldW2_eq, ldS2_eq, ldB2_eq]
  exact out_of (net m c) _ n _ _ (rowScale_eq m c t n) (ldCodes_eq m c t n) o

theorem stored_hid (j : Fin 1536) :
    k0_pay2 (hidOver m c t) (Scalar.ofBits .f32 0x43E00000#32) k0_pay16 (ix3 0 n j) = hidCode (net m c) (rowAt m c (pt t) n) j := by
  unfold hidOver
  rw [ldW1_eq, ldS1_eq, ldB1_eq]
  exact hidCodes_of (net m c) _ n _ _ (rowScale_eq m c t n) (ldCodes_eq m c t n) j

theorem stored_stat (l : Fin 128) : k0_pay4 (rowScale m c t) (hidScales m c t) (ix3 0 n l) = stat (net m c) (rowAt m c (pt t) n) l := by
  unfold hidScales
  rw [ldW1_eq, ldS1_eq, ldB1_eq]
  exact stat_of (net m c) _ n _ _ (rowScale_eq m c t n) (ldCodes_eq m c t n) l

end

/-! ## The final arrays -/

theorem pt_in (b : ℕ) : b * 1 ≤ b ∧ b < b * 1 + 1 := by omega
theorem in_whole (k n : ℕ) (h : n < k) : 0 * k ≤ n ∧ n < 0 * k + k := by omega

/-- The point of a head-and-batch. -/
def ptOf (b : ℕ) (h : b < 8) : Fin cfg0.N := ⟨b, h⟩

theorem idx8 : ∀ t : Fin cfg0.N, win0_8.index t 0 = t.val ∧ win0_8.index t 1 = 0 ∧ win0_8.index t 2 = 0 :=
  (by decide +kernel : ∀ t : Fin grid0.N, win0_8.index t 0 = t.val ∧ win0_8.index t 1 = 0 ∧ win0_8.index t 2 = 0)
theorem emb8 (n : Fin 192) (l : Fin 192) : ((cfg0.win 8).blk t).view.emb (ix3 0 n l) = (ix3 (pt t) n l : (⟨3, ![8, 192, 192]⟩ : Shape).Idx) := by
  funext a
  apply Fin.ext
  match a with
  | ⟨0, _⟩ => show win0_8.index t 0 * 1 + 1 * 0 = t.val; rw [(idx8 t).1]; omega
  | ⟨1, _⟩ => show win0_8.index t 1 * 192 + 1 * n.val = n.val; rw [(idx8 t).2.1]; omega
  | ⟨2, _⟩ => show win0_8.index t 2 * 192 + 1 * l.val = l.val; rw [(idx8 t).2.2]; omega
theorem final8 : (dats m 0 c).arrAt 8 cfg0.N = outs (net m c) (rowAt m c) :=
  (dats m 0 c).arrAt_eq_of_cover 8 (outs (net m c) (rowAt m c) : Buf (Elt Ideal) ((c : Thread nD τ).loc main_v6_0)) (fun t _ => by
    rw [Value.flushed8_A]
    funext j
    rw [View.read_apply]
    obtain ⟨n, l, rfl⟩ := idx_one (a := 192) (b := 192) j
    refine (View.read_writes_junk_apply_eq_canon (Val := Elt Ideal) VO0_8 (ix3 0 n l) (runAt m c t).1).trans ?_
    rw [pieces8, View.canon_unit_zero (S := S1x192x192) zero3, emb8]
    exact stored_out m c t n l) fun i => by
    have h0 : (i 0 : Nat) < 8 := (i 0).isLt
    refine ⟨ptOf (i 0).val h0, (by decide +kernel : ∀ t : Fin grid0.N, win0_8.flush t = true) (ptOf (i 0).val h0), ?_⟩
    show i ∈ ((View.whole main_v6_0).slice (win0_8.rect (ptOf (i 0).val h0))).set
    rw [View.set_slice_whole, Rect.mem_set_unit]
    intro a
    match a with
    | ⟨0, _⟩ =>
      show win0_8.index (ptOf (i 0).val h0) 0 * 1 ≤ (i 0 : Nat) ∧ (i 0 : Nat) < win0_8.index (ptOf (i 0).val h0) 0 * 1 + 1
      rw [(idx8 (ptOf (i 0).val h0)).1]; exact pt_in _
    | ⟨1, _⟩ =>
      show win0_8.index (ptOf (i 0).val h0) 1 * 192 ≤ (i 1 : Nat) ∧ (i 1 : Nat) < win0_8.index (ptOf (i 0).val h0) 1 * 192 + 192
      rw [(idx8 (ptOf (i 0).val h0)).2.1]; exact in_whole _ _ (i 1).isLt
    | ⟨2, _⟩ =>
      show win0_8.index (ptOf (i 0).val h0) 2 * 192 ≤ (i 2 : Nat) ∧ (i 2 : Nat) < win0_8.index (ptOf (i 0).val h0) 2 * 192 + 192
      rw [(idx8 (ptOf (i 0).val h0)).2.2]; exact in_whole _ _ (i 2).isLt

theorem idx9 : ∀ t : Fin cfg0.N, win0_9.index t 0 = t.val ∧ win0_9.index t 1 = 0 ∧ win0_9.index t 2 = 0 :=
  (by decide +kernel : ∀ t : Fin grid0.N, win0_9.index t 0 = t.val ∧ win0_9.index t 1 = 0 ∧ win0_9.index t 2 = 0)
theorem emb9 (n : Fin 192) (l : Fin 6144) : ((cfg0.win 9).blk t).view.emb (ix3 0 n l) = (ix3 (pt t) n l : (⟨3, ![8, 192, 6144]⟩ : Shape).Idx) := by
  funext a
  apply Fin.ext
  match a with
  | ⟨0, _⟩ => show win0_9.index t 0 * 1 + 1 * 0 = t.val; rw [(idx9 t).1]; omega
  | ⟨1, _⟩ => show win0_9.index t 1 * 192 + 1 * n.val = n.val; rw [(idx9 t).2.1]; omega
  | ⟨2, _⟩ => show win0_9.index t 2 * 6144 + 1 * l.val = l.val; rw [(idx9 t).2.2]; omega
theorem final9 : (dats m 0 c).arrAt 9 cfg0.N = inCodes (rowAt m c) :=
  (dats m 0 c).arrAt_eq_of_cover 9 (inCodes (rowAt m c) : Buf (Elt Ideal) ((c : Thread nD τ).loc main_v6_1)) (fun t _ => by
    rw [Value.flushed9_A]
    funext j
    rw [View.read_apply]
    obtain ⟨n, l, rfl⟩ := idx_one (a := 192) (b := 6144) j
    refine (View.read_writes_junk_apply_eq_canon (Val := Elt Ideal) VO0_9 (ix3 0 n l) (runAt m c t).2.1).trans ?_
    rw [pieces9]
    refine (codes_canon m c t _).trans ?_
    rw [emb9]
    rfl) fun i => by
    have h0 : (i 0 : Nat) < 8 := (i 0).isLt
    refine ⟨ptOf (i 0).val h0, (by decide +kernel : ∀ t : Fin grid0.N, win0_9.flush t = true) (ptOf (i 0).val h0), ?_⟩
    show i ∈ ((View.whole main_v6_1).slice (win0_9.rect (ptOf (i 0).val h0))).set
    rw [View.set_slice_whole, Rect.mem_set_unit]
    intro a
    match a with
    | ⟨0, _⟩ =>
      show win0_9.index (ptOf (i 0).val h0) 0 * 1 ≤ (i 0 : Nat) ∧ (i 0 : Nat) < win0_9.index (ptOf (i 0).val h0) 0 * 1 + 1
      rw [(idx9 (ptOf (i 0).val h0)).1]; exact pt_in _
    | ⟨1, _⟩ =>
      show win0_9.index (ptOf (i 0).val h0) 1 * 192 ≤ (i 1 : Nat) ∧ (i 1 : Nat) < win0_9.index (ptOf (i 0).val h0) 1 * 192 + 192
      rw [(idx9 (ptOf (i 0).val h0)).2.1]; exact in_whole _ _ (i 1).isLt
    | ⟨2, _⟩ =>
      show win0_9.index (ptOf (i 0).val h0) 2 * 6144 ≤ (i 2 : Nat) ∧ (i 2 : Nat) < win0_9.index (ptOf (i 0).val h0) 2 * 6144 + 6144
      rw [(idx9 (ptOf (i 0).val h0)).2.2]; exact in_whole _ _ (i 2).isLt

theorem idx10 : ∀ t : Fin cfg0.N, win0_10.index t 0 = t.val ∧ win0_10.index t 1 = 0 ∧ win0_10.index t 2 = 0 :=
  (by decide +kernel : ∀ t : Fin grid0.N, win0_10.index t 0 = t.val ∧ win0_10.index t 1 = 0 ∧ win0_10.index t 2 = 0)
theorem emb10 (n : Fin 192) (l : Fin 1536) : ((cfg0.win 10).blk t).view.emb (ix3 0 n l) = (ix3 (pt t) n l : (⟨3, ![8, 192, 1536]⟩ : Shape).Idx) := by
  funext a
  apply Fin.ext
  match a with
  | ⟨0, _⟩ => show win0_10.index t 0 * 1 + 1 * 0 = t.val; rw [(idx10 t).1]; omega
  | ⟨1, _⟩ => show win0_10.index t 1 * 192 + 1 * n.val = n.val; rw [(idx10 t).2.1]; omega
  | ⟨2, _⟩ => show win0_10.index t 2 * 1536 + 1 * l.val = l.val; rw [(idx10 t).2.2]; omega
theorem final10 : (dats m 0 c).arrAt 10 cfg0.N = hidCodes (net m c) (rowAt m c) :=
  (dats m 0 c).arrAt_eq_of_cover 10 (hidCodes (net m c) (rowAt m c) : Buf (Elt Ideal) ((c : Thread nD τ).loc main_v6_2)) (fun t _ => by
    rw [Value.flushed10_A]
    funext j
    rw [View.read_apply]
    obtain ⟨n, l, rfl⟩ := idx_one (a := 192) (b := 1536) j
    refine (View.read_writes_junk_apply_eq_canon (Val := Elt Ideal) VO0_10 (ix3 0 n l) (runAt m c t).2.2.1).trans ?_
    rw [pieces10, View.canon_unit_zero (S := S1x192x1536) zero3, emb10]
    exact stored_hid m c t n l) fun i => by
    have h0 : (i 0 : Nat) < 8 := (i 0).isLt
    refine ⟨ptOf (i 0).val h0, (by decide +kernel : ∀ t : Fin grid0.N, win0_10.flush t = true) (ptOf (i 0).val h0), ?_⟩
    show i ∈ ((View.whole main_v6_2).slice (win0_10.rect (ptOf (i 0).val h0))).set
    rw [View.set_slice_whole, Rect.mem_set_unit]
    intro a
    match a with
    | ⟨0, _⟩ =>
      show win0_10.index (ptOf (i 0).val h0) 0 * 1 ≤ (i 0 : Nat) ∧ (i 0 : Nat) < win0_10.index (ptOf (i 0).val h0) 0 * 1 + 1
      rw [(idx10 (ptOf (i 0).val h0)).1]; exact pt_in _
    | ⟨1, _⟩ =>
      show win0_10.index (ptOf (i 0).val h0) 1 * 192 ≤ (i 1 : Nat) ∧ (i 1 : Nat) < win0_10.index (ptOf (i 0).val h0) 1 * 192 + 192
      rw [(idx10 (ptOf (i 0).val h0)).2.1]; exact in_whole _ _ (i 1).isLt
    | ⟨2, _⟩ =>
      show win0_10.index (ptOf (i 0).val h0) 2 * 1536 ≤ (i 2 : Nat) ∧ (i 2 : Nat) < win0_10.index (ptOf (i 0).val h0) 2 * 1536 + 1536
      rw [(idx10 (ptOf (i 0).val h0)).2.2]; exact in_whole _ _ (i 2).isLt

theorem idx11 : ∀ t : Fin cfg0.N, win0_11.index t 0 = t.val ∧ win0_11.index t 1 = 0 ∧ win0_11.index t 2 = 0 :=
  (by decide +kernel : ∀ t : Fin grid0.N, win0_11.index t 0 = t.val ∧ win0_11.index t 1 = 0 ∧ win0_11.index t 2 = 0)
theorem emb11 (n : Fin 192) (l : Fin 128) : ((cfg0.win 11).blk t).view.emb (ix3 0 n l) = (ix3 (pt t) n l : (⟨3, ![8, 192, 128]⟩ : Shape).Idx) := by
  funext a
  apply Fin.ext
  match a with
  | ⟨0, _⟩ => show win0_11.index t 0 * 1 + 1 * 0 = t.val; rw [(idx11 t).1]; omega
  | ⟨1, _⟩ => show win0_11.index t 1 * 192 + 1 * n.val = n.val; rw [(idx11 t).2.1]; omega
  | ⟨2, _⟩ => show win0_11.index t 2 * 128 + 1 * l.val = l.val; rw [(idx11 t).2.2]; omega
theorem final11 : (dats m 0 c).arrAt 11 cfg0.N = stats (net m c) (rowAt m c) :=
  (dats m 0 c).arrAt_eq_of_cover 11 (stats (net m c) (rowAt m c) : Buf (Elt Ideal) ((c : Thread nD τ).loc main_v6_3)) (fun t _ => by
    rw [Value.flushed11_A]
    funext j
    rw [View.read_apply]
    obtain ⟨n, l, rfl⟩ := idx_one (a := 192) (b := 128) j
    refine (View.read_writes_junk_apply_eq_canon (Val := Elt Ideal) VO0_11 (ix3 0 n l) (runAt m c t).2.2.2.1).trans ?_
    rw [pieces11, View.canon_unit_zero (S := S1x192x128) zero3, emb11]
    exact stored_stat m c t n l) fun i => by
    have h0 : (i 0 : Nat) < 8 := (i 0).isLt
    refine ⟨ptOf (i 0).val h0, (by decide +kernel : ∀ t : Fin grid0.N, win0_11.flush t = true) (ptOf (i 0).val h0), ?_⟩
    show i ∈ ((View.whole main_v6_3).slice (win0_11.rect (ptOf (i 0).val h0))).set
    rw [View.set_slice_whole, Rect.mem_set_unit]
    intro a
    match a with
    | ⟨0, _⟩ =>
      show win0_11.index (ptOf (i 0).val h0) 0 * 1 ≤ (i 0 : Nat) ∧ (i 0 : Nat) < win0_11.index (ptOf (i 0).val h0) 0 * 1 + 1
      rw [(idx11 (ptOf (i 0).val h0)).1]; exact pt_in _
    | ⟨1, _⟩ =>
      show win0_11.index (ptOf (i 0).val h0) 1 * 192 ≤ (i 1 : Nat) ∧ (i 1 : Nat) < win0_11.index (ptOf (i 0).val h0) 1 * 192 + 192
      rw [(idx11 (ptOf (i 0).val h0)).2.1]; exact in_whole _ _ (i 1).isLt
    | ⟨2, _⟩ =>
      show win0_11.index (ptOf (i 0).val h0) 2 * 128 ≤ (i 2 : Nat) ∧ (i 2 : Nat) < win0_11.index (ptOf (i 0).val h0) 2 * 128 + 128
      rw [(idx11 (ptOf (i 0).val h0)).2.2]; exact in_whole _ _ (i 2).isLt

/-- The run: the four results, the arguments unchanged. -/
theorem run : θ_run defs (onTc (τ := τ) (main (F := Ideal))) ⟨m, fun _ => 0, ρ⟩ fun r => ∀ c : Dev nD,
      r.2.mem ((c : Thread nD τ).loc main_v6_0) = outs (net m c) (rowAt m c)
      ∧ r.2.mem ((c : Thread nD τ).loc main_v6_1) = inCodes (rowAt m c)
      ∧ r.2.mem ((c : Thread nD τ).loc main_v6_2) = hidCodes (net m c) (rowAt m c)
      ∧ r.2.mem ((c : Thread nD τ).loc main_v6_3) = stats (net m c) (rowAt m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final8 m c), (h c).2.1.trans (final9 m c), (h c).2.2.1.trans (final10 m c),
    (h c).2.2.2.1.trans (final11 m c), (h c).2.2.2.2⟩) (Value.run_blocks m ρ)

end Cert.CompressKIdeal.Hand

end
-- ==== Proof.CompressKRefPay.lean ====
/-
  THE KEYS' COMPRESSION REFERENCE'S STORED VALUES, at an index: with a row of its argument named, they are CompressSpec.lean's.
-/
module

public import proofs.«01_k».proof.Proof.Gen.CompressKRefIdeal.Skeleton
public import proofs.«01_k».proof.Proof.CompressSpec
public import Idealize.ShloMosaic.Lib.KernelVsHost

@[expose] public section

set_option maxRecDepth 16384

noncomputable section

namespace Cert.CompressKRefIdeal.Hand

open Cert.CompressKRefIdeal Cert.CompressKRefIdeal.Gen Idealize.ShloMosaic Idealize.ShloMosaic.TcCoe
open Cert.CompressSpec Cert.Quant

/-! ## The layers -/

section
variable (r : Fin 1536)

theorem cast_apply (x : FVec Ideal S1536x6144 .f32) (k : Fin 6144) : k0_pay1 (F := Ideal) x (ix2 r k) = x (ix2 r k) := by
  pointwise [k0_pay1]

theorem rowMax_apply (x : FVec Ideal S1536x6144 .f32) :
    shapeCast S1536x1 (multiReduction .maximumf [1] S1536 (absf x) 0xFF800000#32 reduces_S1536x6144_S1536 (.inl rfl) rfl)
      shapeCasts_S1536_S1536x1 (ix2 r 0) = amax fun l => x (ix2 r l) := by
  rw [show shapeCast S1536x1 (multiReduction .maximumf [1] S1536 (absf x) 0xFF800000#32 reduces_S1536x6144_S1536 (.inl rfl) rfl)
      shapeCasts_S1536_S1536x1 (ix2 r 0) = _ by pointwise; rfl]
  exact fold_absf _

theorem rowMaxHid_apply (x : FVec Ideal S1536x1536 .f32) :
    shapeCast S1536x1 (multiReduction .maximumf [1] S1536 (absf x) 0xFF800000#32 reduces_S1536x1536_S1536 (.inl rfl) rfl)
      shapeCasts_S1536_S1536x1 (ix2 r 0) = amax fun l => x (ix2 r l) := by
  rw [show shapeCast S1536x1 (multiReduction .maximumf [1] S1536 (absf x) 0xFF800000#32 reduces_S1536x1536_S1536 (.inl rfl) rfl)
      shapeCasts_S1536_S1536x1 (ix2 r 0) = _ by pointwise; rfl]
  exact fold_absf _

theorem affine_apply (y : FVec Ideal S1536x1 .f32) (cs : FVec Ideal S1536x6144 .fp8e4m3) (w : FVec Ideal S6144x1536 .fp8e4m3) (s b : FVec Ideal S1x1536 .f32) (j : Fin 1536) :
    addf (mulf (mulf (matmul dot_S1536x6144_S6144x1536_S1536x1536_1_0_0_1_n_n none cs w (constant S1536x1536 .f32 0x00000000#32))
      (broadcastTo S1536x1536 y broadcasts_S1536x1_S1536x1536)) (broadcastTo S1536x1536 (shapeCast S1x1536 s shapeCasts_S1x1536_S1x1536) broadcasts_S1x1536_S1536x1536))
      (broadcastTo S1536x1536 (shapeCast S1x1536 b shapeCasts_S1x1536_S1x1536) broadcasts_S1x1536_S1536x1536) (ix2 r j)
      = ((∑ k : Fin 6144, cs (ix2 r k) * w (ix2 k j)) * y (ix2 r 0) * s (ix2 0 j) + b (ix2 0 j) : EReal) := by
  pointwise

theorem swish_apply (z : FVec Ideal S1536x1536 .f32) (j : Fin 1536) : mulf z (logistic z) (ix2 r j) = (z (ix2 r j) * Ideal.logistic (z (ix2 r j)) : EReal) := rfl

variable (N : Net 6144 192) (x : Vec Ideal S1536x6144 .f32) (f : Fin 6144 → EReal) (hf : ∀ k, x (ix2 r k) = f k)
include hf

theorem inScale_of : k0_pay2 (F := Ideal) x (ix2 r 0) = inScale f := by
  unfold k0_pay2
  rw [scale_apply, rowMax_apply]
  simp only [cast_apply, hf]
  rfl

theorem inCode_of (k : Fin 6144) : k0_pay3 (F := Ideal) x (ix2 r k) = inCode f k := by
  unfold k0_pay3
  rw [codes_apply, show ∀ y : FVec Ideal S1536x1 .f32, broadcastTo S1536x6144 y broadcasts_S1536x1_S1536x6144 (ix2 r k) = y (ix2 r 0) from fun y => by pointwise,
    cast_apply, inScale_of r x f hf, hf]
  rfl

theorem hid_of (j : Fin 1536) : k0_pay4 (F := Ideal) x N.w1 N.s1 N.b1 (ix2 r j) = hid N f j := by
  unfold k0_pay4
  rw [swish_apply, affine_apply]
  simp only [inScale_of r x f hf, inCode_of r x f hf]
  rfl

theorem hidScale_of : k0_pay5 (F := Ideal) x N.w1 N.s1 N.b1 (ix2 r 0) = hidScale N f := by
  unfold k0_pay5
  rw [scale_apply, rowMaxHid_apply]
  simp only [hid_of r N x f hf]
  rfl

theorem hidCode_of (j : Fin 1536) : k0_pay6 (F := Ideal) (k0_pay4 x N.w1 N.s1 N.b1) (k0_pay5 x N.w1 N.s1 N.b1) (ix2 r j) = hidCode N f j := by
  unfold k0_pay6
  rw [codes_apply, show ∀ y : FVec Ideal S1536x1 .f32, broadcastTo S1536x1536 y broadcasts_S1536x1_S1536x1536 (ix2 r j) = y (ix2 r 0) from fun y => by pointwise,
    hid_of r N x f hf, hidScale_of r N x f hf]
  rfl

end

/-! ## What is stored -/

section
variable (b : Fin 8) (n : Fin 192) (N : Net 6144 192) (x : Vec Ideal S1536x6144 .f32) (f : Fin 6144 → EReal) (hf : ∀ k, x (ix2 (rowOf b n) k) = f k)

theorem layer_apply (r : Fin 1536) (y : FVec Ideal S1536x1 .f32) (hcs : FVec Ideal S1536x1536 .fp8e4m3) (o : Fin 192) :
    truncf .bf16 (addf (mulf (mulf (matmul dot_S1536x1536_S1536x192_S1536x192_1_0_0_1_n_n none hcs N.w2 (constant S1536x192 .f32 0x00000000#32))
      (broadcastTo S1536x192 y broadcasts_S1536x1_S1536x192)) (broadcastTo S1536x192 (shapeCast S1x192 N.s2 shapeCasts_S1x192_S1x192) broadcasts_S1x192_S1536x192))
      (broadcastTo S1536x192 (shapeCast S1x192 N.b2 shapeCasts_S1x192_S1x192) broadcasts_S1x192_S1536x192)) bitsLt_bf16_f32 (ix2 r o)
      = ((∑ j : Fin 1536, hcs (ix2 r j) * N.w2 (ix2 j o)) * y (ix2 r 0) * N.s2 (ix2 0 o) + N.b2 (ix2 0 o) : EReal) := by
  pointwise

theorem lanes_apply (r : Fin 1536) (y z : FVec Ideal S1536x1 .f32) (l : Fin 128) :
    select (cmpi .eq (iota .tc S1536x128 32 [1] iota_S1536x128_d1_w32) (broadcast S1536x128 0#32))
      (broadcastTo S1536x128 (shapeCast S1536x1 y shapeCasts_S1536x1_S1536x1) broadcasts_S1536x1_S1536x128)
      (broadcastTo S1536x128 (shapeCast S1536x1 z shapeCasts_S1536x1_S1536x1) broadcasts_S1536x1_S1536x128) (ix2 r l)
      = (if l.val = 0 then y (ix2 r 0) else z (ix2 r 0) : EReal) := by
  rw [← lane_select]; pointwise

include hf

theorem out_of (o : Fin 192) :
    k0_pay7 (F := Ideal) (k0_pay4 x N.w1 N.s1 N.b1) (k0_pay5 x N.w1 N.s1 N.b1) N.w2 N.s2 N.b2 (ix3 b n o) = out N f o := by
  unfold k0_pay7
  refine (apart_apply _ _ b n o).trans ?_
  rw [layer_apply N, hidScale_of _ N x f hf]
  simp only [hidCode_of _ N x f hf]
  rfl

theorem inCodes_of (k : Fin 6144) : k0_pay8 (F := Ideal) (k0_pay3 x) (ix3 b n k) = inCode f k := by
  unfold k0_pay8
  exact (apart_apply _ _ b n k).trans (inCode_of _ x f hf k)

theorem hidCodes_of (j : Fin 1536) : k0_pay9 (F := Ideal) (k0_pay4 x N.w1 N.s1 N.b1) (k0_pay5 x N.w1 N.s1 N.b1) (ix3 b n j) = hidCode N f j := by
  unfold k0_pay9
  exact (apart_apply _ _ b n j).trans (hidCode_of _ N x f hf j)

theorem stat_of (l : Fin 128) : k0_pay10 (F := Ideal) (k0_pay2 x) (k0_pay5 x N.w1 N.s1 N.b1) (ix3 b n l) = stat N f l := by
  unfold k0_pay10
  refine (apart_apply _ _ b n l).trans ?_
  rw [lanes_apply, inScale_of _ x f hf, hidScale_of _ N x f hf]
  rfl

end

/-! ## The rows the host hands the call -/

/-! The blocks' first halves and their second, with the position embedding added. -/
def firstHalf (v : FVec Ideal S8x3072x192 .f32) (p : FVec Ideal S32x192 .f32) : FVec Ideal S8x191x3072 .f32 :=
  shapeCast S8x191x3072 (addf (extractStridedSlice S8x191x16x192 ![0, 0, 0, 0] (shapeCast S8x192x16x192 v shapeCasts_S8x3072x192_S8x192x16x192) slices_S8x192x16x192_S8x191x16x192_0_0_0_0)
    (broadcastInDim S8x191x16x192 ![0, 1, 2, 3] bcast_S1x1x16x192_S8x191x16x192_0_1_2_3 (broadcastInDim S1x1x16x192 ![2, 3] bcast_S16x192_S1x1x16x192_2_3
      (extractStridedSlice S16x192 ![0, 0] p slices_S32x192_S16x192_0_0)))) shapeCasts_S8x191x16x192_S8x191x3072
def secondHalf (v : FVec Ideal S8x3072x192 .f32) (p : FVec Ideal S32x192 .f32) : FVec Ideal S8x191x3072 .f32 :=
  shapeCast S8x191x3072 (addf (extractStridedSlice S8x191x16x192 ![0, 1, 0, 0] (shapeCast S8x192x16x192 v shapeCasts_S8x3072x192_S8x192x16x192) slices_S8x192x16x192_S8x191x16x192_0_1_0_0)
    (broadcastInDim S8x191x16x192 ![0, 1, 2, 3] bcast_S1x1x16x192_S8x191x16x192_0_1_2_3 (broadcastInDim S1x1x16x192 ![2, 3] bcast_S16x192_S1x1x16x192_2_3
      (extractStridedSlice S16x192 ![16, 0] p slices_S32x192_S16x192_16_0)))) shapeCasts_S8x191x16x192_S8x191x3072

/-- The rows: the halves side by side, a row of zeros after each head and batch's 191, in one array. -/
def flat (v : FVec Ideal S8x3072x192 .f32) (p : FVec Ideal S32x192 .f32) : FVec Ideal S1536x6144 .f32 :=
  shapeCast S1536x6144 (pad S8x192x6144 ![0, 0, 0] ![0, 1, 0] ![0, 0, 0]
    (concatenate S8x191x6144 2 [⟨S8x191x3072, firstHalf v p⟩, ⟨S8x191x3072, secondHalf v p⟩] concatenates_S8x191x3072_S8x191x3072_S8x191x6144_d2)
    (sitofp .f32 (constantI S_ 32 0#32)) pads_S8x191x6144_S8x192x6144_000_010_000 h_S_) shapeCasts_S8x192x6144_S1536x6144

section
variable (v : FVec Ideal S8x3072x192 .f32) (p : FVec Ideal S32x192 .f32) (b : Fin 8) (n : Fin 191)

theorem blocks_apply (n : Fin 192) (q : Fin 16) (d : Fin 192) :
    shapeCast S8x192x16x192 v shapeCasts_S8x3072x192_S8x192x16x192 (ix4 b n q d) = v (ix3 b ⟨16 * n.val + q.val, by omega⟩ d) := by
  refine shapeCast_apply v _ _ _ ?_
  rw [Shape.rowMajor_val_three, Shape.rowMajor_val_four]
  show (b.val * 3072 + (16 * n.val + q.val)) * 192 + d.val = ((b.val * 192 + n.val) * 16 + q.val) * 192 + d.val
  omega

theorem merged_apply (x : FVec Ideal S8x191x16x192 .f32) (k : Fin 3072) :
    shapeCast S8x191x3072 x shapeCasts_S8x191x16x192_S8x191x3072 (ix3 b n k) = x (ix4 b n ⟨k.val / 192, by omega⟩ ⟨k.val % 192, by omega⟩) := by
  refine shapeCast_apply x _ _ _ ?_
  rw [Shape.rowMajor_val_three, Shape.rowMajor_val_four]
  show ((b.val * 191 + n.val) * 16 + k.val / 192) * 192 + k.val % 192 = (b.val * 191 + n.val) * 3072 + k.val
  omega

theorem firstHalf_apply (k : Fin 3072) : firstHalf v p (ix3 b n k)
    = (v (ix3 b ⟨16 * n.val + k.val / 192, by omega⟩ ⟨k.val % 192, by omega⟩) + p (ix2 ⟨k.val / 192, by omega⟩ ⟨k.val % 192, by omega⟩) : EReal) := by
  unfold firstHalf
  rw [merged_apply]
  rw [show ∀ (w : FVec Ideal S8x192x16x192 .f32) (q : Fin 16) (d : Fin 192), addf (extractStridedSlice S8x191x16x192 ![0, 0, 0, 0] w slices_S8x192x16x192_S8x191x16x192_0_0_0_0)
    (broadcastInDim S8x191x16x192 ![0, 1, 2, 3] bcast_S1x1x16x192_S8x191x16x192_0_1_2_3 (broadcastInDim S1x1x16x192 ![2, 3] bcast_S16x192_S1x1x16x192_2_3
      (extractStridedSlice S16x192 ![0, 0] p slices_S32x192_S16x192_0_0))) (ix4 b n q d)
      = (w (ix4 b ⟨n.val, by omega⟩ q d) + p (ix2 ⟨q.val, by omega⟩ d) : EReal) from fun w q d => by pointwise]
  rw [blocks_apply]

theorem secondHalf_apply (k : Fin 3072) : secondHalf v p (ix3 b n k)
    = (v (ix3 b ⟨16 * (1 + n.val) + k.val / 192, by omega⟩ ⟨k.val % 192, by omega⟩) + p (ix2 ⟨16 + k.val / 192, by omega⟩ ⟨k.val % 192, by omega⟩) : EReal) := by
  unfold secondHalf
  rw [merged_apply]
  rw [show ∀ (w : FVec Ideal S8x192x16x192 .f32) (q : Fin 16) (d : Fin 192), addf (extractStridedSlice S8x191x16x192 ![0, 1, 0, 0] w slices_S8x192x16x192_S8x191x16x192_0_1_0_0)
    (broadcastInDim S8x191x16x192 ![0, 1, 2, 3] bcast_S1x1x16x192_S8x191x16x192_0_1_2_3 (broadcastInDim S1x1x16x192 ![2, 3] bcast_S16x192_S1x1x16x192_2_3
      (extractStridedSlice S16x192 ![16, 0] p slices_S32x192_S16x192_16_0))) (ix4 b n q d)
      = (w (ix4 b ⟨1 + n.val, by omega⟩ q d) + p (ix2 ⟨16 + q.val, by omega⟩ d) : EReal) from fun w q d => by pointwise]
  rw [blocks_apply]

theorem beside_apply (g h : FVec Ideal S8x191x3072 .f32) (k : Fin 6144) :
    concatenate S8x191x6144 2 [⟨S8x191x3072, g⟩, ⟨S8x191x3072, h⟩] concatenates_S8x191x3072_S8x191x3072_S8x191x6144_d2 (ix3 b n k)
      = if hk : k.val < 3072 then g (ix3 b n ⟨k.val, hk⟩) else h (ix3 b n ⟨k.val - 3072, by omega⟩) := by
  pointwise

theorem padded_apply (x : FVec Ideal S8x191x6144 .f32) (z : FVec Ideal S_ .f32) (k : Fin 6144) :
    pad S8x192x6144 ![0, 0, 0] ![0, 1, 0] ![0, 0, 0] x z pads_S8x191x6144_S8x192x6144_000_010_000 h_S_ (ix3 b ⟨n.val, by omega⟩ k) = x (ix3 b n k) := by
  refine pad_apply_of_inside _ _ _ x z _ _ _ _ fun a => ?_
  match a with
  | ⟨0, _⟩ => show b.val = 0 + b.val * 1; omega
  | ⟨1, _⟩ => show n.val = 0 + n.val * 1; omega
  | ⟨2, _⟩ => show k.val = 0 + k.val * 1; omega

theorem flat_apply (n : Fin 192) (hn : n.val < 191) (k : Fin 6144) : flat v p (ix2 (rowOf b n) k) = entry (c := 192) (by norm_num) v p b n k := by
  unfold flat
  refine (together_apply _ _ b n k).trans ((padded_apply b ⟨n.val, hn⟩ _ _ k).trans ?_)
  rw [beside_apply]
  split
  · rw [firstHalf_apply]
    exact (entry_of _ _ _ _ _ _ _ _ _ (by show 16 * n.val + k.val / 192 = (16 * n.val + k.val / 192) % 3072; omega) rfl rfl).symm
  · rw [secondHalf_apply]
    exact (entry_of _ _ _ _ _ _ _ _ _ (by show 16 * (1 + n.val) + (k.val - 3072) / 192 = (16 * n.val + k.val / 192) % 3072; omega)
      (by show (k.val - 3072) % 192 = k.val % 192; omega) (by show 16 + (k.val - 3072) / 192 = k.val / 192; omega)).symm

end

end Cert.CompressKRefIdeal.Hand

end
-- ==== Proof.CompressKRefValue.lean ====
/-
  THE KEYS' COMPRESSION REFERENCE'S VALUE. The reference is one call over the rows of all the heads and batches together: each
  output's only block is the array, and at a block of the sequence what the body stores is CompressSpec.lean's of that block's row.
-/
module

public import proofs.«01_k».proof.Proof.Gen.CompressKRefIdeal.Frame
public import proofs.«01_k».proof.Proof.CompressKRefPay

@[expose] public section

set_option maxRecDepth 16384

noncomputable section

namespace Cert.CompressKRefIdeal.Hand

open Cert.CompressKRefIdeal Cert.CompressKRefIdeal.Gen Idealize.ShloMosaic Idealize.ShloMosaic.TcCoe Idealize.SL.Sem
open Cert.CompressSpec

theorem hz2 : (![0, 0] : Fin 2 → Nat) = fun _ => 0 := funext fun a => by fin_cases a <;> rfl
theorem hz3 : (![0, 0, 0] : Fin 3 → Nat) = fun _ => 0 := funext fun a => by fin_cases a <;> rfl

/-! ## What the body leaves in each output, of the arguments' arrays -/

section
variable (N : Net 6144 192) (x : Vec Ideal S1536x6144 .f32)

theorem loads_all (x0 : Vec Ideal S1536x6144 .f32) (x1 : Vec Ideal S6144x1536 .fp8e4m3) (x2 x3 : Vec Ideal S1x1536 .f32)
    (x4 : Vec Ideal S1536x192 .fp8e4m3) (x5 x6 : Vec Ideal S1x192 .f32) :
    View.ld x0 r0_0 = x0 ∧ View.ld x1 r0_1 = x1 ∧ View.ld x2 r0_2 = x2 ∧ View.ld x3 r0_2 = x3
    ∧ View.ld x4 r0_3 = x4 ∧ View.ld x5 r0_4 = x5 ∧ View.ld x6 r0_4 = x6 :=
  ⟨View.ld_unit_zero hz2 _ _, View.ld_unit_zero hz2 _ _, View.ld_unit_zero hz2 _ _, View.ld_unit_zero hz2 _ _,
    View.ld_unit_zero hz2 _ _, View.ld_unit_zero hz2 _ _, View.ld_unit_zero hz2 _ _⟩

/-- The hidden rows and their scales, of the loaded blocks. -/
theorem loaded : k0_pay11 (F := Ideal) x N.w1 N.s1 N.b1 N.w2 N.s2 N.b2 = k0_pay4 x N.w1 N.s1 N.b1
    ∧ k0_pay12 (F := Ideal) x N.w1 N.s1 N.b1 N.w2 N.s2 N.b2 = k0_pay5 x N.w1 N.s1 N.b1 := by
  obtain ⟨h0, h1, h2, h3, h4, h5, h6⟩ := loads_all x N.w1 N.s1 N.b1 N.w2 N.s2 N.b2
  unfold k0_pay11 k0_pay12
  rw [h0, h1, h2, h3]
  exact ⟨rfl, rfl⟩

variable (row : Fin 8 → Fin 192 → Fin 6144 → EReal)
  (hrow : ∀ (b : Fin 8) (n : Fin 192), n.val < 191 → ∀ k, x (ix2 (rowOf b n) k) = row b n k)
include hrow

theorem out7_eq (i : (⟨3, ![8, 192, 192]⟩ : Shape).Idx) (hi : (i 1).val < 191) :
    out0_7 (F := Ideal) x N.w1 N.s1 N.b1 N.w2 N.s2 N.b2 i = outs N row i := by
  obtain ⟨h0, h1, h2, h3, h4, h5, h6⟩ := loads_all x N.w1 N.s1 N.b1 N.w2 N.s2 N.b2
  obtain ⟨g1, g2⟩ := loaded N x
  unfold out0_7
  rw [View.canon_unit_zero hz3]
  simp only [h0, h4, h5, h6, g1, g2]
  obtain ⟨b, n, o, rfl⟩ : ∃ (b : Fin 8) (n : Fin 192) (o : Fin 192), i = ix3 b n o := ⟨i 0, i 1, i 2, eq_ix3 i⟩
  exact out_of _ _ N x _ (hrow _ _ hi) _

theorem out8_eq (i : (⟨3, ![8, 192, 6144]⟩ : Shape).Idx) (hi : (i 1).val < 191) :
    out0_8 (F := Ideal) x N.w1 N.s1 N.b1 N.w2 N.s2 N.b2 i = inCodes row i := by
  obtain ⟨h0, h1, h2, h3, h4, h5, h6⟩ := loads_all x N.w1 N.s1 N.b1 N.w2 N.s2 N.b2
  obtain ⟨g1, g2⟩ := loaded N x
  unfold out0_8
  rw [View.canon_unit_zero hz3]
  simp only [h0, h4, h5, h6, g1, g2]
  obtain ⟨b, n, o, rfl⟩ : ∃ (b : Fin 8) (n : Fin 192) (o : Fin 6144), i = ix3 b n o := ⟨i 0, i 1, i 2, eq_ix3 i⟩
  exact inCodes_of _ _ x _ (hrow _ _ hi) _

theorem out9_eq (i : (⟨3, ![8, 192, 1536]⟩ : Shape).Idx) (hi : (i 1).val < 191) :
    out0_9 (F := Ideal) x N.w1 N.s1 N.b1 N.w2 N.s2 N.b2 i = hidCodes N row i := by
  obtain ⟨h0, h1, h2, h3, h4, h5, h6⟩ := loads_all x N.w1 N.s1 N.b1 N.w2 N.s2 N.b2
  obtain ⟨g1, g2⟩ := loaded N x
  unfold out0_9
  rw [View.canon_unit_zero hz3]
  simp only [h0, h4, h5, h6, g1, g2]
  obtain ⟨b, n, o, rfl⟩ : ∃ (b : Fin 8) (n : Fin 192) (o : Fin 1536), i = ix3 b n o := ⟨i 0, i 1, i 2, eq_ix3 i⟩
  exact hidCodes_of _ _ N x _ (hrow _ _ hi) _

theorem out10_eq (i : (⟨3, ![8, 192, 128]⟩ : Shape).Idx) (hi : (i 1).val < 191) :
    out0_10 (F := Ideal) x N.w1 N.s1 N.b1 N.w2 N.s2 N.b2 i = stats N row i := by
  obtain ⟨h0, h1, h2, h3, h4, h5, h6⟩ := loads_all x N.w1 N.s1 N.b1 N.w2 N.s2 N.b2
  obtain ⟨g1, g2⟩ := loaded N x
  unfold out0_10
  rw [View.canon_unit_zero hz3]
  simp only [h0, h4, h5, h6, g1, g2]
  obtain ⟨b, n, o, rfl⟩ : ∃ (b : Fin 8) (n : Fin 192) (o : Fin 128), i = ix3 b n o := ⟨i 0, i 1, i 2, eq_ix3 i⟩
  exact stat_of _ _ N x _ (hrow _ _ hi) _

end

/-! ## The blocks -/

variable (m : (ℓ : Loc nD τ sig) → Buf (Elt Ideal) ℓ) (ρ : Dev nD → PrngReg)

theorem off0 (t : Fin cfg0.N) : (fun a => win0_0.index t a * main_v15.ty.shape.size a) = fun _ => 0 :=
  funext fun a => (congrArg (· * _) ((by decide +kernel : ∀ (t : Fin grid0.N) (a : Fin 2), win0_0.index t a = 0) t a)).trans (Nat.zero_mul _)
/-- Window 0's one block is its array. -/
theorem blk0 (c : Dev nD) (t : Fin cfg0.N) : iblk m c 0 t = V m c main_v15 :=
  Memref.read_access_unit_zero (Elt Ideal) main_v15 (off0 t) (fun a => by rw [congrFun (off0 t) a]; simp) (V m c main_v15)
theorem off1 (t : Fin cfg0.N) : (fun a => win0_1.index t a * main_arg2.ty.shape.size a) = fun _ => 0 :=
  funext fun a => (congrArg (· * _) ((by decide +kernel : ∀ (t : Fin grid0.N) (a : Fin 2), win0_1.index t a = 0) t a)).trans (Nat.zero_mul _)
/-- Window 1's one block is its array. -/
theorem blk1 (c : Dev nD) (t : Fin cfg0.N) : iblk m c 1 t = V m c main_arg2 :=
  Memref.read_access_unit_zero (Elt Ideal) main_arg2 (off1 t) (fun a => by rw [congrFun (off1 t) a]; simp) (V m c main_arg2)
theorem off2 (t : Fin cfg0.N) : (fun a => win0_2.index t a * main_v16.ty.shape.size a) = fun _ => 0 :=
  funext fun a => (congrArg (· * _) ((by decide +kernel : ∀ (t : Fin grid0.N) (a : Fin 2), win0_2.index t a = 0) t a)).trans (Nat.zero_mul _)
/-- Window 2's one block is its array. -/
theorem blk2 (c : Dev nD) (t : Fin cfg0.N) : iblk m c 2 t = V m c main_v16 :=
  Memref.read_access_unit_zero (Elt Ideal) main_v16 (off2 t) (fun a => by rw [congrFun (off2 t) a]; simp) (V m c main_v16)
theorem off3 (t : Fin cfg0.N) : (fun a => win0_3.index t a * main_v17.ty.shape.size a) = fun _ => 0 :=
  funext fun a => (congrArg (· * _) ((by decide +kernel : ∀ (t : Fin grid0.N) (a : Fin 2), win0_3.index t a = 0) t a)).trans (Nat.zero_mul _)
/-- Window 3's one block is its array. -/
theorem blk3 (c : Dev nD) (t : Fin cfg0.N) : iblk m c 3 t = V m c main_v17 :=
  Memref.read_access_unit_zero (Elt Ideal) main_v17 (off3 t) (fun a => by rw [congrFun (off3 t) a]; simp) (V m c main_v17)
theorem off4 (t : Fin cfg0.N) : (fun a => win0_4.index t a * main_arg5.ty.shape.size a) = fun _ => 0 :=
  funext fun a => (congrArg (· * _) ((by decide +kernel : ∀ (t : Fin grid0.N) (a : Fin 2), win0_4.index t a = 0) t a)).trans (Nat.zero_mul _)
/-- Window 4's one block is its array. -/
theorem blk4 (c : Dev nD) (t : Fin cfg0.N) : iblk m c 4 t = V m c main_arg5 :=
  Memref.read_access_unit_zero (Elt Ideal) main_arg5 (off4 t) (fun a => by rw [congrFun (off4 t) a]; simp) (V m c main_arg5)
theorem off5 (t : Fin cfg0.N) : (fun a => win0_5.index t a * main_v18.ty.shape.size a) = fun _ => 0 :=
  funext fun a => (congrArg (· * _) ((by decide +kernel : ∀ (t : Fin grid0.N) (a : Fin 2), win0_5.index t a = 0) t a)).trans (Nat.zero_mul _)
/-- Window 5's one block is its array. -/
theorem blk5 (c : Dev nD) (t : Fin cfg0.N) : iblk m c 5 t = V m c main_v18 :=
  Memref.read_access_unit_zero (Elt Ideal) main_v18 (off5 t) (fun a => by rw [congrFun (off5 t) a]; simp) (V m c main_v18)
theorem off6 (t : Fin cfg0.N) : (fun a => win0_6.index t a * main_v19.ty.shape.size a) = fun _ => 0 :=
  funext fun a => (congrArg (· * _) ((by decide +kernel : ∀ (t : Fin grid0.N) (a : Fin 2), win0_6.index t a = 0) t a)).trans (Nat.zero_mul _)
/-- Window 6's one block is its array. -/
theorem blk6 (c : Dev nD) (t : Fin cfg0.N) : iblk m c 6 t = V m c main_v19 :=
  Memref.read_access_unit_zero (Elt Ideal) main_v19 (off6 t) (fun a => by rw [congrFun (off6 t) a]; simp) (V m c main_v19)

/-- The host's arrays. -/
theorem V_rows (c : Dev nD) : V m c main_v15 = flat (m ((c : Thread nD τ).loc main_arg0)) (m ((c : Thread nD τ).loc main_arg1)) := by
  unfold V hostOps0 hostOps0_1 hostOps0_2
  after_results
  rfl
theorem V_s1 (c : Dev nD) : V m c main_v16 = shapeCast S1x1536 (m ((c : Thread nD τ).loc main_arg3)) shapeCasts_S1536_S1x1536 := by
  unfold V hostOps0 hostOps0_1 hostOps0_2
  after_results
  rfl
theorem V_b1 (c : Dev nD) : V m c main_v17 = shapeCast S1x1536 (m ((c : Thread nD τ).loc main_arg4)) shapeCasts_S1536_S1x1536 := by
  unfold V hostOps0 hostOps0_1 hostOps0_2
  after_results
  rfl
theorem V_s2 (c : Dev nD) : V m c main_v18 = shapeCast S1x192 (m ((c : Thread nD τ).loc main_arg6)) shapeCasts_S192_S1x192 := by
  unfold V hostOps0 hostOps0_1 hostOps0_2
  after_results
  rfl
theorem V_b2 (c : Dev nD) : V m c main_v19 = shapeCast S1x192 (m ((c : Thread nD τ).loc main_arg7)) shapeCasts_S192_S1x192 := by
  unfold V hostOps0 hostOps0_1 hostOps0_2
  after_results
  rfl

/-- The layers' arrays, and the rows, of the arguments as launched. -/
def net (c : Dev nD) : Net 6144 192 where
  w1 := m ((c : Thread nD τ).loc main_arg2)
  s1 := shapeCast S1x1536 (m ((c : Thread nD τ).loc main_arg3)) shapeCasts_S1536_S1x1536
  b1 := shapeCast S1x1536 (m ((c : Thread nD τ).loc main_arg4)) shapeCasts_S1536_S1x1536
  w2 := m ((c : Thread nD τ).loc main_arg5)
  s2 := shapeCast S1x192 (m ((c : Thread nD τ).loc main_arg6)) shapeCasts_S192_S1x192
  b2 := shapeCast S1x192 (m ((c : Thread nD τ).loc main_arg7)) shapeCasts_S192_S1x192
def rows (c : Dev nD) : FVec Ideal S1536x6144 .f32 := flat (m ((c : Thread nD τ).loc main_arg0)) (m ((c : Thread nD τ).loc main_arg1))
def rowAt (c : Dev nD) (b : Fin 8) (n : Fin 192) (k : Fin 6144) : EReal :=
  entry (c := 192) (by norm_num) (m ((c : Thread nD τ).loc main_arg0)) (m ((c : Thread nD τ).loc main_arg1)) b n k

theorem blks (c : Dev nD) (t : Fin cfg0.N) : iblk m c 0 t = rows m c ∧ iblk m c 1 t = (net m c).w1 ∧ iblk m c 2 t = (net m c).s1
    ∧ iblk m c 3 t = (net m c).b1 ∧ iblk m c 4 t = (net m c).w2 ∧ iblk m c 5 t = (net m c).s2 ∧ iblk m c 6 t = (net m c).b2 :=
  ⟨(blk0 m c t).trans (V_rows m c), (blk1 m c t).trans (V_main_arg2 m c), (blk2 m c t).trans (V_s1 m c), (blk3 m c t).trans (V_b1 m c),
    (blk4 m c t).trans (V_main_arg5 m c), (blk5 m c t).trans (V_s2 m c), (blk6 m c t).trans (V_b2 m c)⟩

/-! ## The final arrays -/

/-- The one point. -/
def pt0 : Fin cfg0.N := ⟨0, by decide⟩

theorem off7 (t : Fin cfg0.N) : (fun a => win0_7.index t a * main_v20_0.ty.shape.size a) = fun _ => 0 :=
  funext fun a => (congrArg (· * _) ((by decide +kernel : ∀ (t : Fin grid0.N) (a : Fin 3), win0_7.index t a = 0) t a)).trans (Nat.zero_mul _)
def full7 (c : Dev nD) : Buf (Elt Ideal) ((c : Thread nD τ).loc main_v20_0) :=
  out0_7 (rows m c) (net m c).w1 (net m c).s1 (net m c).b1 (net m c).w2 (net m c).s2 (net m c).b2
theorem final7 (c : Dev nD) : (dats m 0 c).arrAt 7 cfg0.N = full7 m c :=
  (dats m 0 c).arrAt_eq_of_cover 7 (full7 m c) (fun t _ => by
    obtain ⟨h0, h1, h2, h3, h4, h5, h6⟩ := blks m c t
    show (cfg0.win 7).cut (grid0.coords t) ((dats m 0 c).after 7 t) = _
    rw [after0_7, h0, h1, h2, h3, h4, h5, h6]
    exact (Memref.read_access_unit_zero (Elt Ideal) main_v20_0 (off7 t) (fun a => by rw [congrFun (off7 t) a]; simp) (full7 m c)).symm) fun i =>
    ⟨pt0, (by decide +kernel : ∀ t : Fin grid0.N, win0_7.flush t = true) pt0, by
      show i ∈ ((View.whole main_v20_0).slice (win0_7.rect pt0)).set
      rw [View.set_slice_whole, Rect.mem_set_unit]
      intro a
      have h := congrFun (off7 pt0) a
      have hi := (i a).isLt
      show win0_7.index pt0 a * main_v20_0.ty.shape.size a ≤ (i a : Nat) ∧ (i a : Nat) < win0_7.index pt0 a * main_v20_0.ty.shape.size a + main_v20_0.ty.shape.size a
      rw [h]
      exact ⟨Nat.zero_le _, by rw [Nat.zero_add]; exact hi⟩⟩

theorem off8 (t : Fin cfg0.N) : (fun a => win0_8.index t a * main_v20_1.ty.shape.size a) = fun _ => 0 :=
  funext fun a => (congrArg (· * _) ((by decide +kernel : ∀ (t : Fin grid0.N) (a : Fin 3), win0_8.index t a = 0) t a)).trans (Nat.zero_mul _)
def full8 (c : Dev nD) : Buf (Elt Ideal) ((c : Thread nD τ).loc main_v20_1) :=
  out0_8 (rows m c) (net m c).w1 (net m c).s1 (net m c).b1 (net m c).w2 (net m c).s2 (net m c).b2
theorem final8 (c : Dev nD) : (dats m 0 c).arrAt 8 cfg0.N = full8 m c :=
  (dats m 0 c).arrAt_eq_of_cover 8 (full8 m c) (fun t _ => by
    obtain ⟨h0, h1, h2, h3, h4, h5, h6⟩ := blks m c t
    show (cfg0.win 8).cut (grid0.coords t) ((dats m 0 c).after 8 t) = _
    rw [after0_8, h0, h1, h2, h3, h4, h5, h6]
    exact (Memref.read_access_unit_zero (Elt Ideal) main_v20_1 (off8 t) (fun a => by rw [congrFun (off8 t) a]; simp) (full8 m c)).symm) fun i =>
    ⟨pt0, (by decide +kernel : ∀ t : Fin grid0.N, win0_8.flush t = true) pt0, by
      show i ∈ ((View.whole main_v20_1).slice (win0_8.rect pt0)).set
      rw [View.set_slice_whole, Rect.mem_set_unit]
      intro a
      have h := congrFun (off8 pt0) a
      have hi := (i a).isLt
      show win0_8.index pt0 a * main_v20_1.ty.shape.size a ≤ (i a : Nat) ∧ (i a : Nat) < win0_8.index pt0 a * main_v20_1.ty.shape.size a + main_v20_1.ty.shape.size a
      rw [h]
      exact ⟨Nat.zero_le _, by rw [Nat.zero_add]; exact hi⟩⟩

theorem off9 (t : Fin cfg0.N) : (fun a => win0_9.index t a * main_v20_2.ty.shape.size a) = fun _ => 0 :=
  funext fun a => (congrArg (· * _) ((by decide +kernel : ∀ (t : Fin grid0.N) (a : Fin 3), win0_9.index t a = 0) t a)).trans (Nat.zero_mul _)
def full9 (c : Dev nD) : Buf (Elt Ideal) ((c : Thread nD τ).loc main_v20_2) :=
  out0_9 (rows m c) (net m c).w1 (net m c).s1 (net m c).b1 (net m c).w2 (net m c).s2 (net m c).b2
theorem final9 (c : Dev nD) : (dats m 0 c).arrAt 9 cfg0.N = full9 m c :=
  (dats m 0 c).arrAt_eq_of_cover 9 (full9 m c) (fun t _ => by
    obtain ⟨h0, h1, h2, h3, h4, h5, h6⟩ := blks m c t
    show (cfg0.win 9).cut (grid0.coords t) ((dats m 0 c).after 9 t) = _
    rw [after0_9, h0, h1, h2, h3, h4, h5, h6]
    exact (Memref.read_access_unit_zero (Elt Ideal) main_v20_2 (off9 t) (fun a => by rw [congrFun (off9 t) a]; simp) (full9 m c)).symm) fun i =>
    ⟨pt0, (by decide +kernel : ∀ t : Fin grid0.N, win0_9.flush t = true) pt0, by
      show i ∈ ((View.whole main_v20_2).slice (win0_9.rect pt0)).set
      rw [View.set_slice_whole, Rect.mem_set_unit]
      intro a
      have h := congrFun (off9 pt0) a
      have hi := (i a).isLt
      show win0_9.index pt0 a * main_v20_2.ty.shape.size a ≤ (i a : Nat) ∧ (i a : Nat) < win0_9.index pt0 a * main_v20_2.ty.shape.size a + main_v20_2.ty.shape.size a
      rw [h]
      exact ⟨Nat.zero_le _, by rw [Nat.zero_add]; exact hi⟩⟩

theorem off10 (t : Fin cfg0.N) : (fun a => win0_10.index t a * main_v20_3.ty.shape.size a) = fun _ => 0 :=
  funext fun a => (congrArg (· * _) ((by decide +kernel : ∀ (t : Fin grid0.N) (a : Fin 3), win0_10.index t a = 0) t a)).trans (Nat.zero_mul _)
def full10 (c : Dev nD) : Buf (Elt Ideal) ((c : Thread nD τ).loc main_v20_3) :=
  out0_10 (rows m c) (net m c).w1 (net m c).s1 (net m c).b1 (net m c).w2 (net m c).s2 (net m c).b2
theorem final10 (c : Dev nD) : (dats m 0 c).arrAt 10 cfg0.N = full10 m c :=
  (dats m 0 c).arrAt_eq_of_cover 10 (full10 m c) (fun t _ => by
    obtain ⟨h0, h1, h2, h3, h4, h5, h6⟩ := blks m c t
    show (cfg0.win 10).cut (grid0.coords t) ((dats m 0 c).after 10 t) = _
    rw [after0_10, h0, h1, h2, h3, h4, h5, h6]
    exact (Memref.read_access_unit_zero (Elt Ideal) main_v20_3 (off10 t) (fun a => by rw [congrFun (off10 t) a]; simp) (full10 m c)).symm) fun i =>
    ⟨pt0, (by decide +kernel : ∀ t : Fin grid0.N, win0_10.flush t = true) pt0, by
      show i ∈ ((View.whole main_v20_3).slice (win0_10.rect pt0)).set
      rw [View.set_slice_whole, Rect.mem_set_unit]
      intro a
      have h := congrFun (off10 pt0) a
      have hi := (i a).isLt
      show win0_10.index pt0 a * main_v20_3.ty.shape.size a ≤ (i a : Nat) ∧ (i a : Nat) < win0_10.index pt0 a * main_v20_3.ty.shape.size a + main_v20_3.ty.shape.size a
      rw [h]
      exact ⟨Nat.zero_le _, by rw [Nat.zero_add]; exact hi⟩⟩

/-- The rows at the blocks of the sequence. -/
theorem rows_at (c : Dev nD) (b : Fin 8) (n : Fin 192) (hn : n.val < 191) (k : Fin 6144) : rows m c (ix2 (rowOf b n) k) = rowAt m c b n k :=
  flat_apply _ _ b n hn k

/-- The run: the four results at the blocks of the sequence, the arguments unchanged. -/
theorem run : θ_run defs (onTc (τ := τ) (main (F := Ideal))) ⟨m, fun _ => 0, ρ⟩ fun r => ∀ c : Dev nD,
      (∀ i : (⟨3, ![8, 192, 192]⟩ : Shape).Idx, (i 1).val < 191 → r.2.mem ((c : Thread nD τ).loc main_v20_0) i = outs (net m c) (rowAt m c) i)
      ∧ (∀ i : (⟨3, ![8, 192, 6144]⟩ : Shape).Idx, (i 1).val < 191 → r.2.mem ((c : Thread nD τ).loc main_v20_1) i = inCodes (rowAt m c) i)
      ∧ (∀ i : (⟨3, ![8, 192, 1536]⟩ : Shape).Idx, (i 1).val < 191 → r.2.mem ((c : Thread nD τ).loc main_v20_2) i = hidCodes (net m c) (rowAt m c) i)
      ∧ (∀ i : (⟨3, ![8, 192, 128]⟩ : Shape).Idx, (i 1).val < 191 → r.2.mem ((c : Thread nD τ).loc main_v20_3) i = stats (net m c) (rowAt m c) i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ⟨fun i hi => ?_, fun i hi => ?_, fun i hi => ?_, fun i hi => ?_, h.2 c⟩) (θ_run_and (run_main m ρ) (unchanged m ρ))
  · exact (congrFun (((h.1 c).1 7).trans (final7 m c)) i).trans (out7_eq (net m c) (rows m c) (rowAt m c) (rows_at m c) i hi)
  · exact (congrFun (((h.1 c).1 8).trans (final8 m c)) i).trans (out8_eq (net m c) (rows m c) (rowAt m c) (rows_at m c) i hi)
  · exact (congrFun (((h.1 c).1 9).trans (final9 m c)) i).trans (out9_eq (net m c) (rows m c) (rowAt m c) (rows_at m c) i hi)
  · exact (congrFun (((h.1 c).1 10).trans (final10 m c)) i).trans (out10_eq (net m c) (rows m c) (rowAt m c) (rows_at m c) i hi)

end Cert.CompressKRefIdeal.Hand

end
-- ==== Proof.CompressKClaim.lean ====
/-
  THE KEYS' COMPRESSION'S CLAIM: at every block of the sequence, the kernel and the reference, run from the same arguments, both
  end with CompressSpec.lean's arrays of them.
-/
module

public import proofs.«01_k».proof.Defs
public import proofs.«01_k».proof.Proof.Gen.On_blocks
public import proofs.«01_k».proof.Proof.CompressKValue
public import proofs.«01_k».proof.Proof.CompressKRefValue

@[expose] public section

noncomputable section

namespace Cert.CompressKClaim

open Idealize.ShloMosaic Idealize.ShloMosaic.TcCoe Idealize.SL.Sem
open Cert.CompressSpec

/-- Over the extended reals the keys' compression computes its reference's results at the blocks of the sequence. -/
theorem algebraic : algebraic_CompressKIdeal_CompressKRefIdeal_on_blocks (hCompressKIdeal := Cert.CompressKIdeal.Gen.facts)
    (hCompressKRefIdeal := Cert.CompressKRefIdeal.Gen.facts) (hOn_blocks := Cert.On_blocks.Gen.facts) := by
  intro m g m' g' _ hargs
  refine ⟨fun c => outs (CompressKIdeal.Hand.net m c) (CompressKIdeal.Hand.rowAt m c), fun c => inCodes (CompressKIdeal.Hand.rowAt m c),
    fun c => hidCodes (CompressKIdeal.Hand.net m c) (CompressKIdeal.Hand.rowAt m c), fun c => stats (CompressKIdeal.Hand.net m c) (CompressKIdeal.Hand.rowAt m c), ?_, ?_⟩
  · exact (θ_run _ _ _).mono (fun _ h c => ⟨fun i _ => congrFun (h c).1 i, fun i _ => congrFun (h c).2.1 i, fun i _ => congrFun (h c).2.2.1 i,
      fun i _ => congrFun (h c).2.2.2.1 i, (h c).2.2.2.2⟩) (CompressKIdeal.Hand.run m g)
  refine (θ_run _ _ _).mono (fun _ h c => ?_) (CompressKRefIdeal.Hand.run m' g')
  obtain ⟨h0, h1, h2, h3, h4, h5, h6, h7⟩ := hargs c
  have hN : CompressKRefIdeal.Hand.net m' c = CompressKIdeal.Hand.net m c := by
    unfold CompressKRefIdeal.Hand.net CompressKIdeal.Hand.net
    rw [h2, h3, h4, h5, h6, h7]
  have hR : CompressKRefIdeal.Hand.rowAt m' c = CompressKIdeal.Hand.rowAt m c := by
    funext b n k
    unfold CompressKRefIdeal.Hand.rowAt CompressKIdeal.Hand.rowAt
    rw [h0, h1]
  have hc := h c
  rw [hN, hR] at hc
  exact ⟨fun i hi => hc.1 i (block_lt (i 1) hi), fun i hi => hc.2.1 i (block_lt (i 1) hi), fun i hi => hc.2.2.1 i (block_lt (i 1) hi),
    fun i hi => hc.2.2.2.1 i (block_lt (i 1) hi), hc.2.2.2.2⟩

end Cert.CompressKClaim

end
-- ==== Proof.CompressVPay.lean ====
/-
  THE VALUES' COMPRESSION: what its body computes of the values it loads, at an index, is what CompressSpec.lean says.
-/
module

public import proofs.«01_k».proof.Proof.Gen.CompressVIdeal.Skeleton
public import proofs.«01_k».proof.Proof.CompressSpec
public import Idealize.ShloMosaic.Lib.KernelVsHost

@[expose] public section

set_option maxRecDepth 16384

noncomputable section

namespace Cert.CompressVIdeal.Hand

open Cert.CompressVIdeal Cert.CompressVIdeal.Gen Idealize.ShloMosaic Idealize.ShloMosaic.TcCoe
open Cert.CompressSpec Cert.Quant

/-! A row's first half and its second. -/
def lo (k : Fin 2048) : Fin 4096 := ⟨k.val, by omega⟩
def hi (k : Fin 2048) : Fin 4096 := ⟨2048 + k.val, by omega⟩

/-! ## The row, its scale and its codes -/

section
variable (v : Vec Ideal S1x192x2048 .f32) (p q : Vec Ideal S1x2048 .f32) (n : Fin 192)

/-- The block after `n`, around the end. -/
def nextBlock : Fin 192 := ⟨(n.val + 1) % 192, Nat.mod_lt _ (by norm_num)⟩

theorem first_apply (k : Fin 2048) : k0_pay6 (F := Ideal) v p (ix2 n k) = (v (ix3 0 n k) + p (ix2 0 k) : EReal) := by
  pointwise [k0_pay6, k0_pay5]

theorem rolled_apply (x : FVec Ideal S192x2048 .f32) (k : Fin 2048) :
    dynamicRotate 0 191#32 none x rotates_S192x2048_d0 (ix2 n k) = x (ix2 (nextBlock n) k) :=
  dynamicRotate_apply 0 191#32 x rotates_S192x2048_d0 (ix2 n k) (ix2 (nextBlock n) k) fun b => by
    match b with
    | ⟨0, _⟩ => show (n.val + 1) % 192 = (n.val + 192 - 191) % 192; congr 1
    | ⟨1, _⟩ => rfl

theorem second_apply (k : Fin 2048) : k0_pay7 (F := Ideal) v q (ix2 n k) = (v (ix3 0 (nextBlock n) k) + q (ix2 0 k) : EReal) := by
  unfold k0_pay7
  rw [show ∀ x : FVec Ideal S192x2048 .f32, addf x (broadcastTo S192x2048 (shapeCast S1x2048 q shapeCasts_S1x2048_S1x2048) broadcasts_S1x2048_S192x2048) (ix2 n k)
    = (x (ix2 n k) + q (ix2 0 k) : EReal) from fun x => by pointwise, rolled_apply]
  rw [show k0_pay5 (F := Ideal) v (ix2 (nextBlock n) k) = v (ix3 0 (nextBlock n) k) by pointwise [k0_pay5]]

theorem rowMax_apply (x : FVec Ideal S192x2048 .f32) :
    shapeCast S192x1 (multiReduction .maximumf [1] S192 (absf x) 0xFF800000#32 reduces_S192x2048_S192 (.inl rfl) rfl)
      shapeCasts_S192_S192x1 (ix2 n 0) = amax fun l => x (ix2 n l) := by
  rw [show shapeCast S192x1 (multiReduction .maximumf [1] S192 (absf x) 0xFF800000#32 reduces_S192x2048_S192 (.inl rfl) rfl)
      shapeCasts_S192_S192x1 (ix2 n 0) = _ by pointwise; rfl]
  exact fold_absf _

theorem max_apply (x y : FVec Ideal S192x1 .f32) (i : S192x1.Idx) : maximumf x y i = max (x i : EReal) (y i) := rfl

theorem along (x : FVec Ideal S192x1 .f32) (l : Fin 2048) : broadcastTo S192x2048 x broadcasts_S192x1_S192x2048 (ix2 n l) = x (ix2 n 0) := by
  pointwise

theorem leading {x : FVec Ideal S192x2048 .fp8e4m3} (l : Fin 2048) : shapeCast S1x192x2048 x shapeCasts_S192x2048_S1x192x2048 (ix3 0 n l) = x (ix2 n l) := by
  pointwise

variable (f : Fin 4096 → EReal) (hf : ∀ k : Fin 2048, f (lo k) = (v (ix3 0 n k) + p (ix2 0 k) : EReal))
  (hs : ∀ k : Fin 2048, f (hi k) = (v (ix3 0 (nextBlock n) k) + q (ix2 0 k) : EReal))
include hf hs

theorem inScale_of : k0_pay8 (F := Ideal) v p q (ix2 n 0) = inScale f := by
  unfold k0_pay8
  rw [scale_apply, max_apply, rowMax_apply, rowMax_apply]
  simp only [first_apply, second_apply]
  rw [amax_halves f (by norm_num) _ _ hf hs]
  rfl

theorem recip_of : k0_pay9 (F := Ideal) v p q (ix2 n 0) = Ideal.div (Ideal.ofBits .f32 0x3F800000#32) (inScale f) := by
  unfold k0_pay9
  rw [one_div_apply, inScale_of v p q n f hf hs]

theorem firstCodes_of (k : Fin 2048) : k0_pay10 (F := Ideal) v p q (ix3 0 n k) = inCode f (lo k) := by
  unfold k0_pay10
  rw [leading, mul_codes_apply, along, recip_of v p q n f hf hs, first_apply, inScale, clip_mul_recip, ← hf k]
  rfl

theorem secondCodes_of (k : Fin 2048) :
    k0_pay12 (F := Ideal) (k0_pay11 v p q) (Scalar.ofBits .f32 0xC3E00000#32) (ix3 0 n k) = inCode f (hi k) := by
  unfold k0_pay12 k0_pay11
  rw [leading, mul_codes_apply, along, recip_of v p q n f hf hs, second_apply, inScale, clip_mul_recip, ← hs k]
  rfl

end

/-! ## The hidden layer and the output layer -/

section
variable (N : Net 4096 128) (f : Fin 4096 → EReal) (n : Fin 192)

theorem rowMaxHid_apply (y : FVec Ideal S192x1536 .f32) :
    shapeCast S192x1 (multiReduction .maximumf [1] S192 (absf y) 0xFF800000#32 reduces_S192x1536_S192 (.inl rfl) rfl)
      shapeCasts_S192_S192x1 (ix2 n 0) = amax fun l => y (ix2 n l) := by
  rw [show shapeCast S192x1 (multiReduction .maximumf [1] S192 (absf y) 0xFF800000#32 reduces_S192x1536_S192 (.inl rfl) rfl)
      shapeCasts_S192_S192x1 (ix2 n 0) = _ by pointwise; rfl]
  exact fold_absf _

theorem layer_apply (y : FVec Ideal S192x1 .f32) (hcs : FVec Ideal S192x1536 .fp8e4m3) (o : Fin 128) :
    shapeCast S1x192x128 (truncf .bf16 (addf (mulf (mulf (matmul dot_S192x1536_S1536x128_S192x128_1_0_0_1_n_n none hcs N.w2 (constant S192x128 .f32 0x00000000#32))
      (broadcastTo S192x128 y broadcasts_S192x1_S192x128)) (broadcastTo S192x128 (shapeCast S1x128 N.s2 shapeCasts_S1x128_S1x128) broadcasts_S1x128_S192x128))
      (broadcastTo S192x128 (shapeCast S1x128 N.b2 shapeCasts_S1x128_S1x128) broadcasts_S1x128_S192x128)) bitsLt_bf16_f32) shapeCasts_S192x128_S1x192x128 (ix3 0 n o)
      = ((∑ j : Fin 1536, hcs (ix2 n j) * N.w2 (ix2 j o)) * y (ix2 n 0) * N.s2 (ix2 0 o) + N.b2 (ix2 0 o) : EReal) := by
  pointwise

variable (x : FVec Ideal S192x1 .f32) (cs : Vec Ideal S1x192x4096 .fp8e4m3)
  (hx : x (ix2 n 0) = inScale f) (hc : ∀ k : Fin 4096, cs (ix3 0 n k) = inCode f k)
include hx hc

theorem hid_of (j : Fin 1536) : k0_pay13 (F := Ideal) x cs N.w1 N.s1 N.b1 (ix2 n j) = hid N f j := by
  rw [show k0_pay13 (F := Ideal) x cs N.w1 N.s1 N.b1 (ix2 n j) = _ by pointwise [k0_pay13]; rfl]
  simp only [hx, hc]
  rfl

theorem hidScale_of : k0_pay14 (F := Ideal) x cs N.w1 N.s1 N.b1 (ix2 n 0) = hidScale N f := by
  unfold k0_pay14
  rw [scale_apply, rowMaxHid_apply]
  simp only [hid_of N f n x cs hx hc]
  rfl

theorem hidCode_of (j : Fin 1536) :
    k0_pay1 (F := Ideal) (k0_pay15 x cs N.w1 N.s1 N.b1) (Scalar.ofBits .f32 0x43E00000#32) k0_pay16 (ix2 n j) = hidCode N f j := by
  unfold k0_pay1 k0_pay15 k0_pay16
  rw [mul_codes_apply, show ∀ y : FVec Ideal S192x1 .f32, broadcastTo S192x1536 y broadcasts_S192x1_S192x1536 (ix2 n j) = y (ix2 n 0) from fun y => by pointwise,
    one_div_apply, hidScale_of N f n x cs hx hc, hid_of N f n x cs hx hc, hidScale, clip_mul_recip]
  rfl

theorem hidCodes_of (j : Fin 1536) :
    k0_pay2 (F := Ideal) (k0_pay15 x cs N.w1 N.s1 N.b1) (Scalar.ofBits .f32 0x43E00000#32) k0_pay16 (ix3 0 n j) = hidCode N f j := by
  unfold k0_pay2
  rw [show ∀ y : FVec Ideal S192x1536 .fp8e4m3, shapeCast S1x192x1536 y shapeCasts_S192x1536_S1x192x1536 (ix3 0 n j) = y (ix2 n j) from fun y => by pointwise]
  exact hidCode_of N f n x cs hx hc j

theorem out_of (o : Fin 128) :
    k0_pay3 (F := Ideal) (k0_pay14 x cs N.w1 N.s1 N.b1) (k0_pay15 x cs N.w1 N.s1 N.b1) (Scalar.ofBits .f32 0x43E00000#32) k0_pay16 N.w2 N.s2 N.b2 (ix3 0 n o)
      = out N f o := by
  unfold k0_pay3
  rw [layer_apply, hidScale_of N f n x cs hx hc]
  simp only [hidCode_of N f n x cs hx hc]
  rfl

theorem stat_of (l : Fin 128) : k0_pay4 (F := Ideal) x (k0_pay14 x cs N.w1 N.s1 N.b1) (ix3 0 n l) = stat N f l := by
  rw [show ∀ y z : FVec Ideal S192x1 .f32, k0_pay4 (F := Ideal) y z (ix3 0 n l) = (if l.val = 0 then y (ix2 n 0) else z (ix2 n 0) : EReal) from
    fun y z => by rw [← lane_select]; pointwise [k0_pay4], hidScale_of N f n x cs hx hc, hx]
  rfl

end

end Cert.CompressVIdeal.Hand

end
-- ==== Proof.CompressVPieces.lean ====
/-
  WHAT A POINT OF THE VALUES' COMPRESSION STORES: each output's pieces at a grid point, in the payloads' terms.
-/
module

public import proofs.«01_k».proof.Proof.Gen.CompressVIdeal.Value
public import proofs.«01_k».proof.Proof.CompressVPay

@[expose] public section

set_option maxRecDepth 16384

noncomputable section

namespace Cert.CompressVIdeal.Hand

open Cert.CompressVIdeal.Gen
open Idealize.ShloMosaic Idealize.ShloMosaic.TcCoe Idealize.ShloMosaic.Tactic

variable {F : FTy → Type} [FloatOps F]

variable (m : (ℓ : Loc nD τ sig) → Buf (Elt F) ℓ) (c : Dev nD) (t : Fin cfg0.N)

/-! ## What the body loads at a point -/

def ldV : Vec F S1x192x2048 .f32 :=
  View.readAt (Elt F) (ms0_0 t).view (Rect.unit (s := S1x192x2048) ![0, 0, 0] S1x192x2048.size (by decide)).toLoadRect ((hs0_0 t).unread (iblk m c 0 t))
def ldP : Vec F S1x2048 .f32 :=
  View.readAt (Elt F) (ms0_1 t).view (Rect.unit (s := S1x4096) ![0, 0] S1x2048.size (by decide)).toLoadRect ((hs0_1 t).unread (iblk m c 1 t))
def ldQ : Vec F S1x2048 .f32 :=
  View.readAt (Elt F) (ms0_1 t).view (Rect.unit (s := S1x4096) ![0, 2048] S1x2048.size (by decide)).toLoadRect ((hs0_1 t).unread (iblk m c 1 t))
def ldW1 : Vec F S4096x1536 .fp8e4m3 :=
  View.readAt (Elt F) (ms0_2 t).view (Rect.unit (s := S4096x1536) ![0, 0] S4096x1536.size (by decide)).toLoadRect ((hs0_2 t).unread (iblk m c 2 t))
def ldS1 : Vec F S1x1536 .f32 :=
  View.readAt (Elt F) (ms0_3 t).view (Rect.unit (s := S1x1536) ![0, 0] S1x1536.size (by decide)).toLoadRect ((hs0_3 t).unread (iblk m c 3 t))
def ldB1 : Vec F S1x1536 .f32 :=
  View.readAt (Elt F) (ms0_4 t).view (Rect.unit (s := S1x1536) ![0, 0] S1x1536.size (by decide)).toLoadRect ((hs0_4 t).unread (iblk m c 4 t))
def ldW2 : Vec F S1536x128 .fp8e4m3 :=
  View.readAt (Elt F) (ms0_5 t).view (Rect.unit (s := S1536x128) ![0, 0] S1536x128.size (by decide)).toLoadRect ((hs0_5 t).unread (iblk m c 5 t))
def ldS2 : Vec F S1x128 .f32 :=
  View.readAt (Elt F) (ms0_6 t).view (Rect.unit (s := S1x128) ![0, 0] S1x128.size (by decide)).toLoadRect ((hs0_6 t).unread (iblk m c 6 t))
def ldB2 : Vec F S1x128 .f32 :=
  View.readAt (Elt F) (ms0_7 t).view (Rect.unit (s := S1x128) ![0, 0] S1x128.size (by decide)).toLoadRect ((hs0_7 t).unread (iblk m c 7 t))

/-- The two halves of the row codes, as stored. -/
def codePieces : List (View.Piece (Elt F) S1x192x4096 .fp8e4m3) :=
  [⟨Rect.unit (s := S1x192x4096) ![0, 0, 2048] S1x192x2048.size (by decide), k0_pay12 (k0_pay11 (ldV m c t) (ldP m c t) (ldQ m c t)) (Scalar.ofBits .f32 0xC3E00000#32)⟩,
    ⟨Rect.unit (s := S1x192x4096) ![0, 0, 0] S1x192x2048.size (by decide), k0_pay10 (ldV m c t) (ldP m c t) (ldQ m c t)⟩]

/-- The row codes, loaded back. -/
def ldCodes : Vec F S1x192x4096 .fp8e4m3 :=
  View.readCov (Val := Elt F) (ms0_9 t).view (codePieces m c t) (Rect.unit (s := S1x192x4096) ![0, 0, 0] S1x192x4096.size (by decide)).toLoadRect

/-! The row scales; the hidden layer before its quantisation, its scales and its entries over them. -/
def rowScale : FVec F S192x1 .f32 := k0_pay8 (ldV m c t) (ldP m c t) (ldQ m c t)
def hidScales : FVec F S192x1 .f32 := k0_pay14 (rowScale m c t) (ldCodes m c t) (ldW1 m c t) (ldS1 m c t) (ldB1 m c t)
def hidOver : FVec F S192x1536 .f32 := k0_pay15 (rowScale m c t) (ldCodes m c t) (ldW1 m c t) (ldS1 m c t) (ldB1 m c t)

/-! ## The pieces -/

/-- The run at a point. -/
abbrev runAt := kernelRun0_A c (grid0.coords t) (ms0_0 t) (hs0_0 t) (ms0_1 t) (hs0_1 t) (ms0_2 t) (hs0_2 t) (ms0_3 t) (hs0_3 t) (ms0_4 t) (hs0_4 t)
  (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
  (iblk m c 0 t) (iblk m c 1 t) (iblk m c 2 t) (iblk m c 3 t) (iblk m c 4 t) (iblk m c 5 t) (iblk m c 6 t) (iblk m c 7 t)

theorem pieces8 : (runAt m c t).1 = [⟨Rect.unit (s := S1x192x128) ![0, 0, 0] S1x192x128.size (by decide),
    k0_pay3 (hidScales m c t) (hidOver m c t) (Scalar.ofBits .f32 0x43E00000#32) k0_pay16 (ldW2 m c t) (ldS2 m c t) (ldB2 m c t)⟩] := by
  sl_kernel_rfl

theorem pieces9 : (runAt m c t).2.1 = codePieces m c t := by
  sl_kernel_rfl

theorem pieces10 : (runAt m c t).2.2.1 = [⟨Rect.unit (s := S1x192x1536) ![0, 0, 0] S1x192x1536.size (by decide),
    k0_pay2 (hidOver m c t) (Scalar.ofBits .f32 0x43E00000#32) k0_pay16⟩] := by
  sl_kernel_rfl

theorem pieces11 : (runAt m c t).2.2.2.1 = [⟨Rect.unit (s := S1x192x128) ![0, 0, 0] S1x192x128.size (by decide), k0_pay4 (rowScale m c t) (hidScales m c t)⟩] := by
  sl_kernel_rfl

end Cert.CompressVIdeal.Hand

end
-- ==== Proof.CompressVLoads.lean ====
/-
  WHAT A POINT OF THE VALUES' COMPRESSION LOADS: the rows of its head and batch, the whole of the others. So its row codes and
  scales are the formulas' (CompressSpec.lean).
-/
module

public import proofs.«01_k».proof.Proof.CompressVPieces

@[expose] public section

set_option maxRecDepth 16384

noncomputable section

namespace Cert.CompressVIdeal.Hand

open Cert.CompressVIdeal.Gen Cert.CompressSpec Cert.Quant
open Idealize.ShloMosaic Idealize.ShloMosaic.TcCoe Idealize.ShloMosaic.Tactic

variable (m : (ℓ : Loc nD τ sig) → Buf (Elt Ideal) ℓ) (c : Dev nD) (t : Fin cfg0.N)

/-- The layers, of the arguments as launched. -/
def net : Net 4096 128 where
  w1 := m ((c : Thread nD τ).loc main_arg2)
  s1 := shapeCast S1x1536 (m ((c : Thread nD τ).loc main_arg3)) shapeCasts_S1536_S1x1536
  b1 := shapeCast S1x1536 (m ((c : Thread nD τ).loc main_arg4)) shapeCasts_S1536_S1x1536
  w2 := m ((c : Thread nD τ).loc main_arg5)
  s2 := shapeCast S1x128 (m ((c : Thread nD τ).loc main_arg6)) shapeCasts_S128_S1x128
  b2 := shapeCast S1x128 (m ((c : Thread nD τ).loc main_arg7)) shapeCasts_S128_S1x128

/-- The row of block `n` of head-and-batch `b`, of the arguments as launched. -/
def rowAt (b : Fin 8) (n : Fin 192) (k : Fin 4096) : EReal :=
  entry (c := 128) (by norm_num) (m ((c : Thread nD τ).loc main_arg0)) (m ((c : Thread nD τ).loc main_arg1)) b n k

/-- The point as a head-and-batch. -/
def pt : Fin 8 := ⟨t.val, t.isLt⟩

/-! ## The host's arrays -/

theorem V_v (c : Dev nD) : V m c main_v0 = shapeCast S8x192x2048 (m ((c : Thread nD τ).loc main_arg0)) shapeCasts_S8x3072x128_S8x192x2048 := by
  unfold V hostOps0
  after_results
  rfl
theorem V_p (c : Dev nD) : V m c main_v1 = shapeCast S1x4096 (m ((c : Thread nD τ).loc main_arg1)) shapeCasts_S32x128_S1x4096 := by
  unfold V hostOps0
  after_results
  rfl
theorem V_s1 (c : Dev nD) : V m c main_v2 = (net m c).s1 := by
  unfold V hostOps0 net
  after_results
  rfl
theorem V_b1 (c : Dev nD) : V m c main_v3 = (net m c).b1 := by
  unfold V hostOps0 net
  after_results
  rfl
theorem V_s2 (c : Dev nD) : V m c main_v4 = (net m c).s2 := by
  unfold V hostOps0 net
  after_results
  rfl
theorem V_b2 (c : Dev nD) : V m c main_v5 = (net m c).b2 := by
  unfold V hostOps0 net
  after_results
  rfl

theorem rows_apply (v : FVec Ideal S8x3072x128 .f32) (b : Fin 8) (n : Fin 192) (k : Fin 2048) :
    shapeCast S8x192x2048 v shapeCasts_S8x3072x128_S8x192x2048 (ix3 b n k)
      = v (ix3 b ⟨16 * n.val + k.val / 128, by omega⟩ ⟨k.val % 128, by omega⟩) := by
  refine shapeCast_apply v _ _ _ ?_
  rw [Shape.rowMajor_val_three, Shape.rowMajor_val_three]
  show (b.val * 3072 + (16 * n.val + k.val / 128)) * 128 + k.val % 128 = (b.val * 192 + n.val) * 2048 + k.val
  omega

theorem pos_apply (p : FVec Ideal S32x128 .f32) (k : Fin 4096) :
    shapeCast S1x4096 p shapeCasts_S32x128_S1x4096 (ix2 0 k) = p (ix2 ⟨k.val / 128, by omega⟩ ⟨k.val % 128, by omega⟩) := by
  refine shapeCast_apply p _ _ _ ?_
  rw [Shape.rowMajor_val_two, Shape.rowMajor_val_two]
  show k.val / 128 * 128 + k.val % 128 = 0 * 4096 + k.val
  omega

/-! ## The blocks -/

theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

theorem blk0 (n : Fin 192) (k : Fin 2048) :
    (iblk m c 0 t : Vec Ideal S1x192x2048 .f32) (ix3 0 n k)
      = shapeCast S8x192x2048 (m ((c : Thread nD τ).loc main_arg0)) shapeCasts_S8x3072x128_S8x192x2048 (ix3 (pt t) n k) := by
  unfold iblk
  rw [View.read_apply]
  show V m c main_v0 _ = _
  rw [V_v]
  congr 1
  funext a
  apply Fin.ext
  match a with
  | ⟨0, _⟩ => show win0_0.index t 0 * 1 + 1 * 0 = t.val; rw [(idx0 t).1]; omega
  | ⟨1, _⟩ => show win0_0.index t 1 * 192 + 1 * n.val = n.val; rw [(idx0 t).2.1]; omega
  | ⟨2, _⟩ => show win0_0.index t 2 * 2048 + 1 * k.val = k.val; rw [(idx0 t).2.2]; omega

theorem off1 (t : Fin cfg0.N) : (fun a => win0_1.index t a * main_v1.ty.shape.size a) = fun _ => 0 :=
  funext fun a => (congrArg (· * _) ((by decide +kernel : ∀ (t : Fin grid0.N) (a : Fin 2), win0_1.index t a = 0) t a)).trans (Nat.zero_mul _)
/-- Window 1's one block is its array. -/
theorem blk1 : iblk m c 1 t = V m c main_v1 :=
  Memref.read_access_unit_zero (Elt Ideal) main_v1 (off1 t) (fun a => by rw [congrFun (off1 t) a]; simp) (V m c main_v1)
theorem off2 (t : Fin cfg0.N) : (fun a => win0_2.index t a * main_arg2.ty.shape.size a) = fun _ => 0 :=
  funext fun a => (congrArg (· * _) ((by decide +kernel : ∀ (t : Fin grid0.N) (a : Fin 2), win0_2.index t a = 0) t a)).trans (Nat.zero_mul _)
/-- Window 2's one block is its array. -/
theorem blk2 : iblk m c 2 t = V m c main_arg2 :=
  Memref.read_access_unit_zero (Elt Ideal) main_arg2 (off2 t) (fun a => by rw [congrFun (off2 t) a]; simp) (V m c main_arg2)
theorem off3 (t : Fin cfg0.N) : (fun a => win0_3.index t a * main_v2.ty.shape.size a) = fun _ => 0 :=
  funext fun a => (congrArg (· * _) ((by decide +kernel : ∀ (t : Fin grid0.N) (a : Fin 2), win0_3.index t a = 0) t a)).trans (Nat.zero_mul _)
/-- Window 3's one block is its array. -/
theorem blk3 : iblk m c 3 t = V m c main_v2 :=
  Memref.read_access_unit_zero (Elt Ideal) main_v2 (off3 t) (fun a => by rw [congrFun (off3 t) a]; simp) (V m c main_v2)
theorem off4 (t : Fin cfg0.N) : (fun a => win0_4.index t a * main_v3.ty.shape.size a) = fun _ => 0 :=
  funext fun a => (congrArg (· * _) ((by decide +kernel : ∀ (t : Fin grid0.N) (a : Fin 2), win0_4.index t a = 0) t a)).trans (Nat.zero_mul _)
/-- Window 4's one block is its array. -/
theorem blk4 : iblk m c 4 t = V m c main_v3 :=
  Memref.read_access_unit_zero (Elt Ideal) main_v3 (off4 t) (fun a => by rw [congrFun (off4 t) a]; simp) (V m c main_v3)
theorem off5 (t : Fin cfg0.N) : (fun a => win0_5.index t a * main_arg5.ty.shape.size a) = fun _ => 0 :=
  funext fun a => (congrArg (· * _) ((by decide +kernel : ∀ (t : Fin grid0.N) (a : Fin 2), win0_5.index t a = 0) t a)).trans (Nat.zero_mul _)
/-- Window 5's one block is its array. -/
theorem blk5 : iblk m c 5 t = V m c main_arg5 :=
  Memref.read_access_unit_zero (Elt Ideal) main_arg5 (off5 t) (fun a => by rw [congrFun (off5 t) a]; simp) (V m c main_arg5)
theorem off6 (t : Fin cfg0.N) : (fun a => win0_6.index t a * main_v4.ty.shape.size a) = fun _ => 0 :=
  funext fun a => (congrArg (· * _) ((by decide +kernel : ∀ (t : Fin grid0.N) (a : Fin 2), win0_6.index t a = 0) t a)).trans (Nat.zero_mul _)
/-- Window 6's one block is its array. -/
theorem blk6 : iblk m c 6 t = V m c main_v4 :=
  Memref.read_access_unit_zero (Elt Ideal) main_v4 (off6 t) (fun a => by rw [congrFun (off6 t) a]; simp) (V m c main_v4)
theorem off7 (t : Fin cfg0.N) : (fun a => win0_7.index t a * main_v5.ty.shape.size a) = fun _ => 0 :=
  funext fun a => (congrArg (· * _) ((by decide +kernel : ∀ (t : Fin grid0.N) (a : Fin 2), win0_7.index t a = 0) t a)).trans (Nat.zero_mul _)
/-- Window 7's one block is its array. -/
theorem blk7 : iblk m c 7 t = V m c main_v5 :=
  Memref.read_access_unit_zero (Elt Ideal) main_v5 (off7 t) (fun a => by rw [congrFun (off7 t) a]; simp) (V m c main_v5)

/-! ## The loads -/

theorem zero2 : (![0, 0] : Fin 2 → ℕ) = fun _ => 0 := by decide
theorem zero3 : (![0, 0, 0] : Fin 3 → ℕ) = fun _ => 0 := by decide

theorem ldV_eq : ldV m c t = iblk m c 0 t := by
  unfold ldV
  rw [View.readAt_eq_ld, Memref.IsWhole.read_unread]
  exact View.ld_unit_zero (S := S1x192x2048) zero3 _ _
theorem ldW1_eq : ldW1 m c t = (net m c).w1 := by
  unfold ldW1
  rw [View.readAt_eq_ld, Memref.IsWhole.read_unread]
  exact (View.ld_unit_zero (S := S4096x1536) zero2 _ _).trans ((blk2 m c t).trans (V_main_arg2 m c))
theorem ldS1_eq : ldS1 m c t = (net m c).s1 := by
  unfold ldS1
  rw [View.readAt_eq_ld, Memref.IsWhole.read_unread]
  exact (View.ld_unit_zero (S := S1x1536) zero2 _ _).trans ((blk3 m c t).trans (V_s1 m c))
theorem ldB1_eq : ldB1 m c t = (net m c).b1 := by
  unfold ldB1
  rw [View.readAt_eq_ld, Memref.IsWhole.read_unread]
  exact (View.ld_unit_zero (S := S1x1536) zero2 _ _).trans ((blk4 m c t).trans (V_b1 m c))
theorem ldW2_eq : ldW2 m c t = (net m c).w2 := by
  unfold ldW2
  rw [View.readAt_eq_ld, Memref.IsWhole.read_unread]
  exact (View.ld_unit_zero (S := S1536x128) zero2 _ _).trans ((blk5 m c t).trans (V_main_arg5 m c))
theorem ldS2_eq : ldS2 m c t = (net m c).s2 := by
  unfold ldS2
  rw [View.readAt_eq_ld, Memref.IsWhole.read_unread]
  exact (View.ld_unit_zero (S := S1x128) zero2 _ _).trans ((blk6 m c t).trans (V_s2 m c))
theorem ldB2_eq : ldB2 m c t = (net m c).b2 := by
  unfold ldB2
  rw [View.readAt_eq_ld, Memref.IsWhole.read_unread]
  exact (View.ld_unit_zero (S := S1x128) zero2 _ _).trans ((blk7 m c t).trans (V_b2 m c))

/-- A load of columns of a row. -/
theorem cols_apply (x : Vec Ideal S1x4096 .f32) (o : ℕ) (h : ∀ i, (![0, o] : Fin 2 → ℕ) i + S1x2048.size i ≤ S1x4096.size i) (k : Fin 2048) (j : Fin 4096)
    (hj : o + k.val = j.val) : View.ld (Val := Elt Ideal) x (Rect.unit (s := S1x4096) ![0, o] S1x2048.size h) (ix2 0 k) = x (ix2 0 j) := by
  show x _ = x _
  congr 1
  funext i
  apply Fin.ext
  match i with
  | ⟨0, _⟩ => rfl
  | ⟨1, _⟩ => show o + 1 * k.val = j.val; omega

theorem ldP_apply (k : Fin 2048) : ldP m c t (ix2 0 k)
    = shapeCast S1x4096 (m ((c : Thread nD τ).loc main_arg1)) shapeCasts_S32x128_S1x4096 (ix2 0 (lo k)) := by
  unfold ldP
  rw [View.readAt_eq_ld, Memref.IsWhole.read_unread, blk1, V_p]
  exact cols_apply _ 0 _ k _ (Nat.zero_add _)
theorem ldQ_apply (k : Fin 2048) : ldQ m c t (ix2 0 k)
    = shapeCast S1x4096 (m ((c : Thread nD τ).loc main_arg1)) shapeCasts_S32x128_S1x4096 (ix2 0 (hi k)) := by
  unfold ldQ
  rw [View.readAt_eq_ld, Memref.IsWhole.read_unread, blk1, V_p]
  exact cols_apply _ 2048 _ k _ rfl

/-! ## The row's entries, codes and scale -/

variable (n : Fin 192)

theorem first_eq (k : Fin 2048) : rowAt m c (pt t) n (lo k) = (ldV m c t (ix3 0 n k) + ldP m c t (ix2 0 k) : EReal) := by
  rw [ldV_eq, ldP_apply, blk0, rows_apply, pos_apply]
  exact entry_of _ _ _ _ _ _ _ _ _ (by show 16 * n.val + k.val / 128 = (16 * n.val + k.val / 128) % 3072; omega) rfl rfl

theorem second_eq (k : Fin 2048) : rowAt m c (pt t) n (hi k)
    = (ldV m c t (ix3 0 (nextBlock n) k) + ldQ m c t (ix2 0 k) : EReal) := by
  rw [ldV_eq, ldQ_apply, blk0, rows_apply, pos_apply]
  rw [show (⟨k.val % 128, by omega⟩   : Fin 128) = ⟨(2048 + k.val) % 128, by omega⟩ from Fin.ext (show k.val % 128 = (2048 + k.val) % 128 by omega)]
  exact entry_of _ _ _ _ _ _ _ _ _
    (by show 16 * ((n.val + 1) % 192) + k.val / 128 = (16 * n.val + (2048 + k.val) / 128) % 3072; omega) rfl rfl

theorem rowScale_eq : rowScale m c t (ix2 n 0) = inScale (rowAt m c (pt t) n) :=
  inScale_of _ _ _ n _ (first_eq m c t n) (second_eq m c t n)

theorem idx_one {a b : ℕ} (x : (⟨3, ![1, a, b]⟩ : Shape).Idx) : ∃ r l, x = ix3 0 r l :=
  ⟨x 1, x 2, (eq_ix3 x).trans (congrArg (fun z => ix3 z (x 1) (x 2)) (Subsingleton.elim (α := Fin 1) _ _))⟩

theorem inCode_at (b : Fin 8) (n n' : Fin 192) (k k' : Fin 4096) (hn : n.val = n'.val) (hk : k.val = k'.val) :
    inCode (rowAt m c b n) k = inCode (rowAt m c b n') k' := by
  obtain rfl := Fin.ext hn
  obtain rfl := Fin.ext hk
  rfl

/-- The stored halves are the row's codes. -/
theorem codePieces_eq : ∀ p ∈ codePieces m c t, ∀ x : p.1.shape.Idx,
    p.2 x = (fun y : S1x192x4096.Idx => inCode (rowAt m c (pt t) (y 1)) (y 2)) (p.1.emb x) := by
  intro p hp x
  simp only [codePieces, List.mem_cons, List.not_mem_nil, or_false] at hp
  rcases hp with rfl | rfl <;> obtain ⟨r, l, rfl⟩ := idx_one x
  · refine (secondCodes_of _ _ _ r _ (first_eq m c t r) (second_eq m c t r) l).trans (inCode_at m c _ _ _ _ _ ?_ ?_)
    · show r.val = 0 + 1 * r.val; omega
    · show 2048 + l.val = 2048 + 1 * l.val; omega
  · refine (firstCodes_of _ _ _ r _ (first_eq m c t r) (second_eq m c t r) l).trans (inCode_at m c _ _ _ _ _ ?_ ?_)
    · show r.val = 0 + 1 * r.val; omega
    · show l.val = 0 + 1 * l.val; omega

/-- What output 9 holds once both halves are stored. -/
theorem codes_canon (y : S1x192x4096.Idx) : View.canon (Val := Elt Ideal) (codePieces m c t) y = inCode (rowAt m c (pt t) (y 1)) (y 2) := by
  have hc := cover0_A_9 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (iblk m c 0 t) (iblk m c 1 t) (iblk m c 2 t) (iblk m c 3 t) (iblk m c 4 t) (iblk m c 5 t) (iblk m c 6 t) (iblk m c 7 t) y
  rw [pieces9] at hc
  exact View.canon_apply_of_pieces (Val := Elt Ideal) (e := .fp8e4m3) (fun y : S1x192x4096.Idx => inCode (rowAt m c (pt t) (y 1)) (y 2)) _ (codePieces_eq m c t) y hc

theorem ldCodes_eq (k : Fin 4096) : ldCodes m c t (ix3 0 n k) = inCode (rowAt m c (pt t) n) k := by
  unfold ldCodes
  rw [View.readCov_eq_canon']
  refine (codes_canon m c t _).trans (inCode_at m c _ _ _ _ _ ?_ ?_)
  · show 0 + 1 * n.val = n.val; omega
  · show 0 + 1 * k.val = k.val; omega

end Cert.CompressVIdeal.Hand

end
-- ==== Proof.CompressVValue.lean ====
/-
  THE VALUES' COMPRESSION'S VALUE. Grid point `t` computes the 192 rows of head-and-batch `t` of the four arrays of
  CompressSpec.lean; its 8 blocks tile each result.
-/
module

public import proofs.«01_k».proof.Proof.CompressVLoads

@[expose] public section

set_option maxRecDepth 16384

noncomputable section

namespace Cert.CompressVIdeal.Hand

open Cert.CompressVIdeal.Gen Cert.CompressSpec Cert.Quant
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD) (t : Fin cfg0.N)

/-! ## What a point stores, at an index -/

section
variable (n : Fin 192)

theorem stored_out (o : Fin 128) :
    k0_pay3 (hidScales m c t) (hidOver m c t) (Scalar.ofBits .f32 0x43E00000#32) k0_pay16 (ldW2 m c t) (ldS2 m c t) (ldB2 m c t) (ix3 0 n o)
      = out (net m c) (rowAt m c (pt t) n) o := by
  unfold hidScales hidOver
  rw [ldW1_eq, ldS1_eq, ldB1_eq, ldW2_eq, ldS2_eq, ldB2_eq]
  exact out_of (net m c) _ n _ _ (rowScale_eq m c t n) (ldCodes_eq m c t n) o

theorem stored_hid (j : Fin 1536) :
    k0_pay2 (hidOver m c t) (Scalar.ofBits .f32 0x43E00000#32) k0_pay16 (ix3 0 n j) = hidCode (net m c) (rowAt m c (pt t) n) j := by
  unfold hidOver
  rw [ldW1_eq, ldS1_eq, ldB1_eq]
  exact hidCodes_of (net m c) _ n _ _ (rowScale_eq m c t n) (ldCodes_eq m c t n) j

theorem stored_stat (l : Fin 128) : k0_pay4 (rowScale m c t) (hidScales m c t) (ix3 0 n l) = stat (net m c) (rowAt m c (pt t) n) l := by
  unfold hidScales
  rw [ldW1_eq, ldS1_eq, ldB1_eq]
  exact stat_of (net m c) _ n _ _ (rowScale_eq m c t n) (ldCodes_eq m c t n) l

end

/-! ## The final arrays -/

theorem pt_in (b : ℕ) : b * 1 ≤ b ∧ b < b * 1 + 1 := by omega
theorem in_whole (k n : ℕ) (h : n < k) : 0 * k ≤ n ∧ n < 0 * k + k := by omega

/-- The point of a head-and-batch. -/
def ptOf (b : ℕ) (h : b < 8) : Fin cfg0.N := ⟨b, h⟩

theorem idx8 : ∀ t : Fin cfg0.N, win0_8.index t 0 = t.val ∧ win0_8.index t 1 = 0 ∧ win0_8.index t 2 = 0 :=
  (by decide +kernel : ∀ t : Fin grid0.N, win0_8.index t 0 = t.val ∧ win0_8.index t 1 = 0 ∧ win0_8.index t 2 = 0)
theorem emb8 (n : Fin 192) (l : Fin 128) : ((cfg0.win 8).blk t).view.emb (ix3 0 n l) = (ix3 (pt t) n l : (⟨3, ![8, 192, 128]⟩ : Shape).Idx) := by
  funext a
  apply Fin.ext
  match a with
  | ⟨0, _⟩ => show win0_8.index t 0 * 1 + 1 * 0 = t.val; rw [(idx8 t).1]; omega
  | ⟨1, _⟩ => show win0_8.index t 1 * 192 + 1 * n.val = n.val; rw [(idx8 t).2.1]; omega
  | ⟨2, _⟩ => show win0_8.index t 2 * 128 + 1 * l.val = l.val; rw [(idx8 t).2.2]; omega
theorem final8 : (dats m 0 c).arrAt 8 cfg0.N = outs (net m c) (rowAt m c) :=
  (dats m 0 c).arrAt_eq_of_cover 8 (outs (net m c) (rowAt m c) : Buf (Elt Ideal) ((c : Thread nD τ).loc main_v6_0)) (fun t _ => by
    rw [Value.flushed8_A]
    funext j
    rw [View.read_apply]
    obtain ⟨n, l, rfl⟩ := idx_one (a := 192) (b := 128) j
    refine (View.read_writes_junk_apply_eq_canon (Val := Elt Ideal) VO0_8 (ix3 0 n l) (runAt m c t).1).trans ?_
    rw [pieces8, View.canon_unit_zero (S := S1x192x128) zero3, emb8]
    exact stored_out m c t n l) fun i => by
    have h0 : (i 0 : Nat) < 8 := (i 0).isLt
    refine ⟨ptOf (i 0).val h0, (by decide +kernel : ∀ t : Fin grid0.N, win0_8.flush t = true) (ptOf (i 0).val h0), ?_⟩
    show i ∈ ((View.whole main_v6_0).slice (win0_8.rect (ptOf (i 0).val h0))).set
    rw [View.set_slice_whole, Rect.mem_set_unit]
    intro a
    match a with
    | ⟨0, _⟩ =>
      show win0_8.index (ptOf (i 0).val h0) 0 * 1 ≤ (i 0 : Nat) ∧ (i 0 : Nat) < win0_8.index (ptOf (i 0).val h0) 0 * 1 + 1
      rw [(idx8 (ptOf (i 0).val h0)).1]; exact pt_in _
    | ⟨1, _⟩ =>
      show win0_8.index (ptOf (i 0).val h0) 1 * 192 ≤ (i 1 : Nat) ∧ (i 1 : Nat) < win0_8.index (ptOf (i 0).val h0) 1 * 192 + 192
      rw [(idx8 (ptOf (i 0).val h0)).2.1]; exact in_whole _ _ (i 1).isLt
    | ⟨2, _⟩ =>
      show win0_8.index (ptOf (i 0).val h0) 2 * 128 ≤ (i 2 : Nat) ∧ (i 2 : Nat) < win0_8.index (ptOf (i 0).val h0) 2 * 128 + 128
      rw [(idx8 (ptOf (i 0).val h0)).2.2]; exact in_whole _ _ (i 2).isLt

theorem idx9 : ∀ t : Fin cfg0.N, win0_9.index t 0 = t.val ∧ win0_9.index t 1 = 0 ∧ win0_9.index t 2 = 0 :=
  (by decide +kernel : ∀ t : Fin grid0.N, win0_9.index t 0 = t.val ∧ win0_9.index t 1 = 0 ∧ win0_9.index t 2 = 0)
theorem emb9 (n : Fin 192) (l : Fin 4096) : ((cfg0.win 9).blk t).view.emb (ix3 0 n l) = (ix3 (pt t) n l : (⟨3, ![8, 192, 4096]⟩ : Shape).Idx) := by
  funext a
  apply Fin.ext
  match a with
  | ⟨0, _⟩ => show win0_9.index t 0 * 1 + 1 * 0 = t.val; rw [(idx9 t).1]; omega
  | ⟨1, _⟩ => show win0_9.index t 1 * 192 + 1 * n.val = n.val; rw [(idx9 t).2.1]; omega
  | ⟨2, _⟩ => show win0_9.index t 2 * 4096 + 1 * l.val = l.val; rw [(idx9 t).2.2]; omega
theorem final9 : (dats m 0 c).arrAt 9 cfg0.N = inCodes (rowAt m c) :=
  (dats m 0 c).arrAt_eq_of_cover 9 (inCodes (rowAt m c) : Buf (Elt Ideal) ((c : Thread nD τ).loc main_v6_1)) (fun t _ => by
    rw [Value.flushed9_A]
    funext j
    rw [View.read_apply]
    obtain ⟨n, l, rfl⟩ := idx_one (a := 192) (b := 4096) j
    refine (View.read_writes_junk_apply_eq_canon (Val := Elt Ideal) VO0_9 (ix3 0 n l) (runAt m c t).2.1).trans ?_
    rw [pieces9]
    refine (codes_canon m c t _).trans ?_
    rw [emb9]
    rfl) fun i => by
    have h0 : (i 0 : Nat) < 8 := (i 0).isLt
    refine ⟨ptOf (i 0).val h0, (by decide +kernel : ∀ t : Fin grid0.N, win0_9.flush t = true) (ptOf (i 0).val h0), ?_⟩
    show i ∈ ((View.whole main_v6_1).slice (win0_9.rect (ptOf (i 0).val h0))).set
    rw [View.set_slice_whole, Rect.mem_set_unit]
    intro a
    match a with
    | ⟨0, _⟩ =>
      show win0_9.index (ptOf (i 0).val h0) 0 * 1 ≤ (i 0 : Nat) ∧ (i 0 : Nat) < win0_9.index (ptOf (i 0).val h0) 0 * 1 + 1
      rw [(idx9 (ptOf (i 0).val h0)).1]; exact pt_in _
    | ⟨1, _⟩ =>
      show win0_9.index (ptOf (i 0).val h0) 1 * 192 ≤ (i 1 : Nat) ∧ (i 1 : Nat) < win0_9.index (ptOf (i 0).val h0) 1 * 192 + 192
      rw [(idx9 (ptOf (i 0).val h0)).2.1]; exact in_whole _ _ (i 1).isLt
    | ⟨2, _⟩ =>
      show win0_9.index (ptOf (i 0).val h0) 2 * 4096 ≤ (i 2 : Nat) ∧ (i 2 : Nat) < win0_9.index (ptOf (i 0).val h0) 2 * 4096 + 4096
      rw [(idx9 (ptOf (i 0).val h0)).2.2]; exact in_whole _ _ (i 2).isLt

theorem idx10 : ∀ t : Fin cfg0.N, win0_10.index t 0 = t.val ∧ win0_10.index t 1 = 0 ∧ win0_10.index t 2 = 0 :=
  (by decide +kernel : ∀ t : Fin grid0.N, win0_10.index t 0 = t.val ∧ win0_10.index t 1 = 0 ∧ win0_10.index t 2 = 0)
theorem emb10 (n : Fin 192) (l : Fin 1536) : ((cfg0.win 10).blk t).view.emb (ix3 0 n l) = (ix3 (pt t) n l : (⟨3, ![8, 192, 1536]⟩ : Shape).Idx) := by
  funext a
  apply Fin.ext
  match a with
  | ⟨0, _⟩ => show win0_10.index t 0 * 1 + 1 * 0 = t.val; rw [(idx10 t).1]; omega
  | ⟨1, _⟩ => show win0_10.index t 1 * 192 + 1 * n.val = n.val; rw [(idx10 t).2.1]; omega
  | ⟨2, _⟩ => show win0_10.index t 2 * 1536 + 1 * l.val = l.val; rw [(idx10 t).2.2]; omega
theorem final10 : (dats m 0 c).arrAt 10 cfg0.N = hidCodes (net m c) (rowAt m c) :=
  (dats m 0 c).arrAt_eq_of_cover 10 (hidCodes (net m c) (rowAt m c) : Buf (Elt Ideal) ((c : Thread nD τ).loc main_v6_2)) (fun t _ => by
    rw [Value.flushed10_A]
    funext j
    rw [View.read_apply]
    obtain ⟨n, l, rfl⟩ := idx_one (a := 192) (b := 1536) j
    refine (View.read_writes_junk_apply_eq_canon (Val := Elt Ideal) VO0_10 (ix3 0 n l) (runAt m c t).2.2.1).trans ?_
    rw [pieces10, View.canon_unit_zero (S := S1x192x1536) zero3, emb10]
    exact stored_hid m c t n l) fun i => by
    have h0 : (i 0 : Nat) < 8 := (i 0).isLt
    refine ⟨ptOf (i 0).val h0, (by decide +kernel : ∀ t : Fin grid0.N, win0_10.flush t = true) (ptOf (i 0).val h0), ?_⟩
    show i ∈ ((View.whole main_v6_2).slice (win0_10.rect (ptOf (i 0).val h0))).set
    rw [View.set_slice_whole, Rect.mem_set_unit]
    intro a
    match a with
    | ⟨0, _⟩ =>
      show win0_10.index (ptOf (i 0).val h0) 0 * 1 ≤ (i 0 : Nat) ∧ (i 0 : Nat) < win0_10.index (ptOf (i 0).val h0) 0 * 1 + 1
      rw [(idx10 (ptOf (i 0).val h0)).1]; exact pt_in _
    | ⟨1, _⟩ =>
      show win0_10.index (ptOf (i 0).val h0) 1 * 192 ≤ (i 1 : Nat) ∧ (i 1 : Nat) < win0_10.index (ptOf (i 0).val h0) 1 * 192 + 192
      rw [(idx10 (ptOf (i 0).val h0)).2.1]; exact in_whole _ _ (i 1).isLt
    | ⟨2, _⟩ =>
      show win0_10.index (ptOf (i 0).val h0) 2 * 1536 ≤ (i 2 : Nat) ∧ (i 2 : Nat) < win0_10.index (ptOf (i 0).val h0) 2 * 1536 + 1536
      rw [(idx10 (ptOf (i 0).val h0)).2.2]; exact in_whole _ _ (i 2).isLt

theorem idx11 : ∀ t : Fin cfg0.N, win0_11.index t 0 = t.val ∧ win0_11.index t 1 = 0 ∧ win0_11.index t 2 = 0 :=
  (by decide +kernel : ∀ t : Fin grid0.N, win0_11.index t 0 = t.val ∧ win0_11.index t 1 = 0 ∧ win0_11.index t 2 = 0)
theorem emb11 (n : Fin 192) (l : Fin 128) : ((cfg0.win 11).blk t).view.emb (ix3 0 n l) = (ix3 (pt t) n l : (⟨3, ![8, 192, 128]⟩ : Shape).Idx) := by
  funext a
  apply Fin.ext
  match a with
  | ⟨0, _⟩ => show win0_11.index t 0 * 1 + 1 * 0 = t.val; rw [(idx11 t).1]; omega
  | ⟨1, _⟩ => show win0_11.index t 1 * 192 + 1 * n.val = n.val; rw [(idx11 t).2.1]; omega
  | ⟨2, _⟩ => show win0_11.index t 2 * 128 + 1 * l.val = l.val; rw [(idx11 t).2.2]; omega
theorem final11 : (dats m 0 c).arrAt 11 cfg0.N = stats (net m c) (rowAt m c) :=
  (dats m 0 c).arrAt_eq_of_cover 11 (stats (net m c) (rowAt m c) : Buf (Elt Ideal) ((c : Thread nD τ).loc main_v6_3)) (fun t _ => by
    rw [Value.flushed11_A]
    funext j
    rw [View.read_apply]
    obtain ⟨n, l, rfl⟩ := idx_one (a := 192) (b := 128) j
    refine (View.read_writes_junk_apply_eq_canon (Val := Elt Ideal) VO0_11 (ix3 0 n l) (runAt m c t).2.2.2.1).trans ?_
    rw [pieces11, View.canon_unit_zero (S := S1x192x128) zero3, emb11]
    exact stored_stat m c t n l) fun i => by
    have h0 : (i 0 : Nat) < 8 := (i 0).isLt
    refine ⟨ptOf (i 0).val h0, (by decide +kernel : ∀ t : Fin grid0.N, win0_11.flush t = true) (ptOf (i 0).val h0), ?_⟩
    show i ∈ ((View.whole main_v6_3).slice (win0_11.rect (ptOf (i 0).val h0))).set
    rw [View.set_slice_whole, Rect.mem_set_unit]
    intro a
    match a with
    | ⟨0, _⟩ =>
      show win0_11.index (ptOf (i 0).val h0) 0 * 1 ≤ (i 0 : Nat) ∧ (i 0 : Nat) < win0_11.index (ptOf (i 0).val h0) 0 * 1 + 1
      rw [(idx11 (ptOf (i 0).val h0)).1]; exact pt_in _
    | ⟨1, _⟩ =>
      show win0_11.index (ptOf (i 0).val h0) 1 * 192 ≤ (i 1 : Nat) ∧ (i 1 : Nat) < win0_11.index (ptOf (i 0).val h0) 1 * 192 + 192
      rw [(idx11 (ptOf (i 0).val h0)).2.1]; exact in_whole _ _ (i 1).isLt
    | ⟨2, _⟩ =>
      show win0_11.index (ptOf (i 0).val h0) 2 * 128 ≤ (i 2 : Nat) ∧ (i 2 : Nat) < win0_11.index (ptOf (i 0).val h0) 2 * 128 + 128
      rw [(idx11 (ptOf (i 0).val h0)).2.2]; exact in_whole _ _ (i 2).isLt

/-- The run: the four results, the arguments unchanged. -/
theorem run : θ_run defs (onTc (τ := τ) (main (F := Ideal))) ⟨m, fun _ => 0, ρ⟩ fun r => ∀ c : Dev nD,
      r.2.mem ((c : Thread nD τ).loc main_v6_0) = outs (net m c) (rowAt m c)
      ∧ r.2.mem ((c : Thread nD τ).loc main_v6_1) = inCodes (rowAt m c)
      ∧ r.2.mem ((c : Thread nD τ).loc main_v6_2) = hidCodes (net m c) (rowAt m c)
      ∧ r.2.mem ((c : Thread nD τ).loc main_v6_3) = stats (net m c) (rowAt m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final8 m c), (h c).2.1.trans (final9 m c), (h c).2.2.1.trans (final10 m c),
    (h c).2.2.2.1.trans (final11 m c), (h c).2.2.2.2⟩) (Value.run_blocks m ρ)

end Cert.CompressVIdeal.Hand

end
-- ==== Proof.CompressVRefPay.lean ====
/-
  THE VALUES' COMPRESSION REFERENCE'S STORED VALUES, at an index: with a row of its argument named, they are CompressSpec.lean's.
-/
module

public import proofs.«01_k».proof.Proof.Gen.CompressVRefIdeal.Skeleton
public import proofs.«01_k».proof.Proof.CompressSpec
public import Idealize.ShloMosaic.Lib.KernelVsHost

@[expose] public section

set_option maxRecDepth 16384

noncomputable section

namespace Cert.CompressVRefIdeal.Hand

open Cert.CompressVRefIdeal Cert.CompressVRefIdeal.Gen Idealize.ShloMosaic Idealize.ShloMosaic.TcCoe
open Cert.CompressSpec Cert.Quant

/-! ## The layers -/

section
variable (r : Fin 1536)

theorem cast_apply (x : FVec Ideal S1536x4096 .f32) (k : Fin 4096) : k0_pay1 (F := Ideal) x (ix2 r k) = x (ix2 r k) := by
  pointwise [k0_pay1]

theorem rowMax_apply (x : FVec Ideal S1536x4096 .f32) :
    shapeCast S1536x1 (multiReduction .maximumf [1] S1536 (absf x) 0xFF800000#32 reduces_S1536x4096_S1536 (.inl rfl) rfl)
      shapeCasts_S1536_S1536x1 (ix2 r 0) = amax fun l => x (ix2 r l) := by
  rw [show shapeCast S1536x1 (multiReduction .maximumf [1] S1536 (absf x) 0xFF800000#32 reduces_S1536x4096_S1536 (.inl rfl) rfl)
      shapeCasts_S1536_S1536x1 (ix2 r 0) = _ by pointwise; rfl]
  exact fold_absf _

theorem rowMaxHid_apply (x : FVec Ideal S1536x1536 .f32) :
    shapeCast S1536x1 (multiReduction .maximumf [1] S1536 (absf x) 0xFF800000#32 reduces_S1536x1536_S1536 (.inl rfl) rfl)
      shapeCasts_S1536_S1536x1 (ix2 r 0) = amax fun l => x (ix2 r l) := by
  rw [show shapeCast S1536x1 (multiReduction .maximumf [1] S1536 (absf x) 0xFF800000#32 reduces_S1536x1536_S1536 (.inl rfl) rfl)
      shapeCasts_S1536_S1536x1 (ix2 r 0) = _ by pointwise; rfl]
  exact fold_absf _

theorem affine_apply (y : FVec Ideal S1536x1 .f32) (cs : FVec Ideal S1536x4096 .fp8e4m3) (w : FVec Ideal S4096x1536 .fp8e4m3) (s b : FVec Ideal S1x1536 .f32) (j : Fin 1536) :
    addf (mulf (mulf (matmul dot_S1536x4096_S4096x1536_S1536x1536_1_0_0_1_n_n none cs w (constant S1536x1536 .f32 0x00000000#32))
      (broadcastTo S1536x1536 y broadcasts_S1536x1_S1536x1536)) (broadcastTo S1536x1536 (shapeCast S1x1536 s shapeCasts_S1x1536_S1x1536) broadcasts_S1x1536_S1536x1536))
      (broadcastTo S1536x1536 (shapeCast S1x1536 b shapeCasts_S1x1536_S1x1536) broadcasts_S1x1536_S1536x1536) (ix2 r j)
      = ((∑ k : Fin 4096, cs (ix2 r k) * w (ix2 k j)) * y (ix2 r 0) * s (ix2 0 j) + b (ix2 0 j) : EReal) := by
  pointwise

theorem swish_apply (z : FVec Ideal S1536x1536 .f32) (j : Fin 1536) : mulf z (logistic z) (ix2 r j) = (z (ix2 r j) * Ideal.logistic (z (ix2 r j)) : EReal) := rfl

variable (N : Net 4096 128) (x : Vec Ideal S1536x4096 .f32) (f : Fin 4096 → EReal) (hf : ∀ k, x (ix2 r k) = f k)
include hf

theorem inScale_of : k0_pay2 (F := Ideal) x (ix2 r 0) = inScale f := by
  unfold k0_pay2
  rw [scale_apply, rowMax_apply]
  simp only [cast_apply, hf]
  rfl

theorem inCode_of (k : Fin 4096) : k0_pay3 (F := Ideal) x (ix2 r k) = inCode f k := by
  unfold k0_pay3
  rw [codes_apply, show ∀ y : FVec Ideal S1536x1 .f32, broadcastTo S1536x4096 y broadcasts_S1536x1_S1536x4096 (ix2 r k) = y (ix2 r 0) from fun y => by pointwise,
    cast_apply, inScale_of r x f hf, hf]
  rfl

theorem hid_of (j : Fin 1536) : k0_pay4 (F := Ideal) x N.w1 N.s1 N.b1 (ix2 r j) = hid N f j := by
  unfold k0_pay4
  rw [swish_apply, affine_apply]
  simp only [inScale_of r x f hf, inCode_of r x f hf]
  rfl

theorem hidScale_of : k0_pay5 (F := Ideal) x N.w1 N.s1 N.b1 (ix2 r 0) = hidScale N f := by
  unfold k0_pay5
  rw [scale_apply, rowMaxHid_apply]
  simp only [hid_of r N x f hf]
  rfl

theorem hidCode_of (j : Fin 1536) : k0_pay6 (F := Ideal) (k0_pay4 x N.w1 N.s1 N.b1) (k0_pay5 x N.w1 N.s1 N.b1) (ix2 r j) = hidCode N f j := by
  unfold k0_pay6
  rw [codes_apply, show ∀ y : FVec Ideal S1536x1 .f32, broadcastTo S1536x1536 y broadcasts_S1536x1_S1536x1536 (ix2 r j) = y (ix2 r 0) from fun y => by pointwise,
    hid_of r N x f hf, hidScale_of r N x f hf]
  rfl

end

/-! ## What is stored -/

section
variable (b : Fin 8) (n : Fin 192) (N : Net 4096 128) (x : Vec Ideal S1536x4096 .f32) (f : Fin 4096 → EReal) (hf : ∀ k, x (ix2 (rowOf b n) k) = f k)

theorem layer_apply (r : Fin 1536) (y : FVec Ideal S1536x1 .f32) (hcs : FVec Ideal S1536x1536 .fp8e4m3) (o : Fin 128) :
    truncf .bf16 (addf (mulf (mulf (matmul dot_S1536x1536_S1536x128_S1536x128_1_0_0_1_n_n none hcs N.w2 (constant S1536x128 .f32 0x00000000#32))
      (broadcastTo S1536x128 y broadcasts_S1536x1_S1536x128)) (broadcastTo S1536x128 (shapeCast S1x128 N.s2 shapeCasts_S1x128_S1x128) broadcasts_S1x128_S1536x128))
      (broadcastTo S1536x128 (shapeCast S1x128 N.b2 shapeCasts_S1x128_S1x128) broadcasts_S1x128_S1536x128)) bitsLt_bf16_f32 (ix2 r o)
      = ((∑ j : Fin 1536, hcs (ix2 r j) * N.w2 (ix2 j o)) * y (ix2 r 0) * N.s2 (ix2 0 o) + N.b2 (ix2 0 o) : EReal) := by
  pointwise

theorem lanes_apply (r : Fin 1536) (y z : FVec Ideal S1536x1 .f32) (l : Fin 128) :
    select (cmpi .eq (iota .tc S1536x128 32 [1] iota_S1536x128_d1_w32) (broadcast S1536x128 0#32))
      (broadcastTo S1536x128 (shapeCast S1536x1 y shapeCasts_S1536x1_S1536x1) broadcasts_S1536x1_S1536x128)
      (broadcastTo S1536x128 (shapeCast S1536x1 z shapeCasts_S1536x1_S1536x1) broadcasts_S1536x1_S1536x128) (ix2 r l)
      = (if l.val = 0 then y (ix2 r 0) else z (ix2 r 0) : EReal) := by
  rw [← lane_select]; pointwise

include hf

theorem out_of (o : Fin 128) :
    k0_pay7 (F := Ideal) (k0_pay4 x N.w1 N.s1 N.b1) (k0_pay5 x N.w1 N.s1 N.b1) N.w2 N.s2 N.b2 (ix3 b n o) = out N f o := by
  unfold k0_pay7
  refine (apart_apply _ _ b n o).trans ?_
  rw [layer_apply N, hidScale_of _ N x f hf]
  simp only [hidCode_of _ N x f hf]
  rfl

theorem inCodes_of (k : Fin 4096) : k0_pay8 (F := Ideal) (k0_pay3 x) (ix3 b n k) = inCode f k := by
  unfold k0_pay8
  exact (apart_apply _ _ b n k).trans (inCode_of _ x f hf k)

theorem hidCodes_of (j : Fin 1536) : k0_pay9 (F := Ideal) (k0_pay4 x N.w1 N.s1 N.b1) (k0_pay5 x N.w1 N.s1 N.b1) (ix3 b n j) = hidCode N f j := by
  unfold k0_pay9
  exact (apart_apply _ _ b n j).trans (hidCode_of _ N x f hf j)

theorem stat_of (l : Fin 128) : k0_pay10 (F := Ideal) (k0_pay2 x) (k0_pay5 x N.w1 N.s1 N.b1) (ix3 b n l) = stat N f l := by
  unfold k0_pay10
  refine (apart_apply _ _ b n l).trans ?_
  rw [lanes_apply, inScale_of _ x f hf, hidScale_of _ N x f hf]
  rfl

end

/-! ## The rows the host hands the call -/

/-! The blocks' first halves and their second, with the position embedding added. -/
def firstHalf (v : FVec Ideal S8x3072x128 .f32) (p : FVec Ideal S32x128 .f32) : FVec Ideal S8x191x2048 .f32 :=
  shapeCast S8x191x2048 (addf (extractStridedSlice S8x191x16x128 ![0, 0, 0, 0] (shapeCast S8x192x16x128 v shapeCasts_S8x3072x128_S8x192x16x128) slices_S8x192x16x128_S8x191x16x128_0_0_0_0)
    (broadcastInDim S8x191x16x128 ![0, 1, 2, 3] bcast_S1x1x16x128_S8x191x16x128_0_1_2_3 (broadcastInDim S1x1x16x128 ![2, 3] bcast_S16x128_S1x1x16x128_2_3
      (extractStridedSlice S16x128 ![0, 0] p slices_S32x128_S16x128_0_0)))) shapeCasts_S8x191x16x128_S8x191x2048
def secondHalf (v : FVec Ideal S8x3072x128 .f32) (p : FVec Ideal S32x128 .f32) : FVec Ideal S8x191x2048 .f32 :=
  shapeCast S8x191x2048 (addf (extractStridedSlice S8x191x16x128 ![0, 1, 0, 0] (shapeCast S8x192x16x128 v shapeCasts_S8x3072x128_S8x192x16x128) slices_S8x192x16x128_S8x191x16x128_0_1_0_0)
    (broadcastInDim S8x191x16x128 ![0, 1, 2, 3] bcast_S1x1x16x128_S8x191x16x128_0_1_2_3 (broadcastInDim S1x1x16x128 ![2, 3] bcast_S16x128_S1x1x16x128_2_3
      (extractStridedSlice S16x128 ![16, 0] p slices_S32x128_S16x128_16_0)))) shapeCasts_S8x191x16x128_S8x191x2048

/-- The rows: the halves side by side, a row of zeros after each head and batch's 191, in one array. -/
def flat (v : FVec Ideal S8x3072x128 .f32) (p : FVec Ideal S32x128 .f32) : FVec Ideal S1536x4096 .f32 :=
  shapeCast S1536x4096 (pad S8x192x4096 ![0, 0, 0] ![0, 1, 0] ![0, 0, 0]
    (concatenate S8x191x4096 2 [⟨S8x191x2048, firstHalf v p⟩, ⟨S8x191x2048, secondHalf v p⟩] concatenates_S8x191x2048_S8x191x2048_S8x191x4096_d2)
    (sitofp .f32 (constantI S_ 32 0#32)) pads_S8x191x4096_S8x192x4096_000_010_000 h_S_) shapeCasts_S8x192x4096_S1536x4096

section
variable (v : FVec Ideal S8x3072x128 .f32) (p : FVec Ideal S32x128 .f32) (b : Fin 8) (n : Fin 191)

theorem blocks_apply (n : Fin 192) (q : Fin 16) (d : Fin 128) :
    shapeCast S8x192x16x128 v shapeCasts_S8x3072x128_S8x192x16x128 (ix4 b n q d) = v (ix3 b ⟨16 * n.val + q.val, by omega⟩ d) := by
  refine shapeCast_apply v _ _ _ ?_
  rw [Shape.rowMajor_val_three, Shape.rowMajor_val_four]
  show (b.val * 3072 + (16 * n.val + q.val)) * 128 + d.val = ((b.val * 192 + n.val) * 16 + q.val) * 128 + d.val
  omega

theorem merged_apply (x : FVec Ideal S8x191x16x128 .f32) (k : Fin 2048) :
    shapeCast S8x191x2048 x shapeCasts_S8x191x16x128_S8x191x2048 (ix3 b n k) = x (ix4 b n ⟨k.val / 128, by omega⟩ ⟨k.val % 128, by omega⟩) := by
  refine shapeCast_apply x _ _ _ ?_
  rw [Shape.rowMajor_val_three, Shape.rowMajor_val_four]
  show ((b.val * 191 + n.val) * 16 + k.val / 128) * 128 + k.val % 128 = (b.val * 191 + n.val) * 2048 + k.val
  omega

theorem firstHalf_apply (k : Fin 2048) : firstHalf v p (ix3 b n k)
    = (v (ix3 b ⟨16 * n.val + k.val / 128, by omega⟩ ⟨k.val % 128, by omega⟩) + p (ix2 ⟨k.val / 128, by omega⟩ ⟨k.val % 128, by omega⟩) : EReal) := by
  unfold firstHalf
  rw [merged_apply]
  rw [show ∀ (w : FVec Ideal S8x192x16x128 .f32) (q : Fin 16) (d : Fin 128), addf (extractStridedSlice S8x191x16x128 ![0, 0, 0, 0] w slices_S8x192x16x128_S8x191x16x128_0_0_0_0)
    (broadcastInDim S8x191x16x128 ![0, 1, 2, 3] bcast_S1x1x16x128_S8x191x16x128_0_1_2_3 (broadcastInDim S1x1x16x128 ![2, 3] bcast_S16x128_S1x1x16x128_2_3
      (extractStridedSlice S16x128 ![0, 0] p slices_S32x128_S16x128_0_0))) (ix4 b n q d)
      = (w (ix4 b ⟨n.val, by omega⟩ q d) + p (ix2 ⟨q.val, by omega⟩ d) : EReal) from fun w q d => by pointwise]
  rw [blocks_apply]

theorem secondHalf_apply (k : Fin 2048) : secondHalf v p (ix3 b n k)
    = (v (ix3 b ⟨16 * (1 + n.val) + k.val / 128, by omega⟩ ⟨k.val % 128, by omega⟩) + p (ix2 ⟨16 + k.val / 128, by omega⟩ ⟨k.val % 128, by omega⟩) : EReal) := by
  unfold secondHalf
  rw [merged_apply]
  rw [show ∀ (w : FVec Ideal S8x192x16x128 .f32) (q : Fin 16) (d : Fin 128), addf (extractStridedSlice S8x191x16x128 ![0, 1, 0, 0] w slices_S8x192x16x128_S8x191x16x128_0_1_0_0)
    (broadcastInDim S8x191x16x128 ![0, 1, 2, 3] bcast_S1x1x16x128_S8x191x16x128_0_1_2_3 (broadcastInDim S1x1x16x128 ![2, 3] bcast_S16x128_S1x1x16x128_2_3
      (extractStridedSlice S16x128 ![16, 0] p slices_S32x128_S16x128_16_0))) (ix4 b n q d)
      = (w (ix4 b ⟨1 + n.val, by omega⟩ q d) + p (ix2 ⟨16 + q.val, by omega⟩ d) : EReal) from fun w q d => by pointwise]
  rw [blocks_apply]

theorem beside_apply (g h : FVec Ideal S8x191x2048 .f32) (k : Fin 4096) :
    concatenate S8x191x4096 2 [⟨S8x191x2048, g⟩, ⟨S8x191x2048, h⟩] concatenates_S8x191x2048_S8x191x2048_S8x191x4096_d2 (ix3 b n k)
      = if hk : k.val < 2048 then g (ix3 b n ⟨k.val, hk⟩) else h (ix3 b n ⟨k.val - 2048, by omega⟩) := by
  pointwise

theorem padded_apply (x : FVec Ideal S8x191x4096 .f32) (z : FVec Ideal S_ .f32) (k : Fin 4096) :
    pad S8x192x4096 ![0, 0, 0] ![0, 1, 0] ![0, 0, 0] x z pads_S8x191x4096_S8x192x4096_000_010_000 h_S_ (ix3 b ⟨n.val, by omega⟩ k) = x (ix3 b n k) := by
  refine pad_apply_of_inside _ _ _ x z _ _ _ _ fun a => ?_
  match a with
  | ⟨0, _⟩ => show b.val = 0 + b.val * 1; omega
  | ⟨1, _⟩ => show n.val = 0 + n.val * 1; omega
  | ⟨2, _⟩ => show k.val = 0 + k.val * 1; omega

theorem flat_apply (n : Fin 192) (hn : n.val < 191) (k : Fin 4096) : flat v p (ix2 (rowOf b n) k) = entry (c := 128) (by norm_num) v p b n k := by
  unfold flat
  refine (together_apply _ _ b n k).trans ((padded_apply b ⟨n.val, hn⟩ _ _ k).trans ?_)
  rw [beside_apply]
  split
  · rw [firstHalf_apply]
    exact (entry_of _ _ _ _ _ _ _ _ _ (by show 16 * n.val + k.val / 128 = (16 * n.val + k.val / 128) % 3072; omega) rfl rfl).symm
  · rw [secondHalf_apply]
    exact (entry_of _ _ _ _ _ _ _ _ _ (by show 16 * (1 + n.val) + (k.val - 2048) / 128 = (16 * n.val + k.val / 128) % 3072; omega)
      (by show (k.val - 2048) % 128 = k.val % 128; omega) (by show 16 + (k.val - 2048) / 128 = k.val / 128; omega)).symm

end

end Cert.CompressVRefIdeal.Hand

end
-- ==== Proof.CompressVRefValue.lean ====
/-
  THE VALUES' COMPRESSION REFERENCE'S VALUE. The reference is one call over the rows of all the heads and batches together: each
  output's only block is the array, and at a block of the sequence what the body stores is CompressSpec.lean's of that block's row.
-/
module

public import proofs.«01_k».proof.Proof.Gen.CompressVRefIdeal.Frame
public import proofs.«01_k».proof.Proof.CompressVRefPay

@[expose] public section

set_option maxRecDepth 16384

noncomputable section

namespace Cert.CompressVRefIdeal.Hand

open Cert.CompressVRefIdeal Cert.CompressVRefIdeal.Gen Idealize.ShloMosaic Idealize.ShloMosaic.TcCoe Idealize.SL.Sem
open Cert.CompressSpec

theorem hz2 : (![0, 0] : Fin 2 → Nat) = fun _ => 0 := funext fun a => by fin_cases a <;> rfl
theorem hz3 : (![0, 0, 0] : Fin 3 → Nat) = fun _ => 0 := funext fun a => by fin_cases a <;> rfl

/-! ## What the body leaves in each output, of the arguments' arrays -/

section
variable (N : Net 4096 128) (x : Vec Ideal S1536x4096 .f32)

theorem loads_all (x0 : Vec Ideal S1536x4096 .f32) (x1 : Vec Ideal S4096x1536 .fp8e4m3) (x2 x3 : Vec Ideal S1x1536 .f32)
    (x4 : Vec Ideal S1536x128 .fp8e4m3) (x5 x6 : Vec Ideal S1x128 .f32) :
    View.ld x0 r0_0 = x0 ∧ View.ld x1 r0_1 = x1 ∧ View.ld x2 r0_2 = x2 ∧ View.ld x3 r0_2 = x3
    ∧ View.ld x4 r0_3 = x4 ∧ View.ld x5 r0_4 = x5 ∧ View.ld x6 r0_4 = x6 :=
  ⟨View.ld_unit_zero hz2 _ _, View.ld_unit_zero hz2 _ _, View.ld_unit_zero hz2 _ _, View.ld_unit_zero hz2 _ _,
    View.ld_unit_zero hz2 _ _, View.ld_unit_zero hz2 _ _, View.ld_unit_zero hz2 _ _⟩

/-- The hidden rows and their scales, of the loaded blocks. -/
theorem loaded : k0_pay11 (F := Ideal) x N.w1 N.s1 N.b1 N.w2 N.s2 N.b2 = k0_pay4 x N.w1 N.s1 N.b1
    ∧ k0_pay12 (F := Ideal) x N.w1 N.s1 N.b1 N.w2 N.s2 N.b2 = k0_pay5 x N.w1 N.s1 N.b1 := by
  obtain ⟨h0, h1, h2, h3, h4, h5, h6⟩ := loads_all x N.w1 N.s1 N.b1 N.w2 N.s2 N.b2
  unfold k0_pay11 k0_pay12
  rw [h0, h1, h2, h3]
  exact ⟨rfl, rfl⟩

variable (row : Fin 8 → Fin 192 → Fin 4096 → EReal)
  (hrow : ∀ (b : Fin 8) (n : Fin 192), n.val < 191 → ∀ k, x (ix2 (rowOf b n) k) = row b n k)
include hrow

theorem out7_eq (i : (⟨3, ![8, 192, 128]⟩ : Shape).Idx) (hi : (i 1).val < 191) :
    out0_7 (F := Ideal) x N.w1 N.s1 N.b1 N.w2 N.s2 N.b2 i = outs N row i := by
  obtain ⟨h0, h1, h2, h3, h4, h5, h6⟩ := loads_all x N.w1 N.s1 N.b1 N.w2 N.s2 N.b2
  obtain ⟨g1, g2⟩ := loaded N x
  unfold out0_7
  rw [View.canon_unit_zero hz3]
  simp only [h0, h4, h5, h6, g1, g2]
  obtain ⟨b, n, o, rfl⟩ : ∃ (b : Fin 8) (n : Fin 192) (o : Fin 128), i = ix3 b n o := ⟨i 0, i 1, i 2, eq_ix3 i⟩
  exact out_of _ _ N x _ (hrow _ _ hi) _

theorem out8_eq (i : (⟨3, ![8, 192, 4096]⟩ : Shape).Idx) (hi : (i 1).val < 191) :
    out0_8 (F := Ideal) x N.w1 N.s1 N.b1 N.w2 N.s2 N.b2 i = inCodes row i := by
  obtain ⟨h0, h1, h2, h3, h4, h5, h6⟩ := loads_all x N.w1 N.s1 N.b1 N.w2 N.s2 N.b2
  obtain ⟨g1, g2⟩ := loaded N x
  unfold out0_8
  rw [View.canon_unit_zero hz3]
  simp only [h0, h4, h5, h6, g1, g2]
  obtain ⟨b, n, o, rfl⟩ : ∃ (b : Fin 8) (n : Fin 192) (o : Fin 4096), i = ix3 b n o := ⟨i 0, i 1, i 2, eq_ix3 i⟩
  exact inCodes_of _ _ x _ (hrow _ _ hi) _

theorem out9_eq (i : (⟨3, ![8, 192, 1536]⟩ : Shape).Idx) (hi : (i 1).val < 191) :
    out0_9 (F := Ideal) x N.w1 N.s1 N.b1 N.w2 N.s2 N.b2 i = hidCodes N row i := by
  obtain ⟨h0, h1, h2, h3, h4, h5, h6⟩ := loads_all x N.w1 N.s1 N.b1 N.w2 N.s2 N.b2
  obtain ⟨g1, g2⟩ := loaded N x
  unfold out0_9
  rw [View.canon_unit_zero hz3]
  simp only [h0, h4, h5, h6, g1, g2]
  obtain ⟨b, n, o, rfl⟩ : ∃ (b : Fin 8) (n : Fin 192) (o : Fin 1536), i = ix3 b n o := ⟨i 0, i 1, i 2, eq_ix3 i⟩
  exact hidCodes_of _ _ N x _ (hrow _ _ hi) _

theorem out10_eq (i : (⟨3, ![8, 192, 128]⟩ : Shape).Idx) (hi : (i 1).val < 191) :
    out0_10 (F := Ideal) x N.w1 N.s1 N.b1 N.w2 N.s2 N.b2 i = stats N row i := by
  obtain ⟨h0, h1, h2, h3, h4, h5, h6⟩ := loads_all x N.w1 N.s1 N.b1 N.w2 N.s2 N.b2
  obtain ⟨g1, g2⟩ := loaded N x
  unfold out0_10
  rw [View.canon_unit_zero hz3]
  simp only [h0, h4, h5, h6, g1, g2]
  obtain ⟨b, n, o, rfl⟩ : ∃ (b : Fin 8) (n : Fin 192) (o : Fin 128), i = ix3 b n o := ⟨i 0, i 1, i 2, eq_ix3 i⟩
  exact stat_of _ _ N x _ (hrow _ _ hi) _

end

/-! ## The blocks -/

variable (m : (ℓ : Loc nD τ sig) → Buf (Elt Ideal) ℓ) (ρ : Dev nD → PrngReg)

theorem off0 (t : Fin cfg0.N) : (fun a => win0_0.index t a * main_v15.ty.shape.size a) = fun _ => 0 :=
  funext fun a => (congrArg (· * _) ((by decide +kernel : ∀ (t : Fin grid0.N) (a : Fin 2), win0_0.index t a = 0) t a)).trans (Nat.zero_mul _)
/-- Window 0's one block is its array. -/
theorem blk0 (c : Dev nD) (t : Fin cfg0.N) : iblk m c 0 t = V m c main_v15 :=
  Memref.read_access_unit_zero (Elt Ideal) main_v15 (off0 t) (fun a => by rw [congrFun (off0 t) a]; simp) (V m c main_v15)
theorem off1 (t : Fin cfg0.N) : (fun a => win0_1.index t a * main_arg2.ty.shape.size a) = fun _ => 0 :=
  funext fun a => (congrArg (· * _) ((by decide +kernel : ∀ (t : Fin grid0.N) (a : Fin 2), win0_1.index t a = 0) t a)).trans (Nat.zero_mul _)
/-- Window 1's one block is its array. -/
theorem blk1 (c : Dev nD) (t : Fin cfg0.N) : iblk m c 1 t = V m c main_arg2 :=
  Memref.read_access_unit_zero (Elt Ideal) main_arg2 (off1 t) (fun a => by rw [congrFun (off1 t) a]; simp) (V m c main_arg2)
theorem off2 (t : Fin cfg0.N) : (fun a => win0_2.index t a * main_v16.ty.shape.size a) = fun _ => 0 :=
  funext fun a => (congrArg (· * _) ((by decide +kernel : ∀ (t : Fin grid0.N) (a : Fin 2), win0_2.index t a = 0) t a)).trans (Nat.zero_mul _)
/-- Window 2's one block is its array. -/
theorem blk2 (c : Dev nD) (t : Fin cfg0.N) : iblk m c 2 t = V m c main_v16 :=
  Memref.read_access_unit_zero (Elt Ideal) main_v16 (off2 t) (fun a => by rw [congrFun (off2 t) a]; simp) (V m c main_v16)
theorem off3 (t : Fin cfg0.N) : (fun a => win0_3.index t a * main_v17.ty.shape.size a) = fun _ => 0 :=
  funext fun a => (congrArg (· * _) ((by decide +kernel : ∀ (t : Fin grid0.N) (a : Fin 2), win0_3.index t a = 0) t a)).trans (Nat.zero_mul _)
/-- Window 3's one block is its array. -/
theorem blk3 (c : Dev nD) (t : Fin cfg0.N) : iblk m c 3 t = V m c main_v17 :=
  Memref.read_access_unit_zero (Elt Ideal) main_v17 (off3 t) (fun a => by rw [congrFun (off3 t) a]; simp) (V m c main_v17)
theorem off4 (t : Fin cfg0.N) : (fun a => win0_4.index t a * main_arg5.ty.shape.size a) = fun _ => 0 :=
  funext fun a => (congrArg (· * _) ((by decide +kernel : ∀ (t : Fin grid0.N) (a : Fin 2), win0_4.index t a = 0) t a)).trans (Nat.zero_mul _)
/-- Window 4's one block is its array. -/
theorem blk4 (c : Dev nD) (t : Fin cfg0.N) : iblk m c 4 t = V m c main_arg5 :=
  Memref.read_access_unit_zero (Elt Ideal) main_arg5 (off4 t) (fun a => by rw [congrFun (off4 t) a]; simp) (V m c main_arg5)
theorem off5 (t : Fin cfg0.N) : (fun a => win0_5.index t a * main_v18.ty.shape.size a) = fun _ => 0 :=
  funext fun a => (congrArg (· * _) ((by decide +kernel : ∀ (t : Fin grid0.N) (a : Fin 2), win0_5.index t a = 0) t a)).trans (Nat.zero_mul _)
/-- Window 5's one block is its array. -/
theorem blk5 (c : Dev nD) (t : Fin cfg0.N) : iblk m c 5 t = V m c main_v18 :=
  Memref.read_access_unit_zero (Elt Ideal) main_v18 (off5 t) (fun a => by rw [congrFun (off5 t) a]; simp) (V m c main_v18)
theorem off6 (t : Fin cfg0.N) : (fun a => win0_6.index t a * main_v19.ty.shape.size a) = fun _ => 0 :=
  funext fun a => (congrArg (· * _) ((by decide +kernel : ∀ (t : Fin grid0.N) (a : Fin 2), win0_6.index t a = 0) t a)).trans (Nat.zero_mul _)
/-- Window 6's one block is its array. -/
theorem blk6 (c : Dev nD) (t : Fin cfg0.N) : iblk m c 6 t = V m c main_v19 :=
  Memref.read_access_unit_zero (Elt Ideal) main_v19 (off6 t) (fun a => by rw [congrFun (off6 t) a]; simp) (V m c main_v19)

/-- The host's arrays. -/
theorem V_rows (c : Dev nD) : V m c main_v15 = flat (m ((c : Thread nD τ).loc main_arg0)) (m ((c : Thread nD τ).loc main_arg1)) := by
  unfold V hostOps0 hostOps0_1 hostOps0_2
  after_results
  rfl
theorem V_s1 (c : Dev nD) : V m c main_v16 = shapeCast S1x1536 (m ((c : Thread nD τ).loc main_arg3)) shapeCasts_S1536_S1x1536 := by
  unfold V hostOps0 hostOps0_1 hostOps0_2
  after_results
  rfl
theorem V_b1 (c : Dev nD) : V m c main_v17 = shapeCast S1x1536 (m ((c : Thread nD τ).loc main_arg4)) shapeCasts_S1536_S1x1536 := by
  unfold V hostOps0 hostOps0_1 hostOps0_2
  after_results
  rfl
theorem V_s2 (c : Dev nD) : V m c main_v18 = shapeCast S1x128 (m ((c : Thread nD τ).loc main_arg6)) shapeCasts_S128_S1x128 := by
  unfold V hostOps0 hostOps0_1 hostOps0_2
  after_results
  rfl
theorem V_b2 (c : Dev nD) : V m c main_v19 = shapeCast S1x128 (m ((c : Thread nD τ).loc main_arg7)) shapeCasts_S128_S1x128 := by
  unfold V hostOps0 hostOps0_1 hostOps0_2
  after_results
  rfl

/-- The layers' arrays, and the rows, of the arguments as launched. -/
def net (c : Dev nD) : Net 4096 128 where
  w1 := m ((c : Thread nD τ).loc main_arg2)
  s1 := shapeCast S1x1536 (m ((c : Thread nD τ).loc main_arg3)) shapeCasts_S1536_S1x1536
  b1 := shapeCast S1x1536 (m ((c : Thread nD τ).loc main_arg4)) shapeCasts_S1536_S1x1536
  w2 := m ((c : Thread nD τ).loc main_arg5)
  s2 := shapeCast S1x128 (m ((c : Thread nD τ).loc main_arg6)) shapeCasts_S128_S1x128
  b2 := shapeCast S1x128 (m ((c : Thread nD τ).loc main_arg7)) shapeCasts_S128_S1x128
def rows (c : Dev nD) : FVec Ideal S1536x4096 .f32 := flat (m ((c : Thread nD τ).loc main_arg0)) (m ((c : Thread nD τ).loc main_arg1))
def rowAt (c : Dev nD) (b : Fin 8) (n : Fin 192) (k : Fin 4096) : EReal :=
  entry (c := 128) (by norm_num) (m ((c : Thread nD τ).loc main_arg0)) (m ((c : Thread nD τ).loc main_arg1)) b n k

theorem blks (c : Dev nD) (t : Fin cfg0.N) : iblk m c 0 t = rows m c ∧ iblk m c 1 t = (net m c).w1 ∧ iblk m c 2 t = (net m c).s1
    ∧ iblk m c 3 t = (net m c).b1 ∧ iblk m c 4 t = (net m c).w2 ∧ iblk m c 5 t = (net m c).s2 ∧ iblk m c 6 t = (net m c).b2 :=
  ⟨(blk0 m c t).trans (V_rows m c), (blk1 m c t).trans (V_main_arg2 m c), (blk2 m c t).trans (V_s1 m c), (blk3 m c t).trans (V_b1 m c),
    (blk4 m c t).trans (V_main_arg5 m c), (blk5 m c t).trans (V_s2 m c), (blk6 m c t).trans (V_b2 m c)⟩

/-! ## The final arrays -/

/-- The one point. -/
def pt0 : Fin cfg0.N := ⟨0, by decide⟩

theorem off7 (t : Fin cfg0.N) : (fun a => win0_7.index t a * main_v20_0.ty.shape.size a) = fun _ => 0 :=
  funext fun a => (congrArg (· * _) ((by decide +kernel : ∀ (t : Fin grid0.N) (a : Fin 3), win0_7.index t a = 0) t a)).trans (Nat.zero_mul _)
def full7 (c : Dev nD) : Buf (Elt Ideal) ((c : Thread nD τ).loc main_v20_0) :=
  out0_7 (rows m c) (net m c).w1 (net m c).s1 (net m c).b1 (net m c).w2 (net m c).s2 (net m c).b2
theorem final7 (c : Dev nD) : (dats m 0 c).arrAt 7 cfg0.N = full7 m c :=
  (dats m 0 c).arrAt_eq_of_cover 7 (full7 m c) (fun t _ => by
    obtain ⟨h0, h1, h2, h3, h4, h5, h6⟩ := blks m c t
    show (cfg0.win 7).cut (grid0.coords t) ((dats m 0 c).after 7 t) = _
    rw [after0_7, h0, h1, h2, h3, h4, h5, h6]
    exact (Memref.read_access_unit_zero (Elt Ideal) main_v20_0 (off7 t) (fun a => by rw [congrFun (off7 t) a]; simp) (full7 m c)).symm) fun i =>
    ⟨pt0, (by decide +kernel : ∀ t : Fin grid0.N, win0_7.flush t = true) pt0, by
      show i ∈ ((View.whole main_v20_0).slice (win0_7.rect pt0)).set
      rw [View.set_slice_whole, Rect.mem_set_unit]
      intro a
      have h := congrFun (off7 pt0) a
      have hi := (i a).isLt
      show win0_7.index pt0 a * main_v20_0.ty.shape.size a ≤ (i a : Nat) ∧ (i a : Nat) < win0_7.index pt0 a * main_v20_0.ty.shape.size a + main_v20_0.ty.shape.size a
      rw [h]
      exact ⟨Nat.zero_le _, by rw [Nat.zero_add]; exact hi⟩⟩

theorem off8 (t : Fin cfg0.N) : (fun a => win0_8.index t a * main_v20_1.ty.shape.size a) = fun _ => 0 :=
  funext fun a => (congrArg (· * _) ((by decide +kernel : ∀ (t : Fin grid0.N) (a : Fin 3), win0_8.index t a = 0) t a)).trans (Nat.zero_mul _)
def full8 (c : Dev nD) : Buf (Elt Ideal) ((c : Thread nD τ).loc main_v20_1) :=
  out0_8 (rows m c) (net m c).w1 (net m c).s1 (net m c).b1 (net m c).w2 (net m c).s2 (net m c).b2
theorem final8 (c : Dev nD) : (dats m 0 c).arrAt 8 cfg0.N = full8 m c :=
  (dats m 0 c).arrAt_eq_of_cover 8 (full8 m c) (fun t _ => by
    obtain ⟨h0, h1, h2, h3, h4, h5, h6⟩ := blks m c t
    show (cfg0.win 8).cut (grid0.coords t) ((dats m 0 c).after 8 t) = _
    rw [after0_8, h0, h1, h2, h3, h4, h5, h6]
    exact (Memref.read_access_unit_zero (Elt Ideal) main_v20_1 (off8 t) (fun a => by rw [congrFun (off8 t) a]; simp) (full8 m c)).symm) fun i =>
    ⟨pt0, (by decide +kernel : ∀ t : Fin grid0.N, win0_8.flush t = true) pt0, by
      show i ∈ ((View.whole main_v20_1).slice (win0_8.rect pt0)).set
      rw [View.set_slice_whole, Rect.mem_set_unit]
      intro a
      have h := congrFun (off8 pt0) a
      have hi := (i a).isLt
      show win0_8.index pt0 a * main_v20_1.ty.shape.size a ≤ (i a : Nat) ∧ (i a : Nat) < win0_8.index pt0 a * main_v20_1.ty.shape.size a + main_v20_1.ty.shape.size a
      rw [h]
      exact ⟨Nat.zero_le _, by rw [Nat.zero_add]; exact hi⟩⟩

theorem off9 (t : Fin cfg0.N) : (fun a => win0_9.index t a * main_v20_2.ty.shape.size a) = fun _ => 0 :=
  funext fun a => (congrArg (· * _) ((by decide +kernel : ∀ (t : Fin grid0.N) (a : Fin 3), win0_9.index t a = 0) t a)).trans (Nat.zero_mul _)
def full9 (c : Dev nD) : Buf (Elt Ideal) ((c : Thread nD τ).loc main_v20_2) :=
  out0_9 (rows m c) (net m c).w1 (net m c).s1 (net m c).b1 (net m c).w2 (net m c).s2 (net m c).b2
theorem final9 (c : Dev nD) : (dats m 0 c).arrAt 9 cfg0.N = full9 m c :=
  (dats m 0 c).arrAt_eq_of_cover 9 (full9 m c) (fun t _ => by
    obtain ⟨h0, h1, h2, h3, h4, h5, h6⟩ := blks m c t
    show (cfg0.win 9).cut (grid0.coords t) ((dats m 0 c).after 9 t) = _
    rw [after0_9, h0, h1, h2, h3, h4, h5, h6]
    exact (Memref.read_access_unit_zero (Elt Ideal) main_v20_2 (off9 t) (fun a => by rw [congrFun (off9 t) a]; simp) (full9 m c)).symm) fun i =>
    ⟨pt0, (by decide +kernel : ∀ t : Fin grid0.N, win0_9.flush t = true) pt0, by
      show i ∈ ((View.whole main_v20_2).slice (win0_9.rect pt0)).set
      rw [View.set_slice_whole, Rect.mem_set_unit]
      intro a
      have h := congrFun (off9 pt0) a
      have hi := (i a).isLt
      show win0_9.index pt0 a * main_v20_2.ty.shape.size a ≤ (i a : Nat) ∧ (i a : Nat) < win0_9.index pt0 a * main_v20_2.ty.shape.size a + main_v20_2.ty.shape.size a
      rw [h]
      exact ⟨Nat.zero_le _, by rw [Nat.zero_add]; exact hi⟩⟩

theorem off10 (t : Fin cfg0.N) : (fun a => win0_10.index t a * main_v20_3.ty.shape.size a) = fun _ => 0 :=
  funext fun a => (congrArg (· * _) ((by decide +kernel : ∀ (t : Fin grid0.N) (a : Fin 3), win0_10.index t a = 0) t a)).trans (Nat.zero_mul _)
def full10 (c : Dev nD) : Buf (Elt Ideal) ((c : Thread nD τ).loc main_v20_3) :=
  out0_10 (rows m c) (net m c).w1 (net m c).s1 (net m c).b1 (net m c).w2 (net m c).s2 (net m c).b2
theorem final10 (c : Dev nD) : (dats m 0 c).arrAt 10 cfg0.N = full10 m c :=
  (dats m 0 c).arrAt_eq_of_cover 10 (full10 m c) (fun t _ => by
    obtain ⟨h0, h1, h2, h3, h4, h5, h6⟩ := blks m c t
    show (cfg0.win 10).cut (grid0.coords t) ((dats m 0 c).after 10 t) = _
    rw [after0_10, h0, h1, h2, h3, h4, h5, h6]
    exact (Memref.read_access_unit_zero (Elt Ideal) main_v20_3 (off10 t) (fun a => by rw [congrFun (off10 t) a]; simp) (full10 m c)).symm) fun i =>
    ⟨pt0, (by decide +kernel : ∀ t : Fin grid0.N, win0_10.flush t = true) pt0, by
      show i ∈ ((View.whole main_v20_3).slice (win0_10.rect pt0)).set
      rw [View.set_slice_whole, Rect.mem_set_unit]
      intro a
      have h := congrFun (off10 pt0) a
      have hi := (i a).isLt
      show win0_10.index pt0 a * main_v20_3.ty.shape.size a ≤ (i a : Nat) ∧ (i a : Nat) < win0_10.index pt0 a * main_v20_3.ty.shape.size a + main_v20_3.ty.shape.size a
      rw [h]
      exact ⟨Nat.zero_le _, by rw [Nat.zero_add]; exact hi⟩⟩

/-- The rows at the blocks of the sequence. -/
theorem rows_at (c : Dev nD) (b : Fin 8) (n : Fin 192) (hn : n.val < 191) (k : Fin 4096) : rows m c (ix2 (rowOf b n) k) = rowAt m c b n k :=
  flat_apply _ _ b n hn k

/-- The run: the four results at the blocks of the sequence, the arguments unchanged. -/
theorem run : θ_run defs (onTc (τ := τ) (main (F := Ideal))) ⟨m, fun _ => 0, ρ⟩ fun r => ∀ c : Dev nD,
      (∀ i : (⟨3, ![8, 192, 128]⟩ : Shape).Idx, (i 1).val < 191 → r.2.mem ((c : Thread nD τ).loc main_v20_0) i = outs (net m c) (rowAt m c) i)
      ∧ (∀ i : (⟨3, ![8, 192, 4096]⟩ : Shape).Idx, (i 1).val < 191 → r.2.mem ((c : Thread nD τ).loc main_v20_1) i = inCodes (rowAt m c) i)
      ∧ (∀ i : (⟨3, ![8, 192, 1536]⟩ : Shape).Idx, (i 1).val < 191 → r.2.mem ((c : Thread nD τ).loc main_v20_2) i = hidCodes (net m c) (rowAt m c) i)
      ∧ (∀ i : (⟨3, ![8, 192, 128]⟩ : Shape).Idx, (i 1).val < 191 → r.2.mem ((c : Thread nD τ).loc main_v20_3) i = stats (net m c) (rowAt m c) i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ⟨fun i hi => ?_, fun i hi => ?_, fun i hi => ?_, fun i hi => ?_, h.2 c⟩) (θ_run_and (run_main m ρ) (unchanged m ρ))
  · exact (congrFun (((h.1 c).1 7).trans (final7 m c)) i).trans (out7_eq (net m c) (rows m c) (rowAt m c) (rows_at m c) i hi)
  · exact (congrFun (((h.1 c).1 8).trans (final8 m c)) i).trans (out8_eq (net m c) (rows m c) (rowAt m c) (rows_at m c) i hi)
  · exact (congrFun (((h.1 c).1 9).trans (final9 m c)) i).trans (out9_eq (net m c) (rows m c) (rowAt m c) (rows_at m c) i hi)
  · exact (congrFun (((h.1 c).1 10).trans (final10 m c)) i).trans (out10_eq (net m c) (rows m c) (rowAt m c) (rows_at m c) i hi)

end Cert.CompressVRefIdeal.Hand

end
-- ==== Proof.CompressVClaim.lean ====
/-
  THE VALUES' COMPRESSION'S CLAIM: at every block of the sequence, the kernel and the reference, run from the same arguments, both
  end with CompressSpec.lean's arrays of them.
-/
module

public import proofs.«01_k».proof.Defs
public import proofs.«01_k».proof.Proof.Gen.On_blocks_v
public import proofs.«01_k».proof.Proof.CompressVValue
public import proofs.«01_k».proof.Proof.CompressVRefValue

@[expose] public section

noncomputable section

namespace Cert.CompressVClaim

open Idealize.ShloMosaic Idealize.ShloMosaic.TcCoe Idealize.SL.Sem
open Cert.CompressSpec

/-- Over the extended reals the values' compression computes its reference's results at the blocks of the sequence. -/
theorem algebraic : algebraic_CompressVIdeal_CompressVRefIdeal_on_blocks_v (hCompressVIdeal := Cert.CompressVIdeal.Gen.facts)
    (hCompressVRefIdeal := Cert.CompressVRefIdeal.Gen.facts) (hOn_blocks_v := Cert.On_blocks_v.Gen.facts) := by
  intro m g m' g' _ hargs
  refine ⟨fun c => outs (CompressVIdeal.Hand.net m c) (CompressVIdeal.Hand.rowAt m c), fun c => inCodes (CompressVIdeal.Hand.rowAt m c),
    fun c => hidCodes (CompressVIdeal.Hand.net m c) (CompressVIdeal.Hand.rowAt m c), fun c => stats (CompressVIdeal.Hand.net m c) (CompressVIdeal.Hand.rowAt m c), ?_, ?_⟩
  · exact (θ_run _ _ _).mono (fun _ h c => ⟨fun i _ => congrFun (h c).1 i, fun i _ => congrFun (h c).2.1 i, fun i _ => congrFun (h c).2.2.1 i,
      fun i _ => congrFun (h c).2.2.2.1 i, (h c).2.2.2.2⟩) (CompressVIdeal.Hand.run m g)
  refine (θ_run _ _ _).mono (fun _ h c => ?_) (CompressVRefIdeal.Hand.run m' g')
  obtain ⟨h0, h1, h2, h3, h4, h5, h6, h7⟩ := hargs c
  have hN : CompressVRefIdeal.Hand.net m' c = CompressVIdeal.Hand.net m c := by
    unfold CompressVRefIdeal.Hand.net CompressVIdeal.Hand.net
    rw [h2, h3, h4, h5, h6, h7]
  have hR : CompressVRefIdeal.Hand.rowAt m' c = CompressVIdeal.Hand.rowAt m c := by
    funext b n k
    unfold CompressVRefIdeal.Hand.rowAt CompressVIdeal.Hand.rowAt
    rw [h0, h1]
  have hc := h c
  rw [hN, hR] at hc
  exact ⟨fun i hi => hc.1 i (block_lt (i 1) hi), fun i hi => hc.2.1 i (block_lt (i 1) hi), fun i hi => hc.2.2.1 i (block_lt (i 1) hi),
    fun i hi => hc.2.2.2.1 i (block_lt (i 1) hi), hc.2.2.2.2⟩

end Cert.CompressVClaim

end
-- ==== Proof.lean ====
module

public import proofs.«01_k».proof.Proof.ProjectClaim
public import proofs.«01_k».proof.Proof.ProjectBits
public import proofs.«01_k».proof.Proof.OutputClaim
public import proofs.«01_k».proof.Proof.CompressKClaim
public import proofs.«01_k».proof.Proof.CompressVClaim
public import proofs.«01_k».proof.Proof.Gen.OutputIdeal.Value
public import proofs.«01_k».proof.Proof.Gen.OutputRefIdeal.Value
public import proofs.«01_k».proof.Proof.Gen.CompressKIdeal.Value
public import proofs.«01_k».proof.Proof.Gen.CompressVIdeal.Value
public import proofs.«01_k».proof.Defs
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectRefIdeal
public import proofs.«01_k».proof.Proof.Gen.ProjectRefIdeal.Skeleton
public import proofs.«01_k».proof.Proof.Gen.ProjectRefIdeal.Launch
public import proofs.«01_k».proof.Proof.Gen.ProjectRefIdeal.Points
public import proofs.«01_k».proof.Proof.Gen.ProjectRefIdeal.Frame
public import proofs.«01_k».proof.Proof.Gen.Output
public import proofs.«01_k».proof.Proof.Gen.Output.Skeleton
public import proofs.«01_k».proof.Proof.Gen.Output.Launch
public import proofs.«01_k».proof.Proof.Gen.Output.Points
public import proofs.«01_k».proof.Proof.Gen.Output.Frame
public import proofs.«01_k».proof.Proof.Gen.OutputIdeal
public import proofs.«01_k».proof.Proof.Gen.OutputIdeal.Skeleton
public import proofs.«01_k».proof.Proof.Gen.OutputIdeal.Launch
public import proofs.«01_k».proof.Proof.Gen.OutputIdeal.Points
public import proofs.«01_k».proof.Proof.Gen.OutputIdeal.Frame
public import proofs.«01_k».proof.Proof.Gen.OutputRefIdeal
public import proofs.«01_k».proof.Proof.Gen.OutputRefIdeal.Skeleton
public import proofs.«01_k».proof.Proof.Gen.OutputRefIdeal.Launch
public import proofs.«01_k».proof.Proof.Gen.OutputRefIdeal.Points
public import proofs.«01_k».proof.Proof.Gen.OutputRefIdeal.Frame
public import proofs.«01_k».proof.Proof.Gen.CompressK
public import proofs.«01_k».proof.Proof.Gen.CompressK.Skeleton
public import proofs.«01_k».proof.Proof.Gen.CompressK.Launch
public import proofs.«01_k».proof.Proof.Gen.CompressK.Points
public import proofs.«01_k».proof.Proof.Gen.CompressK.Frame
public import proofs.«01_k».proof.Proof.Gen.CompressKIdeal
public import proofs.«01_k».proof.Proof.Gen.CompressKIdeal.Skeleton
public import proofs.«01_k».proof.Proof.Gen.CompressKIdeal.Launch
public import proofs.«01_k».proof.Proof.Gen.CompressKIdeal.Points
public import proofs.«01_k».proof.Proof.Gen.CompressKIdeal.Frame
public import proofs.«01_k».proof.Proof.Gen.CompressKRefIdeal
public import proofs.«01_k».proof.Proof.Gen.CompressKRefIdeal.Skeleton
public import proofs.«01_k».proof.Proof.Gen.CompressKRefIdeal.Launch
public import proofs.«01_k».proof.Proof.Gen.CompressKRefIdeal.Points
public import proofs.«01_k».proof.Proof.Gen.CompressKRefIdeal.Frame
public import proofs.«01_k».proof.Proof.Gen.CompressV
public import proofs.«01_k».proof.Proof.Gen.CompressV.Skeleton
public import proofs.«01_k».proof.Proof.Gen.CompressV.Launch
public import proofs.«01_k».proof.Proof.Gen.CompressV.Points
public import proofs.«01_k».proof.Proof.Gen.CompressV.Frame
public import proofs.«01_k».proof.Proof.Gen.CompressVIdeal
public import proofs.«01_k».proof.Proof.Gen.CompressVIdeal.Skeleton
public import proofs.«01_k».proof.Proof.Gen.CompressVIdeal.Launch
public import proofs.«01_k».proof.Proof.Gen.CompressVIdeal.Points
public import proofs.«01_k».proof.Proof.Gen.CompressVIdeal.Frame
public import proofs.«01_k».proof.Proof.Gen.CompressVRefIdeal
public import proofs.«01_k».proof.Proof.Gen.CompressVRefIdeal.Skeleton
public import proofs.«01_k».proof.Proof.Gen.CompressVRefIdeal.Launch
public import proofs.«01_k».proof.Proof.Gen.CompressVRefIdeal.Points
public import proofs.«01_k».proof.Proof.Gen.CompressVRefIdeal.Frame
public import proofs.«01_k».proof.Proof.Gen.On_blocks
public import proofs.«01_k».proof.Proof.Gen.On_blocks_v
public import Idealize.ShloMosaic.Adequacy
public import Idealize.ShloMosaic.Init

@[expose] public section

noncomputable section

namespace Cert.Proof

open Idealize.ShloMosaic Idealize.SL.Sem Cert.Project

theorem claim : Cert.Claim := ⟨Cert.Project.Gen.facts, Cert.ProjectIdeal.Gen.facts, Cert.ProjectRefIdeal.Gen.facts, Cert.Output.Gen.facts, Cert.OutputIdeal.Gen.facts, Cert.OutputRefIdeal.Gen.facts, Cert.CompressK.Gen.facts, Cert.CompressKIdeal.Gen.facts, Cert.CompressKRefIdeal.Gen.facts, Cert.CompressV.Gen.facts, Cert.CompressVIdeal.Gen.facts, Cert.CompressVRefIdeal.Gen.facts, Cert.On_blocks.Gen.facts, Cert.On_blocks_v.Gen.facts,
  fun m ρ _ => Cert.Project.Hand.frame m ρ,
  fun m ρ _ => Cert.ProjectIdeal.Hand.frame m ρ,
  fun m ρ _ => Cert.ProjectRefIdeal.Gen.frame m ρ,
  fun m ρ _ => Cert.Output.Gen.frame m ρ,
  fun m ρ _ => Cert.OutputIdeal.Gen.frame m ρ,
  fun m ρ _ => Cert.OutputRefIdeal.Gen.frame m ρ,
  fun m ρ _ => Cert.CompressK.Gen.frame m ρ,
  fun m ρ _ => Cert.CompressKIdeal.Gen.frame m ρ,
  fun m ρ _ => Cert.CompressKRefIdeal.Gen.frame m ρ,
  fun m ρ _ => Cert.CompressV.Gen.frame m ρ,
  fun m ρ _ => Cert.CompressVIdeal.Gen.frame m ρ,
  fun m ρ _ => Cert.CompressVRefIdeal.Gen.frame m ρ,
  trivial,
  Cert.ProjectClaim.algebraic,
  trivial,
  Cert.OutputClaim.algebraic,
  trivial,
  Cert.CompressKClaim.algebraic,
  trivial,
  Cert.CompressVClaim.algebraic⟩

end Cert.Proof

end
